-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_batch_in_range : Cert.Pre_batch_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_batch_in_range : Cert.Pre_batch_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v415) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batch_in_range : Cert.Pre_batch_in_range.Facts),
    quiescent_Kernel (hKernel := hKernel) (hPre_batch_in_range := hPre_batch_in_range)
    ∧ quiescent_KernelIdeal (hKernelIdeal := hKernelIdeal) (hPre_batch_in_range := hPre_batch_in_range)
    ∧ quiescent_ReferenceIdeal (hReferenceIdeal := hReferenceIdeal) (hPre_batch_in_range := hPre_batch_in_range)
    ∧ preserves_Kernel_KernelIdeal
    ∧ algebraic_KernelIdeal_ReferenceIdeal (hKernelIdeal := hKernelIdeal) (hReferenceIdeal := hReferenceIdeal) (hPre_batch_in_range := hPre_batch_in_range)
-- ==== Pre_batch_in_range.lean ====
abbrev S4x256x64x64 : Shape := ⟨4, ![4, 256, 64, 64]⟩
abbrev S256x5 : Shape := ⟨2, ![256, 5]⟩
abbrev S256x1 : Shape := ⟨2, ![256, 1]⟩
abbrev S256 : Shape := ⟨1, ![256]⟩
abbrev S_ : Shape := ⟨0, ![]⟩

class Facts : Prop where
  slices_S256x5_S256x1_0_0 : S256x5.Slices ![0, 0] S256x1
  shapeCasts_S256x1_S256 : S256x1.ShapeCasts S256
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S4x256x64x64 .f32) (main_arg1 : FVec F S256x5 .f32) : IVec S_ 1 :=
  let main_v0 : FVec F S256x1 .f32 := (extractStridedSlice S256x1 ![0, 0] · slices_S256x5_S256x1_0_0) main_arg1
  let main_v1 : FVec F S256 .f32 := shapeCast S256 main_v0 shapeCasts_S256x1_S256
  let main_v2 : IVec S256 32 := fptosi 32 main_v1
  let main_c : IVec S_ 32 := constantI S_ 32 0#32
  let main_v3 : IVec S256 32 := broadcastInDim S256 ![] bcast_S_S256 main_c
  let main_v4 : IVec S256 1 := cmpi .sge main_v2 main_v3
  let main_c_0 : IVec S_ 32 := constantI S_ 32 4#32
  let main_v5 : IVec S256 32 := broadcastInDim S256 ![] bcast_S_S256 main_c_0
  let main_v6 : IVec S256 1 := cmpi .slt main_v2 main_v5
  let main_v7 : IVec S256 1 := andi main_v4 main_v6
  let main_c_1 : IVec S_ 1 := constantI S_ 1 1#1
  let main_v8 : IVec S_ 1 := (fun x v => Host.reduce IntOp.andi x v reducesTo_S256_S_d0 h_S_) main_v7 main_c_1
  main_v8
-- ==== Kernel.lean ====
abbrev S4x256x64x64 : Shape := ⟨4, ![4, 256, 64, 64]⟩
abbrev S256x5 : Shape := ⟨2, ![256, 5]⟩
abbrev S256x1 : Shape := ⟨2, ![256, 1]⟩
abbrev S256 : Shape := ⟨1, ![256]⟩
abbrev S256x4 : Shape := ⟨2, ![256, 4]⟩
abbrev S_ : Shape := ⟨0, ![]⟩
abbrev S7 : Shape := ⟨1, ![7]⟩
abbrev S1x7 : Shape := ⟨2, ![1, 7]⟩
abbrev S256x7 : Shape := ⟨2, ![256, 7]⟩
abbrev S256x7x1 : Shape := ⟨3, ![256, 7, 1]⟩
abbrev S24 : Shape := ⟨1, ![24]⟩
abbrev S1x1x24 : Shape := ⟨3, ![1, 1, 24]⟩
abbrev S256x7x24 : Shape := ⟨3, ![256, 7, 24]⟩
abbrev S4x64x64x256 : Shape := ⟨4, ![4, 64, 64, 256]⟩
abbrev S256x7x7x256 : Shape := ⟨4, ![256, 7, 7, 256]⟩
abbrev S4x7x7x256 : Shape := ⟨4, ![4, 7, 7, 256]⟩
abbrev S4x7x64x256 : Shape := ⟨4, ![4, 7, 64, 256]⟩
abbrev S1 : Shape := ⟨1, ![1]⟩
abbrev S1x7x24 : Shape := ⟨3, ![1, 7, 24]⟩
abbrev S7x24 : Shape := ⟨2, ![7, 24]⟩
abbrev S1x1 : Shape := ⟨2, ![1, 1]⟩
abbrev S1x24 : Shape := ⟨2, ![1, 24]⟩
abbrev S24x1 : Shape := ⟨2, ![24, 1]⟩
abbrev S1x1x24x256 : Shape := ⟨4, ![1, 1, 24, 256]⟩
abbrev S24x256 : Shape := ⟨2, ![24, 256]⟩
abbrev S1x7x64x256 : Shape := ⟨4, ![1, 7, 64, 256]⟩
abbrev S7x64x256 : Shape := ⟨3, ![7, 64, 256]⟩
abbrev S1x1x256 : Shape := ⟨3, ![1, 1, 256]⟩
abbrev S1x24x256 : Shape := ⟨3, ![1, 24, 256]⟩
abbrev S1x1x1x256 : Shape := ⟨4, ![1, 1, 1, 256]⟩
abbrev S256x256x7x7 : Shape := ⟨4, ![256, 256, 7, 7]⟩

abbrev nBuf : Space → Nat
  | .hbm => 261
  | .vmem => 6
  | .smem => 6
  | _ => 0

abbrev hbmTy0_0 (i : Nat) : BufTy := match i % 128 with
  | 0 => ⟨S4x256x64x64, .f32⟩
  | 1 => ⟨S256x5, .f32⟩
  | 2 => ⟨S256x1, .f32⟩
  | 3 => ⟨S256, .f32⟩
  | 4 => ⟨S256x4, .f32⟩
  | 5 => ⟨S_, .f32⟩
  | 6 => ⟨S256x4, .f32⟩
  | 7 => ⟨S256x4, .f32⟩
  | 8 => ⟨S256x4, .f32⟩
  | 9 => ⟨S256x4, .i32⟩
  | 10 => ⟨S256x1, .i32⟩
  | 11 => ⟨S256, .i32⟩
  | 12 => ⟨S_, .i32⟩
  | 13 => ⟨S_, .i32⟩
  | 14 => ⟨S_, .i32⟩
  | 15 => ⟨S256, .i32⟩
  | 16 => ⟨S256, .i32⟩
  | 17 => ⟨S_, .i32⟩
  | 18 => ⟨S256, .i32⟩
  | 19 => ⟨S256x1, .i32⟩
  | 20 => ⟨S256, .i32⟩
  | 21 => ⟨S_, .i32⟩
  | 22 => ⟨S_, .i32⟩
  | 23 => ⟨S_, .i32⟩
  | 24 => ⟨S256, .i32⟩
  | 25 => ⟨S256, .i32⟩
  | 26 => ⟨S_, .i32⟩
  | 27 => ⟨S256, .i32⟩
  | 28 => ⟨S256, .i32⟩
  | 29 => ⟨S256x1, .i32⟩
  | 30 => ⟨S256, .i32⟩
  | 31 => ⟨S_, .i32⟩
  | 32 => ⟨S_, .i32⟩
  | 33 => ⟨S_, .i32⟩
  | 34 => ⟨S256, .i32⟩
  | 35 => ⟨S256, .i32⟩
  | 36 => ⟨S_, .i32⟩
  | 37 => ⟨S256, .i32⟩
  | 38 => ⟨S256x1, .i32⟩
  | 39 => ⟨S256, .i32⟩
  | 40 => ⟨S_, .i32⟩
  | 41 => ⟨S_, .i32⟩
  | 42 => ⟨S_, .i32⟩
  | 43 => ⟨S256, .i32⟩
  | 44 => ⟨S256, .i32⟩
  | 45 => ⟨S_, .i32⟩
  | 46 => ⟨S256, .i32⟩
  | 47 => ⟨S256, .i32⟩
  | 48 => ⟨S256, .i1⟩
  | 49 => ⟨S256, .i1⟩
  | 50 => ⟨S256, .i1⟩
  | 51 => ⟨S256, .i32⟩
  | 52 => ⟨S256, .i32⟩
  | 53 => ⟨S7, .i32⟩
  | 54 => ⟨S256x1, .i32⟩
  | 55 => ⟨S1x7, .i32⟩
  | 56 => ⟨S256x1, .i32⟩
  | 57 => ⟨S256x7, .i32⟩
  | 58 => ⟨S256x7, .i32⟩
  | 59 => ⟨S256x7, .i32⟩
  | 60 => ⟨S_, .i32⟩
  | 61 => ⟨S_, .i32⟩
  | 62 => ⟨S256x7, .i32⟩
  | 63 => ⟨S256x7, .i32⟩
  | 64 => ⟨S256x7, .i32⟩
  | 65 => ⟨S_, .i32⟩
  | 66 => ⟨S256x7, .i32⟩
  | 67 => ⟨S256x7, .i1⟩
  | 68 => ⟨S256x7, .i32⟩
  | 69 => ⟨S256x7, .i32⟩
  | 70 => ⟨S_, .i32⟩
  | 71 => ⟨S256x7, .i32⟩
  | 72 => ⟨S256x7, .i1⟩
  | 73 => ⟨S256x7, .i1⟩
  | 74 => ⟨S_, .i32⟩
  | 75 => ⟨S256x7, .i32⟩
  | 76 => ⟨S256x7, .i32⟩
  | 77 => ⟨S256x7, .i32⟩
  | 78 => ⟨S256x7, .i32⟩
  | 79 => ⟨S256x7, .i32⟩
  | 80 => ⟨S256x1, .i32⟩
  | 81 => ⟨S1x7, .i32⟩
  | 82 => ⟨S_, .i32⟩
  | 83 => ⟨S1x7, .i32⟩
  | 84 => ⟨S1x7, .i32⟩
  | 85 => ⟨S256x1, .i32⟩
  | 86 => ⟨S256x7, .i32⟩
  | 87 => ⟨S256x7, .i32⟩
  | 88 => ⟨S256x7, .i32⟩
  | 89 => ⟨S_, .i32⟩
  | 90 => ⟨S256x7, .i32⟩
  | 91 => ⟨S256x7, .i32⟩
  | 92 => ⟨S_, .i32⟩
  | 93 => ⟨S256x7, .i32⟩
  | 94 => ⟨S256x7, .i32⟩
  | 95 => ⟨S_, .i32⟩
  | 96 => ⟨S_, .i32⟩
  | 97 => ⟨S256x7, .i32⟩
  | 98 => ⟨S256x7, .i32⟩
  | 99 => ⟨S256x7, .i32⟩
  | 100 => ⟨S_, .i32⟩
  | 101 => ⟨S256x7, .i32⟩
  | 102 => ⟨S256x7, .i1⟩
  | 103 => ⟨S256x7, .i32⟩
  | 104 => ⟨S256x7, .i32⟩
  | 105 => ⟨S_, .i32⟩
  | 106 => ⟨S256x7, .i32⟩
  | 107 => ⟨S256x7, .i1⟩
  | 108 => ⟨S256x7, .i1⟩
  | 109 => ⟨S_, .i32⟩
  | 110 => ⟨S256x7, .i32⟩
  | 111 => ⟨S256x7, .i32⟩
  | 112 => ⟨S256x7, .i32⟩
  | 113 => ⟨S256x7, .i32⟩
  | 114 => ⟨S256x7, .i32⟩
  | 115 => ⟨S_, .i32⟩
  | 116 => ⟨S_, .i32⟩
  | 117 => ⟨S256x7, .i32⟩
  | 118 => ⟨S256x7, .i32⟩
  | 119 => ⟨S256x7, .i32⟩
  | 120 => ⟨S_, .i32⟩
  | 121 => ⟨S256x7, .i32⟩
  | 122 => ⟨S256x7, .i1⟩
  | 123 => ⟨S256x7, .i32⟩
  | 124 => ⟨S256x7, .i32⟩
  | 125 => ⟨S_, .i32⟩
  | 126 => ⟨S256x7, .i32⟩
  | 127 => ⟨S256x7, .i1⟩
  | _ => ⟨S4x256x64x64, .f32⟩

abbrev hbmTy0_1 (i : Nat) : BufTy := match i % 128 with
  | 0 => ⟨S256x7, .i1⟩
  | 1 => ⟨S_, .i32⟩
  | 2 => ⟨S256x7, .i32⟩
  | 3 => ⟨S256x7, .i32⟩
  | 4 => ⟨S256x7, .i32⟩
  | 5 => ⟨S_, .i32⟩
  | 6 => ⟨S256x7, .i32⟩
  | 7 => ⟨S256x7x1, .i32⟩
  | 8 => ⟨S_, .i32⟩
  | 9 => ⟨S256x7x1, .i32⟩
  | 10 => ⟨S256x7x1, .i32⟩
  | 11 => ⟨S24, .i32⟩
  | 12 => ⟨S1x1x24, .i32⟩
  | 13 => ⟨S256x7x24, .i32⟩
  | 14 => ⟨S256x7x24, .i32⟩
  | 15 => ⟨S256x7x24, .i32⟩
  | 16 => ⟨S256x7x1, .i32⟩
  | 17 => ⟨S256x7x24, .i32⟩
  | 18 => ⟨S256x7x24, .i1⟩
  | 19 => ⟨S256x7x1, .i32⟩
  | 20 => ⟨S256x7x24, .i32⟩
  | 21 => ⟨S256x7x24, .i1⟩
  | 22 => ⟨S256x7x24, .i1⟩
  | 23 => ⟨S_, .f32⟩
  | 24 => ⟨S_, .f32⟩
  | 25 => ⟨S256x7x24, .f32⟩
  | 26 => ⟨S256x7x24, .f32⟩
  | 27 => ⟨S256x7x24, .f32⟩
  | 28 => ⟨S256x1, .i32⟩
  | 29 => ⟨S1x7, .i32⟩
  | 30 => ⟨S256x1, .i32⟩
  | 31 => ⟨S256x7, .i32⟩
  | 32 => ⟨S256x7, .i32⟩
  | 33 => ⟨S256x7, .i32⟩
  | 34 => ⟨S_, .i32⟩
  | 35 => ⟨S_, .i32⟩
  | 36 => ⟨S256x7, .i32⟩
  | 37 => ⟨S256x7, .i32⟩
  | 38 => ⟨S256x7, .i32⟩
  | 39 => ⟨S_, .i32⟩
  | 40 => ⟨S256x7, .i32⟩
  | 41 => ⟨S256x7, .i1⟩
  | 42 => ⟨S256x7, .i32⟩
  | 43 => ⟨S256x7, .i32⟩
  | 44 => ⟨S_, .i32⟩
  | 45 => ⟨S256x7, .i32⟩
  | 46 => ⟨S256x7, .i1⟩
  | 47 => ⟨S256x7, .i1⟩
  | 48 => ⟨S_, .i32⟩
  | 49 => ⟨S256x7, .i32⟩
  | 50 => ⟨S256x7, .i32⟩
  | 51 => ⟨S256x7, .i32⟩
  | 52 => ⟨S256x7, .i32⟩
  | 53 => ⟨S256x7, .i32⟩
  | 54 => ⟨S256x1, .i32⟩
  | 55 => ⟨S1x7, .i32⟩
  | 56 => ⟨S_, .i32⟩
  | 57 => ⟨S1x7, .i32⟩
  | 58 => ⟨S1x7, .i32⟩
  | 59 => ⟨S256x1, .i32⟩
  | 60 => ⟨S256x7, .i32⟩
  | 61 => ⟨S256x7, .i32⟩
  | 62 => ⟨S256x7, .i32⟩
  | 63 => ⟨S_, .i32⟩
  | 64 => ⟨S256x7, .i32⟩
  | 65 => ⟨S256x7, .i32⟩
  | 66 => ⟨S_, .i32⟩
  | 67 => ⟨S256x7, .i32⟩
  | 68 => ⟨S256x7, .i32⟩
  | 69 => ⟨S_, .i32⟩
  | 70 => ⟨S_, .i32⟩
  | 71 => ⟨S256x7, .i32⟩
  | 72 => ⟨S256x7, .i32⟩
  | 73 => ⟨S256x7, .i32⟩
  | 74 => ⟨S_, .i32⟩
  | 75 => ⟨S256x7, .i32⟩
  | 76 => ⟨S256x7, .i1⟩
  | 77 => ⟨S256x7, .i32⟩
  | 78 => ⟨S256x7, .i32⟩
  | 79 => ⟨S_, .i32⟩
  | 80 => ⟨S256x7, .i32⟩
  | 81 => ⟨S256x7, .i1⟩
  | 82 => ⟨S256x7, .i1⟩
  | 83 => ⟨S_, .i32⟩
  | 84 => ⟨S256x7, .i32⟩
  | 85 => ⟨S256x7, .i32⟩
  | 86 => ⟨S256x7, .i32⟩
  | 87 => ⟨S256x7, .i32⟩
  | 88 => ⟨S256x7, .i32⟩
  | 89 => ⟨S_, .i32⟩
  | 90 => ⟨S_, .i32⟩
  | 91 => ⟨S256x7, .i32⟩
  | 92 => ⟨S256x7, .i32⟩
  | 93 => ⟨S256x7, .i32⟩
  | 94 => ⟨S_, .i32⟩
  | 95 => ⟨S256x7, .i32⟩
  | 96 => ⟨S256x7, .i1⟩
  | 97 => ⟨S256x7, .i32⟩
  | 98 => ⟨S256x7, .i32⟩
  | 99 => ⟨S_, .i32⟩
  | 100 => ⟨S256x7, .i32⟩
  | 101 => ⟨S256x7, .i1⟩
  | 102 => ⟨S256x7, .i1⟩
  | 103 => ⟨S_, .i32⟩
  | 104 => ⟨S256x7, .i32⟩
  | 105 => ⟨S256x7, .i32⟩
  | 106 => ⟨S256x7, .i32⟩
  | 107 => ⟨S_, .i32⟩
  | 108 => ⟨S256x7, .i32⟩
  | 109 => ⟨S256x7x1, .i32⟩
  | 110 => ⟨S_, .i32⟩
  | 111 => ⟨S256x7x1, .i32⟩
  | 112 => ⟨S256x7x1, .i32⟩
  | 113 => ⟨S24, .i32⟩
  | 114 => ⟨S1x1x24, .i32⟩
  | 115 => ⟨S256x7x24, .i32⟩
  | 116 => ⟨S256x7x24, .i32⟩
  | 117 => ⟨S256x7x24, .i32⟩
  | 118 => ⟨S256x7x1, .i32⟩
  | 119 => ⟨S256x7x24, .i32⟩
  | 120 => ⟨S256x7x24, .i1⟩
  | 121 => ⟨S256x7x1, .i32⟩
  | 122 => ⟨S256x7x24, .i32⟩
  | 123 => ⟨S256x7x24, .i1⟩
  | 124 => ⟨S256x7x24, .i1⟩
  | 125 => ⟨S_, .f32⟩
  | 126 => ⟨S_, .f32⟩
  | 127 => ⟨S256x7x24, .f32⟩
  | _ => ⟨S4x256x64x64, .f32⟩

abbrev hbmTy0_2 (i : Nat) : BufTy := match i % 128 with
  | 0 => ⟨S256x7x24, .f32⟩
  | 1 => ⟨S256x7x24, .f32⟩
  | 2 => ⟨S4x64x64x256, .f32⟩
  | 3 => ⟨S256x7x7x256, .f32⟩
  | 4 => ⟨S256x256x7x7, .f32⟩
  | _ => ⟨S4x256x64x64, .f32⟩

abbrev hbmTy (i : Nat) : BufTy := match i / 128 with
  | 0 => hbmTy0_0 i
  | 1 => hbmTy0_1 i
  | 2 => hbmTy0_2 i
  | _ => ⟨S4x256x64x64, .f32⟩

abbrev bufTy : (tb : Table) → Fin (tcTables nBuf tb) → BufTy
  | .hbm, ⟨i, _⟩ => hbmTy i
  | .local _ .vmem, ⟨0, _⟩ => ⟨S4x64x64x256, .f32⟩
  | .local _ .vmem, ⟨1, _⟩ => ⟨S256x7x24, .f32⟩
  | .local _ .vmem, ⟨2, _⟩ => ⟨S256x7x24, .f32⟩
  | .local _ .vmem, ⟨3, _⟩ => ⟨S4x7x7x256, .f32⟩
  | .local _ .vmem, ⟨4, _⟩ => ⟨S4x7x7x256, .f32⟩
  | .local _ .vmem, ⟨5, _⟩ => ⟨S4x7x64x256, .f32⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S256, .i32⟩
  | .local _ .smem, ⟨4, _⟩ => ⟨S256x7, .i32⟩
  | .local _ .smem, ⟨5, _⟩ => ⟨S256x7, .i32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_c_2 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_c_4 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_c_6 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_call5_v0 : Ref sig .tc := ⟨.hbm, 61, rfl⟩
abbrev main_call5_v1 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_v5 : Ref sig .tc := ⟨.hbm, 66, rfl⟩
abbrev main_call5_v6 : Ref sig .tc := ⟨.hbm, 67, rfl⟩
abbrev main_call5_v7 : Ref sig .tc := ⟨.hbm, 68, rfl⟩
abbrev main_call5_v8 : Ref sig .tc := ⟨.hbm, 69, rfl⟩
abbrev main_call5_c : Ref sig .tc := ⟨.hbm, 70, rfl⟩
abbrev main_call5_v9 : Ref sig .tc := ⟨.hbm, 71, rfl⟩
abbrev main_call5_v10 : Ref sig .tc := ⟨.hbm, 72, rfl⟩
abbrev main_call5_v11 : Ref sig .tc := ⟨.hbm, 73, rfl⟩
abbrev main_call5_c_0 : Ref sig .tc := ⟨.hbm, 74, rfl⟩
abbrev main_call5_v12 : Ref sig .tc := ⟨.hbm, 75, rfl⟩
abbrev main_call5_v13 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_8 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_9 : Ref sig .tc := ⟨.hbm, 89, rfl⟩
abbrev main_v44 : Ref sig .tc := ⟨.hbm, 90, rfl⟩
abbrev main_v45 : Ref sig .tc := ⟨.hbm, 91, rfl⟩
abbrev main_c_10 : Ref sig .tc := ⟨.hbm, 92, rfl⟩
abbrev main_v46 : Ref sig .tc := ⟨.hbm, 93, rfl⟩
abbrev main_v47 : Ref sig .tc := ⟨.hbm, 94, rfl⟩
abbrev main_c_11 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_v5 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_call6_c : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_c_0 : Ref sig .tc := ⟨.hbm, 109, rfl⟩
abbrev main_call6_v12 : Ref sig .tc := ⟨.hbm, 110, rfl⟩
abbrev main_call6_v13 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_c_12 : Ref sig .tc := ⟨.hbm, 115, rfl⟩
abbrev main_call7_v0 : Ref sig .tc := ⟨.hbm, 116, rfl⟩
abbrev main_call7_v1 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_v6 : Ref sig .tc := ⟨.hbm, 122, rfl⟩
abbrev main_call7_v7 : Ref sig .tc := ⟨.hbm, 123, rfl⟩
abbrev main_call7_v8 : Ref sig .tc := ⟨.hbm, 124, rfl⟩
abbrev main_call7_c : Ref sig .tc := ⟨.hbm, 125, rfl⟩
abbrev main_call7_v9 : Ref sig .tc := ⟨.hbm, 126, rfl⟩
abbrev main_call7_v10 : Ref sig .tc := ⟨.hbm, 127, rfl⟩
abbrev main_call7_v11 : Ref sig .tc := ⟨.hbm, 128, rfl⟩
abbrev main_call7_c_0 : Ref sig .tc := ⟨.hbm, 129, rfl⟩
abbrev main_call7_v12 : Ref sig .tc := ⟨.hbm, 130, rfl⟩
abbrev main_call7_v13 : Ref sig .tc := ⟨.hbm, 131, rfl⟩
abbrev main_v51 : Ref sig .tc := ⟨.hbm, 132, rfl⟩
abbrev main_c_13 : Ref sig .tc := ⟨.hbm, 133, rfl⟩
abbrev main_v52 : Ref sig .tc := ⟨.hbm, 134, rfl⟩
abbrev main_v54 : Ref sig .tc := ⟨.hbm, 135, rfl⟩
abbrev main_c_14 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_cst_15 : Ref sig .tc := ⟨.hbm, 151, rfl⟩
abbrev main_cst_16 : Ref sig .tc := ⟨.hbm, 152, rfl⟩
abbrev main_call8_v0 : Ref sig .tc := ⟨.hbm, 153, rfl⟩
abbrev main_call8_v1 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_c_17 : Ref sig .tc := ⟨.hbm, 162, rfl⟩
abbrev main_call9_v0 : Ref sig .tc := ⟨.hbm, 163, rfl⟩
abbrev main_call9_v1 : Ref sig .tc := ⟨.hbm, 164, rfl⟩
abbrev main_call9_v2 : Ref sig .tc := ⟨.hbm, 165, rfl⟩
abbrev main_call9_v3 : Ref sig .tc := ⟨.hbm, 166, rfl⟩
abbrev main_call9_v4 : Ref sig .tc := ⟨.hbm, 167, rfl⟩
abbrev main_call9_v5 : Ref sig .tc := ⟨.hbm, 168, rfl⟩
abbrev main_call9_v6 : Ref sig .tc := ⟨.hbm, 169, rfl⟩
abbrev main_call9_v7 : Ref sig .tc := ⟨.hbm, 170, rfl⟩
abbrev main_call9_v8 : Ref sig .tc := ⟨.hbm, 171, rfl⟩
abbrev main_call9_c : Ref sig .tc := ⟨.hbm, 172, rfl⟩
abbrev main_call9_v9 : Ref sig .tc := ⟨.hbm, 173, rfl⟩
abbrev main_call9_v10 : Ref sig .tc := ⟨.hbm, 174, rfl⟩
abbrev main_call9_v11 : Ref sig .tc := ⟨.hbm, 175, rfl⟩
abbrev main_call9_c_0 : Ref sig .tc := ⟨.hbm, 176, rfl⟩
abbrev main_call9_v12 : Ref sig .tc := ⟨.hbm, 177, rfl⟩
abbrev main_call9_v13 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_c_18 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_c_19 : Ref sig .tc := ⟨.hbm, 191, rfl⟩
abbrev main_v87 : Ref sig .tc := ⟨.hbm, 192, rfl⟩
abbrev main_v88 : Ref sig .tc := ⟨.hbm, 193, rfl⟩
abbrev main_c_20 : Ref sig .tc := ⟨.hbm, 194, rfl⟩
abbrev main_v89 : Ref sig .tc := ⟨.hbm, 195, rfl⟩
abbrev main_v90 : Ref sig .tc := ⟨.hbm, 196, rfl⟩
abbrev main_c_21 : Ref sig .tc := ⟨.hbm, 197, rfl⟩
abbrev main_call10_v0 : Ref sig .tc := ⟨.hbm, 198, rfl⟩
abbrev main_call10_v1 : Ref sig .tc := ⟨.hbm, 199, rfl⟩
abbrev main_call10_v2 : Ref sig .tc := ⟨.hbm, 200, rfl⟩
abbrev main_call10_v3 : Ref sig .tc := ⟨.hbm, 201, rfl⟩
abbrev main_call10_v4 : Ref sig .tc := ⟨.hbm, 202, rfl⟩
abbrev main_call10_v5 : Ref sig .tc := ⟨.hbm, 203, rfl⟩
abbrev main_call10_v6 : Ref sig .tc := ⟨.hbm, 204, rfl⟩
abbrev main_call10_v7 : Ref sig .tc := ⟨.hbm, 205, rfl⟩
abbrev main_call10_v8 : Ref sig .tc := ⟨.hbm, 206, rfl⟩
abbrev main_call10_c : Ref sig .tc := ⟨.hbm, 207, rfl⟩
abbrev main_call10_v9 : Ref sig .tc := ⟨.hbm, 208, rfl⟩
abbrev main_call10_v10 : Ref sig .tc := ⟨.hbm, 209, rfl⟩
abbrev main_call10_v11 : Ref sig .tc := ⟨.hbm, 210, rfl⟩
abbrev main_call10_c_0 : Ref sig .tc := ⟨.hbm, 211, rfl⟩
abbrev main_call10_v12 : Ref sig .tc := ⟨.hbm, 212, rfl⟩
abbrev main_call10_v13 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_c_22 : Ref sig .tc := ⟨.hbm, 217, rfl⟩
abbrev main_call11_v0 : Ref sig .tc := ⟨.hbm, 218, rfl⟩
abbrev main_call11_v1 : Ref sig .tc := ⟨.hbm, 219, rfl⟩
abbrev main_call11_v2 : Ref sig .tc := ⟨.hbm, 220, rfl⟩
abbrev main_call11_v3 : Ref sig .tc := ⟨.hbm, 221, rfl⟩
abbrev main_call11_v4 : Ref sig .tc := ⟨.hbm, 222, rfl⟩
abbrev main_call11_v5 : Ref sig .tc := ⟨.hbm, 223, rfl⟩
abbrev main_call11_v6 : Ref sig .tc := ⟨.hbm, 224, rfl⟩
abbrev main_call11_v7 : Ref sig .tc := ⟨.hbm, 225, rfl⟩
abbrev main_call11_v8 : Ref sig .tc := ⟨.hbm, 226, rfl⟩
abbrev main_call11_c : Ref sig .tc := ⟨.hbm, 227, rfl⟩
abbrev main_call11_v9 : Ref sig .tc := ⟨.hbm, 228, rfl⟩
abbrev main_call11_v10 : Ref sig .tc := ⟨.hbm, 229, rfl⟩
abbrev main_call11_v11 : Ref sig .tc := ⟨.hbm, 230, rfl⟩
abbrev main_call11_c_0 : Ref sig .tc := ⟨.hbm, 231, rfl⟩
abbrev main_call11_v12 : Ref sig .tc := ⟨.hbm, 232, rfl⟩
abbrev main_call11_v13 : Ref sig .tc := ⟨.hbm, 233, rfl⟩
abbrev main_v94 : Ref sig .tc := ⟨.hbm, 234, rfl⟩
abbrev main_c_23 : Ref sig .tc := ⟨.hbm, 235, rfl⟩
abbrev main_v95 : Ref sig .tc := ⟨.hbm, 236, rfl⟩
abbrev main_v97 : Ref sig .tc := ⟨.hbm, 237, rfl⟩
abbrev main_c_24 : Ref sig .tc := ⟨.hbm, 238, rfl⟩
abbrev main_v98 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_v111 : Ref sig .tc := ⟨.hbm, 252, rfl⟩
abbrev main_cst_25 : Ref sig .tc := ⟨.hbm, 253, rfl⟩
abbrev main_cst_26 : Ref sig .tc := ⟨.hbm, 254, rfl⟩
abbrev main_call12_v0 : Ref sig .tc := ⟨.hbm, 255, rfl⟩
abbrev main_call12_v1 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_v2 : Ref sig .tc := ⟨.smem, 0, rfl⟩
abbrev main_v23 : Ref sig .tc := ⟨.smem, 1, rfl⟩
abbrev main_v10 : Ref sig .tc := ⟨.smem, 2, rfl⟩
abbrev main_v16 : Ref sig .tc := ⟨.smem, 3, rfl⟩
abbrev main_v53 : Ref sig .tc := ⟨.smem, 4, rfl⟩
abbrev main_v96 : Ref sig .tc := ⟨.smem, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![64], ![false]⟩

abbrev pre0 : Pipeline.Prefetch sig := ⟨6, ![main_v2.idx, main_v23.idx, main_v10.idx, main_v16.idx, main_v53.idx, main_v96.idx], fun | 0 => main_v2.names | 1 => main_v23.names | 2 => main_v10.names | 3 => main_v16.names | 4 => main_v53.names | 5 => main_v96.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v5 : Index := Scalar.indexCast v4
  ![v5.toNat]
def k0_off2 (i : grid0.Coords) : Fin 3 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v7 : Index := Scalar.indexCast v4
  let c0 : Index := 0#32
  let c0_2 : Index := 0#32
  ![v7.toNat, 0, 0]
def k0_off3 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v19 : Index := Scalar.indexCast v4
  let c0_5 : Index := 0#32
  ![v19.toNat, 0]
def k0_off4 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v22 : Index := Scalar.indexCast v4
  let c1 : Index := 1#32
  ![v22.toNat, 1]
def k0_off5 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v25 : Index := Scalar.indexCast v4
  let c2 : Index := 2#32
  ![v25.toNat, 2]
def k0_off6 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v28 : Index := Scalar.indexCast v4
  let c3 : Index := 3#32
  ![v28.toNat, 3]
def k0_off7 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v31 : Index := Scalar.indexCast v4
  let c4 : Index := 4#32
  ![v31.toNat, 4]
def k0_off8 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v34 : Index := Scalar.indexCast v4
  let c5 : Index := 5#32
  ![v34.toNat, 5]
def k0_off9 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v37 : Index := Scalar.indexCast v4
  let c6 : Index := 6#32
  ![v37.toNat, 6]
@[reducible] def k0_t1_loop (v16 : BitVec 32) (v18 : BitVec 32) : Scf.Loop 32 :=
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_22 : BitVec 32 := 1#32
  ⟨c0_i32_20, v63, c1_i32_22⟩

def k0_off10 (v6 : BitVec 32) (v16 : BitVec 32) (v18 : BitVec 32) (v20 : BitVec 32) (k0_t1 : Fin (k0_t1_loop v16 v18).trips) (c0_i32_2728 : BitVec 32) : Fin 4 → Nat :=
  let v3166 : Index := Scalar.indexCast v6
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3165 : BitVec 32 := Scalar.addi v3161 c0_i32_2728
  let v3167 : Index := Scalar.indexCast v3165
  let c8_i32 : BitVec 32 := 8#32
  let v21 : BitVec 32 := Scalar.muli v20 c8_i32
  let v3168 : Index := Scalar.indexCast v21
  let c0_2729 : Index := 0#32
  ![v3166.toNat, v3167.toNat, v3168.toNat, 0]

def k0_off11 (v16 : BitVec 32) (v18 : BitVec 32) (k0_t1 : Fin (k0_t1_loop v16 v18).trips) (c0_i32_2731 : BitVec 32) : Fin 3 → Nat :=
  let c0_2735 : Index := 0#32
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3174 : BitVec 32 := Scalar.addi v3161 c0_i32_2731
  let v3177 : Index := Scalar.indexCast v3174
  let c0_2736 : Index := 0#32
  ![0, v3177.toNat, 0]
def k0_off12 (v6 : BitVec 32) (v16 : BitVec 32) (v18 : BitVec 32) (v23 : BitVec 32) (k0_t1 : Fin (k0_t1_loop v16 v18).trips) (c0_i32_2798 : BitVec 32) : Fin 4 → Nat :=
  let v3297 : Index := Scalar.indexCast v6
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3296 : BitVec 32 := Scalar.addi v3161 c0_i32_2798
  let v3298 : Index := Scalar.indexCast v3296
  let c8_i32_6 : BitVec 32 := 8#32
  let v24 : BitVec 32 := Scalar.muli v23 c8_i32_6
  let v3299 : Index := Scalar.indexCast v24
  let c0_2799 : Index := 0#32
  ![v3297.toNat, v3298.toNat, v3299.toNat, 0]

def k0_off13 (v16 : BitVec 32) (v18 : BitVec 32) (k0_t1 : Fin (k0_t1_loop v16 v18).trips) (c0_i32_2801 : BitVec 32) : Fin 3 → Nat :=
  let c1_2805 : Index := 1#32
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3305 : BitVec 32 := Scalar.addi v3161 c0_i32_2801
  let v3308 : Index := Scalar.indexCast v3305
  let c0_2806 : Index := 0#32
  ![1, v3308.toNat, 0]
def k0_off14 (v6 : BitVec 32) (v16 : BitVec 32) (v18 : BitVec 32) (v26 : BitVec 32) (k0_t1 : Fin (k0_t1_loop v16 v18).trips) (c0_i32_2870 : BitVec 32) : Fin 4 → Nat :=
  let v3428 : Index := Scalar.indexCast v6
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3427 : BitVec 32 := Scalar.addi v3161 c0_i32_2870
  let v3429 : Index := Scalar.indexCast v3427
  let c8_i32_7 : BitVec 32 := 8#32
  let v27 : BitVec 32 := Scalar.muli v26 c8_i32_7
  let v3430 : Index := Scalar.indexCast v27
  let c0_2871 : Index := 0#32
  ![v3428.toNat, v3429.toNat, v3430.toNat, 0]

def k0_off15 (v16 : BitVec 32) (v18 : BitVec 32) (k0_t1 : Fin (k0_t1_loop v16 v18).trips) (c0_i32_2873 : BitVec 32) : Fin 3 → Nat :=
  let c2_2877 : Index := 2#32
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3436 : BitVec 32 := Scalar.addi v3161 c0_i32_2873
  let v3439 : Index := Scalar.indexCast v3436
  let c0_2878 : Index := 0#32
  ![2, v3439.toNat, 0]
def k0_off16 (v6 : BitVec 32) (v16 : BitVec 32) (v18 : BitVec 32) (v29 : BitVec 32) (k0_t1 : Fin (k0_t1_loop v16 v18).trips) (c0_i32_2942 : BitVec 32) : Fin 4 → Nat :=
  let v3559 : Index := Scalar.indexCast v6
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3558 : BitVec 32 := Scalar.addi v3161 c0_i32_2942
  let v3560 : Index := Scalar.indexCast v3558
  let c8_i32_8 : BitVec 32 := 8#32
  let v30 : BitVec 32 := Scalar.muli v29 c8_i32_8
  let v3561 : Index := Scalar.indexCast v30
  let c0_2943 : Index := 0#32
  ![v3559.toNat, v3560.toNat, v3561.toNat, 0]

def k0_off17 (v16 : BitVec 32) (v18 : BitVec 32) (k0_t1 : Fin (k0_t1_loop v16 v18).trips) (c0_i32_2945 : BitVec 32) : Fin 3 → Nat :=
  let c3_2949 : Index := 3#32
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3567 : BitVec 32 := Scalar.addi v3161 c0_i32_2945
  let v3570 : Index := Scalar.indexCast v3567
  let c0_2950 : Index := 0#32
  ![3, v3570.toNat, 0]
def k0_off18 (v6 : BitVec 32) (v16 : BitVec 32) (v18 : BitVec 32) (v32 : BitVec 32) (k0_t1 : Fin (k0_t1_loop v16 v18).trips) (c0_i32_3014 : BitVec 32) : Fin 4 → Nat :=
  let v3690 : Index := Scalar.indexCast v6
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3689 : BitVec 32 := Scalar.addi v3161 c0_i32_3014
  let v3691 : Index := Scalar.indexCast v3689
  let c8_i32_9 : BitVec 32 := 8#32
  let v33 : BitVec 32 := Scalar.muli v32 c8_i32_9
  let v3692 : Index := Scalar.indexCast v33
  let c0_3015 : Index := 0#32
  ![v3690.toNat, v3691.toNat, v3692.toNat, 0]

def k0_off19 (v16 : BitVec 32) (v18 : BitVec 32) (k0_t1 : Fin (k0_t1_loop v16 v18).trips) (c0_i32_3017 : BitVec 32) : Fin 3 → Nat :=
  let c4_3021 : Index := 4#32
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3698 : BitVec 32 := Scalar.addi v3161 c0_i32_3017
  let v3701 : Index := Scalar.indexCast v3698
  let c0_3022 : Index := 0#32
  ![4, v3701.toNat, 0]
def k0_off20 (v6 : BitVec 32) (v16 : BitVec 32) (v18 : BitVec 32) (v35 : BitVec 32) (k0_t1 : Fin (k0_t1_loop v16 v18).trips) (c0_i32_3086 : BitVec 32) : Fin 4 → Nat :=
  let v3821 : Index := Scalar.indexCast v6
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3820 : BitVec 32 := Scalar.addi v3161 c0_i32_3086
  let v3822 : Index := Scalar.indexCast v3820
  let c8_i32_10 : BitVec 32 := 8#32
  let v36 : BitVec 32 := Scalar.muli v35 c8_i32_10
  let v3823 : Index := Scalar.indexCast v36
  let c0_3087 : Index := 0#32
  ![v3821.toNat, v3822.toNat, v3823.toNat, 0]

def k0_off21 (v16 : BitVec 32) (v18 : BitVec 32) (k0_t1 : Fin (k0_t1_loop v16 v18).trips) (c0_i32_3089 : BitVec 32) : Fin 3 → Nat :=
  let c5_3093 : Index := 5#32
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3829 : BitVec 32 := Scalar.addi v3161 c0_i32_3089
  let v3832 : Index := Scalar.indexCast v3829
  let c0_3094 : Index := 0#32
  ![5, v3832.toNat, 0]
def k0_off22 (v6 : BitVec 32) (v16 : BitVec 32) (v18 : BitVec 32) (v38 : BitVec 32) (k0_t1 : Fin (k0_t1_loop v16 v18).trips) (c0_i32_3158 : BitVec 32) : Fin 4 → Nat :=
  let v3952 : Index := Scalar.indexCast v6
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3951 : BitVec 32 := Scalar.addi v3161 c0_i32_3158
  let v3953 : Index := Scalar.indexCast v3951
  let c8_i32_11 : BitVec 32 := 8#32
  let v39 : BitVec 32 := Scalar.muli v38 c8_i32_11
  let v3954 : Index := Scalar.indexCast v39
  let c0_3159 : Index := 0#32
  ![v3952.toNat, v3953.toNat, v3954.toNat, 0]

def k0_off23 (v16 : BitVec 32) (v18 : BitVec 32) (k0_t1 : Fin (k0_t1_loop v16 v18).trips) (c0_i32_3161 : BitVec 32) : Fin 3 → Nat :=
  let c6_3165 : Index := 6#32
  let c0_i32_20 : BitVec 32 := 0#32
  let c1_i32_22 : BitVec 32 := 1#32
  let arg12 : BitVec 32 := Scf.iv c0_i32_20 c1_i32_22 k0_t1
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3960 : BitVec 32 := Scalar.addi v3161 c0_i32_3161
  let v3963 : Index := Scalar.indexCast v3960
  let c0_3166 : Index := 0#32
  ![6, v3963.toNat, 0]
@[reducible] def k0_t2_loop (v16 : BitVec 32) (v18 : BitVec 32) : Scf.Loop 32 :=
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let v60 : BitVec 32 := Scalar.addi c0_i32_20 v59
  let c1_i32_23 : BitVec 32 := 1#32
  ⟨v63, v60, c1_i32_23⟩
def k0_off24 (v6 : BitVec 32) (v16 : BitVec 32) (v18 : BitVec 32) (v20 : BitVec 32) (k0_t2 : Fin (k0_t2_loop v16 v18).trips) (c0_i32_2728 : BitVec 32) : Fin 4 → Nat :=
  let v3166 : Index := Scalar.indexCast v6
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3165 : BitVec 32 := Scalar.addi v3161 c0_i32_2728
  let v3167 : Index := Scalar.indexCast v3165
  let c8_i32 : BitVec 32 := 8#32
  let v21 : BitVec 32 := Scalar.muli v20 c8_i32
  let v3168 : Index := Scalar.indexCast v21
  let c0_2729 : Index := 0#32
  ![v3166.toNat, v3167.toNat, v3168.toNat, 0]

def k0_chk2 (v6 : BitVec 32) (v16 : BitVec 32) (v18 : BitVec 32) (v20 : BitVec 32) : Prop :=
  (∀ k0_t1 : Fin (k0_t1_loop v16 v18).trips, ∀ (r : Fin 8), ∀ a, (k0_off10 v6 v16 v18 v20 k0_t1 (BitVec.ofNat 32 r.val)) a + S1x1x24x256.size a ≤ S4x64x64x256.size a) ∧
  (∀ k0_t2 : Fin (k0_t2_loop v16 v18).trips, ∀ (r : Fin 8), ∀ a, (k0_off24 v6 v16 v18 v20 k0_t2 (BitVec.ofNat 32 r.val)) a + S1x1x24x256.size a ≤ S4x64x64x256.size a)
theorem k0_off10_inb : ∀ (v6 : BitVec 32) (v16 : BitVec 32) (v18 : BitVec 32) (v20 : BitVec 32) (k0_hw2 : k0_chk2 v6 v16 v18 v20) (k0_t1 : Fin (k0_t1_loop v16 v18).trips), ∀ (r : Fin 8), ∀ a, (k0_off10 v6 v16 v18 v20 k0_t1 (BitVec.ofNat 32 r.val)) a + S1x1x24x256.size a ≤ S4x64x64x256.size a := fun v6 v16 v18 v20 k0_hw2 k0_t1 r => k0_hw2.1 k0_t1 r
theorem k0_off24_inb : ∀ (v6 : BitVec 32) (v16 : BitVec 32) (v18 : BitVec 32) (v20 : BitVec 32) (k0_hw2 : k0_chk2 v6 v16 v18 v20) (k0_t2 : Fin (k0_t2_loop v16 v18).trips), ∀ (r : Fin 8), ∀ a, (k0_off24 v6 v16 v18 v20 k0_t2 (BitVec.ofNat 32 r.val)) a + S1x1x24x256.size a ≤ S4x64x64x256.size a := fun v6 v16 v18 v20 k0_hw2 k0_t2 r => k0_hw2.2 k0_t2 r

def k0_off25 (v16 : BitVec 32) (v18 : BitVec 32) (k0_t2 : Fin (k0_t2_loop v16 v18).trips) (c0_i32_2731 : BitVec 32) : Fin 3 → Nat :=
  let c0_2735 : Index := 0#32
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3174 : BitVec 32 := Scalar.addi v3161 c0_i32_2731
  let v3177 : Index := Scalar.indexCast v3174
  let c0_2736 : Index := 0#32
  ![0, v3177.toNat, 0]
def k0_off26 (v6 : BitVec 32) (v16 : BitVec 32) (v18 : BitVec 32) (v23 : BitVec 32) (k0_t2 : Fin (k0_t2_loop v16 v18).trips) (c0_i32_2798 : BitVec 32) : Fin 4 → Nat :=
  let v3297 : Index := Scalar.indexCast v6
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3296 : BitVec 32 := Scalar.addi v3161 c0_i32_2798
  let v3298 : Index := Scalar.indexCast v3296
  let c8_i32_6 : BitVec 32 := 8#32
  let v24 : BitVec 32 := Scalar.muli v23 c8_i32_6
  let v3299 : Index := Scalar.indexCast v24
  let c0_2799 : Index := 0#32
  ![v3297.toNat, v3298.toNat, v3299.toNat, 0]

def k0_chk3 (v6 : BitVec 32) (v16 : BitVec 32) (v18 : BitVec 32) (v23 : BitVec 32) : Prop :=
  (∀ k0_t1 : Fin (k0_t1_loop v16 v18).trips, ∀ (r : Fin 8), ∀ a, (k0_off12 v6 v16 v18 v23 k0_t1 (BitVec.ofNat 32 r.val)) a + S1x1x24x256.size a ≤ S4x64x64x256.size a) ∧
  (∀ k0_t2 : Fin (k0_t2_loop v16 v18).trips, ∀ (r : Fin 8), ∀ a, (k0_off26 v6 v16 v18 v23 k0_t2 (BitVec.ofNat 32 r.val)) a + S1x1x24x256.size a ≤ S4x64x64x256.size a)
theorem k0_off12_inb : ∀ (v6 : BitVec 32) (v16 : BitVec 32) (v18 : BitVec 32) (v23 : BitVec 32) (k0_hw3 : k0_chk3 v6 v16 v18 v23) (k0_t1 : Fin (k0_t1_loop v16 v18).trips), ∀ (r : Fin 8), ∀ a, (k0_off12 v6 v16 v18 v23 k0_t1 (BitVec.ofNat 32 r.val)) a + S1x1x24x256.size a ≤ S4x64x64x256.size a := fun v6 v16 v18 v23 k0_hw3 k0_t1 r => k0_hw3.1 k0_t1 r
theorem k0_off26_inb : ∀ (v6 : BitVec 32) (v16 : BitVec 32) (v18 : BitVec 32) (v23 : BitVec 32) (k0_hw3 : k0_chk3 v6 v16 v18 v23) (k0_t2 : Fin (k0_t2_loop v16 v18).trips), ∀ (r : Fin 8), ∀ a, (k0_off26 v6 v16 v18 v23 k0_t2 (BitVec.ofNat 32 r.val)) a + S1x1x24x256.size a ≤ S4x64x64x256.size a := fun v6 v16 v18 v23 k0_hw3 k0_t2 r => k0_hw3.2 k0_t2 r

def k0_off27 (v16 : BitVec 32) (v18 : BitVec 32) (k0_t2 : Fin (k0_t2_loop v16 v18).trips) (c0_i32_2801 : BitVec 32) : Fin 3 → Nat :=
  let c1_2805 : Index := 1#32
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3305 : BitVec 32 := Scalar.addi v3161 c0_i32_2801
  let v3308 : Index := Scalar.indexCast v3305
  let c0_2806 : Index := 0#32
  ![1, v3308.toNat, 0]
def k0_off28 (v6 : BitVec 32) (v16 : BitVec 32) (v18 : BitVec 32) (v26 : BitVec 32) (k0_t2 : Fin (k0_t2_loop v16 v18).trips) (c0_i32_2870 : BitVec 32) : Fin 4 → Nat :=
  let v3428 : Index := Scalar.indexCast v6
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3427 : BitVec 32 := Scalar.addi v3161 c0_i32_2870
  let v3429 : Index := Scalar.indexCast v3427
  let c8_i32_7 : BitVec 32 := 8#32
  let v27 : BitVec 32 := Scalar.muli v26 c8_i32_7
  let v3430 : Index := Scalar.indexCast v27
  let c0_2871 : Index := 0#32
  ![v3428.toNat, v3429.toNat, v3430.toNat, 0]

def k0_chk4 (v6 : BitVec 32) (v16 : BitVec 32) (v18 : BitVec 32) (v26 : BitVec 32) : Prop :=
  (∀ k0_t1 : Fin (k0_t1_loop v16 v18).trips, ∀ (r : Fin 8), ∀ a, (k0_off14 v6 v16 v18 v26 k0_t1 (BitVec.ofNat 32 r.val)) a + S1x1x24x256.size a ≤ S4x64x64x256.size a) ∧
  (∀ k0_t2 : Fin (k0_t2_loop v16 v18).trips, ∀ (r : Fin 8), ∀ a, (k0_off28 v6 v16 v18 v26 k0_t2 (BitVec.ofNat 32 r.val)) a + S1x1x24x256.size a ≤ S4x64x64x256.size a)
theorem k0_off14_inb : ∀ (v6 : BitVec 32) (v16 : BitVec 32) (v18 : BitVec 32) (v26 : BitVec 32) (k0_hw4 : k0_chk4 v6 v16 v18 v26) (k0_t1 : Fin (k0_t1_loop v16 v18).trips), ∀ (r : Fin 8), ∀ a, (k0_off14 v6 v16 v18 v26 k0_t1 (BitVec.ofNat 32 r.val)) a + S1x1x24x256.size a ≤ S4x64x64x256.size a := fun v6 v16 v18 v26 k0_hw4 k0_t1 r => k0_hw4.1 k0_t1 r
theorem k0_off28_inb : ∀ (v6 : BitVec 32) (v16 : BitVec 32) (v18 : BitVec 32) (v26 : BitVec 32) (k0_hw4 : k0_chk4 v6 v16 v18 v26) (k0_t2 : Fin (k0_t2_loop v16 v18).trips), ∀ (r : Fin 8), ∀ a, (k0_off28 v6 v16 v18 v26 k0_t2 (BitVec.ofNat 32 r.val)) a + S1x1x24x256.size a ≤ S4x64x64x256.size a := fun v6 v16 v18 v26 k0_hw4 k0_t2 r => k0_hw4.2 k0_t2 r

def k0_off29 (v16 : BitVec 32) (v18 : BitVec 32) (k0_t2 : Fin (k0_t2_loop v16 v18).trips) (c0_i32_2873 : BitVec 32) : Fin 3 → Nat :=
  let c2_2877 : Index := 2#32
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3436 : BitVec 32 := Scalar.addi v3161 c0_i32_2873
  let v3439 : Index := Scalar.indexCast v3436
  let c0_2878 : Index := 0#32
  ![2, v3439.toNat, 0]
def k0_off30 (v6 : BitVec 32) (v16 : BitVec 32) (v18 : BitVec 32) (v29 : BitVec 32) (k0_t2 : Fin (k0_t2_loop v16 v18).trips) (c0_i32_2942 : BitVec 32) : Fin 4 → Nat :=
  let v3559 : Index := Scalar.indexCast v6
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3558 : BitVec 32 := Scalar.addi v3161 c0_i32_2942
  let v3560 : Index := Scalar.indexCast v3558
  let c8_i32_8 : BitVec 32 := 8#32
  let v30 : BitVec 32 := Scalar.muli v29 c8_i32_8
  let v3561 : Index := Scalar.indexCast v30
  let c0_2943 : Index := 0#32
  ![v3559.toNat, v3560.toNat, v3561.toNat, 0]

def k0_chk5 (v6 : BitVec 32) (v16 : BitVec 32) (v18 : BitVec 32) (v29 : BitVec 32) : Prop :=
  (∀ k0_t1 : Fin (k0_t1_loop v16 v18).trips, ∀ (r : Fin 8), ∀ a, (k0_off16 v6 v16 v18 v29 k0_t1 (BitVec.ofNat 32 r.val)) a + S1x1x24x256.size a ≤ S4x64x64x256.size a) ∧
  (∀ k0_t2 : Fin (k0_t2_loop v16 v18).trips, ∀ (r : Fin 8), ∀ a, (k0_off30 v6 v16 v18 v29 k0_t2 (BitVec.ofNat 32 r.val)) a + S1x1x24x256.size a ≤ S4x64x64x256.size a)
theorem k0_off16_inb : ∀ (v6 : BitVec 32) (v16 : BitVec 32) (v18 : BitVec 32) (v29 : BitVec 32) (k0_hw5 : k0_chk5 v6 v16 v18 v29) (k0_t1 : Fin (k0_t1_loop v16 v18).trips), ∀ (r : Fin 8), ∀ a, (k0_off16 v6 v16 v18 v29 k0_t1 (BitVec.ofNat 32 r.val)) a + S1x1x24x256.size a ≤ S4x64x64x256.size a := fun v6 v16 v18 v29 k0_hw5 k0_t1 r => k0_hw5.1 k0_t1 r
theorem k0_off30_inb : ∀ (v6 : BitVec 32) (v16 : BitVec 32) (v18 : BitVec 32) (v29 : BitVec 32) (k0_hw5 : k0_chk5 v6 v16 v18 v29) (k0_t2 : Fin (k0_t2_loop v16 v18).trips), ∀ (r : Fin 8), ∀ a, (k0_off30 v6 v16 v18 v29 k0_t2 (BitVec.ofNat 32 r.val)) a + S1x1x24x256.size a ≤ S4x64x64x256.size a := fun v6 v16 v18 v29 k0_hw5 k0_t2 r => k0_hw5.2 k0_t2 r

def k0_off31 (v16 : BitVec 32) (v18 : BitVec 32) (k0_t2 : Fin (k0_t2_loop v16 v18).trips) (c0_i32_2945 : BitVec 32) : Fin 3 → Nat :=
  let c3_2949 : Index := 3#32
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3567 : BitVec 32 := Scalar.addi v3161 c0_i32_2945
  let v3570 : Index := Scalar.indexCast v3567
  let c0_2950 : Index := 0#32
  ![3, v3570.toNat, 0]
def k0_off32 (v6 : BitVec 32) (v16 : BitVec 32) (v18 : BitVec 32) (v32 : BitVec 32) (k0_t2 : Fin (k0_t2_loop v16 v18).trips) (c0_i32_3014 : BitVec 32) : Fin 4 → Nat :=
  let v3690 : Index := Scalar.indexCast v6
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3689 : BitVec 32 := Scalar.addi v3161 c0_i32_3014
  let v3691 : Index := Scalar.indexCast v3689
  let c8_i32_9 : BitVec 32 := 8#32
  let v33 : BitVec 32 := Scalar.muli v32 c8_i32_9
  let v3692 : Index := Scalar.indexCast v33
  let c0_3015 : Index := 0#32
  ![v3690.toNat, v3691.toNat, v3692.toNat, 0]

def k0_chk6 (v6 : BitVec 32) (v16 : BitVec 32) (v18 : BitVec 32) (v32 : BitVec 32) : Prop :=
  (∀ k0_t1 : Fin (k0_t1_loop v16 v18).trips, ∀ (r : Fin 8), ∀ a, (k0_off18 v6 v16 v18 v32 k0_t1 (BitVec.ofNat 32 r.val)) a + S1x1x24x256.size a ≤ S4x64x64x256.size a) ∧
  (∀ k0_t2 : Fin (k0_t2_loop v16 v18).trips, ∀ (r : Fin 8), ∀ a, (k0_off32 v6 v16 v18 v32 k0_t2 (BitVec.ofNat 32 r.val)) a + S1x1x24x256.size a ≤ S4x64x64x256.size a)
theorem k0_off18_inb : ∀ (v6 : BitVec 32) (v16 : BitVec 32) (v18 : BitVec 32) (v32 : BitVec 32) (k0_hw6 : k0_chk6 v6 v16 v18 v32) (k0_t1 : Fin (k0_t1_loop v16 v18).trips), ∀ (r : Fin 8), ∀ a, (k0_off18 v6 v16 v18 v32 k0_t1 (BitVec.ofNat 32 r.val)) a + S1x1x24x256.size a ≤ S4x64x64x256.size a := fun v6 v16 v18 v32 k0_hw6 k0_t1 r => k0_hw6.1 k0_t1 r
theorem k0_off32_inb : ∀ (v6 : BitVec 32) (v16 : BitVec 32) (v18 : BitVec 32) (v32 : BitVec 32) (k0_hw6 : k0_chk6 v6 v16 v18 v32) (k0_t2 : Fin (k0_t2_loop v16 v18).trips), ∀ (r : Fin 8), ∀ a, (k0_off32 v6 v16 v18 v32 k0_t2 (BitVec.ofNat 32 r.val)) a + S1x1x24x256.size a ≤ S4x64x64x256.size a := fun v6 v16 v18 v32 k0_hw6 k0_t2 r => k0_hw6.2 k0_t2 r

def k0_off33 (v16 : BitVec 32) (v18 : BitVec 32) (k0_t2 : Fin (k0_t2_loop v16 v18).trips) (c0_i32_3017 : BitVec 32) : Fin 3 → Nat :=
  let c4_3021 : Index := 4#32
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3698 : BitVec 32 := Scalar.addi v3161 c0_i32_3017
  let v3701 : Index := Scalar.indexCast v3698
  let c0_3022 : Index := 0#32
  ![4, v3701.toNat, 0]
def k0_off34 (v6 : BitVec 32) (v16 : BitVec 32) (v18 : BitVec 32) (v35 : BitVec 32) (k0_t2 : Fin (k0_t2_loop v16 v18).trips) (c0_i32_3086 : BitVec 32) : Fin 4 → Nat :=
  let v3821 : Index := Scalar.indexCast v6
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3820 : BitVec 32 := Scalar.addi v3161 c0_i32_3086
  let v3822 : Index := Scalar.indexCast v3820
  let c8_i32_10 : BitVec 32 := 8#32
  let v36 : BitVec 32 := Scalar.muli v35 c8_i32_10
  let v3823 : Index := Scalar.indexCast v36
  let c0_3087 : Index := 0#32
  ![v3821.toNat, v3822.toNat, v3823.toNat, 0]

def k0_chk7 (v6 : BitVec 32) (v16 : BitVec 32) (v18 : BitVec 32) (v35 : BitVec 32) : Prop :=
  (∀ k0_t1 : Fin (k0_t1_loop v16 v18).trips, ∀ (r : Fin 8), ∀ a, (k0_off20 v6 v16 v18 v35 k0_t1 (BitVec.ofNat 32 r.val)) a + S1x1x24x256.size a ≤ S4x64x64x256.size a) ∧
  (∀ k0_t2 : Fin (k0_t2_loop v16 v18).trips, ∀ (r : Fin 8), ∀ a, (k0_off34 v6 v16 v18 v35 k0_t2 (BitVec.ofNat 32 r.val)) a + S1x1x24x256.size a ≤ S4x64x64x256.size a)
theorem k0_off20_inb : ∀ (v6 : BitVec 32) (v16 : BitVec 32) (v18 : BitVec 32) (v35 : BitVec 32) (k0_hw7 : k0_chk7 v6 v16 v18 v35) (k0_t1 : Fin (k0_t1_loop v16 v18).trips), ∀ (r : Fin 8), ∀ a, (k0_off20 v6 v16 v18 v35 k0_t1 (BitVec.ofNat 32 r.val)) a + S1x1x24x256.size a ≤ S4x64x64x256.size a := fun v6 v16 v18 v35 k0_hw7 k0_t1 r => k0_hw7.1 k0_t1 r
theorem k0_off34_inb : ∀ (v6 : BitVec 32) (v16 : BitVec 32) (v18 : BitVec 32) (v35 : BitVec 32) (k0_hw7 : k0_chk7 v6 v16 v18 v35) (k0_t2 : Fin (k0_t2_loop v16 v18).trips), ∀ (r : Fin 8), ∀ a, (k0_off34 v6 v16 v18 v35 k0_t2 (BitVec.ofNat 32 r.val)) a + S1x1x24x256.size a ≤ S4x64x64x256.size a := fun v6 v16 v18 v35 k0_hw7 k0_t2 r => k0_hw7.2 k0_t2 r

def k0_off35 (v16 : BitVec 32) (v18 : BitVec 32) (k0_t2 : Fin (k0_t2_loop v16 v18).trips) (c0_i32_3089 : BitVec 32) : Fin 3 → Nat :=
  let c5_3093 : Index := 5#32
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3829 : BitVec 32 := Scalar.addi v3161 c0_i32_3089
  let v3832 : Index := Scalar.indexCast v3829
  let c0_3094 : Index := 0#32
  ![5, v3832.toNat, 0]
def k0_off36 (v6 : BitVec 32) (v16 : BitVec 32) (v18 : BitVec 32) (v38 : BitVec 32) (k0_t2 : Fin (k0_t2_loop v16 v18).trips) (c0_i32_3158 : BitVec 32) : Fin 4 → Nat :=
  let v3952 : Index := Scalar.indexCast v6
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3951 : BitVec 32 := Scalar.addi v3161 c0_i32_3158
  let v3953 : Index := Scalar.indexCast v3951
  let c8_i32_11 : BitVec 32 := 8#32
  let v39 : BitVec 32 := Scalar.muli v38 c8_i32_11
  let v3954 : Index := Scalar.indexCast v39
  let c0_3159 : Index := 0#32
  ![v3952.toNat, v3953.toNat, v3954.toNat, 0]

def k0_chk8 (v6 : BitVec 32) (v16 : BitVec 32) (v18 : BitVec 32) (v38 : BitVec 32) : Prop :=
  (∀ k0_t1 : Fin (k0_t1_loop v16 v18).trips, ∀ (r : Fin 8), ∀ a, (k0_off22 v6 v16 v18 v38 k0_t1 (BitVec.ofNat 32 r.val)) a + S1x1x24x256.size a ≤ S4x64x64x256.size a) ∧
  (∀ k0_t2 : Fin (k0_t2_loop v16 v18).trips, ∀ (r : Fin 8), ∀ a, (k0_off36 v6 v16 v18 v38 k0_t2 (BitVec.ofNat 32 r.val)) a + S1x1x24x256.size a ≤ S4x64x64x256.size a)
theorem k0_off22_inb : ∀ (v6 : BitVec 32) (v16 : BitVec 32) (v18 : BitVec 32) (v38 : BitVec 32) (k0_hw8 : k0_chk8 v6 v16 v18 v38) (k0_t1 : Fin (k0_t1_loop v16 v18).trips), ∀ (r : Fin 8), ∀ a, (k0_off22 v6 v16 v18 v38 k0_t1 (BitVec.ofNat 32 r.val)) a + S1x1x24x256.size a ≤ S4x64x64x256.size a := fun v6 v16 v18 v38 k0_hw8 k0_t1 r => k0_hw8.1 k0_t1 r
theorem k0_off36_inb : ∀ (v6 : BitVec 32) (v16 : BitVec 32) (v18 : BitVec 32) (v38 : BitVec 32) (k0_hw8 : k0_chk8 v6 v16 v18 v38) (k0_t2 : Fin (k0_t2_loop v16 v18).trips), ∀ (r : Fin 8), ∀ a, (k0_off36 v6 v16 v18 v38 k0_t2 (BitVec.ofNat 32 r.val)) a + S1x1x24x256.size a ≤ S4x64x64x256.size a := fun v6 v16 v18 v38 k0_hw8 k0_t2 r => k0_hw8.2 k0_t2 r

def k0_off37 (v16 : BitVec 32) (v18 : BitVec 32) (k0_t2 : Fin (k0_t2_loop v16 v18).trips) (c0_i32_3161 : BitVec 32) : Fin 3 → Nat :=
  let c6_3165 : Index := 6#32
  let c0_i32_20 : BitVec 32 := 0#32
  let v40 : BitVec 32 := Scalar.subi v18 v16
  let c7_i32 : BitVec 32 := 7#32
  let v41 : BitVec 32 := Scalar.addi v40 c7_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c8_i32_12 : BitVec 32 := 8#32
  let c0_i32_15 : BitVec 32 := 0#32
  let v48 : BitVec 1 := Scalar.cmpi .sgt c8_i32_12 c0_i32_15
  let v49 : BitVec 32 := Scalar.extui v48
  let c0_i32_16 : BitVec 32 := 0#32
  let v50 : BitVec 1 := Scalar.cmpi .slt c8_i32_12 c0_i32_16
  let v51 : BitVec 32 := Scalar.extui v50
  let v52 : BitVec 32 := Scalar.subi v49 v51
  let v53 : BitVec 1 := Scalar.cmpi .ne v47 v52
  let v54 : BitVec 32 := Scalar.remsi v41 c8_i32_12
  let c0_i32_17 : BitVec 32 := 0#32
  let v55 : BitVec 1 := Scalar.cmpi .ne v54 c0_i32_17
  let v56 : BitVec 1 := Scalar.andi v53 v55
  let v42 : BitVec 32 := Scalar.divsi v41 c8_i32_12
  let c1_i32 : BitVec 32 := 1#32
  let v57 : BitVec 32 := Scalar.subi v42 c1_i32
  let v58 : BitVec 32 := Scalar.select v56 v57 v42
  let v59 : BitVec 32 := Scalar.subi v58 c0_i32_20
  let c1_i32_21 : BitVec 32 := 1#32
  let v61 : BitVec 32 := Scalar.divsi v59 c1_i32_21
  let v62 : BitVec 32 := Scalar.muli v61 c1_i32_21
  let v63 : BitVec 32 := Scalar.addi c0_i32_20 v62
  let c1_i32_23 : BitVec 32 := 1#32
  let arg12 : BitVec 32 := Scf.iv v63 c1_i32_23 k0_t2
  let c8_i32_2727 : BitVec 32 := 8#32
  let v3159 : BitVec 32 := Scalar.muli arg12 c8_i32_2727
  let v3160 : BitVec 32 := Scalar.addi v16 v3159
  let c56_i32 : BitVec 32 := 56#32
  let v3161 : BitVec 32 := Scalar.minsi v3160 c56_i32
  let v3960 : BitVec 32 := Scalar.addi v3161 c0_i32_3161
  let v3963 : Index := Scalar.indexCast v3960
  let c0_3166 : Index := 0#32
  ![6, v3963.toNat, 0]

def k0_chk1 (v16 : BitVec 32) (v18 : BitVec 32) : Prop :=
  ((k0_t1_loop v16 v18).OK) ∧
  (∀ k0_t1 : Fin (k0_t1_loop v16 v18).trips, ∀ (r : Fin 8), ∀ a, (k0_off11 v16 v18 k0_t1 (BitVec.ofNat 32 r.val)) a + S1x1x256.size a ≤ S7x64x256.size a) ∧
  (∀ k0_t1 : Fin (k0_t1_loop v16 v18).trips, ∀ (r : Fin 8), ∀ a, (k0_off13 v16 v18 k0_t1 (BitVec.ofNat 32 r.val)) a + S1x1x256.size a ≤ S7x64x256.size a) ∧
  (∀ k0_t1 : Fin (k0_t1_loop v16 v18).trips, ∀ (r : Fin 8), ∀ a, (k0_off15 v16 v18 k0_t1 (BitVec.ofNat 32 r.val)) a + S1x1x256.size a ≤ S7x64x256.size a) ∧
  (∀ k0_t1 : Fin (k0_t1_loop v16 v18).trips, ∀ (r : Fin 8), ∀ a, (k0_off17 v16 v18 k0_t1 (BitVec.ofNat 32 r.val)) a + S1x1x256.size a ≤ S7x64x256.size a) ∧
  (∀ k0_t1 : Fin (k0_t1_loop v16 v18).trips, ∀ (r : Fin 8), ∀ a, (k0_off19 v16 v18 k0_t1 (BitVec.ofNat 32 r.val)) a + S1x1x256.size a ≤ S7x64x256.size a) ∧
  (∀ k0_t1 : Fin (k0_t1_loop v16 v18).trips, ∀ (r : Fin 8), ∀ a, (k0_off21 v16 v18 k0_t1 (BitVec.ofNat 32 r.val)) a + S1x1x256.size a ≤ S7x64x256.size a) ∧
  (∀ k0_t1 : Fin (k0_t1_loop v16 v18).trips, ∀ (r : Fin 8), ∀ a, (k0_off23 v16 v18 k0_t1 (BitVec.ofNat 32 r.val)) a + S1x1x256.size a ≤ S7x64x256.size a) ∧
  ((k0_t2_loop v16 v18).OK) ∧
  (∀ k0_t2 : Fin (k0_t2_loop v16 v18).trips, ∀ (r : Fin 8), ∀ a, (k0_off25 v16 v18 k0_t2 (BitVec.ofNat 32 r.val)) a + S1x1x256.size a ≤ S7x64x256.size a) ∧
  (∀ k0_t2 : Fin (k0_t2_loop v16 v18).trips, ∀ (r : Fin 8), ∀ a, (k0_off27 v16 v18 k0_t2 (BitVec.ofNat 32 r.val)) a + S1x1x256.size a ≤ S7x64x256.size a) ∧
  (∀ k0_t2 : Fin (k0_t2_loop v16 v18).trips, ∀ (r : Fin 8), ∀ a, (k0_off29 v16 v18 k0_t2 (BitVec.ofNat 32 r.val)) a + S1x1x256.size a ≤ S7x64x256.size a) ∧
  (∀ k0_t2 : Fin (k0_t2_loop v16 v18).trips, ∀ (r : Fin 8), ∀ a, (k0_off31 v16 v18 k0_t2 (BitVec.ofNat 32 r.val)) a + S1x1x256.size a ≤ S7x64x256.size a) ∧
  (∀ k0_t2 : Fin (k0_t2_loop v16 v18).trips, ∀ (r : Fin 8), ∀ a, (k0_off33 v16 v18 k0_t2 (BitVec.ofNat 32 r.val)) a + S1x1x256.size a ≤ S7x64x256.size a) ∧
  (∀ k0_t2 : Fin (k0_t2_loop v16 v18).trips, ∀ (r : Fin 8), ∀ a, (k0_off35 v16 v18 k0_t2 (BitVec.ofNat 32 r.val)) a + S1x1x256.size a ≤ S7x64x256.size a) ∧
  (∀ k0_t2 : Fin (k0_t2_loop v16 v18).trips, ∀ (r : Fin 8), ∀ a, (k0_off37 v16 v18 k0_t2 (BitVec.ofNat 32 r.val)) a + S1x1x256.size a ≤ S7x64x256.size a)
theorem k0_t1_ok : ∀ (v16 : BitVec 32) (v18 : BitVec 32) (k0_hw1 : k0_chk1 v16 v18), (k0_t1_loop v16 v18).OK := fun v16 v18 k0_hw1 => k0_hw1.1
theorem k0_off11_inb : ∀ (v16 : BitVec 32) (v18 : BitVec 32) (k0_hw1 : k0_chk1 v16 v18) (k0_t1 : Fin (k0_t1_loop v16 v18).trips), ∀ (r : Fin 8), ∀ a, (k0_off11 v16 v18 k0_t1 (BitVec.ofNat 32 r.val)) a + S1x1x256.size a ≤ S7x64x256.size a := fun v16 v18 k0_hw1 k0_t1 r => k0_hw1.2.1 k0_t1 r
theorem k0_off13_inb : ∀ (v16 : BitVec 32) (v18 : BitVec 32) (k0_hw1 : k0_chk1 v16 v18) (k0_t1 : Fin (k0_t1_loop v16 v18).trips), ∀ (r : Fin 8), ∀ a, (k0_off13 v16 v18 k0_t1 (BitVec.ofNat 32 r.val)) a + S1x1x256.size a ≤ S7x64x256.size a := fun v16 v18 k0_hw1 k0_t1 r => k0_hw1.2.2.1 k0_t1 r
theorem k0_off15_inb : ∀ (v16 : BitVec 32) (v18 : BitVec 32) (k0_hw1 : k0_chk1 v16 v18) (k0_t1 : Fin (k0_t1_loop v16 v18).trips), ∀ (r : Fin 8), ∀ a, (k0_off15 v16 v18 k0_t1 (BitVec.ofNat 32 r.val)) a + S1x1x256.size a ≤ S7x64x256.size a := fun v16 v18 k0_hw1 k0_t1 r => k0_hw1.2.2.2.1 k0_t1 r
theorem k0_off17_inb : ∀ (v16 : BitVec 32) (v18 : BitVec 32) (k0_hw1 : k0_chk1 v16 v18) (k0_t1 : Fin (k0_t1_loop v16 v18).trips), ∀ (r : Fin 8), ∀ a, (k0_off17 v16 v18 k0_t1 (BitVec.ofNat 32 r.val)) a + S1x1x256.size a ≤ S7x64x256.size a := fun v16 v18 k0_hw1 k0_t1 r => k0_hw1.2.2.2.2.1 k0_t1 r
theorem k0_off19_inb : ∀ (v16 : BitVec 32) (v18 : BitVec 32) (k0_hw1 : k0_chk1 v16 v18) (k0_t1 : Fin (k0_t1_loop v16 v18).trips), ∀ (r : Fin 8), ∀ a, (k0_off19 v16 v18 k0_t1 (BitVec.ofNat 32 r.val)) a + S1x1x256.size a ≤ S7x64x256.size a := fun v16 v18 k0_hw1 k0_t1 r => k0_hw1.2.2.2.2.2.1 k0_t1 r
theorem k0_off21_inb : ∀ (v16 : BitVec 32) (v18 : BitVec 32) (k0_hw1 : k0_chk1 v16 v18) (k0_t1 : Fin (k0_t1_loop v16 v18).trips), ∀ (r : Fin 8), ∀ a, (k0_off21 v16 v18 k0_t1 (BitVec.ofNat 32 r.val)) a + S1x1x256.size a ≤ S7x64x256.size a := fun v16 v18 k0_hw1 k0_t1 r => k0_hw1.2.2.2.2.2.2.1 k0_t1 r
theorem k0_off23_inb : ∀ (v16 : BitVec 32) (v18 : BitVec 32) (k0_hw1 : k0_chk1 v16 v18) (k0_t1 : Fin (k0_t1_loop v16 v18).trips), ∀ (r : Fin 8), ∀ a, (k0_off23 v16 v18 k0_t1 (BitVec.ofNat 32 r.val)) a + S1x1x256.size a ≤ S7x64x256.size a := fun v16 v18 k0_hw1 k0_t1 r => k0_hw1.2.2.2.2.2.2.2.1 k0_t1 r
theorem k0_t2_ok : ∀ (v16 : BitVec 32) (v18 : BitVec 32) (k0_hw1 : k0_chk1 v16 v18), (k0_t2_loop v16 v18).OK := fun v16 v18 k0_hw1 => k0_hw1.2.2.2.2.2.2.2.2.1
theorem k0_off25_inb : ∀ (v16 : BitVec 32) (v18 : BitVec 32) (k0_hw1 : k0_chk1 v16 v18) (k0_t2 : Fin (k0_t2_loop v16 v18).trips), ∀ (r : Fin 8), ∀ a, (k0_off25 v16 v18 k0_t2 (BitVec.ofNat 32 r.val)) a + S1x1x256.size a ≤ S7x64x256.size a := fun v16 v18 k0_hw1 k0_t2 r => k0_hw1.2.2.2.2.2.2.2.2.2.1 k0_t2 r
theorem k0_off27_inb : ∀ (v16 : BitVec 32) (v18 : BitVec 32) (k0_hw1 : k0_chk1 v16 v18) (k0_t2 : Fin (k0_t2_loop v16 v18).trips), ∀ (r : Fin 8), ∀ a, (k0_off27 v16 v18 k0_t2 (BitVec.ofNat 32 r.val)) a + S1x1x256.size a ≤ S7x64x256.size a := fun v16 v18 k0_hw1 k0_t2 r => k0_hw1.2.2.2.2.2.2.2.2.2.2.1 k0_t2 r
theorem k0_off29_inb : ∀ (v16 : BitVec 32) (v18 : BitVec 32) (k0_hw1 : k0_chk1 v16 v18) (k0_t2 : Fin (k0_t2_loop v16 v18).trips), ∀ (r : Fin 8), ∀ a, (k0_off29 v16 v18 k0_t2 (BitVec.ofNat 32 r.val)) a + S1x1x256.size a ≤ S7x64x256.size a := fun v16 v18 k0_hw1 k0_t2 r => k0_hw1.2.2.2.2.2.2.2.2.2.2.2.1 k0_t2 r
theorem k0_off31_inb : ∀ (v16 : BitVec 32) (v18 : BitVec 32) (k0_hw1 : k0_chk1 v16 v18) (k0_t2 : Fin (k0_t2_loop v16 v18).trips), ∀ (r : Fin 8), ∀ a, (k0_off31 v16 v18 k0_t2 (BitVec.ofNat 32 r.val)) a + S1x1x256.size a ≤ S7x64x256.size a := fun v16 v18 k0_hw1 k0_t2 r => k0_hw1.2.2.2.2.2.2.2.2.2.2.2.2.1 k0_t2 r
theorem k0_off33_inb : ∀ (v16 : BitVec 32) (v18 : BitVec 32) (k0_hw1 : k0_chk1 v16 v18) (k0_t2 : Fin (k0_t2_loop v16 v18).trips), ∀ (r : Fin 8), ∀ a, (k0_off33 v16 v18 k0_t2 (BitVec.ofNat 32 r.val)) a + S1x1x256.size a ≤ S7x64x256.size a := fun v16 v18 k0_hw1 k0_t2 r => k0_hw1.2.2.2.2.2.2.2.2.2.2.2.2.2.1 k0_t2 r
theorem k0_off35_inb : ∀ (v16 : BitVec 32) (v18 : BitVec 32) (k0_hw1 : k0_chk1 v16 v18) (k0_t2 : Fin (k0_t2_loop v16 v18).trips), ∀ (r : Fin 8), ∀ a, (k0_off35 v16 v18 k0_t2 (BitVec.ofNat 32 r.val)) a + S1x1x256.size a ≤ S7x64x256.size a := fun v16 v18 k0_hw1 k0_t2 r => k0_hw1.2.2.2.2.2.2.2.2.2.2.2.2.2.2.1 k0_t2 r
theorem k0_off37_inb : ∀ (v16 : BitVec 32) (v18 : BitVec 32) (k0_hw1 : k0_chk1 v16 v18) (k0_t2 : Fin (k0_t2_loop v16 v18).trips), ∀ (r : Fin 8), ∀ a, (k0_off37 v16 v18 k0_t2 (BitVec.ofNat 32 r.val)) a + S1x1x256.size a ≤ S7x64x256.size a := fun v16 v18 k0_hw1 k0_t2 r => k0_hw1.2.2.2.2.2.2.2.2.2.2.2.2.2.2.2 k0_t2 r

def k0_off38 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v64 : Index := Scalar.indexCast v4
  let c0_24 : Index := 0#32
  ![v64.toNat, 0]
def k0_off39 (v65 : BitVec 32) : Fin 3 → Nat :=
  let c0_30 : Index := 0#32
  let c8_i32_25 : BitVec 32 := 8#32
  let v66 : BitVec 32 := Scalar.muli v65 c8_i32_25
  let v72 : Index := Scalar.indexCast v66
  let c0_31 : Index := 0#32
  ![0, v72.toNat, 0]

def k0_off40 (v65 : BitVec 32) : Fin 3 → Nat :=
  let c1_42 : Index := 1#32
  let c8_i32_25 : BitVec 32 := 8#32
  let v66 : BitVec 32 := Scalar.muli v65 c8_i32_25
  let v86 : Index := Scalar.indexCast v66
  let c0_43 : Index := 0#32
  ![1, v86.toNat, 0]
def k0_off41 (v65 : BitVec 32) : Fin 3 → Nat :=
  let c2_55 : Index := 2#32
  let c8_i32_25 : BitVec 32 := 8#32
  let v66 : BitVec 32 := Scalar.muli v65 c8_i32_25
  let v100 : Index := Scalar.indexCast v66
  let c0_56 : Index := 0#32
  ![2, v100.toNat, 0]
def k0_off42 (v65 : BitVec 32) : Fin 3 → Nat :=
  let c3_68 : Index := 3#32
  let c8_i32_25 : BitVec 32 := 8#32
  let v66 : BitVec 32 := Scalar.muli v65 c8_i32_25
  let v114 : Index := Scalar.indexCast v66
  let c0_69 : Index := 0#32
  ![3, v114.toNat, 0]
def k0_off43 (v65 : BitVec 32) : Fin 3 → Nat :=
  let c4_81 : Index := 4#32
  let c8_i32_25 : BitVec 32 := 8#32
  let v66 : BitVec 32 := Scalar.muli v65 c8_i32_25
  let v128 : Index := Scalar.indexCast v66
  let c0_82 : Index := 0#32
  ![4, v128.toNat, 0]
def k0_off44 (v65 : BitVec 32) : Fin 3 → Nat :=
  let c5_94 : Index := 5#32
  let c8_i32_25 : BitVec 32 := 8#32
  let v66 : BitVec 32 := Scalar.muli v65 c8_i32_25
  let v142 : Index := Scalar.indexCast v66
  let c0_95 : Index := 0#32
  ![5, v142.toNat, 0]
def k0_off45 (v65 : BitVec 32) : Fin 3 → Nat :=
  let c6_107 : Index := 6#32
  let c8_i32_25 : BitVec 32 := 8#32
  let v66 : BitVec 32 := Scalar.muli v65 c8_i32_25
  let v156 : Index := Scalar.indexCast v66
  let c0_108 : Index := 0#32
  ![6, v156.toNat, 0]

def k0_chk9 (v65 : BitVec 32) : Prop :=
  (∀ a, (k0_off39 v65) a + S1x24x256.size a ≤ S7x64x256.size a) ∧
  (∀ a, (k0_off40 v65) a + S1x24x256.size a ≤ S7x64x256.size a) ∧
  (∀ a, (k0_off41 v65) a + S1x24x256.size a ≤ S7x64x256.size a) ∧
  (∀ a, (k0_off42 v65) a + S1x24x256.size a ≤ S7x64x256.size a) ∧
  (∀ a, (k0_off43 v65) a + S1x24x256.size a ≤ S7x64x256.size a) ∧
  (∀ a, (k0_off44 v65) a + S1x24x256.size a ≤ S7x64x256.size a) ∧
  (∀ a, (k0_off45 v65) a + S1x24x256.size a ≤ S7x64x256.size a)
theorem k0_off39_inb : ∀ (v65 : BitVec 32) (k0_hw9 : k0_chk9 v65), ∀ a, (k0_off39 v65) a + S1x24x256.size a ≤ S7x64x256.size a := fun v65 k0_hw9 => k0_hw9.1
theorem k0_off40_inb : ∀ (v65 : BitVec 32) (k0_hw9 : k0_chk9 v65), ∀ a, (k0_off40 v65) a + S1x24x256.size a ≤ S7x64x256.size a := fun v65 k0_hw9 => k0_hw9.2.1
theorem k0_off41_inb : ∀ (v65 : BitVec 32) (k0_hw9 : k0_chk9 v65), ∀ a, (k0_off41 v65) a + S1x24x256.size a ≤ S7x64x256.size a := fun v65 k0_hw9 => k0_hw9.2.2.1
theorem k0_off42_inb : ∀ (v65 : BitVec 32) (k0_hw9 : k0_chk9 v65), ∀ a, (k0_off42 v65) a + S1x24x256.size a ≤ S7x64x256.size a := fun v65 k0_hw9 => k0_hw9.2.2.2.1
theorem k0_off43_inb : ∀ (v65 : BitVec 32) (k0_hw9 : k0_chk9 v65), ∀ a, (k0_off43 v65) a + S1x24x256.size a ≤ S7x64x256.size a := fun v65 k0_hw9 => k0_hw9.2.2.2.2.1
theorem k0_off44_inb : ∀ (v65 : BitVec 32) (k0_hw9 : k0_chk9 v65), ∀ a, (k0_off44 v65) a + S1x24x256.size a ≤ S7x64x256.size a := fun v65 k0_hw9 => k0_hw9.2.2.2.2.2.1
theorem k0_off45_inb : ∀ (v65 : BitVec 32) (k0_hw9 : k0_chk9 v65), ∀ a, (k0_off45 v65) a + S1x24x256.size a ≤ S7x64x256.size a := fun v65 k0_hw9 => k0_hw9.2.2.2.2.2.2

def k0_off46 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v168 : Index := Scalar.indexCast v4
  let c1_116 : Index := 1#32
  ![v168.toNat, 1]
def k0_off47 (v169 : BitVec 32) : Fin 3 → Nat :=
  let c0_122 : Index := 0#32
  let c8_i32_117 : BitVec 32 := 8#32
  let v170 : BitVec 32 := Scalar.muli v169 c8_i32_117
  let v176 : Index := Scalar.indexCast v170
  let c0_123 : Index := 0#32
  ![0, v176.toNat, 0]

def k0_off48 (v169 : BitVec 32) : Fin 3 → Nat :=
  let c1_135 : Index := 1#32
  let c8_i32_117 : BitVec 32 := 8#32
  let v170 : BitVec 32 := Scalar.muli v169 c8_i32_117
  let v190 : Index := Scalar.indexCast v170
  let c0_136 : Index := 0#32
  ![1, v190.toNat, 0]
def k0_off49 (v169 : BitVec 32) : Fin 3 → Nat :=
  let c2_148 : Index := 2#32
  let c8_i32_117 : BitVec 32 := 8#32
  let v170 : BitVec 32 := Scalar.muli v169 c8_i32_117
  let v204 : Index := Scalar.indexCast v170
  let c0_149 : Index := 0#32
  ![2, v204.toNat, 0]
def k0_off50 (v169 : BitVec 32) : Fin 3 → Nat :=
  let c3_161 : Index := 3#32
  let c8_i32_117 : BitVec 32 := 8#32
  let v170 : BitVec 32 := Scalar.muli v169 c8_i32_117
  let v218 : Index := Scalar.indexCast v170
  let c0_162 : Index := 0#32
  ![3, v218.toNat, 0]
def k0_off51 (v169 : BitVec 32) : Fin 3 → Nat :=
  let c4_174 : Index := 4#32
  let c8_i32_117 : BitVec 32 := 8#32
  let v170 : BitVec 32 := Scalar.muli v169 c8_i32_117
  let v232 : Index := Scalar.indexCast v170
  let c0_175 : Index := 0#32
  ![4, v232.toNat, 0]
def k0_off52 (v169 : BitVec 32) : Fin 3 → Nat :=
  let c5_187 : Index := 5#32
  let c8_i32_117 : BitVec 32 := 8#32
  let v170 : BitVec 32 := Scalar.muli v169 c8_i32_117
  let v246 : Index := Scalar.indexCast v170
  let c0_188 : Index := 0#32
  ![5, v246.toNat, 0]
def k0_off53 (v169 : BitVec 32) : Fin 3 → Nat :=
  let c6_200 : Index := 6#32
  let c8_i32_117 : BitVec 32 := 8#32
  let v170 : BitVec 32 := Scalar.muli v169 c8_i32_117
  let v260 : Index := Scalar.indexCast v170
  let c0_201 : Index := 0#32
  ![6, v260.toNat, 0]

def k0_chk10 (v169 : BitVec 32) : Prop :=
  (∀ a, (k0_off47 v169) a + S1x24x256.size a ≤ S7x64x256.size a) ∧
  (∀ a, (k0_off48 v169) a + S1x24x256.size a ≤ S7x64x256.size a) ∧
  (∀ a, (k0_off49 v169) a + S1x24x256.size a ≤ S7x64x256.size a) ∧
  (∀ a, (k0_off50 v169) a + S1x24x256.size a ≤ S7x64x256.size a) ∧
  (∀ a, (k0_off51 v169) a + S1x24x256.size a ≤ S7x64x256.size a) ∧
  (∀ a, (k0_off52 v169) a + S1x24x256.size a ≤ S7x64x256.size a) ∧
  (∀ a, (k0_off53 v169) a + S1x24x256.size a ≤ S7x64x256.size a)
theorem k0_off47_inb : ∀ (v169 : BitVec 32) (k0_hw10 : k0_chk10 v169), ∀ a, (k0_off47 v169) a + S1x24x256.size a ≤ S7x64x256.size a := fun v169 k0_hw10 => k0_hw10.1
theorem k0_off48_inb : ∀ (v169 : BitVec 32) (k0_hw10 : k0_chk10 v169), ∀ a, (k0_off48 v169) a + S1x24x256.size a ≤ S7x64x256.size a := fun v169 k0_hw10 => k0_hw10.2.1
theorem k0_off49_inb : ∀ (v169 : BitVec 32) (k0_hw10 : k0_chk10 v169), ∀ a, (k0_off49 v169) a + S1x24x256.size a ≤ S7x64x256.size a := fun v169 k0_hw10 => k0_hw10.2.2.1
theorem k0_off50_inb : ∀ (v169 : BitVec 32) (k0_hw10 : k0_chk10 v169), ∀ a, (k0_off50 v169) a + S1x24x256.size a ≤ S7x64x256.size a := fun v169 k0_hw10 => k0_hw10.2.2.2.1
theorem k0_off51_inb : ∀ (v169 : BitVec 32) (k0_hw10 : k0_chk10 v169), ∀ a, (k0_off51 v169) a + S1x24x256.size a ≤ S7x64x256.size a := fun v169 k0_hw10 => k0_hw10.2.2.2.2.1
theorem k0_off52_inb : ∀ (v169 : BitVec 32) (k0_hw10 : k0_chk10 v169), ∀ a, (k0_off52 v169) a + S1x24x256.size a ≤ S7x64x256.size a := fun v169 k0_hw10 => k0_hw10.2.2.2.2.2.1
theorem k0_off53_inb : ∀ (v169 : BitVec 32) (k0_hw10 : k0_chk10 v169), ∀ a, (k0_off53 v169) a + S1x24x256.size a ≤ S7x64x256.size a := fun v169 k0_hw10 => k0_hw10.2.2.2.2.2.2

def k0_off54 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v272 : Index := Scalar.indexCast v4
  let c2_209 : Index := 2#32
  ![v272.toNat, 2]
def k0_off55 (v273 : BitVec 32) : Fin 3 → Nat :=
  let c0_215 : Index := 0#32
  let c8_i32_210 : BitVec 32 := 8#32
  let v274 : BitVec 32 := Scalar.muli v273 c8_i32_210
  let v280 : Index := Scalar.indexCast v274
  let c0_216 : Index := 0#32
  ![0, v280.toNat, 0]

def k0_off56 (v273 : BitVec 32) : Fin 3 → Nat :=
  let c1_228 : Index := 1#32
  let c8_i32_210 : BitVec 32 := 8#32
  let v274 : BitVec 32 := Scalar.muli v273 c8_i32_210
  let v294 : Index := Scalar.indexCast v274
  let c0_229 : Index := 0#32
  ![1, v294.toNat, 0]
def k0_off57 (v273 : BitVec 32) : Fin 3 → Nat :=
  let c2_241 : Index := 2#32
  let c8_i32_210 : BitVec 32 := 8#32
  let v274 : BitVec 32 := Scalar.muli v273 c8_i32_210
  let v308 : Index := Scalar.indexCast v274
  let c0_242 : Index := 0#32
  ![2, v308.toNat, 0]
def k0_off58 (v273 : BitVec 32) : Fin 3 → Nat :=
  let c3_254 : Index := 3#32
  let c8_i32_210 : BitVec 32 := 8#32
  let v274 : BitVec 32 := Scalar.muli v273 c8_i32_210
  let v322 : Index := Scalar.indexCast v274
  let c0_255 : Index := 0#32
  ![3, v322.toNat, 0]
def k0_off59 (v273 : BitVec 32) : Fin 3 → Nat :=
  let c4_267 : Index := 4#32
  let c8_i32_210 : BitVec 32 := 8#32
  let v274 : BitVec 32 := Scalar.muli v273 c8_i32_210
  let v336 : Index := Scalar.indexCast v274
  let c0_268 : Index := 0#32
  ![4, v336.toNat, 0]
def k0_off60 (v273 : BitVec 32) : Fin 3 → Nat :=
  let c5_280 : Index := 5#32
  let c8_i32_210 : BitVec 32 := 8#32
  let v274 : BitVec 32 := Scalar.muli v273 c8_i32_210
  let v350 : Index := Scalar.indexCast v274
  let c0_281 : Index := 0#32
  ![5, v350.toNat, 0]
def k0_off61 (v273 : BitVec 32) : Fin 3 → Nat :=
  let c6_293 : Index := 6#32
  let c8_i32_210 : BitVec 32 := 8#32
  let v274 : BitVec 32 := Scalar.muli v273 c8_i32_210
  let v364 : Index := Scalar.indexCast v274
  let c0_294 : Index := 0#32
  ![6, v364.toNat, 0]

def k0_chk11 (v273 : BitVec 32) : Prop :=
  (∀ a, (k0_off55 v273) a + S1x24x256.size a ≤ S7x64x256.size a) ∧
  (∀ a, (k0_off56 v273) a + S1x24x256.size a ≤ S7x64x256.size a) ∧
  (∀ a, (k0_off57 v273) a + S1x24x256.size a ≤ S7x64x256.size a) ∧
  (∀ a, (k0_off58 v273) a + S1x24x256.size a ≤ S7x64x256.size a) ∧
  (∀ a, (k0_off59 v273) a + S1x24x256.size a ≤ S7x64x256.size a) ∧
  (∀ a, (k0_off60 v273) a + S1x24x256.size a ≤ S7x64x256.size a) ∧
  (∀ a, (k0_off61 v273) a + S1x24x256.size a ≤ S7x64x256.size a)
theorem k0_off55_inb : ∀ (v273 : BitVec 32) (k0_hw11 : k0_chk11 v273), ∀ a, (k0_off55 v273) a + S1x24x256.size a ≤ S7x64x256.size a := fun v273 k0_hw11 => k0_hw11.1
theorem k0_off56_inb : ∀ (v273 : BitVec 32) (k0_hw11 : k0_chk11 v273), ∀ a, (k0_off56 v273) a + S1x24x256.size a ≤ S7x64x256.size a := fun v273 k0_hw11 => k0_hw11.2.1
theorem k0_off57_inb : ∀ (v273 : BitVec 32) (k0_hw11 : k0_chk11 v273), ∀ a, (k0_off57 v273) a + S1x24x256.size a ≤ S7x64x256.size a := fun v273 k0_hw11 => k0_hw11.2.2.1
theorem k0_off58_inb : ∀ (v273 : BitVec 32) (k0_hw11 : k0_chk11 v273), ∀ a, (k0_off58 v273) a + S1x24x256.size a ≤ S7x64x256.size a := fun v273 k0_hw11 => k0_hw11.2.2.2.1
theorem k0_off59_inb : ∀ (v273 : BitVec 32) (k0_hw11 : k0_chk11 v273), ∀ a, (k0_off59 v273) a + S1x24x256.size a ≤ S7x64x256.size a := fun v273 k0_hw11 => k0_hw11.2.2.2.2.1
theorem k0_off60_inb : ∀ (v273 : BitVec 32) (k0_hw11 : k0_chk11 v273), ∀ a, (k0_off60 v273) a + S1x24x256.size a ≤ S7x64x256.size a := fun v273 k0_hw11 => k0_hw11.2.2.2.2.2.1
theorem k0_off61_inb : ∀ (v273 : BitVec 32) (k0_hw11 : k0_chk11 v273), ∀ a, (k0_off61 v273) a + S1x24x256.size a ≤ S7x64x256.size a := fun v273 k0_hw11 => k0_hw11.2.2.2.2.2.2

def k0_off62 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v376 : Index := Scalar.indexCast v4
  let c3_302 : Index := 3#32
  ![v376.toNat, 3]
def k0_off63 (v377 : BitVec 32) : Fin 3 → Nat :=
  let c0_308 : Index := 0#32
  let c8_i32_303 : BitVec 32 := 8#32
  let v378 : BitVec 32 := Scalar.muli v377 c8_i32_303
  let v384 : Index := Scalar.indexCast v378
  let c0_309 : Index := 0#32
  ![0, v384.toNat, 0]

def k0_off64 (v377 : BitVec 32) : Fin 3 → Nat :=
  let c1_321 : Index := 1#32
  let c8_i32_303 : BitVec 32 := 8#32
  let v378 : BitVec 32 := Scalar.muli v377 c8_i32_303
  let v398 : Index := Scalar.indexCast v378
  let c0_322 : Index := 0#32
  ![1, v398.toNat, 0]
def k0_off65 (v377 : BitVec 32) : Fin 3 → Nat :=
  let c2_334 : Index := 2#32
  let c8_i32_303 : BitVec 32 := 8#32
  let v378 : BitVec 32 := Scalar.muli v377 c8_i32_303
  let v412 : Index := Scalar.indexCast v378
  let c0_335 : Index := 0#32
  ![2, v412.toNat, 0]
def k0_off66 (v377 : BitVec 32) : Fin 3 → Nat :=
  let c3_347 : Index := 3#32
  let c8_i32_303 : BitVec 32 := 8#32
  let v378 : BitVec 32 := Scalar.muli v377 c8_i32_303
  let v426 : Index := Scalar.indexCast v378
  let c0_348 : Index := 0#32
  ![3, v426.toNat, 0]
def k0_off67 (v377 : BitVec 32) : Fin 3 → Nat :=
  let c4_360 : Index := 4#32
  let c8_i32_303 : BitVec 32 := 8#32
  let v378 : BitVec 32 := Scalar.muli v377 c8_i32_303
  let v440 : Index := Scalar.indexCast v378
  let c0_361 : Index := 0#32
  ![4, v440.toNat, 0]
def k0_off68 (v377 : BitVec 32) : Fin 3 → Nat :=
  let c5_373 : Index := 5#32
  let c8_i32_303 : BitVec 32 := 8#32
  let v378 : BitVec 32 := Scalar.muli v377 c8_i32_303
  let v454 : Index := Scalar.indexCast v378
  let c0_374 : Index := 0#32
  ![5, v454.toNat, 0]
def k0_off69 (v377 : BitVec 32) : Fin 3 → Nat :=
  let c6_386 : Index := 6#32
  let c8_i32_303 : BitVec 32 := 8#32
  let v378 : BitVec 32 := Scalar.muli v377 c8_i32_303
  let v468 : Index := Scalar.indexCast v378
  let c0_387 : Index := 0#32
  ![6, v468.toNat, 0]

def k0_chk12 (v377 : BitVec 32) : Prop :=
  (∀ a, (k0_off63 v377) a + S1x24x256.size a ≤ S7x64x256.size a) ∧
  (∀ a, (k0_off64 v377) a + S1x24x256.size a ≤ S7x64x256.size a) ∧
  (∀ a, (k0_off65 v377) a + S1x24x256.size a ≤ S7x64x256.size a) ∧
  (∀ a, (k0_off66 v377) a + S1x24x256.size a ≤ S7x64x256.size a) ∧
  (∀ a, (k0_off67 v377) a + S1x24x256.size a ≤ S7x64x256.size a) ∧
  (∀ a, (k0_off68 v377) a + S1x24x256.size a ≤ S7x64x256.size a) ∧
  (∀ a, (k0_off69 v377) a + S1x24x256.size a ≤ S7x64x256.size a)
theorem k0_off63_inb : ∀ (v377 : BitVec 32) (k0_hw12 : k0_chk12 v377), ∀ a, (k0_off63 v377) a + S1x24x256.size a ≤ S7x64x256.size a := fun v377 k0_hw12 => k0_hw12.1
theorem k0_off64_inb : ∀ (v377 : BitVec 32) (k0_hw12 : k0_chk12 v377), ∀ a, (k0_off64 v377) a + S1x24x256.size a ≤ S7x64x256.size a := fun v377 k0_hw12 => k0_hw12.2.1
theorem k0_off65_inb : ∀ (v377 : BitVec 32) (k0_hw12 : k0_chk12 v377), ∀ a, (k0_off65 v377) a + S1x24x256.size a ≤ S7x64x256.size a := fun v377 k0_hw12 => k0_hw12.2.2.1
theorem k0_off66_inb : ∀ (v377 : BitVec 32) (k0_hw12 : k0_chk12 v377), ∀ a, (k0_off66 v377) a + S1x24x256.size a ≤ S7x64x256.size a := fun v377 k0_hw12 => k0_hw12.2.2.2.1
theorem k0_off67_inb : ∀ (v377 : BitVec 32) (k0_hw12 : k0_chk12 v377), ∀ a, (k0_off67 v377) a + S1x24x256.size a ≤ S7x64x256.size a := fun v377 k0_hw12 => k0_hw12.2.2.2.2.1
theorem k0_off68_inb : ∀ (v377 : BitVec 32) (k0_hw12 : k0_chk12 v377), ∀ a, (k0_off68 v377) a + S1x24x256.size a ≤ S7x64x256.size a := fun v377 k0_hw12 => k0_hw12.2.2.2.2.2.1
theorem k0_off69_inb : ∀ (v377 : BitVec 32) (k0_hw12 : k0_chk12 v377), ∀ a, (k0_off69 v377) a + S1x24x256.size a ≤ S7x64x256.size a := fun v377 k0_hw12 => k0_hw12.2.2.2.2.2.2

def k0_off70 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v480 : Index := Scalar.indexCast v4
  let c4_395 : Index := 4#32
  ![v480.toNat, 4]
def k0_off71 (v481 : BitVec 32) : Fin 3 → Nat :=
  let c0_401 : Index := 0#32
  let c8_i32_396 : BitVec 32 := 8#32
  let v482 : BitVec 32 := Scalar.muli v481 c8_i32_396
  let v488 : Index := Scalar.indexCast v482
  let c0_402 : Index := 0#32
  ![0, v488.toNat, 0]

def k0_off72 (v481 : BitVec 32) : Fin 3 → Nat :=
  let c1_414 : Index := 1#32
  let c8_i32_396 : BitVec 32 := 8#32
  let v482 : BitVec 32 := Scalar.muli v481 c8_i32_396
  let v502 : Index := Scalar.indexCast v482
  let c0_415 : Index := 0#32
  ![1, v502.toNat, 0]
def k0_off73 (v481 : BitVec 32) : Fin 3 → Nat :=
  let c2_427 : Index := 2#32
  let c8_i32_396 : BitVec 32 := 8#32
  let v482 : BitVec 32 := Scalar.muli v481 c8_i32_396
  let v516 : Index := Scalar.indexCast v482
  let c0_428 : Index := 0#32
  ![2, v516.toNat, 0]
def k0_off74 (v481 : BitVec 32) : Fin 3 → Nat :=
  let c3_440 : Index := 3#32
  let c8_i32_396 : BitVec 32 := 8#32
  let v482 : BitVec 32 := Scalar.muli v481 c8_i32_396
  let v530 : Index := Scalar.indexCast v482
  let c0_441 : Index := 0#32
  ![3, v530.toNat, 0]
def k0_off75 (v481 : BitVec 32) : Fin 3 → Nat :=
  let c4_453 : Index := 4#32
  let c8_i32_396 : BitVec 32 := 8#32
  let v482 : BitVec 32 := Scalar.muli v481 c8_i32_396
  let v544 : Index := Scalar.indexCast v482
  let c0_454 : Index := 0#32
  ![4, v544.toNat, 0]
def k0_off76 (v481 : BitVec 32) : Fin 3 → Nat :=
  let c5_466 : Index := 5#32
  let c8_i32_396 : BitVec 32 := 8#32
  let v482 : BitVec 32 := Scalar.muli v481 c8_i32_396
  let v558 : Index := Scalar.indexCast v482
  let c0_467 : Index := 0#32
  ![5, v558.toNat, 0]
def k0_off77 (v481 : BitVec 32) : Fin 3 → Nat :=
  let c6_479 : Index := 6#32
  let c8_i32_396 : BitVec 32 := 8#32
  let v482 : BitVec 32 := Scalar.muli v481 c8_i32_396
  let v572 : Index := Scalar.indexCast v482
  let c0_480 : Index := 0#32
  ![6, v572.toNat, 0]

def k0_chk13 (v481 : BitVec 32) : Prop :=
  (∀ a, (k0_off71 v481) a + S1x24x256.size a ≤ S7x64x256.size a) ∧
  (∀ a, (k0_off72 v481) a + S1x24x256.size a ≤ S7x64x256.size a) ∧
  (∀ a, (k0_off73 v481) a + S1x24x256.size a ≤ S7x64x256.size a) ∧
  (∀ a, (k0_off74 v481) a + S1x24x256.size a ≤ S7x64x256.size a) ∧
  (∀ a, (k0_off75 v481) a + S1x24x256.size a ≤ S7x64x256.size a) ∧
  (∀ a, (k0_off76 v481) a + S1x24x256.size a ≤ S7x64x256.size a) ∧
  (∀ a, (k0_off77 v481) a + S1x24x256.size a ≤ S7x64x256.size a)
theorem k0_off71_inb : ∀ (v481 : BitVec 32) (k0_hw13 : k0_chk13 v481), ∀ a, (k0_off71 v481) a + S1x24x256.size a ≤ S7x64x256.size a := fun v481 k0_hw13 => k0_hw13.1
theorem k0_off72_inb : ∀ (v481 : BitVec 32) (k0_hw13 : k0_chk13 v481), ∀ a, (k0_off72 v481) a + S1x24x256.size a ≤ S7x64x256.size a := fun v481 k0_hw13 => k0_hw13.2.1
theorem k0_off73_inb : ∀ (v481 : BitVec 32) (k0_hw13 : k0_chk13 v481), ∀ a, (k0_off73 v481) a + S1x24x256.size a ≤ S7x64x256.size a := fun v481 k0_hw13 => k0_hw13.2.2.1
theorem k0_off74_inb : ∀ (v481 : BitVec 32) (k0_hw13 : k0_chk13 v481), ∀ a, (k0_off74 v481) a + S1x24x256.size a ≤ S7x64x256.size a := fun v481 k0_hw13 => k0_hw13.2.2.2.1
theorem k0_off75_inb : ∀ (v481 : BitVec 32) (k0_hw13 : k0_chk13 v481), ∀ a, (k0_off75 v481) a + S1x24x256.size a ≤ S7x64x256.size a := fun v481 k0_hw13 => k0_hw13.2.2.2.2.1
theorem k0_off76_inb : ∀ (v481 : BitVec 32) (k0_hw13 : k0_chk13 v481), ∀ a, (k0_off76 v481) a + S1x24x256.size a ≤ S7x64x256.size a := fun v481 k0_hw13 => k0_hw13.2.2.2.2.2.1
theorem k0_off77_inb : ∀ (v481 : BitVec 32) (k0_hw13 : k0_chk13 v481), ∀ a, (k0_off77 v481) a + S1x24x256.size a ≤ S7x64x256.size a := fun v481 k0_hw13 => k0_hw13.2.2.2.2.2.2

def k0_off78 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v584 : Index := Scalar.indexCast v4
  let c5_488 : Index := 5#32
  ![v584.toNat, 5]
def k0_off79 (v585 : BitVec 32) : Fin 3 → Nat :=
  let c0_494 : Index := 0#32
  let c8_i32_489 : BitVec 32 := 8#32
  let v586 : BitVec 32 := Scalar.muli v585 c8_i32_489
  let v592 : Index := Scalar.indexCast v586
  let c0_495 : Index := 0#32
  ![0, v592.toNat, 0]

def k0_off80 (v585 : BitVec 32) : Fin 3 → Nat :=
  let c1_507 : Index := 1#32
  let c8_i32_489 : BitVec 32 := 8#32
  let v586 : BitVec 32 := Scalar.muli v585 c8_i32_489
  let v606 : Index := Scalar.indexCast v586
  let c0_508 : Index := 0#32
  ![1, v606.toNat, 0]
def k0_off81 (v585 : BitVec 32) : Fin 3 → Nat :=
  let c2_520 : Index := 2#32
  let c8_i32_489 : BitVec 32 := 8#32
  let v586 : BitVec 32 := Scalar.muli v585 c8_i32_489
  let v620 : Index := Scalar.indexCast v586
  let c0_521 : Index := 0#32
  ![2, v620.toNat, 0]
def k0_off82 (v585 : BitVec 32) : Fin 3 → Nat :=
  let c3_533 : Index := 3#32
  let c8_i32_489 : BitVec 32 := 8#32
  let v586 : BitVec 32 := Scalar.muli v585 c8_i32_489
  let v634 : Index := Scalar.indexCast v586
  let c0_534 : Index := 0#32
  ![3, v634.toNat, 0]
def k0_off83 (v585 : BitVec 32) : Fin 3 → Nat :=
  let c4_546 : Index := 4#32
  let c8_i32_489 : BitVec 32 := 8#32
  let v586 : BitVec 32 := Scalar.muli v585 c8_i32_489
  let v648 : Index := Scalar.indexCast v586
  let c0_547 : Index := 0#32
  ![4, v648.toNat, 0]
def k0_off84 (v585 : BitVec 32) : Fin 3 → Nat :=
  let c5_559 : Index := 5#32
  let c8_i32_489 : BitVec 32 := 8#32
  let v586 : BitVec 32 := Scalar.muli v585 c8_i32_489
  let v662 : Index := Scalar.indexCast v586
  let c0_560 : Index := 0#32
  ![5, v662.toNat, 0]
def k0_off85 (v585 : BitVec 32) : Fin 3 → Nat :=
  let c6_572 : Index := 6#32
  let c8_i32_489 : BitVec 32 := 8#32
  let v586 : BitVec 32 := Scalar.muli v585 c8_i32_489
  let v676 : Index := Scalar.indexCast v586
  let c0_573 : Index := 0#32
  ![6, v676.toNat, 0]

def k0_chk14 (v585 : BitVec 32) : Prop :=
  (∀ a, (k0_off79 v585) a + S1x24x256.size a ≤ S7x64x256.size a) ∧
  (∀ a, (k0_off80 v585) a + S1x24x256.size a ≤ S7x64x256.size a) ∧
  (∀ a, (k0_off81 v585) a + S1x24x256.size a ≤ S7x64x256.size a) ∧
  (∀ a, (k0_off82 v585) a + S1x24x256.size a ≤ S7x64x256.size a) ∧
  (∀ a, (k0_off83 v585) a + S1x24x256.size a ≤ S7x64x256.size a) ∧
  (∀ a, (k0_off84 v585) a + S1x24x256.size a ≤ S7x64x256.size a) ∧
  (∀ a, (k0_off85 v585) a + S1x24x256.size a ≤ S7x64x256.size a)
theorem k0_off79_inb : ∀ (v585 : BitVec 32) (k0_hw14 : k0_chk14 v585), ∀ a, (k0_off79 v585) a + S1x24x256.size a ≤ S7x64x256.size a := fun v585 k0_hw14 => k0_hw14.1
theorem k0_off80_inb : ∀ (v585 : BitVec 32) (k0_hw14 : k0_chk14 v585), ∀ a, (k0_off80 v585) a + S1x24x256.size a ≤ S7x64x256.size a := fun v585 k0_hw14 => k0_hw14.2.1
theorem k0_off81_inb : ∀ (v585 : BitVec 32) (k0_hw14 : k0_chk14 v585), ∀ a, (k0_off81 v585) a + S1x24x256.size a ≤ S7x64x256.size a := fun v585 k0_hw14 => k0_hw14.2.2.1
theorem k0_off82_inb : ∀ (v585 : BitVec 32) (k0_hw14 : k0_chk14 v585), ∀ a, (k0_off82 v585) a + S1x24x256.size a ≤ S7x64x256.size a := fun v585 k0_hw14 => k0_hw14.2.2.2.1
theorem k0_off83_inb : ∀ (v585 : BitVec 32) (k0_hw14 : k0_chk14 v585), ∀ a, (k0_off83 v585) a + S1x24x256.size a ≤ S7x64x256.size a := fun v585 k0_hw14 => k0_hw14.2.2.2.2.1
theorem k0_off84_inb : ∀ (v585 : BitVec 32) (k0_hw14 : k0_chk14 v585), ∀ a, (k0_off84 v585) a + S1x24x256.size a ≤ S7x64x256.size a := fun v585 k0_hw14 => k0_hw14.2.2.2.2.2.1
theorem k0_off85_inb : ∀ (v585 : BitVec 32) (k0_hw14 : k0_chk14 v585), ∀ a, (k0_off85 v585) a + S1x24x256.size a ≤ S7x64x256.size a := fun v585 k0_hw14 => k0_hw14.2.2.2.2.2.2

def k0_off86 (i : grid0.Coords) : Fin 2 → Nat :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let v688 : Index := Scalar.indexCast v4
  let c6_581 : Index := 6#32
  ![v688.toNat, 6]
def k0_off87 (v689 : BitVec 32) : Fin 3 → Nat :=
  let c0_587 : Index := 0#32
  let c8_i32_582 : BitVec 32 := 8#32
  let v690 : BitVec 32 := Scalar.muli v689 c8_i32_582
  let v696 : Index := Scalar.indexCast v690
  let c0_588 : Index := 0#32
  ![0, v696.toNat, 0]

def k0_off88 (v689 : BitVec 32) : Fin 3 → Nat :=
  let c1_600 : Index := 1#32
  let c8_i32_582 : BitVec 32 := 8#32
  let v690 : BitVec 32 := Scalar.muli v689 c8_i32_582
  let v710 : Index := Scalar.indexCast v690
  let c0_601 : Index := 0#32
  ![1, v710.toNat, 0]
def k0_off89 (v689 : BitVec 32) : Fin 3 → Nat :=
  let c2_613 : Index := 2#32
  let c8_i32_582 : BitVec 32 := 8#32
  let v690 : BitVec 32 := Scalar.muli v689 c8_i32_582
  let v724 : Index := Scalar.indexCast v690
  let c0_614 : Index := 0#32
  ![2, v724.toNat, 0]
def k0_off90 (v689 : BitVec 32) : Fin 3 → Nat :=
  let c3_626 : Index := 3#32
  let c8_i32_582 : BitVec 32 := 8#32
  let v690 : BitVec 32 := Scalar.muli v689 c8_i32_582
  let v738 : Index := Scalar.indexCast v690
  let c0_627 : Index := 0#32
  ![3, v738.toNat, 0]
def k0_off91 (v689 : BitVec 32) : Fin 3 → Nat :=
  let c4_639 : Index := 4#32
  let c8_i32_582 : BitVec 32 := 8#32
  let v690 : BitVec 32 := Scalar.muli v689 c8_i32_582
  let v752 : Index := Scalar.indexCast v690
  let c0_640 : Index := 0#32
  ![4, v752.toNat, 0]
def k0_off92 (v689 : BitVec 32) : Fin 3 → Nat :=
  let c5_652 : Index := 5#32
  let c8_i32_582 : BitVec 32 := 8#32
  let v690 : BitVec 32 := Scalar.muli v689 c8_i32_582
  let v766 : Index := Scalar.indexCast v690
  let c0_653 : Index := 0#32
  ![5, v766.toNat, 0]
def k0_off93 (v689 : BitVec 32) : Fin 3 → Nat :=
  let c6_665 : Index := 6#32
  let c8_i32_582 : BitVec 32 := 8#32
  let v690 : BitVec 32 := Scalar.muli v689 c8_i32_582
  let v780 : Index := Scalar.indexCast v690
  let c0_666 : Index := 0#32
  ![6, v780.toNat, 0]

def k0_chk15 (v689 : BitVec 32) : Prop :=
  (∀ a, (k0_off87 v689) a + S1x24x256.size a ≤ S7x64x256.size a) ∧
  (∀ a, (k0_off88 v689) a + S1x24x256.size a ≤ S7x64x256.size a) ∧
  (∀ a, (k0_off89 v689) a + S1x24x256.size a ≤ S7x64x256.size a) ∧
  (∀ a, (k0_off90 v689) a + S1x24x256.size a ≤ S7x64x256.size a) ∧
  (∀ a, (k0_off91 v689) a + S1x24x256.size a ≤ S7x64x256.size a) ∧
  (∀ a, (k0_off92 v689) a + S1x24x256.size a ≤ S7x64x256.size a) ∧
  (∀ a, (k0_off93 v689) a + S1x24x256.size a ≤ S7x64x256.size a)
theorem k0_off87_inb : ∀ (v689 : BitVec 32) (k0_hw15 : k0_chk15 v689), ∀ a, (k0_off87 v689) a + S1x24x256.size a ≤ S7x64x256.size a := fun v689 k0_hw15 => k0_hw15.1
theorem k0_off88_inb : ∀ (v689 : BitVec 32) (k0_hw15 : k0_chk15 v689), ∀ a, (k0_off88 v689) a + S1x24x256.size a ≤ S7x64x256.size a := fun v689 k0_hw15 => k0_hw15.2.1
theorem k0_off89_inb : ∀ (v689 : BitVec 32) (k0_hw15 : k0_chk15 v689), ∀ a, (k0_off89 v689) a + S1x24x256.size a ≤ S7x64x256.size a := fun v689 k0_hw15 => k0_hw15.2.2.1
theorem k0_off90_inb : ∀ (v689 : BitVec 32) (k0_hw15 : k0_chk15 v689), ∀ a, (k0_off90 v689) a + S1x24x256.size a ≤ S7x64x256.size a := fun v689 k0_hw15 => k0_hw15.2.2.2.1
theorem k0_off91_inb : ∀ (v689 : BitVec 32) (k0_hw15 : k0_chk15 v689), ∀ a, (k0_off91 v689) a + S1x24x256.size a ≤ S7x64x256.size a := fun v689 k0_hw15 => k0_hw15.2.2.2.2.1
theorem k0_off92_inb : ∀ (v689 : BitVec 32) (k0_hw15 : k0_chk15 v689), ∀ a, (k0_off92 v689) a + S1x24x256.size a ≤ S7x64x256.size a := fun v689 k0_hw15 => k0_hw15.2.2.2.2.2.1
theorem k0_off93_inb : ∀ (v689 : BitVec 32) (k0_hw15 : k0_chk15 v689), ∀ a, (k0_off93 v689) a + S1x24x256.size a ≤ S7x64x256.size a := fun v689 k0_hw15 => k0_hw15.2.2.2.2.2.2

def k0_off94 (i : grid0.Coords) : Fin 1 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v794 : Index := Scalar.indexCast v793
  ![v794.toNat]
def k0_off95 (i : grid0.Coords) : Fin 3 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v796 : Index := Scalar.indexCast v793
  let c0_676 : Index := 0#32
  let c0_677 : Index := 0#32
  ![v796.toNat, 0, 0]
def k0_off96 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v808 : Index := Scalar.indexCast v793
  let c0_680 : Index := 0#32
  ![v808.toNat, 0]
def k0_off97 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v811 : Index := Scalar.indexCast v793
  let c1_682 : Index := 1#32
  ![v811.toNat, 1]
def k0_off98 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v814 : Index := Scalar.indexCast v793
  let c2_684 : Index := 2#32
  ![v814.toNat, 2]
def k0_off99 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v817 : Index := Scalar.indexCast v793
  let c3_686 : Index := 3#32
  ![v817.toNat, 3]
def k0_off100 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v820 : Index := Scalar.indexCast v793
  let c4_688 : Index := 4#32
  ![v820.toNat, 4]
def k0_off101 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v823 : Index := Scalar.indexCast v793
  let c5_690 : Index := 5#32
  ![v823.toNat, 5]
def k0_off102 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v826 : Index := Scalar.indexCast v793
  let c6_692 : Index := 6#32
  ![v826.toNat, 6]
@[reducible] def k0_t3_loop (v805 : BitVec 32) (v807 : BitVec 32) : Scf.Loop 32 :=
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_706 : BitVec 32 := 1#32
  ⟨c0_i32_704, v852, c1_i32_706⟩

def k0_off103 (v795 : BitVec 32) (v805 : BitVec 32) (v807 : BitVec 32) (v809 : BitVec 32) (k0_t3 : Fin (k0_t3_loop v805 v807).trips) (c0_i32_2728 : BitVec 32) : Fin 4 → Nat :=
  let v3166 : Index := Scalar.indexCast v795
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3165 : BitVec 32 := Scalar.addi v3161 c0_i32_2728
  let v3167 : Index := Scalar.indexCast v3165
  let c8_i32_681 : BitVec 32 := 8#32
  let v810 : BitVec 32 := Scalar.muli v809 c8_i32_681
  let v3168 : Index := Scalar.indexCast v810
  let c0_2729 : Index := 0#32
  ![v3166.toNat, v3167.toNat, v3168.toNat, 0]

def k0_off104 (v805 : BitVec 32) (v807 : BitVec 32) (k0_t3 : Fin (k0_t3_loop v805 v807).trips) (c0_i32_2731 : BitVec 32) : Fin 3 → Nat :=
  let c0_2735 : Index := 0#32
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3174 : BitVec 32 := Scalar.addi v3161 c0_i32_2731
  let v3177 : Index := Scalar.indexCast v3174
  let c0_2736 : Index := 0#32
  ![0, v3177.toNat, 0]
def k0_off105 (v795 : BitVec 32) (v805 : BitVec 32) (v807 : BitVec 32) (v812 : BitVec 32) (k0_t3 : Fin (k0_t3_loop v805 v807).trips) (c0_i32_2798 : BitVec 32) : Fin 4 → Nat :=
  let v3297 : Index := Scalar.indexCast v795
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3296 : BitVec 32 := Scalar.addi v3161 c0_i32_2798
  let v3298 : Index := Scalar.indexCast v3296
  let c8_i32_683 : BitVec 32 := 8#32
  let v813 : BitVec 32 := Scalar.muli v812 c8_i32_683
  let v3299 : Index := Scalar.indexCast v813
  let c0_2799 : Index := 0#32
  ![v3297.toNat, v3298.toNat, v3299.toNat, 0]

def k0_off106 (v805 : BitVec 32) (v807 : BitVec 32) (k0_t3 : Fin (k0_t3_loop v805 v807).trips) (c0_i32_2801 : BitVec 32) : Fin 3 → Nat :=
  let c1_2805 : Index := 1#32
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3305 : BitVec 32 := Scalar.addi v3161 c0_i32_2801
  let v3308 : Index := Scalar.indexCast v3305
  let c0_2806 : Index := 0#32
  ![1, v3308.toNat, 0]
def k0_off107 (v795 : BitVec 32) (v805 : BitVec 32) (v807 : BitVec 32) (v815 : BitVec 32) (k0_t3 : Fin (k0_t3_loop v805 v807).trips) (c0_i32_2870 : BitVec 32) : Fin 4 → Nat :=
  let v3428 : Index := Scalar.indexCast v795
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3427 : BitVec 32 := Scalar.addi v3161 c0_i32_2870
  let v3429 : Index := Scalar.indexCast v3427
  let c8_i32_685 : BitVec 32 := 8#32
  let v816 : BitVec 32 := Scalar.muli v815 c8_i32_685
  let v3430 : Index := Scalar.indexCast v816
  let c0_2871 : Index := 0#32
  ![v3428.toNat, v3429.toNat, v3430.toNat, 0]

def k0_off108 (v805 : BitVec 32) (v807 : BitVec 32) (k0_t3 : Fin (k0_t3_loop v805 v807).trips) (c0_i32_2873 : BitVec 32) : Fin 3 → Nat :=
  let c2_2877 : Index := 2#32
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3436 : BitVec 32 := Scalar.addi v3161 c0_i32_2873
  let v3439 : Index := Scalar.indexCast v3436
  let c0_2878 : Index := 0#32
  ![2, v3439.toNat, 0]
def k0_off109 (v795 : BitVec 32) (v805 : BitVec 32) (v807 : BitVec 32) (v818 : BitVec 32) (k0_t3 : Fin (k0_t3_loop v805 v807).trips) (c0_i32_2942 : BitVec 32) : Fin 4 → Nat :=
  let v3559 : Index := Scalar.indexCast v795
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3558 : BitVec 32 := Scalar.addi v3161 c0_i32_2942
  let v3560 : Index := Scalar.indexCast v3558
  let c8_i32_687 : BitVec 32 := 8#32
  let v819 : BitVec 32 := Scalar.muli v818 c8_i32_687
  let v3561 : Index := Scalar.indexCast v819
  let c0_2943 : Index := 0#32
  ![v3559.toNat, v3560.toNat, v3561.toNat, 0]

def k0_off110 (v805 : BitVec 32) (v807 : BitVec 32) (k0_t3 : Fin (k0_t3_loop v805 v807).trips) (c0_i32_2945 : BitVec 32) : Fin 3 → Nat :=
  let c3_2949 : Index := 3#32
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3567 : BitVec 32 := Scalar.addi v3161 c0_i32_2945
  let v3570 : Index := Scalar.indexCast v3567
  let c0_2950 : Index := 0#32
  ![3, v3570.toNat, 0]
def k0_off111 (v795 : BitVec 32) (v805 : BitVec 32) (v807 : BitVec 32) (v821 : BitVec 32) (k0_t3 : Fin (k0_t3_loop v805 v807).trips) (c0_i32_3014 : BitVec 32) : Fin 4 → Nat :=
  let v3690 : Index := Scalar.indexCast v795
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3689 : BitVec 32 := Scalar.addi v3161 c0_i32_3014
  let v3691 : Index := Scalar.indexCast v3689
  let c8_i32_689 : BitVec 32 := 8#32
  let v822 : BitVec 32 := Scalar.muli v821 c8_i32_689
  let v3692 : Index := Scalar.indexCast v822
  let c0_3015 : Index := 0#32
  ![v3690.toNat, v3691.toNat, v3692.toNat, 0]

def k0_off112 (v805 : BitVec 32) (v807 : BitVec 32) (k0_t3 : Fin (k0_t3_loop v805 v807).trips) (c0_i32_3017 : BitVec 32) : Fin 3 → Nat :=
  let c4_3021 : Index := 4#32
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3698 : BitVec 32 := Scalar.addi v3161 c0_i32_3017
  let v3701 : Index := Scalar.indexCast v3698
  let c0_3022 : Index := 0#32
  ![4, v3701.toNat, 0]
def k0_off113 (v795 : BitVec 32) (v805 : BitVec 32) (v807 : BitVec 32) (v824 : BitVec 32) (k0_t3 : Fin (k0_t3_loop v805 v807).trips) (c0_i32_3086 : BitVec 32) : Fin 4 → Nat :=
  let v3821 : Index := Scalar.indexCast v795
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3820 : BitVec 32 := Scalar.addi v3161 c0_i32_3086
  let v3822 : Index := Scalar.indexCast v3820
  let c8_i32_691 : BitVec 32 := 8#32
  let v825 : BitVec 32 := Scalar.muli v824 c8_i32_691
  let v3823 : Index := Scalar.indexCast v825
  let c0_3087 : Index := 0#32
  ![v3821.toNat, v3822.toNat, v3823.toNat, 0]

def k0_off114 (v805 : BitVec 32) (v807 : BitVec 32) (k0_t3 : Fin (k0_t3_loop v805 v807).trips) (c0_i32_3089 : BitVec 32) : Fin 3 → Nat :=
  let c5_3093 : Index := 5#32
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3829 : BitVec 32 := Scalar.addi v3161 c0_i32_3089
  let v3832 : Index := Scalar.indexCast v3829
  let c0_3094 : Index := 0#32
  ![5, v3832.toNat, 0]
def k0_off115 (v795 : BitVec 32) (v805 : BitVec 32) (v807 : BitVec 32) (v827 : BitVec 32) (k0_t3 : Fin (k0_t3_loop v805 v807).trips) (c0_i32_3158 : BitVec 32) : Fin 4 → Nat :=
  let v3952 : Index := Scalar.indexCast v795
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3951 : BitVec 32 := Scalar.addi v3161 c0_i32_3158
  let v3953 : Index := Scalar.indexCast v3951
  let c8_i32_693 : BitVec 32 := 8#32
  let v828 : BitVec 32 := Scalar.muli v827 c8_i32_693
  let v3954 : Index := Scalar.indexCast v828
  let c0_3159 : Index := 0#32
  ![v3952.toNat, v3953.toNat, v3954.toNat, 0]

def k0_off116 (v805 : BitVec 32) (v807 : BitVec 32) (k0_t3 : Fin (k0_t3_loop v805 v807).trips) (c0_i32_3161 : BitVec 32) : Fin 3 → Nat :=
  let c6_3165 : Index := 6#32
  let c0_i32_704 : BitVec 32 := 0#32
  let c1_i32_706 : BitVec 32 := 1#32
  let arg12 : BitVec 32 := Scf.iv c0_i32_704 c1_i32_706 k0_t3
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3960 : BitVec 32 := Scalar.addi v3161 c0_i32_3161
  let v3963 : Index := Scalar.indexCast v3960
  let c0_3166 : Index := 0#32
  ![6, v3963.toNat, 0]
@[reducible] def k0_t4_loop (v805 : BitVec 32) (v807 : BitVec 32) : Scf.Loop 32 :=
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let v849 : BitVec 32 := Scalar.addi c0_i32_704 v848
  let c1_i32_707 : BitVec 32 := 1#32
  ⟨v852, v849, c1_i32_707⟩
def k0_off117 (v795 : BitVec 32) (v805 : BitVec 32) (v807 : BitVec 32) (v809 : BitVec 32) (k0_t4 : Fin (k0_t4_loop v805 v807).trips) (c0_i32_2728 : BitVec 32) : Fin 4 → Nat :=
  let v3166 : Index := Scalar.indexCast v795
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3165 : BitVec 32 := Scalar.addi v3161 c0_i32_2728
  let v3167 : Index := Scalar.indexCast v3165
  let c8_i32_681 : BitVec 32 := 8#32
  let v810 : BitVec 32 := Scalar.muli v809 c8_i32_681
  let v3168 : Index := Scalar.indexCast v810
  let c0_2729 : Index := 0#32
  ![v3166.toNat, v3167.toNat, v3168.toNat, 0]

def k0_chk17 (v795 : BitVec 32) (v805 : BitVec 32) (v807 : BitVec 32) (v809 : BitVec 32) : Prop :=
  (∀ k0_t3 : Fin (k0_t3_loop v805 v807).trips, ∀ (r : Fin 8), ∀ a, (k0_off103 v795 v805 v807 v809 k0_t3 (BitVec.ofNat 32 r.val)) a + S1x1x24x256.size a ≤ S4x64x64x256.size a) ∧
  (∀ k0_t4 : Fin (k0_t4_loop v805 v807).trips, ∀ (r : Fin 8), ∀ a, (k0_off117 v795 v805 v807 v809 k0_t4 (BitVec.ofNat 32 r.val)) a + S1x1x24x256.size a ≤ S4x64x64x256.size a)
theorem k0_off103_inb : ∀ (v795 : BitVec 32) (v805 : BitVec 32) (v807 : BitVec 32) (v809 : BitVec 32) (k0_hw17 : k0_chk17 v795 v805 v807 v809) (k0_t3 : Fin (k0_t3_loop v805 v807).trips), ∀ (r : Fin 8), ∀ a, (k0_off103 v795 v805 v807 v809 k0_t3 (BitVec.ofNat 32 r.val)) a + S1x1x24x256.size a ≤ S4x64x64x256.size a := fun v795 v805 v807 v809 k0_hw17 k0_t3 r => k0_hw17.1 k0_t3 r
theorem k0_off117_inb : ∀ (v795 : BitVec 32) (v805 : BitVec 32) (v807 : BitVec 32) (v809 : BitVec 32) (k0_hw17 : k0_chk17 v795 v805 v807 v809) (k0_t4 : Fin (k0_t4_loop v805 v807).trips), ∀ (r : Fin 8), ∀ a, (k0_off117 v795 v805 v807 v809 k0_t4 (BitVec.ofNat 32 r.val)) a + S1x1x24x256.size a ≤ S4x64x64x256.size a := fun v795 v805 v807 v809 k0_hw17 k0_t4 r => k0_hw17.2 k0_t4 r

def k0_off118 (v805 : BitVec 32) (v807 : BitVec 32) (k0_t4 : Fin (k0_t4_loop v805 v807).trips) (c0_i32_2731 : BitVec 32) : Fin 3 → Nat :=
  let c0_2735 : Index := 0#32
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3174 : BitVec 32 := Scalar.addi v3161 c0_i32_2731
  let v3177 : Index := Scalar.indexCast v3174
  let c0_2736 : Index := 0#32
  ![0, v3177.toNat, 0]
def k0_off119 (v795 : BitVec 32) (v805 : BitVec 32) (v807 : BitVec 32) (v812 : BitVec 32) (k0_t4 : Fin (k0_t4_loop v805 v807).trips) (c0_i32_2798 : BitVec 32) : Fin 4 → Nat :=
  let v3297 : Index := Scalar.indexCast v795
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3296 : BitVec 32 := Scalar.addi v3161 c0_i32_2798
  let v3298 : Index := Scalar.indexCast v3296
  let c8_i32_683 : BitVec 32 := 8#32
  let v813 : BitVec 32 := Scalar.muli v812 c8_i32_683
  let v3299 : Index := Scalar.indexCast v813
  let c0_2799 : Index := 0#32
  ![v3297.toNat, v3298.toNat, v3299.toNat, 0]

def k0_chk18 (v795 : BitVec 32) (v805 : BitVec 32) (v807 : BitVec 32) (v812 : BitVec 32) : Prop :=
  (∀ k0_t3 : Fin (k0_t3_loop v805 v807).trips, ∀ (r : Fin 8), ∀ a, (k0_off105 v795 v805 v807 v812 k0_t3 (BitVec.ofNat 32 r.val)) a + S1x1x24x256.size a ≤ S4x64x64x256.size a) ∧
  (∀ k0_t4 : Fin (k0_t4_loop v805 v807).trips, ∀ (r : Fin 8), ∀ a, (k0_off119 v795 v805 v807 v812 k0_t4 (BitVec.ofNat 32 r.val)) a + S1x1x24x256.size a ≤ S4x64x64x256.size a)
theorem k0_off105_inb : ∀ (v795 : BitVec 32) (v805 : BitVec 32) (v807 : BitVec 32) (v812 : BitVec 32) (k0_hw18 : k0_chk18 v795 v805 v807 v812) (k0_t3 : Fin (k0_t3_loop v805 v807).trips), ∀ (r : Fin 8), ∀ a, (k0_off105 v795 v805 v807 v812 k0_t3 (BitVec.ofNat 32 r.val)) a + S1x1x24x256.size a ≤ S4x64x64x256.size a := fun v795 v805 v807 v812 k0_hw18 k0_t3 r => k0_hw18.1 k0_t3 r
theorem k0_off119_inb : ∀ (v795 : BitVec 32) (v805 : BitVec 32) (v807 : BitVec 32) (v812 : BitVec 32) (k0_hw18 : k0_chk18 v795 v805 v807 v812) (k0_t4 : Fin (k0_t4_loop v805 v807).trips), ∀ (r : Fin 8), ∀ a, (k0_off119 v795 v805 v807 v812 k0_t4 (BitVec.ofNat 32 r.val)) a + S1x1x24x256.size a ≤ S4x64x64x256.size a := fun v795 v805 v807 v812 k0_hw18 k0_t4 r => k0_hw18.2 k0_t4 r

def k0_off120 (v805 : BitVec 32) (v807 : BitVec 32) (k0_t4 : Fin (k0_t4_loop v805 v807).trips) (c0_i32_2801 : BitVec 32) : Fin 3 → Nat :=
  let c1_2805 : Index := 1#32
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3305 : BitVec 32 := Scalar.addi v3161 c0_i32_2801
  let v3308 : Index := Scalar.indexCast v3305
  let c0_2806 : Index := 0#32
  ![1, v3308.toNat, 0]
def k0_off121 (v795 : BitVec 32) (v805 : BitVec 32) (v807 : BitVec 32) (v815 : BitVec 32) (k0_t4 : Fin (k0_t4_loop v805 v807).trips) (c0_i32_2870 : BitVec 32) : Fin 4 → Nat :=
  let v3428 : Index := Scalar.indexCast v795
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3427 : BitVec 32 := Scalar.addi v3161 c0_i32_2870
  let v3429 : Index := Scalar.indexCast v3427
  let c8_i32_685 : BitVec 32 := 8#32
  let v816 : BitVec 32 := Scalar.muli v815 c8_i32_685
  let v3430 : Index := Scalar.indexCast v816
  let c0_2871 : Index := 0#32
  ![v3428.toNat, v3429.toNat, v3430.toNat, 0]

def k0_chk19 (v795 : BitVec 32) (v805 : BitVec 32) (v807 : BitVec 32) (v815 : BitVec 32) : Prop :=
  (∀ k0_t3 : Fin (k0_t3_loop v805 v807).trips, ∀ (r : Fin 8), ∀ a, (k0_off107 v795 v805 v807 v815 k0_t3 (BitVec.ofNat 32 r.val)) a + S1x1x24x256.size a ≤ S4x64x64x256.size a) ∧
  (∀ k0_t4 : Fin (k0_t4_loop v805 v807).trips, ∀ (r : Fin 8), ∀ a, (k0_off121 v795 v805 v807 v815 k0_t4 (BitVec.ofNat 32 r.val)) a + S1x1x24x256.size a ≤ S4x64x64x256.size a)
theorem k0_off107_inb : ∀ (v795 : BitVec 32) (v805 : BitVec 32) (v807 : BitVec 32) (v815 : BitVec 32) (k0_hw19 : k0_chk19 v795 v805 v807 v815) (k0_t3 : Fin (k0_t3_loop v805 v807).trips), ∀ (r : Fin 8), ∀ a, (k0_off107 v795 v805 v807 v815 k0_t3 (BitVec.ofNat 32 r.val)) a + S1x1x24x256.size a ≤ S4x64x64x256.size a := fun v795 v805 v807 v815 k0_hw19 k0_t3 r => k0_hw19.1 k0_t3 r
theorem k0_off121_inb : ∀ (v795 : BitVec 32) (v805 : BitVec 32) (v807 : BitVec 32) (v815 : BitVec 32) (k0_hw19 : k0_chk19 v795 v805 v807 v815) (k0_t4 : Fin (k0_t4_loop v805 v807).trips), ∀ (r : Fin 8), ∀ a, (k0_off121 v795 v805 v807 v815 k0_t4 (BitVec.ofNat 32 r.val)) a + S1x1x24x256.size a ≤ S4x64x64x256.size a := fun v795 v805 v807 v815 k0_hw19 k0_t4 r => k0_hw19.2 k0_t4 r

def k0_off122 (v805 : BitVec 32) (v807 : BitVec 32) (k0_t4 : Fin (k0_t4_loop v805 v807).trips) (c0_i32_2873 : BitVec 32) : Fin 3 → Nat :=
  let c2_2877 : Index := 2#32
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3436 : BitVec 32 := Scalar.addi v3161 c0_i32_2873
  let v3439 : Index := Scalar.indexCast v3436
  let c0_2878 : Index := 0#32
  ![2, v3439.toNat, 0]
def k0_off123 (v795 : BitVec 32) (v805 : BitVec 32) (v807 : BitVec 32) (v818 : BitVec 32) (k0_t4 : Fin (k0_t4_loop v805 v807).trips) (c0_i32_2942 : BitVec 32) : Fin 4 → Nat :=
  let v3559 : Index := Scalar.indexCast v795
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3558 : BitVec 32 := Scalar.addi v3161 c0_i32_2942
  let v3560 : Index := Scalar.indexCast v3558
  let c8_i32_687 : BitVec 32 := 8#32
  let v819 : BitVec 32 := Scalar.muli v818 c8_i32_687
  let v3561 : Index := Scalar.indexCast v819
  let c0_2943 : Index := 0#32
  ![v3559.toNat, v3560.toNat, v3561.toNat, 0]

def k0_chk20 (v795 : BitVec 32) (v805 : BitVec 32) (v807 : BitVec 32) (v818 : BitVec 32) : Prop :=
  (∀ k0_t3 : Fin (k0_t3_loop v805 v807).trips, ∀ (r : Fin 8), ∀ a, (k0_off109 v795 v805 v807 v818 k0_t3 (BitVec.ofNat 32 r.val)) a + S1x1x24x256.size a ≤ S4x64x64x256.size a) ∧
  (∀ k0_t4 : Fin (k0_t4_loop v805 v807).trips, ∀ (r : Fin 8), ∀ a, (k0_off123 v795 v805 v807 v818 k0_t4 (BitVec.ofNat 32 r.val)) a + S1x1x24x256.size a ≤ S4x64x64x256.size a)
theorem k0_off109_inb : ∀ (v795 : BitVec 32) (v805 : BitVec 32) (v807 : BitVec 32) (v818 : BitVec 32) (k0_hw20 : k0_chk20 v795 v805 v807 v818) (k0_t3 : Fin (k0_t3_loop v805 v807).trips), ∀ (r : Fin 8), ∀ a, (k0_off109 v795 v805 v807 v818 k0_t3 (BitVec.ofNat 32 r.val)) a + S1x1x24x256.size a ≤ S4x64x64x256.size a := fun v795 v805 v807 v818 k0_hw20 k0_t3 r => k0_hw20.1 k0_t3 r
theorem k0_off123_inb : ∀ (v795 : BitVec 32) (v805 : BitVec 32) (v807 : BitVec 32) (v818 : BitVec 32) (k0_hw20 : k0_chk20 v795 v805 v807 v818) (k0_t4 : Fin (k0_t4_loop v805 v807).trips), ∀ (r : Fin 8), ∀ a, (k0_off123 v795 v805 v807 v818 k0_t4 (BitVec.ofNat 32 r.val)) a + S1x1x24x256.size a ≤ S4x64x64x256.size a := fun v795 v805 v807 v818 k0_hw20 k0_t4 r => k0_hw20.2 k0_t4 r

def k0_off124 (v805 : BitVec 32) (v807 : BitVec 32) (k0_t4 : Fin (k0_t4_loop v805 v807).trips) (c0_i32_2945 : BitVec 32) : Fin 3 → Nat :=
  let c3_2949 : Index := 3#32
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3567 : BitVec 32 := Scalar.addi v3161 c0_i32_2945
  let v3570 : Index := Scalar.indexCast v3567
  let c0_2950 : Index := 0#32
  ![3, v3570.toNat, 0]
def k0_off125 (v795 : BitVec 32) (v805 : BitVec 32) (v807 : BitVec 32) (v821 : BitVec 32) (k0_t4 : Fin (k0_t4_loop v805 v807).trips) (c0_i32_3014 : BitVec 32) : Fin 4 → Nat :=
  let v3690 : Index := Scalar.indexCast v795
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3689 : BitVec 32 := Scalar.addi v3161 c0_i32_3014
  let v3691 : Index := Scalar.indexCast v3689
  let c8_i32_689 : BitVec 32 := 8#32
  let v822 : BitVec 32 := Scalar.muli v821 c8_i32_689
  let v3692 : Index := Scalar.indexCast v822
  let c0_3015 : Index := 0#32
  ![v3690.toNat, v3691.toNat, v3692.toNat, 0]

def k0_chk21 (v795 : BitVec 32) (v805 : BitVec 32) (v807 : BitVec 32) (v821 : BitVec 32) : Prop :=
  (∀ k0_t3 : Fin (k0_t3_loop v805 v807).trips, ∀ (r : Fin 8), ∀ a, (k0_off111 v795 v805 v807 v821 k0_t3 (BitVec.ofNat 32 r.val)) a + S1x1x24x256.size a ≤ S4x64x64x256.size a) ∧
  (∀ k0_t4 : Fin (k0_t4_loop v805 v807).trips, ∀ (r : Fin 8), ∀ a, (k0_off125 v795 v805 v807 v821 k0_t4 (BitVec.ofNat 32 r.val)) a + S1x1x24x256.size a ≤ S4x64x64x256.size a)
theorem k0_off111_inb : ∀ (v795 : BitVec 32) (v805 : BitVec 32) (v807 : BitVec 32) (v821 : BitVec 32) (k0_hw21 : k0_chk21 v795 v805 v807 v821) (k0_t3 : Fin (k0_t3_loop v805 v807).trips), ∀ (r : Fin 8), ∀ a, (k0_off111 v795 v805 v807 v821 k0_t3 (BitVec.ofNat 32 r.val)) a + S1x1x24x256.size a ≤ S4x64x64x256.size a := fun v795 v805 v807 v821 k0_hw21 k0_t3 r => k0_hw21.1 k0_t3 r
theorem k0_off125_inb : ∀ (v795 : BitVec 32) (v805 : BitVec 32) (v807 : BitVec 32) (v821 : BitVec 32) (k0_hw21 : k0_chk21 v795 v805 v807 v821) (k0_t4 : Fin (k0_t4_loop v805 v807).trips), ∀ (r : Fin 8), ∀ a, (k0_off125 v795 v805 v807 v821 k0_t4 (BitVec.ofNat 32 r.val)) a + S1x1x24x256.size a ≤ S4x64x64x256.size a := fun v795 v805 v807 v821 k0_hw21 k0_t4 r => k0_hw21.2 k0_t4 r

def k0_off126 (v805 : BitVec 32) (v807 : BitVec 32) (k0_t4 : Fin (k0_t4_loop v805 v807).trips) (c0_i32_3017 : BitVec 32) : Fin 3 → Nat :=
  let c4_3021 : Index := 4#32
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3698 : BitVec 32 := Scalar.addi v3161 c0_i32_3017
  let v3701 : Index := Scalar.indexCast v3698
  let c0_3022 : Index := 0#32
  ![4, v3701.toNat, 0]
def k0_off127 (v795 : BitVec 32) (v805 : BitVec 32) (v807 : BitVec 32) (v824 : BitVec 32) (k0_t4 : Fin (k0_t4_loop v805 v807).trips) (c0_i32_3086 : BitVec 32) : Fin 4 → Nat :=
  let v3821 : Index := Scalar.indexCast v795
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3820 : BitVec 32 := Scalar.addi v3161 c0_i32_3086
  let v3822 : Index := Scalar.indexCast v3820
  let c8_i32_691 : BitVec 32 := 8#32
  let v825 : BitVec 32 := Scalar.muli v824 c8_i32_691
  let v3823 : Index := Scalar.indexCast v825
  let c0_3087 : Index := 0#32
  ![v3821.toNat, v3822.toNat, v3823.toNat, 0]

def k0_chk22 (v795 : BitVec 32) (v805 : BitVec 32) (v807 : BitVec 32) (v824 : BitVec 32) : Prop :=
  (∀ k0_t3 : Fin (k0_t3_loop v805 v807).trips, ∀ (r : Fin 8), ∀ a, (k0_off113 v795 v805 v807 v824 k0_t3 (BitVec.ofNat 32 r.val)) a + S1x1x24x256.size a ≤ S4x64x64x256.size a) ∧
  (∀ k0_t4 : Fin (k0_t4_loop v805 v807).trips, ∀ (r : Fin 8), ∀ a, (k0_off127 v795 v805 v807 v824 k0_t4 (BitVec.ofNat 32 r.val)) a + S1x1x24x256.size a ≤ S4x64x64x256.size a)
theorem k0_off113_inb : ∀ (v795 : BitVec 32) (v805 : BitVec 32) (v807 : BitVec 32) (v824 : BitVec 32) (k0_hw22 : k0_chk22 v795 v805 v807 v824) (k0_t3 : Fin (k0_t3_loop v805 v807).trips), ∀ (r : Fin 8), ∀ a, (k0_off113 v795 v805 v807 v824 k0_t3 (BitVec.ofNat 32 r.val)) a + S1x1x24x256.size a ≤ S4x64x64x256.size a := fun v795 v805 v807 v824 k0_hw22 k0_t3 r => k0_hw22.1 k0_t3 r
theorem k0_off127_inb : ∀ (v795 : BitVec 32) (v805 : BitVec 32) (v807 : BitVec 32) (v824 : BitVec 32) (k0_hw22 : k0_chk22 v795 v805 v807 v824) (k0_t4 : Fin (k0_t4_loop v805 v807).trips), ∀ (r : Fin 8), ∀ a, (k0_off127 v795 v805 v807 v824 k0_t4 (BitVec.ofNat 32 r.val)) a + S1x1x24x256.size a ≤ S4x64x64x256.size a := fun v795 v805 v807 v824 k0_hw22 k0_t4 r => k0_hw22.2 k0_t4 r

def k0_off128 (v805 : BitVec 32) (v807 : BitVec 32) (k0_t4 : Fin (k0_t4_loop v805 v807).trips) (c0_i32_3089 : BitVec 32) : Fin 3 → Nat :=
  let c5_3093 : Index := 5#32
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3829 : BitVec 32 := Scalar.addi v3161 c0_i32_3089
  let v3832 : Index := Scalar.indexCast v3829
  let c0_3094 : Index := 0#32
  ![5, v3832.toNat, 0]
def k0_off129 (v795 : BitVec 32) (v805 : BitVec 32) (v807 : BitVec 32) (v827 : BitVec 32) (k0_t4 : Fin (k0_t4_loop v805 v807).trips) (c0_i32_3158 : BitVec 32) : Fin 4 → Nat :=
  let v3952 : Index := Scalar.indexCast v795
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3951 : BitVec 32 := Scalar.addi v3161 c0_i32_3158
  let v3953 : Index := Scalar.indexCast v3951
  let c8_i32_693 : BitVec 32 := 8#32
  let v828 : BitVec 32 := Scalar.muli v827 c8_i32_693
  let v3954 : Index := Scalar.indexCast v828
  let c0_3159 : Index := 0#32
  ![v3952.toNat, v3953.toNat, v3954.toNat, 0]

def k0_chk23 (v795 : BitVec 32) (v805 : BitVec 32) (v807 : BitVec 32) (v827 : BitVec 32) : Prop :=
  (∀ k0_t3 : Fin (k0_t3_loop v805 v807).trips, ∀ (r : Fin 8), ∀ a, (k0_off115 v795 v805 v807 v827 k0_t3 (BitVec.ofNat 32 r.val)) a + S1x1x24x256.size a ≤ S4x64x64x256.size a) ∧
  (∀ k0_t4 : Fin (k0_t4_loop v805 v807).trips, ∀ (r : Fin 8), ∀ a, (k0_off129 v795 v805 v807 v827 k0_t4 (BitVec.ofNat 32 r.val)) a + S1x1x24x256.size a ≤ S4x64x64x256.size a)
theorem k0_off115_inb : ∀ (v795 : BitVec 32) (v805 : BitVec 32) (v807 : BitVec 32) (v827 : BitVec 32) (k0_hw23 : k0_chk23 v795 v805 v807 v827) (k0_t3 : Fin (k0_t3_loop v805 v807).trips), ∀ (r : Fin 8), ∀ a, (k0_off115 v795 v805 v807 v827 k0_t3 (BitVec.ofNat 32 r.val)) a + S1x1x24x256.size a ≤ S4x64x64x256.size a := fun v795 v805 v807 v827 k0_hw23 k0_t3 r => k0_hw23.1 k0_t3 r
theorem k0_off129_inb : ∀ (v795 : BitVec 32) (v805 : BitVec 32) (v807 : BitVec 32) (v827 : BitVec 32) (k0_hw23 : k0_chk23 v795 v805 v807 v827) (k0_t4 : Fin (k0_t4_loop v805 v807).trips), ∀ (r : Fin 8), ∀ a, (k0_off129 v795 v805 v807 v827 k0_t4 (BitVec.ofNat 32 r.val)) a + S1x1x24x256.size a ≤ S4x64x64x256.size a := fun v795 v805 v807 v827 k0_hw23 k0_t4 r => k0_hw23.2 k0_t4 r

def k0_off130 (v805 : BitVec 32) (v807 : BitVec 32) (k0_t4 : Fin (k0_t4_loop v805 v807).trips) (c0_i32_3161 : BitVec 32) : Fin 3 → Nat :=
  let c6_3165 : Index := 6#32
  let c0_i32_704 : BitVec 32 := 0#32
  let v829 : BitVec 32 := Scalar.subi v807 v805
  let c7_i32_694 : BitVec 32 := 7#32
  let v830 : BitVec 32 := Scalar.addi v829 c7_i32_694
  let c0_i32_696 : BitVec 32 := 0#32
  let v832 : BitVec 1 := Scalar.cmpi .sgt v830 c0_i32_696
  let v833 : BitVec 32 := Scalar.extui v832
  let c0_i32_697 : BitVec 32 := 0#32
  let v834 : BitVec 1 := Scalar.cmpi .slt v830 c0_i32_697
  let v835 : BitVec 32 := Scalar.extui v834
  let v836 : BitVec 32 := Scalar.subi v833 v835
  let c8_i32_695 : BitVec 32 := 8#32
  let c0_i32_698 : BitVec 32 := 0#32
  let v837 : BitVec 1 := Scalar.cmpi .sgt c8_i32_695 c0_i32_698
  let v838 : BitVec 32 := Scalar.extui v837
  let c0_i32_699 : BitVec 32 := 0#32
  let v839 : BitVec 1 := Scalar.cmpi .slt c8_i32_695 c0_i32_699
  let v840 : BitVec 32 := Scalar.extui v839
  let v841 : BitVec 32 := Scalar.subi v838 v840
  let v842 : BitVec 1 := Scalar.cmpi .ne v836 v841
  let v843 : BitVec 32 := Scalar.remsi v830 c8_i32_695
  let c0_i32_700 : BitVec 32 := 0#32
  let v844 : BitVec 1 := Scalar.cmpi .ne v843 c0_i32_700
  let v845 : BitVec 1 := Scalar.andi v842 v844
  let v831 : BitVec 32 := Scalar.divsi v830 c8_i32_695
  let c1_i32_701 : BitVec 32 := 1#32
  let v846 : BitVec 32 := Scalar.subi v831 c1_i32_701
  let v847 : BitVec 32 := Scalar.select v845 v846 v831
  let v848 : BitVec 32 := Scalar.subi v847 c0_i32_704
  let c1_i32_705 : BitVec 32 := 1#32
  let v850 : BitVec 32 := Scalar.divsi v848 c1_i32_705
  let v851 : BitVec 32 := Scalar.muli v850 c1_i32_705
  let v852 : BitVec 32 := Scalar.addi c0_i32_704 v851
  let c1_i32_707 : BitVec 32 := 1#32
  let arg12 : BitVec 32 := Scf.iv v852 c1_i32_707 k0_t4
  let c8_i32_2727 : BitVec 32 := 8#32
  let v3159 : BitVec 32 := Scalar.muli arg12 c8_i32_2727
  let v3160 : BitVec 32 := Scalar.addi v805 v3159
  let c56_i32 : BitVec 32 := 56#32
  let v3161 : BitVec 32 := Scalar.minsi v3160 c56_i32
  let v3960 : BitVec 32 := Scalar.addi v3161 c0_i32_3161
  let v3963 : Index := Scalar.indexCast v3960
  let c0_3166 : Index := 0#32
  ![6, v3963.toNat, 0]

def k0_chk16 (v805 : BitVec 32) (v807 : BitVec 32) : Prop :=
  ((k0_t3_loop v805 v807).OK) ∧
  (∀ k0_t3 : Fin (k0_t3_loop v805 v807).trips, ∀ (r : Fin 8), ∀ a, (k0_off104 v805 v807 k0_t3 (BitVec.ofNat 32 r.val)) a + S1x1x256.size a ≤ S7x64x256.size a) ∧
  (∀ k0_t3 : Fin (k0_t3_loop v805 v807).trips, ∀ (r : Fin 8), ∀ a, (k0_off106 v805 v807 k0_t3 (BitVec.ofNat 32 r.val)) a + S1x1x256.size a ≤ S7x64x256.size a) ∧
  (∀ k0_t3 : Fin (k0_t3_loop v805 v807).trips, ∀ (r : Fin 8), ∀ a, (k0_off108 v805 v807 k0_t3 (BitVec.ofNat 32 r.val)) a + S1x1x256.size a ≤ S7x64x256.size a) ∧
  (∀ k0_t3 : Fin (k0_t3_loop v805 v807).trips, ∀ (r : Fin 8), ∀ a, (k0_off110 v805 v807 k0_t3 (BitVec.ofNat 32 r.val)) a + S1x1x256.size a ≤ S7x64x256.size a) ∧
  (∀ k0_t3 : Fin (k0_t3_loop v805 v807).trips, ∀ (r : Fin 8), ∀ a, (k0_off112 v805 v807 k0_t3 (BitVec.ofNat 32 r.val)) a + S1x1x256.size a ≤ S7x64x256.size a) ∧
  (∀ k0_t3 : Fin (k0_t3_loop v805 v807).trips, ∀ (r : Fin 8), ∀ a, (k0_off114 v805 v807 k0_t3 (BitVec.ofNat 32 r.val)) a + S1x1x256.size a ≤ S7x64x256.size a) ∧
  (∀ k0_t3 : Fin (k0_t3_loop v805 v807).trips, ∀ (r : Fin 8), ∀ a, (k0_off116 v805 v807 k0_t3 (BitVec.ofNat 32 r.val)) a + S1x1x256.size a ≤ S7x64x256.size a) ∧
  ((k0_t4_loop v805 v807).OK) ∧
  (∀ k0_t4 : Fin (k0_t4_loop v805 v807).trips, ∀ (r : Fin 8), ∀ a, (k0_off118 v805 v807 k0_t4 (BitVec.ofNat 32 r.val)) a + S1x1x256.size a ≤ S7x64x256.size a) ∧
  (∀ k0_t4 : Fin (k0_t4_loop v805 v807).trips, ∀ (r : Fin 8), ∀ a, (k0_off120 v805 v807 k0_t4 (BitVec.ofNat 32 r.val)) a + S1x1x256.size a ≤ S7x64x256.size a) ∧
  (∀ k0_t4 : Fin (k0_t4_loop v805 v807).trips, ∀ (r : Fin 8), ∀ a, (k0_off122 v805 v807 k0_t4 (BitVec.ofNat 32 r.val)) a + S1x1x256.size a ≤ S7x64x256.size a) ∧
  (∀ k0_t4 : Fin (k0_t4_loop v805 v807).trips, ∀ (r : Fin 8), ∀ a, (k0_off124 v805 v807 k0_t4 (BitVec.ofNat 32 r.val)) a + S1x1x256.size a ≤ S7x64x256.size a) ∧
  (∀ k0_t4 : Fin (k0_t4_loop v805 v807).trips, ∀ (r : Fin 8), ∀ a, (k0_off126 v805 v807 k0_t4 (BitVec.ofNat 32 r.val)) a + S1x1x256.size a ≤ S7x64x256.size a) ∧
  (∀ k0_t4 : Fin (k0_t4_loop v805 v807).trips, ∀ (r : Fin 8), ∀ a, (k0_off128 v805 v807 k0_t4 (BitVec.ofNat 32 r.val)) a + S1x1x256.size a ≤ S7x64x256.size a) ∧
  (∀ k0_t4 : Fin (k0_t4_loop v805 v807).trips, ∀ (r : Fin 8), ∀ a, (k0_off130 v805 v807 k0_t4 (BitVec.ofNat 32 r.val)) a + S1x1x256.size a ≤ S7x64x256.size a)
theorem k0_t3_ok : ∀ (v805 : BitVec 32) (v807 : BitVec 32) (k0_hw16 : k0_chk16 v805 v807), (k0_t3_loop v805 v807).OK := fun v805 v807 k0_hw16 => k0_hw16.1
theorem k0_off104_inb : ∀ (v805 : BitVec 32) (v807 : BitVec 32) (k0_hw16 : k0_chk16 v805 v807) (k0_t3 : Fin (k0_t3_loop v805 v807).trips), ∀ (r : Fin 8), ∀ a, (k0_off104 v805 v807 k0_t3 (BitVec.ofNat 32 r.val)) a + S1x1x256.size a ≤ S7x64x256.size a := fun v805 v807 k0_hw16 k0_t3 r => k0_hw16.2.1 k0_t3 r
theorem k0_off106_inb : ∀ (v805 : BitVec 32) (v807 : BitVec 32) (k0_hw16 : k0_chk16 v805 v807) (k0_t3 : Fin (k0_t3_loop v805 v807).trips), ∀ (r : Fin 8), ∀ a, (k0_off106 v805 v807 k0_t3 (BitVec.ofNat 32 r.val)) a + S1x1x256.size a ≤ S7x64x256.size a := fun v805 v807 k0_hw16 k0_t3 r => k0_hw16.2.2.1 k0_t3 r
theorem k0_off108_inb : ∀ (v805 : BitVec 32) (v807 : BitVec 32) (k0_hw16 : k0_chk16 v805 v807) (k0_t3 : Fin (k0_t3_loop v805 v807).trips), ∀ (r : Fin 8), ∀ a, (k0_off108 v805 v807 k0_t3 (BitVec.ofNat 32 r.val)) a + S1x1x256.size a ≤ S7x64x256.size a := fun v805 v807 k0_hw16 k0_t3 r => k0_hw16.2.2.2.1 k0_t3 r
theorem k0_off110_inb : ∀ (v805 : BitVec 32) (v807 : BitVec 32) (k0_hw16 : k0_chk16 v805 v807) (k0_t3 : Fin (k0_t3_loop v805 v807).trips), ∀ (r : Fin 8), ∀ a, (k0_off110 v805 v807 k0_t3 (BitVec.ofNat 32 r.val)) a + S1x1x256.size a ≤ S7x64x256.size a := fun v805 v807 k0_hw16 k0_t3 r => k0_hw16.2.2.2.2.1 k0_t3 r
theorem k0_off112_inb : ∀ (v805 : BitVec 32) (v807 : BitVec 32) (k0_hw16 : k0_chk16 v805 v807) (k0_t3 : Fin (k0_t3_loop v805 v807).trips), ∀ (r : Fin 8), ∀ a, (k0_off112 v805 v807 k0_t3 (BitVec.ofNat 32 r.val)) a + S1x1x256.size a ≤ S7x64x256.size a := fun v805 v807 k0_hw16 k0_t3 r => k0_hw16.2.2.2.2.2.1 k0_t3 r
theorem k0_off114_inb : ∀ (v805 : BitVec 32) (v807 : BitVec 32) (k0_hw16 : k0_chk16 v805 v807) (k0_t3 : Fin (k0_t3_loop v805 v807).trips), ∀ (r : Fin 8), ∀ a, (k0_off114 v805 v807 k0_t3 (BitVec.ofNat 32 r.val)) a + S1x1x256.size a ≤ S7x64x256.size a := fun v805 v807 k0_hw16 k0_t3 r => k0_hw16.2.2.2.2.2.2.1 k0_t3 r
theorem k0_off116_inb : ∀ (v805 : BitVec 32) (v807 : BitVec 32) (k0_hw16 : k0_chk16 v805 v807) (k0_t3 : Fin (k0_t3_loop v805 v807).trips), ∀ (r : Fin 8), ∀ a, (k0_off116 v805 v807 k0_t3 (BitVec.ofNat 32 r.val)) a + S1x1x256.size a ≤ S7x64x256.size a := fun v805 v807 k0_hw16 k0_t3 r => k0_hw16.2.2.2.2.2.2.2.1 k0_t3 r
theorem k0_t4_ok : ∀ (v805 : BitVec 32) (v807 : BitVec 32) (k0_hw16 : k0_chk16 v805 v807), (k0_t4_loop v805 v807).OK := fun v805 v807 k0_hw16 => k0_hw16.2.2.2.2.2.2.2.2.1
theorem k0_off118_inb : ∀ (v805 : BitVec 32) (v807 : BitVec 32) (k0_hw16 : k0_chk16 v805 v807) (k0_t4 : Fin (k0_t4_loop v805 v807).trips), ∀ (r : Fin 8), ∀ a, (k0_off118 v805 v807 k0_t4 (BitVec.ofNat 32 r.val)) a + S1x1x256.size a ≤ S7x64x256.size a := fun v805 v807 k0_hw16 k0_t4 r => k0_hw16.2.2.2.2.2.2.2.2.2.1 k0_t4 r
theorem k0_off120_inb : ∀ (v805 : BitVec 32) (v807 : BitVec 32) (k0_hw16 : k0_chk16 v805 v807) (k0_t4 : Fin (k0_t4_loop v805 v807).trips), ∀ (r : Fin 8), ∀ a, (k0_off120 v805 v807 k0_t4 (BitVec.ofNat 32 r.val)) a + S1x1x256.size a ≤ S7x64x256.size a := fun v805 v807 k0_hw16 k0_t4 r => k0_hw16.2.2.2.2.2.2.2.2.2.2.1 k0_t4 r
theorem k0_off122_inb : ∀ (v805 : BitVec 32) (v807 : BitVec 32) (k0_hw16 : k0_chk16 v805 v807) (k0_t4 : Fin (k0_t4_loop v805 v807).trips), ∀ (r : Fin 8), ∀ a, (k0_off122 v805 v807 k0_t4 (BitVec.ofNat 32 r.val)) a + S1x1x256.size a ≤ S7x64x256.size a := fun v805 v807 k0_hw16 k0_t4 r => k0_hw16.2.2.2.2.2.2.2.2.2.2.2.1 k0_t4 r
theorem k0_off124_inb : ∀ (v805 : BitVec 32) (v807 : BitVec 32) (k0_hw16 : k0_chk16 v805 v807) (k0_t4 : Fin (k0_t4_loop v805 v807).trips), ∀ (r : Fin 8), ∀ a, (k0_off124 v805 v807 k0_t4 (BitVec.ofNat 32 r.val)) a + S1x1x256.size a ≤ S7x64x256.size a := fun v805 v807 k0_hw16 k0_t4 r => k0_hw16.2.2.2.2.2.2.2.2.2.2.2.2.1 k0_t4 r
theorem k0_off126_inb : ∀ (v805 : BitVec 32) (v807 : BitVec 32) (k0_hw16 : k0_chk16 v805 v807) (k0_t4 : Fin (k0_t4_loop v805 v807).trips), ∀ (r : Fin 8), ∀ a, (k0_off126 v805 v807 k0_t4 (BitVec.ofNat 32 r.val)) a + S1x1x256.size a ≤ S7x64x256.size a := fun v805 v807 k0_hw16 k0_t4 r => k0_hw16.2.2.2.2.2.2.2.2.2.2.2.2.2.1 k0_t4 r
theorem k0_off128_inb : ∀ (v805 : BitVec 32) (v807 : BitVec 32) (k0_hw16 : k0_chk16 v805 v807) (k0_t4 : Fin (k0_t4_loop v805 v807).trips), ∀ (r : Fin 8), ∀ a, (k0_off128 v805 v807 k0_t4 (BitVec.ofNat 32 r.val)) a + S1x1x256.size a ≤ S7x64x256.size a := fun v805 v807 k0_hw16 k0_t4 r => k0_hw16.2.2.2.2.2.2.2.2.2.2.2.2.2.2.1 k0_t4 r
theorem k0_off130_inb : ∀ (v805 : BitVec 32) (v807 : BitVec 32) (k0_hw16 : k0_chk16 v805 v807) (k0_t4 : Fin (k0_t4_loop v805 v807).trips), ∀ (r : Fin 8), ∀ a, (k0_off130 v805 v807 k0_t4 (BitVec.ofNat 32 r.val)) a + S1x1x256.size a ≤ S7x64x256.size a := fun v805 v807 k0_hw16 k0_t4 r => k0_hw16.2.2.2.2.2.2.2.2.2.2.2.2.2.2.2 k0_t4 r

def k0_off131 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v853 : Index := Scalar.indexCast v793
  let c0_708 : Index := 0#32
  ![v853.toNat, 0]
def k0_off132 (v854 : BitVec 32) : Fin 3 → Nat :=
  let c0_714 : Index := 0#32
  let c8_i32_709 : BitVec 32 := 8#32
  let v855 : BitVec 32 := Scalar.muli v854 c8_i32_709
  let v861 : Index := Scalar.indexCast v855
  let c0_715 : Index := 0#32
  ![0, v861.toNat, 0]

def k0_off133 (v854 : BitVec 32) : Fin 3 → Nat :=
  let c1_727 : Index := 1#32
  let c8_i32_709 : BitVec 32 := 8#32
  let v855 : BitVec 32 := Scalar.muli v854 c8_i32_709
  let v875 : Index := Scalar.indexCast v855
  let c0_728 : Index := 0#32
  ![1, v875.toNat, 0]
def k0_off134 (v854 : BitVec 32) : Fin 3 → Nat :=
  let c2_740 : Index := 2#32
  let c8_i32_709 : BitVec 32 := 8#32
  let v855 : BitVec 32 := Scalar.muli v854 c8_i32_709
  let v889 : Index := Scalar.indexCast v855
  let c0_741 : Index := 0#32
  ![2, v889.toNat, 0]
def k0_off135 (v854 : BitVec 32) : Fin 3 → Nat :=
  let c3_753 : Index := 3#32
  let c8_i32_709 : BitVec 32 := 8#32
  let v855 : BitVec 32 := Scalar.muli v854 c8_i32_709
  let v903 : Index := Scalar.indexCast v855
  let c0_754 : Index := 0#32
  ![3, v903.toNat, 0]
def k0_off136 (v854 : BitVec 32) : Fin 3 → Nat :=
  let c4_766 : Index := 4#32
  let c8_i32_709 : BitVec 32 := 8#32
  let v855 : BitVec 32 := Scalar.muli v854 c8_i32_709
  let v917 : Index := Scalar.indexCast v855
  let c0_767 : Index := 0#32
  ![4, v917.toNat, 0]
def k0_off137 (v854 : BitVec 32) : Fin 3 → Nat :=
  let c5_779 : Index := 5#32
  let c8_i32_709 : BitVec 32 := 8#32
  let v855 : BitVec 32 := Scalar.muli v854 c8_i32_709
  let v931 : Index := Scalar.indexCast v855
  let c0_780 : Index := 0#32
  ![5, v931.toNat, 0]
def k0_off138 (v854 : BitVec 32) : Fin 3 → Nat :=
  let c6_792 : Index := 6#32
  let c8_i32_709 : BitVec 32 := 8#32
  let v855 : BitVec 32 := Scalar.muli v854 c8_i32_709
  let v945 : Index := Scalar.indexCast v855
  let c0_793 : Index := 0#32
  ![6, v945.toNat, 0]

def k0_chk24 (v854 : BitVec 32) : Prop :=
  (∀ a, (k0_off132 v854) a + S1x24x256.size a ≤ S7x64x256.size a) ∧
  (∀ a, (k0_off133 v854) a + S1x24x256.size a ≤ S7x64x256.size a) ∧
  (∀ a, (k0_off134 v854) a + S1x24x256.size a ≤ S7x64x256.size a) ∧
  (∀ a, (k0_off135 v854) a + S1x24x256.size a ≤ S7x64x256.size a) ∧
  (∀ a, (k0_off136 v854) a + S1x24x256.size a ≤ S7x64x256.size a) ∧
  (∀ a, (k0_off137 v854) a + S1x24x256.size a ≤ S7x64x256.size a) ∧
  (∀ a, (k0_off138 v854) a + S1x24x256.size a ≤ S7x64x256.size a)
theorem k0_off132_inb : ∀ (v854 : BitVec 32) (k0_hw24 : k0_chk24 v854), ∀ a, (k0_off132 v854) a + S1x24x256.size a ≤ S7x64x256.size a := fun v854 k0_hw24 => k0_hw24.1
theorem k0_off133_inb : ∀ (v854 : BitVec 32) (k0_hw24 : k0_chk24 v854), ∀ a, (k0_off133 v854) a + S1x24x256.size a ≤ S7x64x256.size a := fun v854 k0_hw24 => k0_hw24.2.1
theorem k0_off134_inb : ∀ (v854 : BitVec 32) (k0_hw24 : k0_chk24 v854), ∀ a, (k0_off134 v854) a + S1x24x256.size a ≤ S7x64x256.size a := fun v854 k0_hw24 => k0_hw24.2.2.1
theorem k0_off135_inb : ∀ (v854 : BitVec 32) (k0_hw24 : k0_chk24 v854), ∀ a, (k0_off135 v854) a + S1x24x256.size a ≤ S7x64x256.size a := fun v854 k0_hw24 => k0_hw24.2.2.2.1
theorem k0_off136_inb : ∀ (v854 : BitVec 32) (k0_hw24 : k0_chk24 v854), ∀ a, (k0_off136 v854) a + S1x24x256.size a ≤ S7x64x256.size a := fun v854 k0_hw24 => k0_hw24.2.2.2.2.1
theorem k0_off137_inb : ∀ (v854 : BitVec 32) (k0_hw24 : k0_chk24 v854), ∀ a, (k0_off137 v854) a + S1x24x256.size a ≤ S7x64x256.size a := fun v854 k0_hw24 => k0_hw24.2.2.2.2.2.1
theorem k0_off138_inb : ∀ (v854 : BitVec 32) (k0_hw24 : k0_chk24 v854), ∀ a, (k0_off138 v854) a + S1x24x256.size a ≤ S7x64x256.size a := fun v854 k0_hw24 => k0_hw24.2.2.2.2.2.2

def k0_off139 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v957 : Index := Scalar.indexCast v793
  let c1_801 : Index := 1#32
  ![v957.toNat, 1]
def k0_off140 (v958 : BitVec 32) : Fin 3 → Nat :=
  let c0_807 : Index := 0#32
  let c8_i32_802 : BitVec 32 := 8#32
  let v959 : BitVec 32 := Scalar.muli v958 c8_i32_802
  let v965 : Index := Scalar.indexCast v959
  let c0_808 : Index := 0#32
  ![0, v965.toNat, 0]

def k0_off141 (v958 : BitVec 32) : Fin 3 → Nat :=
  let c1_820 : Index := 1#32
  let c8_i32_802 : BitVec 32 := 8#32
  let v959 : BitVec 32 := Scalar.muli v958 c8_i32_802
  let v979 : Index := Scalar.indexCast v959
  let c0_821 : Index := 0#32
  ![1, v979.toNat, 0]
def k0_off142 (v958 : BitVec 32) : Fin 3 → Nat :=
  let c2_833 : Index := 2#32
  let c8_i32_802 : BitVec 32 := 8#32
  let v959 : BitVec 32 := Scalar.muli v958 c8_i32_802
  let v993 : Index := Scalar.indexCast v959
  let c0_834 : Index := 0#32
  ![2, v993.toNat, 0]
def k0_off143 (v958 : BitVec 32) : Fin 3 → Nat :=
  let c3_846 : Index := 3#32
  let c8_i32_802 : BitVec 32 := 8#32
  let v959 : BitVec 32 := Scalar.muli v958 c8_i32_802
  let v1007 : Index := Scalar.indexCast v959
  let c0_847 : Index := 0#32
  ![3, v1007.toNat, 0]
def k0_off144 (v958 : BitVec 32) : Fin 3 → Nat :=
  let c4_859 : Index := 4#32
  let c8_i32_802 : BitVec 32 := 8#32
  let v959 : BitVec 32 := Scalar.muli v958 c8_i32_802
  let v1021 : Index := Scalar.indexCast v959
  let c0_860 : Index := 0#32
  ![4, v1021.toNat, 0]
def k0_off145 (v958 : BitVec 32) : Fin 3 → Nat :=
  let c5_872 : Index := 5#32
  let c8_i32_802 : BitVec 32 := 8#32
  let v959 : BitVec 32 := Scalar.muli v958 c8_i32_802
  let v1035 : Index := Scalar.indexCast v959
  let c0_873 : Index := 0#32
  ![5, v1035.toNat, 0]
def k0_off146 (v958 : BitVec 32) : Fin 3 → Nat :=
  let c6_885 : Index := 6#32
  let c8_i32_802 : BitVec 32 := 8#32
  let v959 : BitVec 32 := Scalar.muli v958 c8_i32_802
  let v1049 : Index := Scalar.indexCast v959
  let c0_886 : Index := 0#32
  ![6, v1049.toNat, 0]

def k0_chk25 (v958 : BitVec 32) : Prop :=
  (∀ a, (k0_off140 v958) a + S1x24x256.size a ≤ S7x64x256.size a) ∧
  (∀ a, (k0_off141 v958) a + S1x24x256.size a ≤ S7x64x256.size a) ∧
  (∀ a, (k0_off142 v958) a + S1x24x256.size a ≤ S7x64x256.size a) ∧
  (∀ a, (k0_off143 v958) a + S1x24x256.size a ≤ S7x64x256.size a) ∧
  (∀ a, (k0_off144 v958) a + S1x24x256.size a ≤ S7x64x256.size a) ∧
  (∀ a, (k0_off145 v958) a + S1x24x256.size a ≤ S7x64x256.size a) ∧
  (∀ a, (k0_off146 v958) a + S1x24x256.size a ≤ S7x64x256.size a)
theorem k0_off140_inb : ∀ (v958 : BitVec 32) (k0_hw25 : k0_chk25 v958), ∀ a, (k0_off140 v958) a + S1x24x256.size a ≤ S7x64x256.size a := fun v958 k0_hw25 => k0_hw25.1
theorem k0_off141_inb : ∀ (v958 : BitVec 32) (k0_hw25 : k0_chk25 v958), ∀ a, (k0_off141 v958) a + S1x24x256.size a ≤ S7x64x256.size a := fun v958 k0_hw25 => k0_hw25.2.1
theorem k0_off142_inb : ∀ (v958 : BitVec 32) (k0_hw25 : k0_chk25 v958), ∀ a, (k0_off142 v958) a + S1x24x256.size a ≤ S7x64x256.size a := fun v958 k0_hw25 => k0_hw25.2.2.1
theorem k0_off143_inb : ∀ (v958 : BitVec 32) (k0_hw25 : k0_chk25 v958), ∀ a, (k0_off143 v958) a + S1x24x256.size a ≤ S7x64x256.size a := fun v958 k0_hw25 => k0_hw25.2.2.2.1
theorem k0_off144_inb : ∀ (v958 : BitVec 32) (k0_hw25 : k0_chk25 v958), ∀ a, (k0_off144 v958) a + S1x24x256.size a ≤ S7x64x256.size a := fun v958 k0_hw25 => k0_hw25.2.2.2.2.1
theorem k0_off145_inb : ∀ (v958 : BitVec 32) (k0_hw25 : k0_chk25 v958), ∀ a, (k0_off145 v958) a + S1x24x256.size a ≤ S7x64x256.size a := fun v958 k0_hw25 => k0_hw25.2.2.2.2.2.1
theorem k0_off146_inb : ∀ (v958 : BitVec 32) (k0_hw25 : k0_chk25 v958), ∀ a, (k0_off146 v958) a + S1x24x256.size a ≤ S7x64x256.size a := fun v958 k0_hw25 => k0_hw25.2.2.2.2.2.2

def k0_off147 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v1061 : Index := Scalar.indexCast v793
  let c2_894 : Index := 2#32
  ![v1061.toNat, 2]
def k0_off148 (v1062 : BitVec 32) : Fin 3 → Nat :=
  let c0_900 : Index := 0#32
  let c8_i32_895 : BitVec 32 := 8#32
  let v1063 : BitVec 32 := Scalar.muli v1062 c8_i32_895
  let v1069 : Index := Scalar.indexCast v1063
  let c0_901 : Index := 0#32
  ![0, v1069.toNat, 0]

def k0_off149 (v1062 : BitVec 32) : Fin 3 → Nat :=
  let c1_913 : Index := 1#32
  let c8_i32_895 : BitVec 32 := 8#32
  let v1063 : BitVec 32 := Scalar.muli v1062 c8_i32_895
  let v1083 : Index := Scalar.indexCast v1063
  let c0_914 : Index := 0#32
  ![1, v1083.toNat, 0]
def k0_off150 (v1062 : BitVec 32) : Fin 3 → Nat :=
  let c2_926 : Index := 2#32
  let c8_i32_895 : BitVec 32 := 8#32
  let v1063 : BitVec 32 := Scalar.muli v1062 c8_i32_895
  let v1097 : Index := Scalar.indexCast v1063
  let c0_927 : Index := 0#32
  ![2, v1097.toNat, 0]
def k0_off151 (v1062 : BitVec 32) : Fin 3 → Nat :=
  let c3_939 : Index := 3#32
  let c8_i32_895 : BitVec 32 := 8#32
  let v1063 : BitVec 32 := Scalar.muli v1062 c8_i32_895
  let v1111 : Index := Scalar.indexCast v1063
  let c0_940 : Index := 0#32
  ![3, v1111.toNat, 0]
def k0_off152 (v1062 : BitVec 32) : Fin 3 → Nat :=
  let c4_952 : Index := 4#32
  let c8_i32_895 : BitVec 32 := 8#32
  let v1063 : BitVec 32 := Scalar.muli v1062 c8_i32_895
  let v1125 : Index := Scalar.indexCast v1063
  let c0_953 : Index := 0#32
  ![4, v1125.toNat, 0]
def k0_off153 (v1062 : BitVec 32) : Fin 3 → Nat :=
  let c5_965 : Index := 5#32
  let c8_i32_895 : BitVec 32 := 8#32
  let v1063 : BitVec 32 := Scalar.muli v1062 c8_i32_895
  let v1139 : Index := Scalar.indexCast v1063
  let c0_966 : Index := 0#32
  ![5, v1139.toNat, 0]
def k0_off154 (v1062 : BitVec 32) : Fin 3 → Nat :=
  let c6_978 : Index := 6#32
  let c8_i32_895 : BitVec 32 := 8#32
  let v1063 : BitVec 32 := Scalar.muli v1062 c8_i32_895
  let v1153 : Index := Scalar.indexCast v1063
  let c0_979 : Index := 0#32
  ![6, v1153.toNat, 0]

def k0_chk26 (v1062 : BitVec 32) : Prop :=
  (∀ a, (k0_off148 v1062) a + S1x24x256.size a ≤ S7x64x256.size a) ∧
  (∀ a, (k0_off149 v1062) a + S1x24x256.size a ≤ S7x64x256.size a) ∧
  (∀ a, (k0_off150 v1062) a + S1x24x256.size a ≤ S7x64x256.size a) ∧
  (∀ a, (k0_off151 v1062) a + S1x24x256.size a ≤ S7x64x256.size a) ∧
  (∀ a, (k0_off152 v1062) a + S1x24x256.size a ≤ S7x64x256.size a) ∧
  (∀ a, (k0_off153 v1062) a + S1x24x256.size a ≤ S7x64x256.size a) ∧
  (∀ a, (k0_off154 v1062) a + S1x24x256.size a ≤ S7x64x256.size a)
theorem k0_off148_inb : ∀ (v1062 : BitVec 32) (k0_hw26 : k0_chk26 v1062), ∀ a, (k0_off148 v1062) a + S1x24x256.size a ≤ S7x64x256.size a := fun v1062 k0_hw26 => k0_hw26.1
theorem k0_off149_inb : ∀ (v1062 : BitVec 32) (k0_hw26 : k0_chk26 v1062), ∀ a, (k0_off149 v1062) a + S1x24x256.size a ≤ S7x64x256.size a := fun v1062 k0_hw26 => k0_hw26.2.1
theorem k0_off150_inb : ∀ (v1062 : BitVec 32) (k0_hw26 : k0_chk26 v1062), ∀ a, (k0_off150 v1062) a + S1x24x256.size a ≤ S7x64x256.size a := fun v1062 k0_hw26 => k0_hw26.2.2.1
theorem k0_off151_inb : ∀ (v1062 : BitVec 32) (k0_hw26 : k0_chk26 v1062), ∀ a, (k0_off151 v1062) a + S1x24x256.size a ≤ S7x64x256.size a := fun v1062 k0_hw26 => k0_hw26.2.2.2.1
theorem k0_off152_inb : ∀ (v1062 : BitVec 32) (k0_hw26 : k0_chk26 v1062), ∀ a, (k0_off152 v1062) a + S1x24x256.size a ≤ S7x64x256.size a := fun v1062 k0_hw26 => k0_hw26.2.2.2.2.1
theorem k0_off153_inb : ∀ (v1062 : BitVec 32) (k0_hw26 : k0_chk26 v1062), ∀ a, (k0_off153 v1062) a + S1x24x256.size a ≤ S7x64x256.size a := fun v1062 k0_hw26 => k0_hw26.2.2.2.2.2.1
theorem k0_off154_inb : ∀ (v1062 : BitVec 32) (k0_hw26 : k0_chk26 v1062), ∀ a, (k0_off154 v1062) a + S1x24x256.size a ≤ S7x64x256.size a := fun v1062 k0_hw26 => k0_hw26.2.2.2.2.2.2

def k0_off155 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v1165 : Index := Scalar.indexCast v793
  let c3_987 : Index := 3#32
  ![v1165.toNat, 3]
def k0_off156 (v1166 : BitVec 32) : Fin 3 → Nat :=
  let c0_993 : Index := 0#32
  let c8_i32_988 : BitVec 32 := 8#32
  let v1167 : BitVec 32 := Scalar.muli v1166 c8_i32_988
  let v1173 : Index := Scalar.indexCast v1167
  let c0_994 : Index := 0#32
  ![0, v1173.toNat, 0]

def k0_off157 (v1166 : BitVec 32) : Fin 3 → Nat :=
  let c1_1006 : Index := 1#32
  let c8_i32_988 : BitVec 32 := 8#32
  let v1167 : BitVec 32 := Scalar.muli v1166 c8_i32_988
  let v1187 : Index := Scalar.indexCast v1167
  let c0_1007 : Index := 0#32
  ![1, v1187.toNat, 0]
def k0_off158 (v1166 : BitVec 32) : Fin 3 → Nat :=
  let c2_1019 : Index := 2#32
  let c8_i32_988 : BitVec 32 := 8#32
  let v1167 : BitVec 32 := Scalar.muli v1166 c8_i32_988
  let v1201 : Index := Scalar.indexCast v1167
  let c0_1020 : Index := 0#32
  ![2, v1201.toNat, 0]
def k0_off159 (v1166 : BitVec 32) : Fin 3 → Nat :=
  let c3_1032 : Index := 3#32
  let c8_i32_988 : BitVec 32 := 8#32
  let v1167 : BitVec 32 := Scalar.muli v1166 c8_i32_988
  let v1215 : Index := Scalar.indexCast v1167
  let c0_1033 : Index := 0#32
  ![3, v1215.toNat, 0]
def k0_off160 (v1166 : BitVec 32) : Fin 3 → Nat :=
  let c4_1045 : Index := 4#32
  let c8_i32_988 : BitVec 32 := 8#32
  let v1167 : BitVec 32 := Scalar.muli v1166 c8_i32_988
  let v1229 : Index := Scalar.indexCast v1167
  let c0_1046 : Index := 0#32
  ![4, v1229.toNat, 0]
def k0_off161 (v1166 : BitVec 32) : Fin 3 → Nat :=
  let c5_1058 : Index := 5#32
  let c8_i32_988 : BitVec 32 := 8#32
  let v1167 : BitVec 32 := Scalar.muli v1166 c8_i32_988
  let v1243 : Index := Scalar.indexCast v1167
  let c0_1059 : Index := 0#32
  ![5, v1243.toNat, 0]
def k0_off162 (v1166 : BitVec 32) : Fin 3 → Nat :=
  let c6_1071 : Index := 6#32
  let c8_i32_988 : BitVec 32 := 8#32
  let v1167 : BitVec 32 := Scalar.muli v1166 c8_i32_988
  let v1257 : Index := Scalar.indexCast v1167
  let c0_1072 : Index := 0#32
  ![6, v1257.toNat, 0]

def k0_chk27 (v1166 : BitVec 32) : Prop :=
  (∀ a, (k0_off156 v1166) a + S1x24x256.size a ≤ S7x64x256.size a) ∧
  (∀ a, (k0_off157 v1166) a + S1x24x256.size a ≤ S7x64x256.size a) ∧
  (∀ a, (k0_off158 v1166) a + S1x24x256.size a ≤ S7x64x256.size a) ∧
  (∀ a, (k0_off159 v1166) a + S1x24x256.size a ≤ S7x64x256.size a) ∧
  (∀ a, (k0_off160 v1166) a + S1x24x256.size a ≤ S7x64x256.size a) ∧
  (∀ a, (k0_off161 v1166) a + S1x24x256.size a ≤ S7x64x256.size a) ∧
  (∀ a, (k0_off162 v1166) a + S1x24x256.size a ≤ S7x64x256.size a)
theorem k0_off156_inb : ∀ (v1166 : BitVec 32) (k0_hw27 : k0_chk27 v1166), ∀ a, (k0_off156 v1166) a + S1x24x256.size a ≤ S7x64x256.size a := fun v1166 k0_hw27 => k0_hw27.1
theorem k0_off157_inb : ∀ (v1166 : BitVec 32) (k0_hw27 : k0_chk27 v1166), ∀ a, (k0_off157 v1166) a + S1x24x256.size a ≤ S7x64x256.size a := fun v1166 k0_hw27 => k0_hw27.2.1
theorem k0_off158_inb : ∀ (v1166 : BitVec 32) (k0_hw27 : k0_chk27 v1166), ∀ a, (k0_off158 v1166) a + S1x24x256.size a ≤ S7x64x256.size a := fun v1166 k0_hw27 => k0_hw27.2.2.1
theorem k0_off159_inb : ∀ (v1166 : BitVec 32) (k0_hw27 : k0_chk27 v1166), ∀ a, (k0_off159 v1166) a + S1x24x256.size a ≤ S7x64x256.size a := fun v1166 k0_hw27 => k0_hw27.2.2.2.1
theorem k0_off160_inb : ∀ (v1166 : BitVec 32) (k0_hw27 : k0_chk27 v1166), ∀ a, (k0_off160 v1166) a + S1x24x256.size a ≤ S7x64x256.size a := fun v1166 k0_hw27 => k0_hw27.2.2.2.2.1
theorem k0_off161_inb : ∀ (v1166 : BitVec 32) (k0_hw27 : k0_chk27 v1166), ∀ a, (k0_off161 v1166) a + S1x24x256.size a ≤ S7x64x256.size a := fun v1166 k0_hw27 => k0_hw27.2.2.2.2.2.1
theorem k0_off162_inb : ∀ (v1166 : BitVec 32) (k0_hw27 : k0_chk27 v1166), ∀ a, (k0_off162 v1166) a + S1x24x256.size a ≤ S7x64x256.size a := fun v1166 k0_hw27 => k0_hw27.2.2.2.2.2.2

def k0_off163 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v1269 : Index := Scalar.indexCast v793
  let c4_1080 : Index := 4#32
  ![v1269.toNat, 4]
def k0_off164 (v1270 : BitVec 32) : Fin 3 → Nat :=
  let c0_1086 : Index := 0#32
  let c8_i32_1081 : BitVec 32 := 8#32
  let v1271 : BitVec 32 := Scalar.muli v1270 c8_i32_1081
  let v1277 : Index := Scalar.indexCast v1271
  let c0_1087 : Index := 0#32
  ![0, v1277.toNat, 0]

def k0_off165 (v1270 : BitVec 32) : Fin 3 → Nat :=
  let c1_1099 : Index := 1#32
  let c8_i32_1081 : BitVec 32 := 8#32
  let v1271 : BitVec 32 := Scalar.muli v1270 c8_i32_1081
  let v1291 : Index := Scalar.indexCast v1271
  let c0_1100 : Index := 0#32
  ![1, v1291.toNat, 0]
def k0_off166 (v1270 : BitVec 32) : Fin 3 → Nat :=
  let c2_1112 : Index := 2#32
  let c8_i32_1081 : BitVec 32 := 8#32
  let v1271 : BitVec 32 := Scalar.muli v1270 c8_i32_1081
  let v1305 : Index := Scalar.indexCast v1271
  let c0_1113 : Index := 0#32
  ![2, v1305.toNat, 0]
def k0_off167 (v1270 : BitVec 32) : Fin 3 → Nat :=
  let c3_1125 : Index := 3#32
  let c8_i32_1081 : BitVec 32 := 8#32
  let v1271 : BitVec 32 := Scalar.muli v1270 c8_i32_1081
  let v1319 : Index := Scalar.indexCast v1271
  let c0_1126 : Index := 0#32
  ![3, v1319.toNat, 0]
def k0_off168 (v1270 : BitVec 32) : Fin 3 → Nat :=
  let c4_1138 : Index := 4#32
  let c8_i32_1081 : BitVec 32 := 8#32
  let v1271 : BitVec 32 := Scalar.muli v1270 c8_i32_1081
  let v1333 : Index := Scalar.indexCast v1271
  let c0_1139 : Index := 0#32
  ![4, v1333.toNat, 0]
def k0_off169 (v1270 : BitVec 32) : Fin 3 → Nat :=
  let c5_1151 : Index := 5#32
  let c8_i32_1081 : BitVec 32 := 8#32
  let v1271 : BitVec 32 := Scalar.muli v1270 c8_i32_1081
  let v1347 : Index := Scalar.indexCast v1271
  let c0_1152 : Index := 0#32
  ![5, v1347.toNat, 0]
def k0_off170 (v1270 : BitVec 32) : Fin 3 → Nat :=
  let c6_1164 : Index := 6#32
  let c8_i32_1081 : BitVec 32 := 8#32
  let v1271 : BitVec 32 := Scalar.muli v1270 c8_i32_1081
  let v1361 : Index := Scalar.indexCast v1271
  let c0_1165 : Index := 0#32
  ![6, v1361.toNat, 0]

def k0_chk28 (v1270 : BitVec 32) : Prop :=
  (∀ a, (k0_off164 v1270) a + S1x24x256.size a ≤ S7x64x256.size a) ∧
  (∀ a, (k0_off165 v1270) a + S1x24x256.size a ≤ S7x64x256.size a) ∧
  (∀ a, (k0_off166 v1270) a + S1x24x256.size a ≤ S7x64x256.size a) ∧
  (∀ a, (k0_off167 v1270) a + S1x24x256.size a ≤ S7x64x256.size a) ∧
  (∀ a, (k0_off168 v1270) a + S1x24x256.size a ≤ S7x64x256.size a) ∧
  (∀ a, (k0_off169 v1270) a + S1x24x256.size a ≤ S7x64x256.size a) ∧
  (∀ a, (k0_off170 v1270) a + S1x24x256.size a ≤ S7x64x256.size a)
theorem k0_off164_inb : ∀ (v1270 : BitVec 32) (k0_hw28 : k0_chk28 v1270), ∀ a, (k0_off164 v1270) a + S1x24x256.size a ≤ S7x64x256.size a := fun v1270 k0_hw28 => k0_hw28.1
theorem k0_off165_inb : ∀ (v1270 : BitVec 32) (k0_hw28 : k0_chk28 v1270), ∀ a, (k0_off165 v1270) a + S1x24x256.size a ≤ S7x64x256.size a := fun v1270 k0_hw28 => k0_hw28.2.1
theorem k0_off166_inb : ∀ (v1270 : BitVec 32) (k0_hw28 : k0_chk28 v1270), ∀ a, (k0_off166 v1270) a + S1x24x256.size a ≤ S7x64x256.size a := fun v1270 k0_hw28 => k0_hw28.2.2.1
theorem k0_off167_inb : ∀ (v1270 : BitVec 32) (k0_hw28 : k0_chk28 v1270), ∀ a, (k0_off167 v1270) a + S1x24x256.size a ≤ S7x64x256.size a := fun v1270 k0_hw28 => k0_hw28.2.2.2.1
theorem k0_off168_inb : ∀ (v1270 : BitVec 32) (k0_hw28 : k0_chk28 v1270), ∀ a, (k0_off168 v1270) a + S1x24x256.size a ≤ S7x64x256.size a := fun v1270 k0_hw28 => k0_hw28.2.2.2.2.1
theorem k0_off169_inb : ∀ (v1270 : BitVec 32) (k0_hw28 : k0_chk28 v1270), ∀ a, (k0_off169 v1270) a + S1x24x256.size a ≤ S7x64x256.size a := fun v1270 k0_hw28 => k0_hw28.2.2.2.2.2.1
theorem k0_off170_inb : ∀ (v1270 : BitVec 32) (k0_hw28 : k0_chk28 v1270), ∀ a, (k0_off170 v1270) a + S1x24x256.size a ≤ S7x64x256.size a := fun v1270 k0_hw28 => k0_hw28.2.2.2.2.2.2

def k0_off171 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v1373 : Index := Scalar.indexCast v793
  let c5_1173 : Index := 5#32
  ![v1373.toNat, 5]
def k0_off172 (v1374 : BitVec 32) : Fin 3 → Nat :=
  let c0_1179 : Index := 0#32
  let c8_i32_1174 : BitVec 32 := 8#32
  let v1375 : BitVec 32 := Scalar.muli v1374 c8_i32_1174
  let v1381 : Index := Scalar.indexCast v1375
  let c0_1180 : Index := 0#32
  ![0, v1381.toNat, 0]

def k0_off173 (v1374 : BitVec 32) : Fin 3 → Nat :=
  let c1_1192 : Index := 1#32
  let c8_i32_1174 : BitVec 32 := 8#32
  let v1375 : BitVec 32 := Scalar.muli v1374 c8_i32_1174
  let v1395 : Index := Scalar.indexCast v1375
  let c0_1193 : Index := 0#32
  ![1, v1395.toNat, 0]
def k0_off174 (v1374 : BitVec 32) : Fin 3 → Nat :=
  let c2_1205 : Index := 2#32
  let c8_i32_1174 : BitVec 32 := 8#32
  let v1375 : BitVec 32 := Scalar.muli v1374 c8_i32_1174
  let v1409 : Index := Scalar.indexCast v1375
  let c0_1206 : Index := 0#32
  ![2, v1409.toNat, 0]
def k0_off175 (v1374 : BitVec 32) : Fin 3 → Nat :=
  let c3_1218 : Index := 3#32
  let c8_i32_1174 : BitVec 32 := 8#32
  let v1375 : BitVec 32 := Scalar.muli v1374 c8_i32_1174
  let v1423 : Index := Scalar.indexCast v1375
  let c0_1219 : Index := 0#32
  ![3, v1423.toNat, 0]
def k0_off176 (v1374 : BitVec 32) : Fin 3 → Nat :=
  let c4_1231 : Index := 4#32
  let c8_i32_1174 : BitVec 32 := 8#32
  let v1375 : BitVec 32 := Scalar.muli v1374 c8_i32_1174
  let v1437 : Index := Scalar.indexCast v1375
  let c0_1232 : Index := 0#32
  ![4, v1437.toNat, 0]
def k0_off177 (v1374 : BitVec 32) : Fin 3 → Nat :=
  let c5_1244 : Index := 5#32
  let c8_i32_1174 : BitVec 32 := 8#32
  let v1375 : BitVec 32 := Scalar.muli v1374 c8_i32_1174
  let v1451 : Index := Scalar.indexCast v1375
  let c0_1245 : Index := 0#32
  ![5, v1451.toNat, 0]
def k0_off178 (v1374 : BitVec 32) : Fin 3 → Nat :=
  let c6_1257 : Index := 6#32
  let c8_i32_1174 : BitVec 32 := 8#32
  let v1375 : BitVec 32 := Scalar.muli v1374 c8_i32_1174
  let v1465 : Index := Scalar.indexCast v1375
  let c0_1258 : Index := 0#32
  ![6, v1465.toNat, 0]

def k0_chk29 (v1374 : BitVec 32) : Prop :=
  (∀ a, (k0_off172 v1374) a + S1x24x256.size a ≤ S7x64x256.size a) ∧
  (∀ a, (k0_off173 v1374) a + S1x24x256.size a ≤ S7x64x256.size a) ∧
  (∀ a, (k0_off174 v1374) a + S1x24x256.size a ≤ S7x64x256.size a) ∧
  (∀ a, (k0_off175 v1374) a + S1x24x256.size a ≤ S7x64x256.size a) ∧
  (∀ a, (k0_off176 v1374) a + S1x24x256.size a ≤ S7x64x256.size a) ∧
  (∀ a, (k0_off177 v1374) a + S1x24x256.size a ≤ S7x64x256.size a) ∧
  (∀ a, (k0_off178 v1374) a + S1x24x256.size a ≤ S7x64x256.size a)
theorem k0_off172_inb : ∀ (v1374 : BitVec 32) (k0_hw29 : k0_chk29 v1374), ∀ a, (k0_off172 v1374) a + S1x24x256.size a ≤ S7x64x256.size a := fun v1374 k0_hw29 => k0_hw29.1
theorem k0_off173_inb : ∀ (v1374 : BitVec 32) (k0_hw29 : k0_chk29 v1374), ∀ a, (k0_off173 v1374) a + S1x24x256.size a ≤ S7x64x256.size a := fun v1374 k0_hw29 => k0_hw29.2.1
theorem k0_off174_inb : ∀ (v1374 : BitVec 32) (k0_hw29 : k0_chk29 v1374), ∀ a, (k0_off174 v1374) a + S1x24x256.size a ≤ S7x64x256.size a := fun v1374 k0_hw29 => k0_hw29.2.2.1
theorem k0_off175_inb : ∀ (v1374 : BitVec 32) (k0_hw29 : k0_chk29 v1374), ∀ a, (k0_off175 v1374) a + S1x24x256.size a ≤ S7x64x256.size a := fun v1374 k0_hw29 => k0_hw29.2.2.2.1
theorem k0_off176_inb : ∀ (v1374 : BitVec 32) (k0_hw29 : k0_chk29 v1374), ∀ a, (k0_off176 v1374) a + S1x24x256.size a ≤ S7x64x256.size a := fun v1374 k0_hw29 => k0_hw29.2.2.2.2.1
theorem k0_off177_inb : ∀ (v1374 : BitVec 32) (k0_hw29 : k0_chk29 v1374), ∀ a, (k0_off177 v1374) a + S1x24x256.size a ≤ S7x64x256.size a := fun v1374 k0_hw29 => k0_hw29.2.2.2.2.2.1
theorem k0_off178_inb : ∀ (v1374 : BitVec 32) (k0_hw29 : k0_chk29 v1374), ∀ a, (k0_off178 v1374) a + S1x24x256.size a ≤ S7x64x256.size a := fun v1374 k0_hw29 => k0_hw29.2.2.2.2.2.2

def k0_off179 (i : grid0.Coords) : Fin 2 → Nat :=
  let arg0 : BitVec 32 := BitVec.ofNat 32 (i 0).val
  let c4_i32_674 : BitVec 32 := 4#32
  let v792 : BitVec 32 := Scalar.muli arg0 c4_i32_674
  let c1_i32_675 : BitVec 32 := 1#32
  let v793 : BitVec 32 := Scalar.addi v792 c1_i32_675
  let v1477 : Index := Scalar.indexCast v793
  let c6_1266 : Index := 6#32
  ![v1477.toNat, 6]
def k0_off180 (v1478 : BitVec 32) : Fin 3 → Nat :=
  let c0_1272 : Index := 0#32
  let c8_i32_1267 : BitVec 32 := 8#32
  let v1479 : BitVec 32 := Scalar.muli v1478 c8_i32_1267
  let v1485 : Index := Scalar.indexCast v1479
  let c0_1273 : Index := 0#32
  ![0, v1485.toNat, 0]

def k0_off181 (v1478 : BitVec 32) : Fin 3 → Nat :=
  let c1_1285 : Index := 1#32
  let c8_i32_1267 : BitVec 32 := 8#32
  let v1479 : BitVec 32 := Scalar.muli v1478 c8_i32_1267
  let v1499 : Index := Scalar.indexCast v1479
  let c0_1286 : Index := 0#32
  ![1, v1499.toNat, 0]
def k0_off182 (v1478 : BitVec 32) : Fin 3 → Nat :=
  let c2_1298 : Index := 2#32
  let c8_i32_1267 : BitVec 32 := 8#32
  let v1479 : BitVec 32 := Scalar.muli v1478 c8_i32_1267
  let v1513 : Index := Scalar.indexCast v1479
  let c0_1299 : Index := 0#32
  ![2, v1513.toNat, 0]
def k0_off183 (v1478 : BitVec 32) : Fin 3 → Nat :=
  let c3_1311 : Index := 3#32
  let c8_i32_1267 : BitVec 32 := 8#32
  let v1479 : BitVec 32 := Scalar.muli v1478 c8_i32_1267
  let v1527 : Index := Scalar.indexCast v1479
  let c0_1312 : Index := 0#32
  ![3, v1527.toNat, 0]
def k0_off184 (v1478 : BitVec 32) : Fin 3 → Nat :=
  let c4_1324 : Index := 4#32
  let c8_i32_1267 : BitVec 32 := 8#32
  let v1479 : BitVec 32 := Scalar.muli v1478 c8_i32_1267
  let v1541 : Index := Scalar.indexCast v1479
  let c0_1325 : Index := 0#32
  ![4, v1541.toNat, 0]
def k0_off185 (v1478 : BitVec 32) : Fin 3 → Nat :=
  let c5_1337 : Index := 5#32
  let c8_i32_1267 : BitVec 32 := 8#32
  let v1479 : BitVec 32 := Scalar.muli v1478 c8_i32_1267
  let v1555 : Index := Scalar.indexCast v1479
  let c0_1338 : Index := 0#32
  ![5, v1555.toNat, 0]
def k0_off186 (v1478 : BitVec 32) : Fin 3 → Nat :=
  let c6_1350 : Index := 6#32
  let c8_i32_1267 : BitVec 32 := 8#32
  let v1479 : BitVec 32 := Scalar.muli v1478 c8_i32_1267
  let v1569 : Index := Scalar.indexCast v1479
  let c0_1351 : Index := 0#32
  ![6, v1569.toNat, 0]

def k0_chk30 (v1478 : BitVec 32) : Prop :=
  (∀ a, (k0_off180 v1478) a + S1x24x256.size a ≤ S7x64x256.size a) ∧
  (∀ a, (k0_off181 v1478) a + S1x24x256.size a ≤ S7x64x256.size a) ∧
  (∀ a, (k0_off182 v1478) a + S1x24x256.size a ≤ S7x64x256.size a) ∧
  (∀ a, (k0_off183 v1478) a + S1x24x256.size a ≤ S7x64x256.size a) ∧
  (∀ a, (k0_off184 v1478) a + S1x24x256.size a ≤ S7x64x256.size a) ∧
  (∀ a, (k0_off185 v1478) a + S1x24x256.size a ≤ S7x64x256.size a) ∧
  (∀ a, (k0_off186 v1478) a + S1x24x256.size a ≤ S7x64x256.size a)
theorem k0_off180_inb : ∀ (v1478 : BitVec 32) (k0_hw30 : k0_chk30 v1478), ∀ a, (k0_off180 v1478) a + S1x24x256.size a ≤ S7x64x256.size a := fun v1478 k0_hw30 => k0_hw30.1
theorem k0_off181_inb : ∀ (v1478 : BitVec 32) (k0_hw30 : k0_chk30 v1478), ∀ a, (k0_off181 v1478) a + S1x24x256.size a ≤ S7x64x256.size a := fun v1478 k0_hw30 => k0_hw30.2.1
theorem k0_off182_inb : ∀ (v1478 : BitVec 32) (k0_hw30 : k0_chk30 v1478), ∀ a, (k0_off182 v1478) a + S1x24x256.size a ≤ S7x64x256.size a := fun v1478 k0_hw30 => k0_hw30.2.2.1
theorem k0_off183_inb : ∀ (v1478 : BitVec 32) (k0_hw30 : k0_chk30 v1478), ∀ a, (k0_off183 v1478) a + S1x24x256.size a ≤ S7x64x256.size a := fun v1478 k0_hw30 => k0_hw30.2.2.2.1
theorem k0_off184_inb : ∀ (v1478 : BitVec 32) (k0_hw30 : k0_chk30 v1478), ∀ a, (k0_off184 v1478) a + S1x24x256.size a ≤ S7x64x256.size a := fun v1478 k0_hw30 => k0_hw30.2.2.2.2.1
theorem k0_off185_inb : ∀ (v1478 : BitVec 32) (k0_hw30 : k0_chk30 v1478), ∀ a, (k0_off185 v1478) a + S1x24x256.size a ≤ S7x64x256.size a := fun v1478 k0_hw30 => k0_hw30.2.2.2.2.2.1
theorem k0_off186_inb : ∀ (v1478 : BitVec 32) (k0_hw30 : k0_chk30 v1478), ∀ a, (k0_off186 v1478) a + S1x24x256.size a ≤ S7x64x256.size a := fun v1478 k0_hw30 => k0_hw30.2.2.2.2.2.2

def k0_off187 (i : grid0.Coords) : Fin 1 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1583 : Index := Scalar.indexCast v1582
  ![v1583.toNat]
def k0_off188 (i : grid0.Coords) : Fin 3 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1585 : Index := Scalar.indexCast v1582
  let c0_1360 : Index := 0#32
  let c0_1361 : Index := 0#32
  ![v1585.toNat, 0, 0]
def k0_off189 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1597 : Index := Scalar.indexCast v1582
  let c0_1364 : Index := 0#32
  ![v1597.toNat, 0]
def k0_off190 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1600 : Index := Scalar.indexCast v1582
  let c1_1366 : Index := 1#32
  ![v1600.toNat, 1]
def k0_off191 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1603 : Index := Scalar.indexCast v1582
  let c2_1368 : Index := 2#32
  ![v1603.toNat, 2]
def k0_off192 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1606 : Index := Scalar.indexCast v1582
  let c3_1370 : Index := 3#32
  ![v1606.toNat, 3]
def k0_off193 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1609 : Index := Scalar.indexCast v1582
  let c4_1372 : Index := 4#32
  ![v1609.toNat, 4]
def k0_off194 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1612 : Index := Scalar.indexCast v1582
  let c5_1374 : Index := 5#32
  ![v1612.toNat, 5]
def k0_off195 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1615 : Index := Scalar.indexCast v1582
  let c6_1376 : Index := 6#32
  ![v1615.toNat, 6]
@[reducible] def k0_t5_loop (v1594 : BitVec 32) (v1596 : BitVec 32) : Scf.Loop 32 :=
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1390 : BitVec 32 := 1#32
  ⟨c0_i32_1388, v1641, c1_i32_1390⟩

def k0_off196 (v1584 : BitVec 32) (v1594 : BitVec 32) (v1596 : BitVec 32) (v1598 : BitVec 32) (k0_t5 : Fin (k0_t5_loop v1594 v1596).trips) (c0_i32_2728 : BitVec 32) : Fin 4 → Nat :=
  let v3166 : Index := Scalar.indexCast v1584
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3165 : BitVec 32 := Scalar.addi v3161 c0_i32_2728
  let v3167 : Index := Scalar.indexCast v3165
  let c8_i32_1365 : BitVec 32 := 8#32
  let v1599 : BitVec 32 := Scalar.muli v1598 c8_i32_1365
  let v3168 : Index := Scalar.indexCast v1599
  let c0_2729 : Index := 0#32
  ![v3166.toNat, v3167.toNat, v3168.toNat, 0]

def k0_off197 (v1594 : BitVec 32) (v1596 : BitVec 32) (k0_t5 : Fin (k0_t5_loop v1594 v1596).trips) (c0_i32_2731 : BitVec 32) : Fin 3 → Nat :=
  let c0_2735 : Index := 0#32
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3174 : BitVec 32 := Scalar.addi v3161 c0_i32_2731
  let v3177 : Index := Scalar.indexCast v3174
  let c0_2736 : Index := 0#32
  ![0, v3177.toNat, 0]
def k0_off198 (v1584 : BitVec 32) (v1594 : BitVec 32) (v1596 : BitVec 32) (v1601 : BitVec 32) (k0_t5 : Fin (k0_t5_loop v1594 v1596).trips) (c0_i32_2798 : BitVec 32) : Fin 4 → Nat :=
  let v3297 : Index := Scalar.indexCast v1584
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3296 : BitVec 32 := Scalar.addi v3161 c0_i32_2798
  let v3298 : Index := Scalar.indexCast v3296
  let c8_i32_1367 : BitVec 32 := 8#32
  let v1602 : BitVec 32 := Scalar.muli v1601 c8_i32_1367
  let v3299 : Index := Scalar.indexCast v1602
  let c0_2799 : Index := 0#32
  ![v3297.toNat, v3298.toNat, v3299.toNat, 0]

def k0_off199 (v1594 : BitVec 32) (v1596 : BitVec 32) (k0_t5 : Fin (k0_t5_loop v1594 v1596).trips) (c0_i32_2801 : BitVec 32) : Fin 3 → Nat :=
  let c1_2805 : Index := 1#32
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3305 : BitVec 32 := Scalar.addi v3161 c0_i32_2801
  let v3308 : Index := Scalar.indexCast v3305
  let c0_2806 : Index := 0#32
  ![1, v3308.toNat, 0]
def k0_off200 (v1584 : BitVec 32) (v1594 : BitVec 32) (v1596 : BitVec 32) (v1604 : BitVec 32) (k0_t5 : Fin (k0_t5_loop v1594 v1596).trips) (c0_i32_2870 : BitVec 32) : Fin 4 → Nat :=
  let v3428 : Index := Scalar.indexCast v1584
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3427 : BitVec 32 := Scalar.addi v3161 c0_i32_2870
  let v3429 : Index := Scalar.indexCast v3427
  let c8_i32_1369 : BitVec 32 := 8#32
  let v1605 : BitVec 32 := Scalar.muli v1604 c8_i32_1369
  let v3430 : Index := Scalar.indexCast v1605
  let c0_2871 : Index := 0#32
  ![v3428.toNat, v3429.toNat, v3430.toNat, 0]

def k0_off201 (v1594 : BitVec 32) (v1596 : BitVec 32) (k0_t5 : Fin (k0_t5_loop v1594 v1596).trips) (c0_i32_2873 : BitVec 32) : Fin 3 → Nat :=
  let c2_2877 : Index := 2#32
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3436 : BitVec 32 := Scalar.addi v3161 c0_i32_2873
  let v3439 : Index := Scalar.indexCast v3436
  let c0_2878 : Index := 0#32
  ![2, v3439.toNat, 0]
def k0_off202 (v1584 : BitVec 32) (v1594 : BitVec 32) (v1596 : BitVec 32) (v1607 : BitVec 32) (k0_t5 : Fin (k0_t5_loop v1594 v1596).trips) (c0_i32_2942 : BitVec 32) : Fin 4 → Nat :=
  let v3559 : Index := Scalar.indexCast v1584
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3558 : BitVec 32 := Scalar.addi v3161 c0_i32_2942
  let v3560 : Index := Scalar.indexCast v3558
  let c8_i32_1371 : BitVec 32 := 8#32
  let v1608 : BitVec 32 := Scalar.muli v1607 c8_i32_1371
  let v3561 : Index := Scalar.indexCast v1608
  let c0_2943 : Index := 0#32
  ![v3559.toNat, v3560.toNat, v3561.toNat, 0]

def k0_off203 (v1594 : BitVec 32) (v1596 : BitVec 32) (k0_t5 : Fin (k0_t5_loop v1594 v1596).trips) (c0_i32_2945 : BitVec 32) : Fin 3 → Nat :=
  let c3_2949 : Index := 3#32
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3567 : BitVec 32 := Scalar.addi v3161 c0_i32_2945
  let v3570 : Index := Scalar.indexCast v3567
  let c0_2950 : Index := 0#32
  ![3, v3570.toNat, 0]
def k0_off204 (v1584 : BitVec 32) (v1594 : BitVec 32) (v1596 : BitVec 32) (v1610 : BitVec 32) (k0_t5 : Fin (k0_t5_loop v1594 v1596).trips) (c0_i32_3014 : BitVec 32) : Fin 4 → Nat :=
  let v3690 : Index := Scalar.indexCast v1584
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3689 : BitVec 32 := Scalar.addi v3161 c0_i32_3014
  let v3691 : Index := Scalar.indexCast v3689
  let c8_i32_1373 : BitVec 32 := 8#32
  let v1611 : BitVec 32 := Scalar.muli v1610 c8_i32_1373
  let v3692 : Index := Scalar.indexCast v1611
  let c0_3015 : Index := 0#32
  ![v3690.toNat, v3691.toNat, v3692.toNat, 0]

def k0_off205 (v1594 : BitVec 32) (v1596 : BitVec 32) (k0_t5 : Fin (k0_t5_loop v1594 v1596).trips) (c0_i32_3017 : BitVec 32) : Fin 3 → Nat :=
  let c4_3021 : Index := 4#32
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3698 : BitVec 32 := Scalar.addi v3161 c0_i32_3017
  let v3701 : Index := Scalar.indexCast v3698
  let c0_3022 : Index := 0#32
  ![4, v3701.toNat, 0]
def k0_off206 (v1584 : BitVec 32) (v1594 : BitVec 32) (v1596 : BitVec 32) (v1613 : BitVec 32) (k0_t5 : Fin (k0_t5_loop v1594 v1596).trips) (c0_i32_3086 : BitVec 32) : Fin 4 → Nat :=
  let v3821 : Index := Scalar.indexCast v1584
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3820 : BitVec 32 := Scalar.addi v3161 c0_i32_3086
  let v3822 : Index := Scalar.indexCast v3820
  let c8_i32_1375 : BitVec 32 := 8#32
  let v1614 : BitVec 32 := Scalar.muli v1613 c8_i32_1375
  let v3823 : Index := Scalar.indexCast v1614
  let c0_3087 : Index := 0#32
  ![v3821.toNat, v3822.toNat, v3823.toNat, 0]

def k0_off207 (v1594 : BitVec 32) (v1596 : BitVec 32) (k0_t5 : Fin (k0_t5_loop v1594 v1596).trips) (c0_i32_3089 : BitVec 32) : Fin 3 → Nat :=
  let c5_3093 : Index := 5#32
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3829 : BitVec 32 := Scalar.addi v3161 c0_i32_3089
  let v3832 : Index := Scalar.indexCast v3829
  let c0_3094 : Index := 0#32
  ![5, v3832.toNat, 0]
def k0_off208 (v1584 : BitVec 32) (v1594 : BitVec 32) (v1596 : BitVec 32) (v1616 : BitVec 32) (k0_t5 : Fin (k0_t5_loop v1594 v1596).trips) (c0_i32_3158 : BitVec 32) : Fin 4 → Nat :=
  let v3952 : Index := Scalar.indexCast v1584
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3951 : BitVec 32 := Scalar.addi v3161 c0_i32_3158
  let v3953 : Index := Scalar.indexCast v3951
  let c8_i32_1377 : BitVec 32 := 8#32
  let v1617 : BitVec 32 := Scalar.muli v1616 c8_i32_1377
  let v3954 : Index := Scalar.indexCast v1617
  let c0_3159 : Index := 0#32
  ![v3952.toNat, v3953.toNat, v3954.toNat, 0]

def k0_off209 (v1594 : BitVec 32) (v1596 : BitVec 32) (k0_t5 : Fin (k0_t5_loop v1594 v1596).trips) (c0_i32_3161 : BitVec 32) : Fin 3 → Nat :=
  let c6_3165 : Index := 6#32
  let c0_i32_1388 : BitVec 32 := 0#32
  let c1_i32_1390 : BitVec 32 := 1#32
  let arg12 : BitVec 32 := Scf.iv c0_i32_1388 c1_i32_1390 k0_t5
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3960 : BitVec 32 := Scalar.addi v3161 c0_i32_3161
  let v3963 : Index := Scalar.indexCast v3960
  let c0_3166 : Index := 0#32
  ![6, v3963.toNat, 0]
@[reducible] def k0_t6_loop (v1594 : BitVec 32) (v1596 : BitVec 32) : Scf.Loop 32 :=
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let v1638 : BitVec 32 := Scalar.addi c0_i32_1388 v1637
  let c1_i32_1391 : BitVec 32 := 1#32
  ⟨v1641, v1638, c1_i32_1391⟩
def k0_off210 (v1584 : BitVec 32) (v1594 : BitVec 32) (v1596 : BitVec 32) (v1598 : BitVec 32) (k0_t6 : Fin (k0_t6_loop v1594 v1596).trips) (c0_i32_2728 : BitVec 32) : Fin 4 → Nat :=
  let v3166 : Index := Scalar.indexCast v1584
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3165 : BitVec 32 := Scalar.addi v3161 c0_i32_2728
  let v3167 : Index := Scalar.indexCast v3165
  let c8_i32_1365 : BitVec 32 := 8#32
  let v1599 : BitVec 32 := Scalar.muli v1598 c8_i32_1365
  let v3168 : Index := Scalar.indexCast v1599
  let c0_2729 : Index := 0#32
  ![v3166.toNat, v3167.toNat, v3168.toNat, 0]

def k0_chk32 (v1584 : BitVec 32) (v1594 : BitVec 32) (v1596 : BitVec 32) (v1598 : BitVec 32) : Prop :=
  (∀ k0_t5 : Fin (k0_t5_loop v1594 v1596).trips, ∀ (r : Fin 8), ∀ a, (k0_off196 v1584 v1594 v1596 v1598 k0_t5 (BitVec.ofNat 32 r.val)) a + S1x1x24x256.size a ≤ S4x64x64x256.size a) ∧
  (∀ k0_t6 : Fin (k0_t6_loop v1594 v1596).trips, ∀ (r : Fin 8), ∀ a, (k0_off210 v1584 v1594 v1596 v1598 k0_t6 (BitVec.ofNat 32 r.val)) a + S1x1x24x256.size a ≤ S4x64x64x256.size a)
theorem k0_off196_inb : ∀ (v1584 : BitVec 32) (v1594 : BitVec 32) (v1596 : BitVec 32) (v1598 : BitVec 32) (k0_hw32 : k0_chk32 v1584 v1594 v1596 v1598) (k0_t5 : Fin (k0_t5_loop v1594 v1596).trips), ∀ (r : Fin 8), ∀ a, (k0_off196 v1584 v1594 v1596 v1598 k0_t5 (BitVec.ofNat 32 r.val)) a + S1x1x24x256.size a ≤ S4x64x64x256.size a := fun v1584 v1594 v1596 v1598 k0_hw32 k0_t5 r => k0_hw32.1 k0_t5 r
theorem k0_off210_inb : ∀ (v1584 : BitVec 32) (v1594 : BitVec 32) (v1596 : BitVec 32) (v1598 : BitVec 32) (k0_hw32 : k0_chk32 v1584 v1594 v1596 v1598) (k0_t6 : Fin (k0_t6_loop v1594 v1596).trips), ∀ (r : Fin 8), ∀ a, (k0_off210 v1584 v1594 v1596 v1598 k0_t6 (BitVec.ofNat 32 r.val)) a + S1x1x24x256.size a ≤ S4x64x64x256.size a := fun v1584 v1594 v1596 v1598 k0_hw32 k0_t6 r => k0_hw32.2 k0_t6 r

def k0_off211 (v1594 : BitVec 32) (v1596 : BitVec 32) (k0_t6 : Fin (k0_t6_loop v1594 v1596).trips) (c0_i32_2731 : BitVec 32) : Fin 3 → Nat :=
  let c0_2735 : Index := 0#32
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3174 : BitVec 32 := Scalar.addi v3161 c0_i32_2731
  let v3177 : Index := Scalar.indexCast v3174
  let c0_2736 : Index := 0#32
  ![0, v3177.toNat, 0]
def k0_off212 (v1584 : BitVec 32) (v1594 : BitVec 32) (v1596 : BitVec 32) (v1601 : BitVec 32) (k0_t6 : Fin (k0_t6_loop v1594 v1596).trips) (c0_i32_2798 : BitVec 32) : Fin 4 → Nat :=
  let v3297 : Index := Scalar.indexCast v1584
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3296 : BitVec 32 := Scalar.addi v3161 c0_i32_2798
  let v3298 : Index := Scalar.indexCast v3296
  let c8_i32_1367 : BitVec 32 := 8#32
  let v1602 : BitVec 32 := Scalar.muli v1601 c8_i32_1367
  let v3299 : Index := Scalar.indexCast v1602
  let c0_2799 : Index := 0#32
  ![v3297.toNat, v3298.toNat, v3299.toNat, 0]

def k0_chk33 (v1584 : BitVec 32) (v1594 : BitVec 32) (v1596 : BitVec 32) (v1601 : BitVec 32) : Prop :=
  (∀ k0_t5 : Fin (k0_t5_loop v1594 v1596).trips, ∀ (r : Fin 8), ∀ a, (k0_off198 v1584 v1594 v1596 v1601 k0_t5 (BitVec.ofNat 32 r.val)) a + S1x1x24x256.size a ≤ S4x64x64x256.size a) ∧
  (∀ k0_t6 : Fin (k0_t6_loop v1594 v1596).trips, ∀ (r : Fin 8), ∀ a, (k0_off212 v1584 v1594 v1596 v1601 k0_t6 (BitVec.ofNat 32 r.val)) a + S1x1x24x256.size a ≤ S4x64x64x256.size a)
theorem k0_off198_inb : ∀ (v1584 : BitVec 32) (v1594 : BitVec 32) (v1596 : BitVec 32) (v1601 : BitVec 32) (k0_hw33 : k0_chk33 v1584 v1594 v1596 v1601) (k0_t5 : Fin (k0_t5_loop v1594 v1596).trips), ∀ (r : Fin 8), ∀ a, (k0_off198 v1584 v1594 v1596 v1601 k0_t5 (BitVec.ofNat 32 r.val)) a + S1x1x24x256.size a ≤ S4x64x64x256.size a := fun v1584 v1594 v1596 v1601 k0_hw33 k0_t5 r => k0_hw33.1 k0_t5 r
theorem k0_off212_inb : ∀ (v1584 : BitVec 32) (v1594 : BitVec 32) (v1596 : BitVec 32) (v1601 : BitVec 32) (k0_hw33 : k0_chk33 v1584 v1594 v1596 v1601) (k0_t6 : Fin (k0_t6_loop v1594 v1596).trips), ∀ (r : Fin 8), ∀ a, (k0_off212 v1584 v1594 v1596 v1601 k0_t6 (BitVec.ofNat 32 r.val)) a + S1x1x24x256.size a ≤ S4x64x64x256.size a := fun v1584 v1594 v1596 v1601 k0_hw33 k0_t6 r => k0_hw33.2 k0_t6 r

def k0_off213 (v1594 : BitVec 32) (v1596 : BitVec 32) (k0_t6 : Fin (k0_t6_loop v1594 v1596).trips) (c0_i32_2801 : BitVec 32) : Fin 3 → Nat :=
  let c1_2805 : Index := 1#32
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3305 : BitVec 32 := Scalar.addi v3161 c0_i32_2801
  let v3308 : Index := Scalar.indexCast v3305
  let c0_2806 : Index := 0#32
  ![1, v3308.toNat, 0]
def k0_off214 (v1584 : BitVec 32) (v1594 : BitVec 32) (v1596 : BitVec 32) (v1604 : BitVec 32) (k0_t6 : Fin (k0_t6_loop v1594 v1596).trips) (c0_i32_2870 : BitVec 32) : Fin 4 → Nat :=
  let v3428 : Index := Scalar.indexCast v1584
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3427 : BitVec 32 := Scalar.addi v3161 c0_i32_2870
  let v3429 : Index := Scalar.indexCast v3427
  let c8_i32_1369 : BitVec 32 := 8#32
  let v1605 : BitVec 32 := Scalar.muli v1604 c8_i32_1369
  let v3430 : Index := Scalar.indexCast v1605
  let c0_2871 : Index := 0#32
  ![v3428.toNat, v3429.toNat, v3430.toNat, 0]

def k0_chk34 (v1584 : BitVec 32) (v1594 : BitVec 32) (v1596 : BitVec 32) (v1604 : BitVec 32) : Prop :=
  (∀ k0_t5 : Fin (k0_t5_loop v1594 v1596).trips, ∀ (r : Fin 8), ∀ a, (k0_off200 v1584 v1594 v1596 v1604 k0_t5 (BitVec.ofNat 32 r.val)) a + S1x1x24x256.size a ≤ S4x64x64x256.size a) ∧
  (∀ k0_t6 : Fin (k0_t6_loop v1594 v1596).trips, ∀ (r : Fin 8), ∀ a, (k0_off214 v1584 v1594 v1596 v1604 k0_t6 (BitVec.ofNat 32 r.val)) a + S1x1x24x256.size a ≤ S4x64x64x256.size a)
theorem k0_off200_inb : ∀ (v1584 : BitVec 32) (v1594 : BitVec 32) (v1596 : BitVec 32) (v1604 : BitVec 32) (k0_hw34 : k0_chk34 v1584 v1594 v1596 v1604) (k0_t5 : Fin (k0_t5_loop v1594 v1596).trips), ∀ (r : Fin 8), ∀ a, (k0_off200 v1584 v1594 v1596 v1604 k0_t5 (BitVec.ofNat 32 r.val)) a + S1x1x24x256.size a ≤ S4x64x64x256.size a := fun v1584 v1594 v1596 v1604 k0_hw34 k0_t5 r => k0_hw34.1 k0_t5 r
theorem k0_off214_inb : ∀ (v1584 : BitVec 32) (v1594 : BitVec 32) (v1596 : BitVec 32) (v1604 : BitVec 32) (k0_hw34 : k0_chk34 v1584 v1594 v1596 v1604) (k0_t6 : Fin (k0_t6_loop v1594 v1596).trips), ∀ (r : Fin 8), ∀ a, (k0_off214 v1584 v1594 v1596 v1604 k0_t6 (BitVec.ofNat 32 r.val)) a + S1x1x24x256.size a ≤ S4x64x64x256.size a := fun v1584 v1594 v1596 v1604 k0_hw34 k0_t6 r => k0_hw34.2 k0_t6 r

def k0_off215 (v1594 : BitVec 32) (v1596 : BitVec 32) (k0_t6 : Fin (k0_t6_loop v1594 v1596).trips) (c0_i32_2873 : BitVec 32) : Fin 3 → Nat :=
  let c2_2877 : Index := 2#32
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3436 : BitVec 32 := Scalar.addi v3161 c0_i32_2873
  let v3439 : Index := Scalar.indexCast v3436
  let c0_2878 : Index := 0#32
  ![2, v3439.toNat, 0]
def k0_off216 (v1584 : BitVec 32) (v1594 : BitVec 32) (v1596 : BitVec 32) (v1607 : BitVec 32) (k0_t6 : Fin (k0_t6_loop v1594 v1596).trips) (c0_i32_2942 : BitVec 32) : Fin 4 → Nat :=
  let v3559 : Index := Scalar.indexCast v1584
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3558 : BitVec 32 := Scalar.addi v3161 c0_i32_2942
  let v3560 : Index := Scalar.indexCast v3558
  let c8_i32_1371 : BitVec 32 := 8#32
  let v1608 : BitVec 32 := Scalar.muli v1607 c8_i32_1371
  let v3561 : Index := Scalar.indexCast v1608
  let c0_2943 : Index := 0#32
  ![v3559.toNat, v3560.toNat, v3561.toNat, 0]

def k0_chk35 (v1584 : BitVec 32) (v1594 : BitVec 32) (v1596 : BitVec 32) (v1607 : BitVec 32) : Prop :=
  (∀ k0_t5 : Fin (k0_t5_loop v1594 v1596).trips, ∀ (r : Fin 8), ∀ a, (k0_off202 v1584 v1594 v1596 v1607 k0_t5 (BitVec.ofNat 32 r.val)) a + S1x1x24x256.size a ≤ S4x64x64x256.size a) ∧
  (∀ k0_t6 : Fin (k0_t6_loop v1594 v1596).trips, ∀ (r : Fin 8), ∀ a, (k0_off216 v1584 v1594 v1596 v1607 k0_t6 (BitVec.ofNat 32 r.val)) a + S1x1x24x256.size a ≤ S4x64x64x256.size a)
theorem k0_off202_inb : ∀ (v1584 : BitVec 32) (v1594 : BitVec 32) (v1596 : BitVec 32) (v1607 : BitVec 32) (k0_hw35 : k0_chk35 v1584 v1594 v1596 v1607) (k0_t5 : Fin (k0_t5_loop v1594 v1596).trips), ∀ (r : Fin 8), ∀ a, (k0_off202 v1584 v1594 v1596 v1607 k0_t5 (BitVec.ofNat 32 r.val)) a + S1x1x24x256.size a ≤ S4x64x64x256.size a := fun v1584 v1594 v1596 v1607 k0_hw35 k0_t5 r => k0_hw35.1 k0_t5 r
theorem k0_off216_inb : ∀ (v1584 : BitVec 32) (v1594 : BitVec 32) (v1596 : BitVec 32) (v1607 : BitVec 32) (k0_hw35 : k0_chk35 v1584 v1594 v1596 v1607) (k0_t6 : Fin (k0_t6_loop v1594 v1596).trips), ∀ (r : Fin 8), ∀ a, (k0_off216 v1584 v1594 v1596 v1607 k0_t6 (BitVec.ofNat 32 r.val)) a + S1x1x24x256.size a ≤ S4x64x64x256.size a := fun v1584 v1594 v1596 v1607 k0_hw35 k0_t6 r => k0_hw35.2 k0_t6 r

def k0_off217 (v1594 : BitVec 32) (v1596 : BitVec 32) (k0_t6 : Fin (k0_t6_loop v1594 v1596).trips) (c0_i32_2945 : BitVec 32) : Fin 3 → Nat :=
  let c3_2949 : Index := 3#32
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3567 : BitVec 32 := Scalar.addi v3161 c0_i32_2945
  let v3570 : Index := Scalar.indexCast v3567
  let c0_2950 : Index := 0#32
  ![3, v3570.toNat, 0]
def k0_off218 (v1584 : BitVec 32) (v1594 : BitVec 32) (v1596 : BitVec 32) (v1610 : BitVec 32) (k0_t6 : Fin (k0_t6_loop v1594 v1596).trips) (c0_i32_3014 : BitVec 32) : Fin 4 → Nat :=
  let v3690 : Index := Scalar.indexCast v1584
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3689 : BitVec 32 := Scalar.addi v3161 c0_i32_3014
  let v3691 : Index := Scalar.indexCast v3689
  let c8_i32_1373 : BitVec 32 := 8#32
  let v1611 : BitVec 32 := Scalar.muli v1610 c8_i32_1373
  let v3692 : Index := Scalar.indexCast v1611
  let c0_3015 : Index := 0#32
  ![v3690.toNat, v3691.toNat, v3692.toNat, 0]

def k0_chk36 (v1584 : BitVec 32) (v1594 : BitVec 32) (v1596 : BitVec 32) (v1610 : BitVec 32) : Prop :=
  (∀ k0_t5 : Fin (k0_t5_loop v1594 v1596).trips, ∀ (r : Fin 8), ∀ a, (k0_off204 v1584 v1594 v1596 v1610 k0_t5 (BitVec.ofNat 32 r.val)) a + S1x1x24x256.size a ≤ S4x64x64x256.size a) ∧
  (∀ k0_t6 : Fin (k0_t6_loop v1594 v1596).trips, ∀ (r : Fin 8), ∀ a, (k0_off218 v1584 v1594 v1596 v1610 k0_t6 (BitVec.ofNat 32 r.val)) a + S1x1x24x256.size a ≤ S4x64x64x256.size a)
theorem k0_off204_inb : ∀ (v1584 : BitVec 32) (v1594 : BitVec 32) (v1596 : BitVec 32) (v1610 : BitVec 32) (k0_hw36 : k0_chk36 v1584 v1594 v1596 v1610) (k0_t5 : Fin (k0_t5_loop v1594 v1596).trips), ∀ (r : Fin 8), ∀ a, (k0_off204 v1584 v1594 v1596 v1610 k0_t5 (BitVec.ofNat 32 r.val)) a + S1x1x24x256.size a ≤ S4x64x64x256.size a := fun v1584 v1594 v1596 v1610 k0_hw36 k0_t5 r => k0_hw36.1 k0_t5 r
theorem k0_off218_inb : ∀ (v1584 : BitVec 32) (v1594 : BitVec 32) (v1596 : BitVec 32) (v1610 : BitVec 32) (k0_hw36 : k0_chk36 v1584 v1594 v1596 v1610) (k0_t6 : Fin (k0_t6_loop v1594 v1596).trips), ∀ (r : Fin 8), ∀ a, (k0_off218 v1584 v1594 v1596 v1610 k0_t6 (BitVec.ofNat 32 r.val)) a + S1x1x24x256.size a ≤ S4x64x64x256.size a := fun v1584 v1594 v1596 v1610 k0_hw36 k0_t6 r => k0_hw36.2 k0_t6 r

def k0_off219 (v1594 : BitVec 32) (v1596 : BitVec 32) (k0_t6 : Fin (k0_t6_loop v1594 v1596).trips) (c0_i32_3017 : BitVec 32) : Fin 3 → Nat :=
  let c4_3021 : Index := 4#32
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3698 : BitVec 32 := Scalar.addi v3161 c0_i32_3017
  let v3701 : Index := Scalar.indexCast v3698
  let c0_3022 : Index := 0#32
  ![4, v3701.toNat, 0]
def k0_off220 (v1584 : BitVec 32) (v1594 : BitVec 32) (v1596 : BitVec 32) (v1613 : BitVec 32) (k0_t6 : Fin (k0_t6_loop v1594 v1596).trips) (c0_i32_3086 : BitVec 32) : Fin 4 → Nat :=
  let v3821 : Index := Scalar.indexCast v1584
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3820 : BitVec 32 := Scalar.addi v3161 c0_i32_3086
  let v3822 : Index := Scalar.indexCast v3820
  let c8_i32_1375 : BitVec 32 := 8#32
  let v1614 : BitVec 32 := Scalar.muli v1613 c8_i32_1375
  let v3823 : Index := Scalar.indexCast v1614
  let c0_3087 : Index := 0#32
  ![v3821.toNat, v3822.toNat, v3823.toNat, 0]

def k0_chk37 (v1584 : BitVec 32) (v1594 : BitVec 32) (v1596 : BitVec 32) (v1613 : BitVec 32) : Prop :=
  (∀ k0_t5 : Fin (k0_t5_loop v1594 v1596).trips, ∀ (r : Fin 8), ∀ a, (k0_off206 v1584 v1594 v1596 v1613 k0_t5 (BitVec.ofNat 32 r.val)) a + S1x1x24x256.size a ≤ S4x64x64x256.size a) ∧
  (∀ k0_t6 : Fin (k0_t6_loop v1594 v1596).trips, ∀ (r : Fin 8), ∀ a, (k0_off220 v1584 v1594 v1596 v1613 k0_t6 (BitVec.ofNat 32 r.val)) a + S1x1x24x256.size a ≤ S4x64x64x256.size a)
theorem k0_off206_inb : ∀ (v1584 : BitVec 32) (v1594 : BitVec 32) (v1596 : BitVec 32) (v1613 : BitVec 32) (k0_hw37 : k0_chk37 v1584 v1594 v1596 v1613) (k0_t5 : Fin (k0_t5_loop v1594 v1596).trips), ∀ (r : Fin 8), ∀ a, (k0_off206 v1584 v1594 v1596 v1613 k0_t5 (BitVec.ofNat 32 r.val)) a + S1x1x24x256.size a ≤ S4x64x64x256.size a := fun v1584 v1594 v1596 v1613 k0_hw37 k0_t5 r => k0_hw37.1 k0_t5 r
theorem k0_off220_inb : ∀ (v1584 : BitVec 32) (v1594 : BitVec 32) (v1596 : BitVec 32) (v1613 : BitVec 32) (k0_hw37 : k0_chk37 v1584 v1594 v1596 v1613) (k0_t6 : Fin (k0_t6_loop v1594 v1596).trips), ∀ (r : Fin 8), ∀ a, (k0_off220 v1584 v1594 v1596 v1613 k0_t6 (BitVec.ofNat 32 r.val)) a + S1x1x24x256.size a ≤ S4x64x64x256.size a := fun v1584 v1594 v1596 v1613 k0_hw37 k0_t6 r => k0_hw37.2 k0_t6 r

def k0_off221 (v1594 : BitVec 32) (v1596 : BitVec 32) (k0_t6 : Fin (k0_t6_loop v1594 v1596).trips) (c0_i32_3089 : BitVec 32) : Fin 3 → Nat :=
  let c5_3093 : Index := 5#32
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3829 : BitVec 32 := Scalar.addi v3161 c0_i32_3089
  let v3832 : Index := Scalar.indexCast v3829
  let c0_3094 : Index := 0#32
  ![5, v3832.toNat, 0]
def k0_off222 (v1584 : BitVec 32) (v1594 : BitVec 32) (v1596 : BitVec 32) (v1616 : BitVec 32) (k0_t6 : Fin (k0_t6_loop v1594 v1596).trips) (c0_i32_3158 : BitVec 32) : Fin 4 → Nat :=
  let v3952 : Index := Scalar.indexCast v1584
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3951 : BitVec 32 := Scalar.addi v3161 c0_i32_3158
  let v3953 : Index := Scalar.indexCast v3951
  let c8_i32_1377 : BitVec 32 := 8#32
  let v1617 : BitVec 32 := Scalar.muli v1616 c8_i32_1377
  let v3954 : Index := Scalar.indexCast v1617
  let c0_3159 : Index := 0#32
  ![v3952.toNat, v3953.toNat, v3954.toNat, 0]

def k0_chk38 (v1584 : BitVec 32) (v1594 : BitVec 32) (v1596 : BitVec 32) (v1616 : BitVec 32) : Prop :=
  (∀ k0_t5 : Fin (k0_t5_loop v1594 v1596).trips, ∀ (r : Fin 8), ∀ a, (k0_off208 v1584 v1594 v1596 v1616 k0_t5 (BitVec.ofNat 32 r.val)) a + S1x1x24x256.size a ≤ S4x64x64x256.size a) ∧
  (∀ k0_t6 : Fin (k0_t6_loop v1594 v1596).trips, ∀ (r : Fin 8), ∀ a, (k0_off222 v1584 v1594 v1596 v1616 k0_t6 (BitVec.ofNat 32 r.val)) a + S1x1x24x256.size a ≤ S4x64x64x256.size a)
theorem k0_off208_inb : ∀ (v1584 : BitVec 32) (v1594 : BitVec 32) (v1596 : BitVec 32) (v1616 : BitVec 32) (k0_hw38 : k0_chk38 v1584 v1594 v1596 v1616) (k0_t5 : Fin (k0_t5_loop v1594 v1596).trips), ∀ (r : Fin 8), ∀ a, (k0_off208 v1584 v1594 v1596 v1616 k0_t5 (BitVec.ofNat 32 r.val)) a + S1x1x24x256.size a ≤ S4x64x64x256.size a := fun v1584 v1594 v1596 v1616 k0_hw38 k0_t5 r => k0_hw38.1 k0_t5 r
theorem k0_off222_inb : ∀ (v1584 : BitVec 32) (v1594 : BitVec 32) (v1596 : BitVec 32) (v1616 : BitVec 32) (k0_hw38 : k0_chk38 v1584 v1594 v1596 v1616) (k0_t6 : Fin (k0_t6_loop v1594 v1596).trips), ∀ (r : Fin 8), ∀ a, (k0_off222 v1584 v1594 v1596 v1616 k0_t6 (BitVec.ofNat 32 r.val)) a + S1x1x24x256.size a ≤ S4x64x64x256.size a := fun v1584 v1594 v1596 v1616 k0_hw38 k0_t6 r => k0_hw38.2 k0_t6 r

def k0_off223 (v1594 : BitVec 32) (v1596 : BitVec 32) (k0_t6 : Fin (k0_t6_loop v1594 v1596).trips) (c0_i32_3161 : BitVec 32) : Fin 3 → Nat :=
  let c6_3165 : Index := 6#32
  let c0_i32_1388 : BitVec 32 := 0#32
  let v1618 : BitVec 32 := Scalar.subi v1596 v1594
  let c7_i32_1378 : BitVec 32 := 7#32
  let v1619 : BitVec 32 := Scalar.addi v1618 c7_i32_1378
  let c0_i32_1380 : BitVec 32 := 0#32
  let v1621 : BitVec 1 := Scalar.cmpi .sgt v1619 c0_i32_1380
  let v1622 : BitVec 32 := Scalar.extui v1621
  let c0_i32_1381 : BitVec 32 := 0#32
  let v1623 : BitVec 1 := Scalar.cmpi .slt v1619 c0_i32_1381
  let v1624 : BitVec 32 := Scalar.extui v1623
  let v1625 : BitVec 32 := Scalar.subi v1622 v1624
  let c8_i32_1379 : BitVec 32 := 8#32
  let c0_i32_1382 : BitVec 32 := 0#32
  let v1626 : BitVec 1 := Scalar.cmpi .sgt c8_i32_1379 c0_i32_1382
  let v1627 : BitVec 32 := Scalar.extui v1626
  let c0_i32_1383 : BitVec 32 := 0#32
  let v1628 : BitVec 1 := Scalar.cmpi .slt c8_i32_1379 c0_i32_1383
  let v1629 : BitVec 32 := Scalar.extui v1628
  let v1630 : BitVec 32 := Scalar.subi v1627 v1629
  let v1631 : BitVec 1 := Scalar.cmpi .ne v1625 v1630
  let v1632 : BitVec 32 := Scalar.remsi v1619 c8_i32_1379
  let c0_i32_1384 : BitVec 32 := 0#32
  let v1633 : BitVec 1 := Scalar.cmpi .ne v1632 c0_i32_1384
  let v1634 : BitVec 1 := Scalar.andi v1631 v1633
  let v1620 : BitVec 32 := Scalar.divsi v1619 c8_i32_1379
  let c1_i32_1385 : BitVec 32 := 1#32
  let v1635 : BitVec 32 := Scalar.subi v1620 c1_i32_1385
  let v1636 : BitVec 32 := Scalar.select v1634 v1635 v1620
  let v1637 : BitVec 32 := Scalar.subi v1636 c0_i32_1388
  let c1_i32_1389 : BitVec 32 := 1#32
  let v1639 : BitVec 32 := Scalar.divsi v1637 c1_i32_1389
  let v1640 : BitVec 32 := Scalar.muli v1639 c1_i32_1389
  let v1641 : BitVec 32 := Scalar.addi c0_i32_1388 v1640
  let c1_i32_1391 : BitVec 32 := 1#32
  let arg12 : BitVec 32 := Scf.iv v1641 c1_i32_1391 k0_t6
  let c8_i32_2727 : BitVec 32 := 8#32
  let v3159 : BitVec 32 := Scalar.muli arg12 c8_i32_2727
  let v3160 : BitVec 32 := Scalar.addi v1594 v3159
  let c56_i32 : BitVec 32 := 56#32
  let v3161 : BitVec 32 := Scalar.minsi v3160 c56_i32
  let v3960 : BitVec 32 := Scalar.addi v3161 c0_i32_3161
  let v3963 : Index := Scalar.indexCast v3960
  let c0_3166 : Index := 0#32
  ![6, v3963.toNat, 0]

def k0_chk31 (v1594 : BitVec 32) (v1596 : BitVec 32) : Prop :=
  ((k0_t5_loop v1594 v1596).OK) ∧
  (∀ k0_t5 : Fin (k0_t5_loop v1594 v1596).trips, ∀ (r : Fin 8), ∀ a, (k0_off197 v1594 v1596 k0_t5 (BitVec.ofNat 32 r.val)) a + S1x1x256.size a ≤ S7x64x256.size a) ∧
  (∀ k0_t5 : Fin (k0_t5_loop v1594 v1596).trips, ∀ (r : Fin 8), ∀ a, (k0_off199 v1594 v1596 k0_t5 (BitVec.ofNat 32 r.val)) a + S1x1x256.size a ≤ S7x64x256.size a) ∧
  (∀ k0_t5 : Fin (k0_t5_loop v1594 v1596).trips, ∀ (r : Fin 8), ∀ a, (k0_off201 v1594 v1596 k0_t5 (BitVec.ofNat 32 r.val)) a + S1x1x256.size a ≤ S7x64x256.size a) ∧
  (∀ k0_t5 : Fin (k0_t5_loop v1594 v1596).trips, ∀ (r : Fin 8), ∀ a, (k0_off203 v1594 v1596 k0_t5 (BitVec.ofNat 32 r.val)) a + S1x1x256.size a ≤ S7x64x256.size a) ∧
  (∀ k0_t5 : Fin (k0_t5_loop v1594 v1596).trips, ∀ (r : Fin 8), ∀ a, (k0_off205 v1594 v1596 k0_t5 (BitVec.ofNat 32 r.val)) a + S1x1x256.size a ≤ S7x64x256.size a) ∧
  (∀ k0_t5 : Fin (k0_t5_loop v1594 v1596).trips, ∀ (r : Fin 8), ∀ a, (k0_off207 v1594 v1596 k0_t5 (BitVec.ofNat 32 r.val)) a + S1x1x256.size a ≤ S7x64x256.size a) ∧
  (∀ k0_t5 : Fin (k0_t5_loop v1594 v1596).trips, ∀ (r : Fin 8), ∀ a, (k0_off209 v1594 v1596 k0_t5 (BitVec.ofNat 32 r.val)) a + S1x1x256.size a ≤ S7x64x256.size a) ∧
  ((k0_t6_loop v1594 v1596).OK) ∧
  (∀ k0_t6 : Fin (k0_t6_loop v1594 v1596).trips, ∀ (r : Fin 8), ∀ a, (k0_off211 v1594 v1596 k0_t6 (BitVec.ofNat 32 r.val)) a + S1x1x256.size a ≤ S7x64x256.size a) ∧
  (∀ k0_t6 : Fin (k0_t6_loop v1594 v1596).trips, ∀ (r : Fin 8), ∀ a, (k0_off213 v1594 v1596 k0_t6 (BitVec.ofNat 32 r.val)) a + S1x1x256.size a ≤ S7x64x256.size a) ∧
  (∀ k0_t6 : Fin (k0_t6_loop v1594 v1596).trips, ∀ (r : Fin 8), ∀ a, (k0_off215 v1594 v1596 k0_t6 (BitVec.ofNat 32 r.val)) a + S1x1x256.size a ≤ S7x64x256.size a) ∧
  (∀ k0_t6 : Fin (k0_t6_loop v1594 v1596).trips, ∀ (r : Fin 8), ∀ a, (k0_off217 v1594 v1596 k0_t6 (BitVec.ofNat 32 r.val)) a + S1x1x256.size a ≤ S7x64x256.size a) ∧
  (∀ k0_t6 : Fin (k0_t6_loop v1594 v1596).trips, ∀ (r : Fin 8), ∀ a, (k0_off219 v1594 v1596 k0_t6 (BitVec.ofNat 32 r.val)) a + S1x1x256.size a ≤ S7x64x256.size a) ∧
  (∀ k0_t6 : Fin (k0_t6_loop v1594 v1596).trips, ∀ (r : Fin 8), ∀ a, (k0_off221 v1594 v1596 k0_t6 (BitVec.ofNat 32 r.val)) a + S1x1x256.size a ≤ S7x64x256.size a) ∧
  (∀ k0_t6 : Fin (k0_t6_loop v1594 v1596).trips, ∀ (r : Fin 8), ∀ a, (k0_off223 v1594 v1596 k0_t6 (BitVec.ofNat 32 r.val)) a + S1x1x256.size a ≤ S7x64x256.size a)
theorem k0_t5_ok : ∀ (v1594 : BitVec 32) (v1596 : BitVec 32) (k0_hw31 : k0_chk31 v1594 v1596), (k0_t5_loop v1594 v1596).OK := fun v1594 v1596 k0_hw31 => k0_hw31.1
theorem k0_off197_inb : ∀ (v1594 : BitVec 32) (v1596 : BitVec 32) (k0_hw31 : k0_chk31 v1594 v1596) (k0_t5 : Fin (k0_t5_loop v1594 v1596).trips), ∀ (r : Fin 8), ∀ a, (k0_off197 v1594 v1596 k0_t5 (BitVec.ofNat 32 r.val)) a + S1x1x256.size a ≤ S7x64x256.size a := fun v1594 v1596 k0_hw31 k0_t5 r => k0_hw31.2.1 k0_t5 r
theorem k0_off199_inb : ∀ (v1594 : BitVec 32) (v1596 : BitVec 32) (k0_hw31 : k0_chk31 v1594 v1596) (k0_t5 : Fin (k0_t5_loop v1594 v1596).trips), ∀ (r : Fin 8), ∀ a, (k0_off199 v1594 v1596 k0_t5 (BitVec.ofNat 32 r.val)) a + S1x1x256.size a ≤ S7x64x256.size a := fun v1594 v1596 k0_hw31 k0_t5 r => k0_hw31.2.2.1 k0_t5 r
theorem k0_off201_inb : ∀ (v1594 : BitVec 32) (v1596 : BitVec 32) (k0_hw31 : k0_chk31 v1594 v1596) (k0_t5 : Fin (k0_t5_loop v1594 v1596).trips), ∀ (r : Fin 8), ∀ a, (k0_off201 v1594 v1596 k0_t5 (BitVec.ofNat 32 r.val)) a + S1x1x256.size a ≤ S7x64x256.size a := fun v1594 v1596 k0_hw31 k0_t5 r => k0_hw31.2.2.2.1 k0_t5 r
theorem k0_off203_inb : ∀ (v1594 : BitVec 32) (v1596 : BitVec 32) (k0_hw31 : k0_chk31 v1594 v1596) (k0_t5 : Fin (k0_t5_loop v1594 v1596).trips), ∀ (r : Fin 8), ∀ a, (k0_off203 v1594 v1596 k0_t5 (BitVec.ofNat 32 r.val)) a + S1x1x256.size a ≤ S7x64x256.size a := fun v1594 v1596 k0_hw31 k0_t5 r => k0_hw31.2.2.2.2.1 k0_t5 r
theorem k0_off205_inb : ∀ (v1594 : BitVec 32) (v1596 : BitVec 32) (k0_hw31 : k0_chk31 v1594 v1596) (k0_t5 : Fin (k0_t5_loop v1594 v1596).trips), ∀ (r : Fin 8), ∀ a, (k0_off205 v1594 v1596 k0_t5 (BitVec.ofNat 32 r.val)) a + S1x1x256.size a ≤ S7x64x256.size a := fun v1594 v1596 k0_hw31 k0_t5 r => k0_hw31.2.2.2.2.2.1 k0_t5 r
theorem k0_off207_inb : ∀ (v1594 : BitVec 32) (v1596 : BitVec 32) (k0_hw31 : k0_chk31 v1594 v1596) (k0_t5 : Fin (k0_t5_loop v1594 v1596).trips), ∀ (r : Fin 8), ∀ a, (k0_off207 v1594 v1596 k0_t5 (BitVec.ofNat 32 r.val)) a + S1x1x256.size a ≤ S7x64x256.size a := fun v1594 v1596 k0_hw31 k0_t5 r => k0_hw31.2.2.2.2.2.2.1 k0_t5 r
theorem k0_off209_inb : ∀ (v1594 : BitVec 32) (v1596 : BitVec 32) (k0_hw31 : k0_chk31 v1594 v1596) (k0_t5 : Fin (k0_t5_loop v1594 v1596).trips), ∀ (r : Fin 8), ∀ a, (k0_off209 v1594 v1596 k0_t5 (BitVec.ofNat 32 r.val)) a + S1x1x256.size a ≤ S7x64x256.size a := fun v1594 v1596 k0_hw31 k0_t5 r => k0_hw31.2.2.2.2.2.2.2.1 k0_t5 r
theorem k0_t6_ok : ∀ (v1594 : BitVec 32) (v1596 : BitVec 32) (k0_hw31 : k0_chk31 v1594 v1596), (k0_t6_loop v1594 v1596).OK := fun v1594 v1596 k0_hw31 => k0_hw31.2.2.2.2.2.2.2.2.1
theorem k0_off211_inb : ∀ (v1594 : BitVec 32) (v1596 : BitVec 32) (k0_hw31 : k0_chk31 v1594 v1596) (k0_t6 : Fin (k0_t6_loop v1594 v1596).trips), ∀ (r : Fin 8), ∀ a, (k0_off211 v1594 v1596 k0_t6 (BitVec.ofNat 32 r.val)) a + S1x1x256.size a ≤ S7x64x256.size a := fun v1594 v1596 k0_hw31 k0_t6 r => k0_hw31.2.2.2.2.2.2.2.2.2.1 k0_t6 r
theorem k0_off213_inb : ∀ (v1594 : BitVec 32) (v1596 : BitVec 32) (k0_hw31 : k0_chk31 v1594 v1596) (k0_t6 : Fin (k0_t6_loop v1594 v1596).trips), ∀ (r : Fin 8), ∀ a, (k0_off213 v1594 v1596 k0_t6 (BitVec.ofNat 32 r.val)) a + S1x1x256.size a ≤ S7x64x256.size a := fun v1594 v1596 k0_hw31 k0_t6 r => k0_hw31.2.2.2.2.2.2.2.2.2.2.1 k0_t6 r
theorem k0_off215_inb : ∀ (v1594 : BitVec 32) (v1596 : BitVec 32) (k0_hw31 : k0_chk31 v1594 v1596) (k0_t6 : Fin (k0_t6_loop v1594 v1596).trips), ∀ (r : Fin 8), ∀ a, (k0_off215 v1594 v1596 k0_t6 (BitVec.ofNat 32 r.val)) a + S1x1x256.size a ≤ S7x64x256.size a := fun v1594 v1596 k0_hw31 k0_t6 r => k0_hw31.2.2.2.2.2.2.2.2.2.2.2.1 k0_t6 r
theorem k0_off217_inb : ∀ (v1594 : BitVec 32) (v1596 : BitVec 32) (k0_hw31 : k0_chk31 v1594 v1596) (k0_t6 : Fin (k0_t6_loop v1594 v1596).trips), ∀ (r : Fin 8), ∀ a, (k0_off217 v1594 v1596 k0_t6 (BitVec.ofNat 32 r.val)) a + S1x1x256.size a ≤ S7x64x256.size a := fun v1594 v1596 k0_hw31 k0_t6 r => k0_hw31.2.2.2.2.2.2.2.2.2.2.2.2.1 k0_t6 r
theorem k0_off219_inb : ∀ (v1594 : BitVec 32) (v1596 : BitVec 32) (k0_hw31 : k0_chk31 v1594 v1596) (k0_t6 : Fin (k0_t6_loop v1594 v1596).trips), ∀ (r : Fin 8), ∀ a, (k0_off219 v1594 v1596 k0_t6 (BitVec.ofNat 32 r.val)) a + S1x1x256.size a ≤ S7x64x256.size a := fun v1594 v1596 k0_hw31 k0_t6 r => k0_hw31.2.2.2.2.2.2.2.2.2.2.2.2.2.1 k0_t6 r
theorem k0_off221_inb : ∀ (v1594 : BitVec 32) (v1596 : BitVec 32) (k0_hw31 : k0_chk31 v1594 v1596) (k0_t6 : Fin (k0_t6_loop v1594 v1596).trips), ∀ (r : Fin 8), ∀ a, (k0_off221 v1594 v1596 k0_t6 (BitVec.ofNat 32 r.val)) a + S1x1x256.size a ≤ S7x64x256.size a := fun v1594 v1596 k0_hw31 k0_t6 r => k0_hw31.2.2.2.2.2.2.2.2.2.2.2.2.2.2.1 k0_t6 r
theorem k0_off223_inb : ∀ (v1594 : BitVec 32) (v1596 : BitVec 32) (k0_hw31 : k0_chk31 v1594 v1596) (k0_t6 : Fin (k0_t6_loop v1594 v1596).trips), ∀ (r : Fin 8), ∀ a, (k0_off223 v1594 v1596 k0_t6 (BitVec.ofNat 32 r.val)) a + S1x1x256.size a ≤ S7x64x256.size a := fun v1594 v1596 k0_hw31 k0_t6 r => k0_hw31.2.2.2.2.2.2.2.2.2.2.2.2.2.2.2 k0_t6 r

def k0_off224 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1642 : Index := Scalar.indexCast v1582
  let c0_1392 : Index := 0#32
  ![v1642.toNat, 0]
def k0_off225 (v1643 : BitVec 32) : Fin 3 → Nat :=
  let c0_1398 : Index := 0#32
  let c8_i32_1393 : BitVec 32 := 8#32
  let v1644 : BitVec 32 := Scalar.muli v1643 c8_i32_1393
  let v1650 : Index := Scalar.indexCast v1644
  let c0_1399 : Index := 0#32
  ![0, v1650.toNat, 0]

def k0_off226 (v1643 : BitVec 32) : Fin 3 → Nat :=
  let c1_1411 : Index := 1#32
  let c8_i32_1393 : BitVec 32 := 8#32
  let v1644 : BitVec 32 := Scalar.muli v1643 c8_i32_1393
  let v1664 : Index := Scalar.indexCast v1644
  let c0_1412 : Index := 0#32
  ![1, v1664.toNat, 0]
def k0_off227 (v1643 : BitVec 32) : Fin 3 → Nat :=
  let c2_1424 : Index := 2#32
  let c8_i32_1393 : BitVec 32 := 8#32
  let v1644 : BitVec 32 := Scalar.muli v1643 c8_i32_1393
  let v1678 : Index := Scalar.indexCast v1644
  let c0_1425 : Index := 0#32
  ![2, v1678.toNat, 0]
def k0_off228 (v1643 : BitVec 32) : Fin 3 → Nat :=
  let c3_1437 : Index := 3#32
  let c8_i32_1393 : BitVec 32 := 8#32
  let v1644 : BitVec 32 := Scalar.muli v1643 c8_i32_1393
  let v1692 : Index := Scalar.indexCast v1644
  let c0_1438 : Index := 0#32
  ![3, v1692.toNat, 0]
def k0_off229 (v1643 : BitVec 32) : Fin 3 → Nat :=
  let c4_1450 : Index := 4#32
  let c8_i32_1393 : BitVec 32 := 8#32
  let v1644 : BitVec 32 := Scalar.muli v1643 c8_i32_1393
  let v1706 : Index := Scalar.indexCast v1644
  let c0_1451 : Index := 0#32
  ![4, v1706.toNat, 0]
def k0_off230 (v1643 : BitVec 32) : Fin 3 → Nat :=
  let c5_1463 : Index := 5#32
  let c8_i32_1393 : BitVec 32 := 8#32
  let v1644 : BitVec 32 := Scalar.muli v1643 c8_i32_1393
  let v1720 : Index := Scalar.indexCast v1644
  let c0_1464 : Index := 0#32
  ![5, v1720.toNat, 0]
def k0_off231 (v1643 : BitVec 32) : Fin 3 → Nat :=
  let c6_1476 : Index := 6#32
  let c8_i32_1393 : BitVec 32 := 8#32
  let v1644 : BitVec 32 := Scalar.muli v1643 c8_i32_1393
  let v1734 : Index := Scalar.indexCast v1644
  let c0_1477 : Index := 0#32
  ![6, v1734.toNat, 0]

def k0_chk39 (v1643 : BitVec 32) : Prop :=
  (∀ a, (k0_off225 v1643) a + S1x24x256.size a ≤ S7x64x256.size a) ∧
  (∀ a, (k0_off226 v1643) a + S1x24x256.size a ≤ S7x64x256.size a) ∧
  (∀ a, (k0_off227 v1643) a + S1x24x256.size a ≤ S7x64x256.size a) ∧
  (∀ a, (k0_off228 v1643) a + S1x24x256.size a ≤ S7x64x256.size a) ∧
  (∀ a, (k0_off229 v1643) a + S1x24x256.size a ≤ S7x64x256.size a) ∧
  (∀ a, (k0_off230 v1643) a + S1x24x256.size a ≤ S7x64x256.size a) ∧
  (∀ a, (k0_off231 v1643) a + S1x24x256.size a ≤ S7x64x256.size a)
theorem k0_off225_inb : ∀ (v1643 : BitVec 32) (k0_hw39 : k0_chk39 v1643), ∀ a, (k0_off225 v1643) a + S1x24x256.size a ≤ S7x64x256.size a := fun v1643 k0_hw39 => k0_hw39.1
theorem k0_off226_inb : ∀ (v1643 : BitVec 32) (k0_hw39 : k0_chk39 v1643), ∀ a, (k0_off226 v1643) a + S1x24x256.size a ≤ S7x64x256.size a := fun v1643 k0_hw39 => k0_hw39.2.1
theorem k0_off227_inb : ∀ (v1643 : BitVec 32) (k0_hw39 : k0_chk39 v1643), ∀ a, (k0_off227 v1643) a + S1x24x256.size a ≤ S7x64x256.size a := fun v1643 k0_hw39 => k0_hw39.2.2.1
theorem k0_off228_inb : ∀ (v1643 : BitVec 32) (k0_hw39 : k0_chk39 v1643), ∀ a, (k0_off228 v1643) a + S1x24x256.size a ≤ S7x64x256.size a := fun v1643 k0_hw39 => k0_hw39.2.2.2.1
theorem k0_off229_inb : ∀ (v1643 : BitVec 32) (k0_hw39 : k0_chk39 v1643), ∀ a, (k0_off229 v1643) a + S1x24x256.size a ≤ S7x64x256.size a := fun v1643 k0_hw39 => k0_hw39.2.2.2.2.1
theorem k0_off230_inb : ∀ (v1643 : BitVec 32) (k0_hw39 : k0_chk39 v1643), ∀ a, (k0_off230 v1643) a + S1x24x256.size a ≤ S7x64x256.size a := fun v1643 k0_hw39 => k0_hw39.2.2.2.2.2.1
theorem k0_off231_inb : ∀ (v1643 : BitVec 32) (k0_hw39 : k0_chk39 v1643), ∀ a, (k0_off231 v1643) a + S1x24x256.size a ≤ S7x64x256.size a := fun v1643 k0_hw39 => k0_hw39.2.2.2.2.2.2

def k0_off232 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1746 : Index := Scalar.indexCast v1582
  let c1_1485 : Index := 1#32
  ![v1746.toNat, 1]
def k0_off233 (v1747 : BitVec 32) : Fin 3 → Nat :=
  let c0_1491 : Index := 0#32
  let c8_i32_1486 : BitVec 32 := 8#32
  let v1748 : BitVec 32 := Scalar.muli v1747 c8_i32_1486
  let v1754 : Index := Scalar.indexCast v1748
  let c0_1492 : Index := 0#32
  ![0, v1754.toNat, 0]

def k0_off234 (v1747 : BitVec 32) : Fin 3 → Nat :=
  let c1_1504 : Index := 1#32
  let c8_i32_1486 : BitVec 32 := 8#32
  let v1748 : BitVec 32 := Scalar.muli v1747 c8_i32_1486
  let v1768 : Index := Scalar.indexCast v1748
  let c0_1505 : Index := 0#32
  ![1, v1768.toNat, 0]
def k0_off235 (v1747 : BitVec 32) : Fin 3 → Nat :=
  let c2_1517 : Index := 2#32
  let c8_i32_1486 : BitVec 32 := 8#32
  let v1748 : BitVec 32 := Scalar.muli v1747 c8_i32_1486
  let v1782 : Index := Scalar.indexCast v1748
  let c0_1518 : Index := 0#32
  ![2, v1782.toNat, 0]
def k0_off236 (v1747 : BitVec 32) : Fin 3 → Nat :=
  let c3_1530 : Index := 3#32
  let c8_i32_1486 : BitVec 32 := 8#32
  let v1748 : BitVec 32 := Scalar.muli v1747 c8_i32_1486
  let v1796 : Index := Scalar.indexCast v1748
  let c0_1531 : Index := 0#32
  ![3, v1796.toNat, 0]
def k0_off237 (v1747 : BitVec 32) : Fin 3 → Nat :=
  let c4_1543 : Index := 4#32
  let c8_i32_1486 : BitVec 32 := 8#32
  let v1748 : BitVec 32 := Scalar.muli v1747 c8_i32_1486
  let v1810 : Index := Scalar.indexCast v1748
  let c0_1544 : Index := 0#32
  ![4, v1810.toNat, 0]
def k0_off238 (v1747 : BitVec 32) : Fin 3 → Nat :=
  let c5_1556 : Index := 5#32
  let c8_i32_1486 : BitVec 32 := 8#32
  let v1748 : BitVec 32 := Scalar.muli v1747 c8_i32_1486
  let v1824 : Index := Scalar.indexCast v1748
  let c0_1557 : Index := 0#32
  ![5, v1824.toNat, 0]
def k0_off239 (v1747 : BitVec 32) : Fin 3 → Nat :=
  let c6_1569 : Index := 6#32
  let c8_i32_1486 : BitVec 32 := 8#32
  let v1748 : BitVec 32 := Scalar.muli v1747 c8_i32_1486
  let v1838 : Index := Scalar.indexCast v1748
  let c0_1570 : Index := 0#32
  ![6, v1838.toNat, 0]

def k0_chk40 (v1747 : BitVec 32) : Prop :=
  (∀ a, (k0_off233 v1747) a + S1x24x256.size a ≤ S7x64x256.size a) ∧
  (∀ a, (k0_off234 v1747) a + S1x24x256.size a ≤ S7x64x256.size a) ∧
  (∀ a, (k0_off235 v1747) a + S1x24x256.size a ≤ S7x64x256.size a) ∧
  (∀ a, (k0_off236 v1747) a + S1x24x256.size a ≤ S7x64x256.size a) ∧
  (∀ a, (k0_off237 v1747) a + S1x24x256.size a ≤ S7x64x256.size a) ∧
  (∀ a, (k0_off238 v1747) a + S1x24x256.size a ≤ S7x64x256.size a) ∧
  (∀ a, (k0_off239 v1747) a + S1x24x256.size a ≤ S7x64x256.size a)
theorem k0_off233_inb : ∀ (v1747 : BitVec 32) (k0_hw40 : k0_chk40 v1747), ∀ a, (k0_off233 v1747) a + S1x24x256.size a ≤ S7x64x256.size a := fun v1747 k0_hw40 => k0_hw40.1
theorem k0_off234_inb : ∀ (v1747 : BitVec 32) (k0_hw40 : k0_chk40 v1747), ∀ a, (k0_off234 v1747) a + S1x24x256.size a ≤ S7x64x256.size a := fun v1747 k0_hw40 => k0_hw40.2.1
theorem k0_off235_inb : ∀ (v1747 : BitVec 32) (k0_hw40 : k0_chk40 v1747), ∀ a, (k0_off235 v1747) a + S1x24x256.size a ≤ S7x64x256.size a := fun v1747 k0_hw40 => k0_hw40.2.2.1
theorem k0_off236_inb : ∀ (v1747 : BitVec 32) (k0_hw40 : k0_chk40 v1747), ∀ a, (k0_off236 v1747) a + S1x24x256.size a ≤ S7x64x256.size a := fun v1747 k0_hw40 => k0_hw40.2.2.2.1
theorem k0_off237_inb : ∀ (v1747 : BitVec 32) (k0_hw40 : k0_chk40 v1747), ∀ a, (k0_off237 v1747) a + S1x24x256.size a ≤ S7x64x256.size a := fun v1747 k0_hw40 => k0_hw40.2.2.2.2.1
theorem k0_off238_inb : ∀ (v1747 : BitVec 32) (k0_hw40 : k0_chk40 v1747), ∀ a, (k0_off238 v1747) a + S1x24x256.size a ≤ S7x64x256.size a := fun v1747 k0_hw40 => k0_hw40.2.2.2.2.2.1
theorem k0_off239_inb : ∀ (v1747 : BitVec 32) (k0_hw40 : k0_chk40 v1747), ∀ a, (k0_off239 v1747) a + S1x24x256.size a ≤ S7x64x256.size a := fun v1747 k0_hw40 => k0_hw40.2.2.2.2.2.2

def k0_off240 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1850 : Index := Scalar.indexCast v1582
  let c2_1578 : Index := 2#32
  ![v1850.toNat, 2]
def k0_off241 (v1851 : BitVec 32) : Fin 3 → Nat :=
  let c0_1584 : Index := 0#32
  let c8_i32_1579 : BitVec 32 := 8#32
  let v1852 : BitVec 32 := Scalar.muli v1851 c8_i32_1579
  let v1858 : Index := Scalar.indexCast v1852
  let c0_1585 : Index := 0#32
  ![0, v1858.toNat, 0]

def k0_off242 (v1851 : BitVec 32) : Fin 3 → Nat :=
  let c1_1597 : Index := 1#32
  let c8_i32_1579 : BitVec 32 := 8#32
  let v1852 : BitVec 32 := Scalar.muli v1851 c8_i32_1579
  let v1872 : Index := Scalar.indexCast v1852
  let c0_1598 : Index := 0#32
  ![1, v1872.toNat, 0]
def k0_off243 (v1851 : BitVec 32) : Fin 3 → Nat :=
  let c2_1610 : Index := 2#32
  let c8_i32_1579 : BitVec 32 := 8#32
  let v1852 : BitVec 32 := Scalar.muli v1851 c8_i32_1579
  let v1886 : Index := Scalar.indexCast v1852
  let c0_1611 : Index := 0#32
  ![2, v1886.toNat, 0]
def k0_off244 (v1851 : BitVec 32) : Fin 3 → Nat :=
  let c3_1623 : Index := 3#32
  let c8_i32_1579 : BitVec 32 := 8#32
  let v1852 : BitVec 32 := Scalar.muli v1851 c8_i32_1579
  let v1900 : Index := Scalar.indexCast v1852
  let c0_1624 : Index := 0#32
  ![3, v1900.toNat, 0]
def k0_off245 (v1851 : BitVec 32) : Fin 3 → Nat :=
  let c4_1636 : Index := 4#32
  let c8_i32_1579 : BitVec 32 := 8#32
  let v1852 : BitVec 32 := Scalar.muli v1851 c8_i32_1579
  let v1914 : Index := Scalar.indexCast v1852
  let c0_1637 : Index := 0#32
  ![4, v1914.toNat, 0]
def k0_off246 (v1851 : BitVec 32) : Fin 3 → Nat :=
  let c5_1649 : Index := 5#32
  let c8_i32_1579 : BitVec 32 := 8#32
  let v1852 : BitVec 32 := Scalar.muli v1851 c8_i32_1579
  let v1928 : Index := Scalar.indexCast v1852
  let c0_1650 : Index := 0#32
  ![5, v1928.toNat, 0]
def k0_off247 (v1851 : BitVec 32) : Fin 3 → Nat :=
  let c6_1662 : Index := 6#32
  let c8_i32_1579 : BitVec 32 := 8#32
  let v1852 : BitVec 32 := Scalar.muli v1851 c8_i32_1579
  let v1942 : Index := Scalar.indexCast v1852
  let c0_1663 : Index := 0#32
  ![6, v1942.toNat, 0]

def k0_chk41 (v1851 : BitVec 32) : Prop :=
  (∀ a, (k0_off241 v1851) a + S1x24x256.size a ≤ S7x64x256.size a) ∧
  (∀ a, (k0_off242 v1851) a + S1x24x256.size a ≤ S7x64x256.size a) ∧
  (∀ a, (k0_off243 v1851) a + S1x24x256.size a ≤ S7x64x256.size a) ∧
  (∀ a, (k0_off244 v1851) a + S1x24x256.size a ≤ S7x64x256.size a) ∧
  (∀ a, (k0_off245 v1851) a + S1x24x256.size a ≤ S7x64x256.size a) ∧
  (∀ a, (k0_off246 v1851) a + S1x24x256.size a ≤ S7x64x256.size a) ∧
  (∀ a, (k0_off247 v1851) a + S1x24x256.size a ≤ S7x64x256.size a)
theorem k0_off241_inb : ∀ (v1851 : BitVec 32) (k0_hw41 : k0_chk41 v1851), ∀ a, (k0_off241 v1851) a + S1x24x256.size a ≤ S7x64x256.size a := fun v1851 k0_hw41 => k0_hw41.1
theorem k0_off242_inb : ∀ (v1851 : BitVec 32) (k0_hw41 : k0_chk41 v1851), ∀ a, (k0_off242 v1851) a + S1x24x256.size a ≤ S7x64x256.size a := fun v1851 k0_hw41 => k0_hw41.2.1
theorem k0_off243_inb : ∀ (v1851 : BitVec 32) (k0_hw41 : k0_chk41 v1851), ∀ a, (k0_off243 v1851) a + S1x24x256.size a ≤ S7x64x256.size a := fun v1851 k0_hw41 => k0_hw41.2.2.1
theorem k0_off244_inb : ∀ (v1851 : BitVec 32) (k0_hw41 : k0_chk41 v1851), ∀ a, (k0_off244 v1851) a + S1x24x256.size a ≤ S7x64x256.size a := fun v1851 k0_hw41 => k0_hw41.2.2.2.1
theorem k0_off245_inb : ∀ (v1851 : BitVec 32) (k0_hw41 : k0_chk41 v1851), ∀ a, (k0_off245 v1851) a + S1x24x256.size a ≤ S7x64x256.size a := fun v1851 k0_hw41 => k0_hw41.2.2.2.2.1
theorem k0_off246_inb : ∀ (v1851 : BitVec 32) (k0_hw41 : k0_chk41 v1851), ∀ a, (k0_off246 v1851) a + S1x24x256.size a ≤ S7x64x256.size a := fun v1851 k0_hw41 => k0_hw41.2.2.2.2.2.1
theorem k0_off247_inb : ∀ (v1851 : BitVec 32) (k0_hw41 : k0_chk41 v1851), ∀ a, (k0_off247 v1851) a + S1x24x256.size a ≤ S7x64x256.size a := fun v1851 k0_hw41 => k0_hw41.2.2.2.2.2.2

def k0_off248 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v1954 : Index := Scalar.indexCast v1582
  let c3_1671 : Index := 3#32
  ![v1954.toNat, 3]
def k0_off249 (v1955 : BitVec 32) : Fin 3 → Nat :=
  let c0_1677 : Index := 0#32
  let c8_i32_1672 : BitVec 32 := 8#32
  let v1956 : BitVec 32 := Scalar.muli v1955 c8_i32_1672
  let v1962 : Index := Scalar.indexCast v1956
  let c0_1678 : Index := 0#32
  ![0, v1962.toNat, 0]

def k0_off250 (v1955 : BitVec 32) : Fin 3 → Nat :=
  let c1_1690 : Index := 1#32
  let c8_i32_1672 : BitVec 32 := 8#32
  let v1956 : BitVec 32 := Scalar.muli v1955 c8_i32_1672
  let v1976 : Index := Scalar.indexCast v1956
  let c0_1691 : Index := 0#32
  ![1, v1976.toNat, 0]
def k0_off251 (v1955 : BitVec 32) : Fin 3 → Nat :=
  let c2_1703 : Index := 2#32
  let c8_i32_1672 : BitVec 32 := 8#32
  let v1956 : BitVec 32 := Scalar.muli v1955 c8_i32_1672
  let v1990 : Index := Scalar.indexCast v1956
  let c0_1704 : Index := 0#32
  ![2, v1990.toNat, 0]
def k0_off252 (v1955 : BitVec 32) : Fin 3 → Nat :=
  let c3_1716 : Index := 3#32
  let c8_i32_1672 : BitVec 32 := 8#32
  let v1956 : BitVec 32 := Scalar.muli v1955 c8_i32_1672
  let v2004 : Index := Scalar.indexCast v1956
  let c0_1717 : Index := 0#32
  ![3, v2004.toNat, 0]
def k0_off253 (v1955 : BitVec 32) : Fin 3 → Nat :=
  let c4_1729 : Index := 4#32
  let c8_i32_1672 : BitVec 32 := 8#32
  let v1956 : BitVec 32 := Scalar.muli v1955 c8_i32_1672
  let v2018 : Index := Scalar.indexCast v1956
  let c0_1730 : Index := 0#32
  ![4, v2018.toNat, 0]
def k0_off254 (v1955 : BitVec 32) : Fin 3 → Nat :=
  let c5_1742 : Index := 5#32
  let c8_i32_1672 : BitVec 32 := 8#32
  let v1956 : BitVec 32 := Scalar.muli v1955 c8_i32_1672
  let v2032 : Index := Scalar.indexCast v1956
  let c0_1743 : Index := 0#32
  ![5, v2032.toNat, 0]
def k0_off255 (v1955 : BitVec 32) : Fin 3 → Nat :=
  let c6_1755 : Index := 6#32
  let c8_i32_1672 : BitVec 32 := 8#32
  let v1956 : BitVec 32 := Scalar.muli v1955 c8_i32_1672
  let v2046 : Index := Scalar.indexCast v1956
  let c0_1756 : Index := 0#32
  ![6, v2046.toNat, 0]

def k0_chk42 (v1955 : BitVec 32) : Prop :=
  (∀ a, (k0_off249 v1955) a + S1x24x256.size a ≤ S7x64x256.size a) ∧
  (∀ a, (k0_off250 v1955) a + S1x24x256.size a ≤ S7x64x256.size a) ∧
  (∀ a, (k0_off251 v1955) a + S1x24x256.size a ≤ S7x64x256.size a) ∧
  (∀ a, (k0_off252 v1955) a + S1x24x256.size a ≤ S7x64x256.size a) ∧
  (∀ a, (k0_off253 v1955) a + S1x24x256.size a ≤ S7x64x256.size a) ∧
  (∀ a, (k0_off254 v1955) a + S1x24x256.size a ≤ S7x64x256.size a) ∧
  (∀ a, (k0_off255 v1955) a + S1x24x256.size a ≤ S7x64x256.size a)
theorem k0_off249_inb : ∀ (v1955 : BitVec 32) (k0_hw42 : k0_chk42 v1955), ∀ a, (k0_off249 v1955) a + S1x24x256.size a ≤ S7x64x256.size a := fun v1955 k0_hw42 => k0_hw42.1
theorem k0_off250_inb : ∀ (v1955 : BitVec 32) (k0_hw42 : k0_chk42 v1955), ∀ a, (k0_off250 v1955) a + S1x24x256.size a ≤ S7x64x256.size a := fun v1955 k0_hw42 => k0_hw42.2.1
theorem k0_off251_inb : ∀ (v1955 : BitVec 32) (k0_hw42 : k0_chk42 v1955), ∀ a, (k0_off251 v1955) a + S1x24x256.size a ≤ S7x64x256.size a := fun v1955 k0_hw42 => k0_hw42.2.2.1
theorem k0_off252_inb : ∀ (v1955 : BitVec 32) (k0_hw42 : k0_chk42 v1955), ∀ a, (k0_off252 v1955) a + S1x24x256.size a ≤ S7x64x256.size a := fun v1955 k0_hw42 => k0_hw42.2.2.2.1
theorem k0_off253_inb : ∀ (v1955 : BitVec 32) (k0_hw42 : k0_chk42 v1955), ∀ a, (k0_off253 v1955) a + S1x24x256.size a ≤ S7x64x256.size a := fun v1955 k0_hw42 => k0_hw42.2.2.2.2.1
theorem k0_off254_inb : ∀ (v1955 : BitVec 32) (k0_hw42 : k0_chk42 v1955), ∀ a, (k0_off254 v1955) a + S1x24x256.size a ≤ S7x64x256.size a := fun v1955 k0_hw42 => k0_hw42.2.2.2.2.2.1
theorem k0_off255_inb : ∀ (v1955 : BitVec 32) (k0_hw42 : k0_chk42 v1955), ∀ a, (k0_off255 v1955) a + S1x24x256.size a ≤ S7x64x256.size a := fun v1955 k0_hw42 => k0_hw42.2.2.2.2.2.2

def k0_off256 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v2058 : Index := Scalar.indexCast v1582
  let c4_1764 : Index := 4#32
  ![v2058.toNat, 4]
def k0_off257 (v2059 : BitVec 32) : Fin 3 → Nat :=
  let c0_1770 : Index := 0#32
  let c8_i32_1765 : BitVec 32 := 8#32
  let v2060 : BitVec 32 := Scalar.muli v2059 c8_i32_1765
  let v2066 : Index := Scalar.indexCast v2060
  let c0_1771 : Index := 0#32
  ![0, v2066.toNat, 0]

def k0_off258 (v2059 : BitVec 32) : Fin 3 → Nat :=
  let c1_1783 : Index := 1#32
  let c8_i32_1765 : BitVec 32 := 8#32
  let v2060 : BitVec 32 := Scalar.muli v2059 c8_i32_1765
  let v2080 : Index := Scalar.indexCast v2060
  let c0_1784 : Index := 0#32
  ![1, v2080.toNat, 0]
def k0_off259 (v2059 : BitVec 32) : Fin 3 → Nat :=
  let c2_1796 : Index := 2#32
  let c8_i32_1765 : BitVec 32 := 8#32
  let v2060 : BitVec 32 := Scalar.muli v2059 c8_i32_1765
  let v2094 : Index := Scalar.indexCast v2060
  let c0_1797 : Index := 0#32
  ![2, v2094.toNat, 0]
def k0_off260 (v2059 : BitVec 32) : Fin 3 → Nat :=
  let c3_1809 : Index := 3#32
  let c8_i32_1765 : BitVec 32 := 8#32
  let v2060 : BitVec 32 := Scalar.muli v2059 c8_i32_1765
  let v2108 : Index := Scalar.indexCast v2060
  let c0_1810 : Index := 0#32
  ![3, v2108.toNat, 0]
def k0_off261 (v2059 : BitVec 32) : Fin 3 → Nat :=
  let c4_1822 : Index := 4#32
  let c8_i32_1765 : BitVec 32 := 8#32
  let v2060 : BitVec 32 := Scalar.muli v2059 c8_i32_1765
  let v2122 : Index := Scalar.indexCast v2060
  let c0_1823 : Index := 0#32
  ![4, v2122.toNat, 0]
def k0_off262 (v2059 : BitVec 32) : Fin 3 → Nat :=
  let c5_1835 : Index := 5#32
  let c8_i32_1765 : BitVec 32 := 8#32
  let v2060 : BitVec 32 := Scalar.muli v2059 c8_i32_1765
  let v2136 : Index := Scalar.indexCast v2060
  let c0_1836 : Index := 0#32
  ![5, v2136.toNat, 0]
def k0_off263 (v2059 : BitVec 32) : Fin 3 → Nat :=
  let c6_1848 : Index := 6#32
  let c8_i32_1765 : BitVec 32 := 8#32
  let v2060 : BitVec 32 := Scalar.muli v2059 c8_i32_1765
  let v2150 : Index := Scalar.indexCast v2060
  let c0_1849 : Index := 0#32
  ![6, v2150.toNat, 0]

def k0_chk43 (v2059 : BitVec 32) : Prop :=
  (∀ a, (k0_off257 v2059) a + S1x24x256.size a ≤ S7x64x256.size a) ∧
  (∀ a, (k0_off258 v2059) a + S1x24x256.size a ≤ S7x64x256.size a) ∧
  (∀ a, (k0_off259 v2059) a + S1x24x256.size a ≤ S7x64x256.size a) ∧
  (∀ a, (k0_off260 v2059) a + S1x24x256.size a ≤ S7x64x256.size a) ∧
  (∀ a, (k0_off261 v2059) a + S1x24x256.size a ≤ S7x64x256.size a) ∧
  (∀ a, (k0_off262 v2059) a + S1x24x256.size a ≤ S7x64x256.size a) ∧
  (∀ a, (k0_off263 v2059) a + S1x24x256.size a ≤ S7x64x256.size a)
theorem k0_off257_inb : ∀ (v2059 : BitVec 32) (k0_hw43 : k0_chk43 v2059), ∀ a, (k0_off257 v2059) a + S1x24x256.size a ≤ S7x64x256.size a := fun v2059 k0_hw43 => k0_hw43.1
theorem k0_off258_inb : ∀ (v2059 : BitVec 32) (k0_hw43 : k0_chk43 v2059), ∀ a, (k0_off258 v2059) a + S1x24x256.size a ≤ S7x64x256.size a := fun v2059 k0_hw43 => k0_hw43.2.1
theorem k0_off259_inb : ∀ (v2059 : BitVec 32) (k0_hw43 : k0_chk43 v2059), ∀ a, (k0_off259 v2059) a + S1x24x256.size a ≤ S7x64x256.size a := fun v2059 k0_hw43 => k0_hw43.2.2.1
theorem k0_off260_inb : ∀ (v2059 : BitVec 32) (k0_hw43 : k0_chk43 v2059), ∀ a, (k0_off260 v2059) a + S1x24x256.size a ≤ S7x64x256.size a := fun v2059 k0_hw43 => k0_hw43.2.2.2.1
theorem k0_off261_inb : ∀ (v2059 : BitVec 32) (k0_hw43 : k0_chk43 v2059), ∀ a, (k0_off261 v2059) a + S1x24x256.size a ≤ S7x64x256.size a := fun v2059 k0_hw43 => k0_hw43.2.2.2.2.1
theorem k0_off262_inb : ∀ (v2059 : BitVec 32) (k0_hw43 : k0_chk43 v2059), ∀ a, (k0_off262 v2059) a + S1x24x256.size a ≤ S7x64x256.size a := fun v2059 k0_hw43 => k0_hw43.2.2.2.2.2.1
theorem k0_off263_inb : ∀ (v2059 : BitVec 32) (k0_hw43 : k0_chk43 v2059), ∀ a, (k0_off263 v2059) a + S1x24x256.size a ≤ S7x64x256.size a := fun v2059 k0_hw43 => k0_hw43.2.2.2.2.2.2

def k0_off264 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v2162 : Index := Scalar.indexCast v1582
  let c5_1857 : Index := 5#32
  ![v2162.toNat, 5]
def k0_off265 (v2163 : BitVec 32) : Fin 3 → Nat :=
  let c0_1863 : Index := 0#32
  let c8_i32_1858 : BitVec 32 := 8#32
  let v2164 : BitVec 32 := Scalar.muli v2163 c8_i32_1858
  let v2170 : Index := Scalar.indexCast v2164
  let c0_1864 : Index := 0#32
  ![0, v2170.toNat, 0]

def k0_off266 (v2163 : BitVec 32) : Fin 3 → Nat :=
  let c1_1876 : Index := 1#32
  let c8_i32_1858 : BitVec 32 := 8#32
  let v2164 : BitVec 32 := Scalar.muli v2163 c8_i32_1858
  let v2184 : Index := Scalar.indexCast v2164
  let c0_1877 : Index := 0#32
  ![1, v2184.toNat, 0]
def k0_off267 (v2163 : BitVec 32) : Fin 3 → Nat :=
  let c2_1889 : Index := 2#32
  let c8_i32_1858 : BitVec 32 := 8#32
  let v2164 : BitVec 32 := Scalar.muli v2163 c8_i32_1858
  let v2198 : Index := Scalar.indexCast v2164
  let c0_1890 : Index := 0#32
  ![2, v2198.toNat, 0]
def k0_off268 (v2163 : BitVec 32) : Fin 3 → Nat :=
  let c3_1902 : Index := 3#32
  let c8_i32_1858 : BitVec 32 := 8#32
  let v2164 : BitVec 32 := Scalar.muli v2163 c8_i32_1858
  let v2212 : Index := Scalar.indexCast v2164
  let c0_1903 : Index := 0#32
  ![3, v2212.toNat, 0]
def k0_off269 (v2163 : BitVec 32) : Fin 3 → Nat :=
  let c4_1915 : Index := 4#32
  let c8_i32_1858 : BitVec 32 := 8#32
  let v2164 : BitVec 32 := Scalar.muli v2163 c8_i32_1858
  let v2226 : Index := Scalar.indexCast v2164
  let c0_1916 : Index := 0#32
  ![4, v2226.toNat, 0]
def k0_off270 (v2163 : BitVec 32) : Fin 3 → Nat :=
  let c5_1928 : Index := 5#32
  let c8_i32_1858 : BitVec 32 := 8#32
  let v2164 : BitVec 32 := Scalar.muli v2163 c8_i32_1858
  let v2240 : Index := Scalar.indexCast v2164
  let c0_1929 : Index := 0#32
  ![5, v2240.toNat, 0]
def k0_off271 (v2163 : BitVec 32) : Fin 3 → Nat :=
  let c6_1941 : Index := 6#32
  let c8_i32_1858 : BitVec 32 := 8#32
  let v2164 : BitVec 32 := Scalar.muli v2163 c8_i32_1858
  let v2254 : Index := Scalar.indexCast v2164
  let c0_1942 : Index := 0#32
  ![6, v2254.toNat, 0]

def k0_chk44 (v2163 : BitVec 32) : Prop :=
  (∀ a, (k0_off265 v2163) a + S1x24x256.size a ≤ S7x64x256.size a) ∧
  (∀ a, (k0_off266 v2163) a + S1x24x256.size a ≤ S7x64x256.size a) ∧
  (∀ a, (k0_off267 v2163) a + S1x24x256.size a ≤ S7x64x256.size a) ∧
  (∀ a, (k0_off268 v2163) a + S1x24x256.size a ≤ S7x64x256.size a) ∧
  (∀ a, (k0_off269 v2163) a + S1x24x256.size a ≤ S7x64x256.size a) ∧
  (∀ a, (k0_off270 v2163) a + S1x24x256.size a ≤ S7x64x256.size a) ∧
  (∀ a, (k0_off271 v2163) a + S1x24x256.size a ≤ S7x64x256.size a)
theorem k0_off265_inb : ∀ (v2163 : BitVec 32) (k0_hw44 : k0_chk44 v2163), ∀ a, (k0_off265 v2163) a + S1x24x256.size a ≤ S7x64x256.size a := fun v2163 k0_hw44 => k0_hw44.1
theorem k0_off266_inb : ∀ (v2163 : BitVec 32) (k0_hw44 : k0_chk44 v2163), ∀ a, (k0_off266 v2163) a + S1x24x256.size a ≤ S7x64x256.size a := fun v2163 k0_hw44 => k0_hw44.2.1
theorem k0_off267_inb : ∀ (v2163 : BitVec 32) (k0_hw44 : k0_chk44 v2163), ∀ a, (k0_off267 v2163) a + S1x24x256.size a ≤ S7x64x256.size a := fun v2163 k0_hw44 => k0_hw44.2.2.1
theorem k0_off268_inb : ∀ (v2163 : BitVec 32) (k0_hw44 : k0_chk44 v2163), ∀ a, (k0_off268 v2163) a + S1x24x256.size a ≤ S7x64x256.size a := fun v2163 k0_hw44 => k0_hw44.2.2.2.1
theorem k0_off269_inb : ∀ (v2163 : BitVec 32) (k0_hw44 : k0_chk44 v2163), ∀ a, (k0_off269 v2163) a + S1x24x256.size a ≤ S7x64x256.size a := fun v2163 k0_hw44 => k0_hw44.2.2.2.2.1
theorem k0_off270_inb : ∀ (v2163 : BitVec 32) (k0_hw44 : k0_chk44 v2163), ∀ a, (k0_off270 v2163) a + S1x24x256.size a ≤ S7x64x256.size a := fun v2163 k0_hw44 => k0_hw44.2.2.2.2.2.1
theorem k0_off271_inb : ∀ (v2163 : BitVec 32) (k0_hw44 : k0_chk44 v2163), ∀ a, (k0_off271 v2163) a + S1x24x256.size a ≤ S7x64x256.size a := fun v2163 k0_hw44 => k0_hw44.2.2.2.2.2.2

def k0_off272 (i : grid0.Coords) : Fin 2 → Nat :=
  let arg0 : BitVec 32 := BitVec.ofNat 32 (i 0).val
  let c4_i32_1359 : BitVec 32 := 4#32
  let v1581 : BitVec 32 := Scalar.muli arg0 c4_i32_1359
  let c2_i32 : BitVec 32 := 2#32
  let v1582 : BitVec 32 := Scalar.addi v1581 c2_i32
  let v2266 : Index := Scalar.indexCast v1582
  let c6_1950 : Index := 6#32
  ![v2266.toNat, 6]
def k0_off273 (v2267 : BitVec 32) : Fin 3 → Nat :=
  let c0_1956 : Index := 0#32
  let c8_i32_1951 : BitVec 32 := 8#32
  let v2268 : BitVec 32 := Scalar.muli v2267 c8_i32_1951
  let v2274 : Index := Scalar.indexCast v2268
  let c0_1957 : Index := 0#32
  ![0, v2274.toNat, 0]

def k0_off274 (v2267 : BitVec 32) : Fin 3 → Nat :=
  let c1_1969 : Index := 1#32
  let c8_i32_1951 : BitVec 32 := 8#32
  let v2268 : BitVec 32 := Scalar.muli v2267 c8_i32_1951
  let v2288 : Index := Scalar.indexCast v2268
  let c0_1970 : Index := 0#32
  ![1, v2288.toNat, 0]
def k0_off275 (v2267 : BitVec 32) : Fin 3 → Nat :=
  let c2_1982 : Index := 2#32
  let c8_i32_1951 : BitVec 32 := 8#32
  let v2268 : BitVec 32 := Scalar.muli v2267 c8_i32_1951
  let v2302 : Index := Scalar.indexCast v2268
  let c0_1983 : Index := 0#32
  ![2, v2302.toNat, 0]
def k0_off276 (v2267 : BitVec 32) : Fin 3 → Nat :=
  let c3_1995 : Index := 3#32
  let c8_i32_1951 : BitVec 32 := 8#32
  let v2268 : BitVec 32 := Scalar.muli v2267 c8_i32_1951
  let v2316 : Index := Scalar.indexCast v2268
  let c0_1996 : Index := 0#32
  ![3, v2316.toNat, 0]
def k0_off277 (v2267 : BitVec 32) : Fin 3 → Nat :=
  let c4_2008 : Index := 4#32
  let c8_i32_1951 : BitVec 32 := 8#32
  let v2268 : BitVec 32 := Scalar.muli v2267 c8_i32_1951
  let v2330 : Index := Scalar.indexCast v2268
  let c0_2009 : Index := 0#32
  ![4, v2330.toNat, 0]
def k0_off278 (v2267 : BitVec 32) : Fin 3 → Nat :=
  let c5_2021 : Index := 5#32
  let c8_i32_1951 : BitVec 32 := 8#32
  let v2268 : BitVec 32 := Scalar.muli v2267 c8_i32_1951
  let v2344 : Index := Scalar.indexCast v2268
  let c0_2022 : Index := 0#32
  ![5, v2344.toNat, 0]
def k0_off279 (v2267 : BitVec 32) : Fin 3 → Nat :=
  let c6_2034 : Index := 6#32
  let c8_i32_1951 : BitVec 32 := 8#32
  let v2268 : BitVec 32 := Scalar.muli v2267 c8_i32_1951
  let v2358 : Index := Scalar.indexCast v2268
  let c0_2035 : Index := 0#32
  ![6, v2358.toNat, 0]

def k0_chk45 (v2267 : BitVec 32) : Prop :=
  (∀ a, (k0_off273 v2267) a + S1x24x256.size a ≤ S7x64x256.size a) ∧
  (∀ a, (k0_off274 v2267) a + S1x24x256.size a ≤ S7x64x256.size a) ∧
  (∀ a, (k0_off275 v2267) a + S1x24x256.size a ≤ S7x64x256.size a) ∧
  (∀ a, (k0_off276 v2267) a + S1x24x256.size a ≤ S7x64x256.size a) ∧
  (∀ a, (k0_off277 v2267) a + S1x24x256.size a ≤ S7x64x256.size a) ∧
  (∀ a, (k0_off278 v2267) a + S1x24x256.size a ≤ S7x64x256.size a) ∧
  (∀ a, (k0_off279 v2267) a + S1x24x256.size a ≤ S7x64x256.size a)
theorem k0_off273_inb : ∀ (v2267 : BitVec 32) (k0_hw45 : k0_chk45 v2267), ∀ a, (k0_off273 v2267) a + S1x24x256.size a ≤ S7x64x256.size a := fun v2267 k0_hw45 => k0_hw45.1
theorem k0_off274_inb : ∀ (v2267 : BitVec 32) (k0_hw45 : k0_chk45 v2267), ∀ a, (k0_off274 v2267) a + S1x24x256.size a ≤ S7x64x256.size a := fun v2267 k0_hw45 => k0_hw45.2.1
theorem k0_off275_inb : ∀ (v2267 : BitVec 32) (k0_hw45 : k0_chk45 v2267), ∀ a, (k0_off275 v2267) a + S1x24x256.size a ≤ S7x64x256.size a := fun v2267 k0_hw45 => k0_hw45.2.2.1
theorem k0_off276_inb : ∀ (v2267 : BitVec 32) (k0_hw45 : k0_chk45 v2267), ∀ a, (k0_off276 v2267) a + S1x24x256.size a ≤ S7x64x256.size a := fun v2267 k0_hw45 => k0_hw45.2.2.2.1
theorem k0_off277_inb : ∀ (v2267 : BitVec 32) (k0_hw45 : k0_chk45 v2267), ∀ a, (k0_off277 v2267) a + S1x24x256.size a ≤ S7x64x256.size a := fun v2267 k0_hw45 => k0_hw45.2.2.2.2.1
theorem k0_off278_inb : ∀ (v2267 : BitVec 32) (k0_hw45 : k0_chk45 v2267), ∀ a, (k0_off278 v2267) a + S1x24x256.size a ≤ S7x64x256.size a := fun v2267 k0_hw45 => k0_hw45.2.2.2.2.2.1
theorem k0_off279_inb : ∀ (v2267 : BitVec 32) (k0_hw45 : k0_chk45 v2267), ∀ a, (k0_off279 v2267) a + S1x24x256.size a ≤ S7x64x256.size a := fun v2267 k0_hw45 => k0_hw45.2.2.2.2.2.2

def k0_off280 (i : grid0.Coords) : Fin 1 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2372 : Index := Scalar.indexCast v2371
  ![v2372.toNat]
def k0_off281 (i : grid0.Coords) : Fin 3 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2374 : Index := Scalar.indexCast v2371
  let c0_2044 : Index := 0#32
  let c0_2045 : Index := 0#32
  ![v2374.toNat, 0, 0]
def k0_off282 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2386 : Index := Scalar.indexCast v2371
  let c0_2048 : Index := 0#32
  ![v2386.toNat, 0]
def k0_off283 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2389 : Index := Scalar.indexCast v2371
  let c1_2050 : Index := 1#32
  ![v2389.toNat, 1]
def k0_off284 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2392 : Index := Scalar.indexCast v2371
  let c2_2052 : Index := 2#32
  ![v2392.toNat, 2]
def k0_off285 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2395 : Index := Scalar.indexCast v2371
  let c3_2054 : Index := 3#32
  ![v2395.toNat, 3]
def k0_off286 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2398 : Index := Scalar.indexCast v2371
  let c4_2056 : Index := 4#32
  ![v2398.toNat, 4]
def k0_off287 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2401 : Index := Scalar.indexCast v2371
  let c5_2058 : Index := 5#32
  ![v2401.toNat, 5]
def k0_off288 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2404 : Index := Scalar.indexCast v2371
  let c6_2060 : Index := 6#32
  ![v2404.toNat, 6]
@[reducible] def k0_t7_loop (v2383 : BitVec 32) (v2385 : BitVec 32) : Scf.Loop 32 :=
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2074 : BitVec 32 := 1#32
  ⟨c0_i32_2072, v2430, c1_i32_2074⟩

def k0_off289 (v2373 : BitVec 32) (v2383 : BitVec 32) (v2385 : BitVec 32) (v2387 : BitVec 32) (k0_t7 : Fin (k0_t7_loop v2383 v2385).trips) (c0_i32_2728 : BitVec 32) : Fin 4 → Nat :=
  let v3166 : Index := Scalar.indexCast v2373
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3165 : BitVec 32 := Scalar.addi v3161 c0_i32_2728
  let v3167 : Index := Scalar.indexCast v3165
  let c8_i32_2049 : BitVec 32 := 8#32
  let v2388 : BitVec 32 := Scalar.muli v2387 c8_i32_2049
  let v3168 : Index := Scalar.indexCast v2388
  let c0_2729 : Index := 0#32
  ![v3166.toNat, v3167.toNat, v3168.toNat, 0]

def k0_off290 (v2383 : BitVec 32) (v2385 : BitVec 32) (k0_t7 : Fin (k0_t7_loop v2383 v2385).trips) (c0_i32_2731 : BitVec 32) : Fin 3 → Nat :=
  let c0_2735 : Index := 0#32
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3174 : BitVec 32 := Scalar.addi v3161 c0_i32_2731
  let v3177 : Index := Scalar.indexCast v3174
  let c0_2736 : Index := 0#32
  ![0, v3177.toNat, 0]
def k0_off291 (v2373 : BitVec 32) (v2383 : BitVec 32) (v2385 : BitVec 32) (v2390 : BitVec 32) (k0_t7 : Fin (k0_t7_loop v2383 v2385).trips) (c0_i32_2798 : BitVec 32) : Fin 4 → Nat :=
  let v3297 : Index := Scalar.indexCast v2373
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3296 : BitVec 32 := Scalar.addi v3161 c0_i32_2798
  let v3298 : Index := Scalar.indexCast v3296
  let c8_i32_2051 : BitVec 32 := 8#32
  let v2391 : BitVec 32 := Scalar.muli v2390 c8_i32_2051
  let v3299 : Index := Scalar.indexCast v2391
  let c0_2799 : Index := 0#32
  ![v3297.toNat, v3298.toNat, v3299.toNat, 0]

def k0_off292 (v2383 : BitVec 32) (v2385 : BitVec 32) (k0_t7 : Fin (k0_t7_loop v2383 v2385).trips) (c0_i32_2801 : BitVec 32) : Fin 3 → Nat :=
  let c1_2805 : Index := 1#32
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3305 : BitVec 32 := Scalar.addi v3161 c0_i32_2801
  let v3308 : Index := Scalar.indexCast v3305
  let c0_2806 : Index := 0#32
  ![1, v3308.toNat, 0]
def k0_off293 (v2373 : BitVec 32) (v2383 : BitVec 32) (v2385 : BitVec 32) (v2393 : BitVec 32) (k0_t7 : Fin (k0_t7_loop v2383 v2385).trips) (c0_i32_2870 : BitVec 32) : Fin 4 → Nat :=
  let v3428 : Index := Scalar.indexCast v2373
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3427 : BitVec 32 := Scalar.addi v3161 c0_i32_2870
  let v3429 : Index := Scalar.indexCast v3427
  let c8_i32_2053 : BitVec 32 := 8#32
  let v2394 : BitVec 32 := Scalar.muli v2393 c8_i32_2053
  let v3430 : Index := Scalar.indexCast v2394
  let c0_2871 : Index := 0#32
  ![v3428.toNat, v3429.toNat, v3430.toNat, 0]

def k0_off294 (v2383 : BitVec 32) (v2385 : BitVec 32) (k0_t7 : Fin (k0_t7_loop v2383 v2385).trips) (c0_i32_2873 : BitVec 32) : Fin 3 → Nat :=
  let c2_2877 : Index := 2#32
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3436 : BitVec 32 := Scalar.addi v3161 c0_i32_2873
  let v3439 : Index := Scalar.indexCast v3436
  let c0_2878 : Index := 0#32
  ![2, v3439.toNat, 0]
def k0_off295 (v2373 : BitVec 32) (v2383 : BitVec 32) (v2385 : BitVec 32) (v2396 : BitVec 32) (k0_t7 : Fin (k0_t7_loop v2383 v2385).trips) (c0_i32_2942 : BitVec 32) : Fin 4 → Nat :=
  let v3559 : Index := Scalar.indexCast v2373
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3558 : BitVec 32 := Scalar.addi v3161 c0_i32_2942
  let v3560 : Index := Scalar.indexCast v3558
  let c8_i32_2055 : BitVec 32 := 8#32
  let v2397 : BitVec 32 := Scalar.muli v2396 c8_i32_2055
  let v3561 : Index := Scalar.indexCast v2397
  let c0_2943 : Index := 0#32
  ![v3559.toNat, v3560.toNat, v3561.toNat, 0]

def k0_off296 (v2383 : BitVec 32) (v2385 : BitVec 32) (k0_t7 : Fin (k0_t7_loop v2383 v2385).trips) (c0_i32_2945 : BitVec 32) : Fin 3 → Nat :=
  let c3_2949 : Index := 3#32
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3567 : BitVec 32 := Scalar.addi v3161 c0_i32_2945
  let v3570 : Index := Scalar.indexCast v3567
  let c0_2950 : Index := 0#32
  ![3, v3570.toNat, 0]
def k0_off297 (v2373 : BitVec 32) (v2383 : BitVec 32) (v2385 : BitVec 32) (v2399 : BitVec 32) (k0_t7 : Fin (k0_t7_loop v2383 v2385).trips) (c0_i32_3014 : BitVec 32) : Fin 4 → Nat :=
  let v3690 : Index := Scalar.indexCast v2373
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3689 : BitVec 32 := Scalar.addi v3161 c0_i32_3014
  let v3691 : Index := Scalar.indexCast v3689
  let c8_i32_2057 : BitVec 32 := 8#32
  let v2400 : BitVec 32 := Scalar.muli v2399 c8_i32_2057
  let v3692 : Index := Scalar.indexCast v2400
  let c0_3015 : Index := 0#32
  ![v3690.toNat, v3691.toNat, v3692.toNat, 0]

def k0_off298 (v2383 : BitVec 32) (v2385 : BitVec 32) (k0_t7 : Fin (k0_t7_loop v2383 v2385).trips) (c0_i32_3017 : BitVec 32) : Fin 3 → Nat :=
  let c4_3021 : Index := 4#32
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3698 : BitVec 32 := Scalar.addi v3161 c0_i32_3017
  let v3701 : Index := Scalar.indexCast v3698
  let c0_3022 : Index := 0#32
  ![4, v3701.toNat, 0]
def k0_off299 (v2373 : BitVec 32) (v2383 : BitVec 32) (v2385 : BitVec 32) (v2402 : BitVec 32) (k0_t7 : Fin (k0_t7_loop v2383 v2385).trips) (c0_i32_3086 : BitVec 32) : Fin 4 → Nat :=
  let v3821 : Index := Scalar.indexCast v2373
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3820 : BitVec 32 := Scalar.addi v3161 c0_i32_3086
  let v3822 : Index := Scalar.indexCast v3820
  let c8_i32_2059 : BitVec 32 := 8#32
  let v2403 : BitVec 32 := Scalar.muli v2402 c8_i32_2059
  let v3823 : Index := Scalar.indexCast v2403
  let c0_3087 : Index := 0#32
  ![v3821.toNat, v3822.toNat, v3823.toNat, 0]

def k0_off300 (v2383 : BitVec 32) (v2385 : BitVec 32) (k0_t7 : Fin (k0_t7_loop v2383 v2385).trips) (c0_i32_3089 : BitVec 32) : Fin 3 → Nat :=
  let c5_3093 : Index := 5#32
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3829 : BitVec 32 := Scalar.addi v3161 c0_i32_3089
  let v3832 : Index := Scalar.indexCast v3829
  let c0_3094 : Index := 0#32
  ![5, v3832.toNat, 0]
def k0_off301 (v2373 : BitVec 32) (v2383 : BitVec 32) (v2385 : BitVec 32) (v2405 : BitVec 32) (k0_t7 : Fin (k0_t7_loop v2383 v2385).trips) (c0_i32_3158 : BitVec 32) : Fin 4 → Nat :=
  let v3952 : Index := Scalar.indexCast v2373
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3951 : BitVec 32 := Scalar.addi v3161 c0_i32_3158
  let v3953 : Index := Scalar.indexCast v3951
  let c8_i32_2061 : BitVec 32 := 8#32
  let v2406 : BitVec 32 := Scalar.muli v2405 c8_i32_2061
  let v3954 : Index := Scalar.indexCast v2406
  let c0_3159 : Index := 0#32
  ![v3952.toNat, v3953.toNat, v3954.toNat, 0]

def k0_off302 (v2383 : BitVec 32) (v2385 : BitVec 32) (k0_t7 : Fin (k0_t7_loop v2383 v2385).trips) (c0_i32_3161 : BitVec 32) : Fin 3 → Nat :=
  let c6_3165 : Index := 6#32
  let c0_i32_2072 : BitVec 32 := 0#32
  let c1_i32_2074 : BitVec 32 := 1#32
  let arg12 : BitVec 32 := Scf.iv c0_i32_2072 c1_i32_2074 k0_t7
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3960 : BitVec 32 := Scalar.addi v3161 c0_i32_3161
  let v3963 : Index := Scalar.indexCast v3960
  let c0_3166 : Index := 0#32
  ![6, v3963.toNat, 0]
@[reducible] def k0_t8_loop (v2383 : BitVec 32) (v2385 : BitVec 32) : Scf.Loop 32 :=
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let v2427 : BitVec 32 := Scalar.addi c0_i32_2072 v2426
  let c1_i32_2075 : BitVec 32 := 1#32
  ⟨v2430, v2427, c1_i32_2075⟩
def k0_off303 (v2373 : BitVec 32) (v2383 : BitVec 32) (v2385 : BitVec 32) (v2387 : BitVec 32) (k0_t8 : Fin (k0_t8_loop v2383 v2385).trips) (c0_i32_2728 : BitVec 32) : Fin 4 → Nat :=
  let v3166 : Index := Scalar.indexCast v2373
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3165 : BitVec 32 := Scalar.addi v3161 c0_i32_2728
  let v3167 : Index := Scalar.indexCast v3165
  let c8_i32_2049 : BitVec 32 := 8#32
  let v2388 : BitVec 32 := Scalar.muli v2387 c8_i32_2049
  let v3168 : Index := Scalar.indexCast v2388
  let c0_2729 : Index := 0#32
  ![v3166.toNat, v3167.toNat, v3168.toNat, 0]

def k0_chk47 (v2373 : BitVec 32) (v2383 : BitVec 32) (v2385 : BitVec 32) (v2387 : BitVec 32) : Prop :=
  (∀ k0_t7 : Fin (k0_t7_loop v2383 v2385).trips, ∀ (r : Fin 8), ∀ a, (k0_off289 v2373 v2383 v2385 v2387 k0_t7 (BitVec.ofNat 32 r.val)) a + S1x1x24x256.size a ≤ S4x64x64x256.size a) ∧
  (∀ k0_t8 : Fin (k0_t8_loop v2383 v2385).trips, ∀ (r : Fin 8), ∀ a, (k0_off303 v2373 v2383 v2385 v2387 k0_t8 (BitVec.ofNat 32 r.val)) a + S1x1x24x256.size a ≤ S4x64x64x256.size a)
theorem k0_off289_inb : ∀ (v2373 : BitVec 32) (v2383 : BitVec 32) (v2385 : BitVec 32) (v2387 : BitVec 32) (k0_hw47 : k0_chk47 v2373 v2383 v2385 v2387) (k0_t7 : Fin (k0_t7_loop v2383 v2385).trips), ∀ (r : Fin 8), ∀ a, (k0_off289 v2373 v2383 v2385 v2387 k0_t7 (BitVec.ofNat 32 r.val)) a + S1x1x24x256.size a ≤ S4x64x64x256.size a := fun v2373 v2383 v2385 v2387 k0_hw47 k0_t7 r => k0_hw47.1 k0_t7 r
theorem k0_off303_inb : ∀ (v2373 : BitVec 32) (v2383 : BitVec 32) (v2385 : BitVec 32) (v2387 : BitVec 32) (k0_hw47 : k0_chk47 v2373 v2383 v2385 v2387) (k0_t8 : Fin (k0_t8_loop v2383 v2385).trips), ∀ (r : Fin 8), ∀ a, (k0_off303 v2373 v2383 v2385 v2387 k0_t8 (BitVec.ofNat 32 r.val)) a + S1x1x24x256.size a ≤ S4x64x64x256.size a := fun v2373 v2383 v2385 v2387 k0_hw47 k0_t8 r => k0_hw47.2 k0_t8 r

def k0_off304 (v2383 : BitVec 32) (v2385 : BitVec 32) (k0_t8 : Fin (k0_t8_loop v2383 v2385).trips) (c0_i32_2731 : BitVec 32) : Fin 3 → Nat :=
  let c0_2735 : Index := 0#32
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3174 : BitVec 32 := Scalar.addi v3161 c0_i32_2731
  let v3177 : Index := Scalar.indexCast v3174
  let c0_2736 : Index := 0#32
  ![0, v3177.toNat, 0]
def k0_off305 (v2373 : BitVec 32) (v2383 : BitVec 32) (v2385 : BitVec 32) (v2390 : BitVec 32) (k0_t8 : Fin (k0_t8_loop v2383 v2385).trips) (c0_i32_2798 : BitVec 32) : Fin 4 → Nat :=
  let v3297 : Index := Scalar.indexCast v2373
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3296 : BitVec 32 := Scalar.addi v3161 c0_i32_2798
  let v3298 : Index := Scalar.indexCast v3296
  let c8_i32_2051 : BitVec 32 := 8#32
  let v2391 : BitVec 32 := Scalar.muli v2390 c8_i32_2051
  let v3299 : Index := Scalar.indexCast v2391
  let c0_2799 : Index := 0#32
  ![v3297.toNat, v3298.toNat, v3299.toNat, 0]

def k0_chk48 (v2373 : BitVec 32) (v2383 : BitVec 32) (v2385 : BitVec 32) (v2390 : BitVec 32) : Prop :=
  (∀ k0_t7 : Fin (k0_t7_loop v2383 v2385).trips, ∀ (r : Fin 8), ∀ a, (k0_off291 v2373 v2383 v2385 v2390 k0_t7 (BitVec.ofNat 32 r.val)) a + S1x1x24x256.size a ≤ S4x64x64x256.size a) ∧
  (∀ k0_t8 : Fin (k0_t8_loop v2383 v2385).trips, ∀ (r : Fin 8), ∀ a, (k0_off305 v2373 v2383 v2385 v2390 k0_t8 (BitVec.ofNat 32 r.val)) a + S1x1x24x256.size a ≤ S4x64x64x256.size a)
theorem k0_off291_inb : ∀ (v2373 : BitVec 32) (v2383 : BitVec 32) (v2385 : BitVec 32) (v2390 : BitVec 32) (k0_hw48 : k0_chk48 v2373 v2383 v2385 v2390) (k0_t7 : Fin (k0_t7_loop v2383 v2385).trips), ∀ (r : Fin 8), ∀ a, (k0_off291 v2373 v2383 v2385 v2390 k0_t7 (BitVec.ofNat 32 r.val)) a + S1x1x24x256.size a ≤ S4x64x64x256.size a := fun v2373 v2383 v2385 v2390 k0_hw48 k0_t7 r => k0_hw48.1 k0_t7 r
theorem k0_off305_inb : ∀ (v2373 : BitVec 32) (v2383 : BitVec 32) (v2385 : BitVec 32) (v2390 : BitVec 32) (k0_hw48 : k0_chk48 v2373 v2383 v2385 v2390) (k0_t8 : Fin (k0_t8_loop v2383 v2385).trips), ∀ (r : Fin 8), ∀ a, (k0_off305 v2373 v2383 v2385 v2390 k0_t8 (BitVec.ofNat 32 r.val)) a + S1x1x24x256.size a ≤ S4x64x64x256.size a := fun v2373 v2383 v2385 v2390 k0_hw48 k0_t8 r => k0_hw48.2 k0_t8 r

def k0_off306 (v2383 : BitVec 32) (v2385 : BitVec 32) (k0_t8 : Fin (k0_t8_loop v2383 v2385).trips) (c0_i32_2801 : BitVec 32) : Fin 3 → Nat :=
  let c1_2805 : Index := 1#32
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3305 : BitVec 32 := Scalar.addi v3161 c0_i32_2801
  let v3308 : Index := Scalar.indexCast v3305
  let c0_2806 : Index := 0#32
  ![1, v3308.toNat, 0]
def k0_off307 (v2373 : BitVec 32) (v2383 : BitVec 32) (v2385 : BitVec 32) (v2393 : BitVec 32) (k0_t8 : Fin (k0_t8_loop v2383 v2385).trips) (c0_i32_2870 : BitVec 32) : Fin 4 → Nat :=
  let v3428 : Index := Scalar.indexCast v2373
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3427 : BitVec 32 := Scalar.addi v3161 c0_i32_2870
  let v3429 : Index := Scalar.indexCast v3427
  let c8_i32_2053 : BitVec 32 := 8#32
  let v2394 : BitVec 32 := Scalar.muli v2393 c8_i32_2053
  let v3430 : Index := Scalar.indexCast v2394
  let c0_2871 : Index := 0#32
  ![v3428.toNat, v3429.toNat, v3430.toNat, 0]

def k0_chk49 (v2373 : BitVec 32) (v2383 : BitVec 32) (v2385 : BitVec 32) (v2393 : BitVec 32) : Prop :=
  (∀ k0_t7 : Fin (k0_t7_loop v2383 v2385).trips, ∀ (r : Fin 8), ∀ a, (k0_off293 v2373 v2383 v2385 v2393 k0_t7 (BitVec.ofNat 32 r.val)) a + S1x1x24x256.size a ≤ S4x64x64x256.size a) ∧
  (∀ k0_t8 : Fin (k0_t8_loop v2383 v2385).trips, ∀ (r : Fin 8), ∀ a, (k0_off307 v2373 v2383 v2385 v2393 k0_t8 (BitVec.ofNat 32 r.val)) a + S1x1x24x256.size a ≤ S4x64x64x256.size a)
theorem k0_off293_inb : ∀ (v2373 : BitVec 32) (v2383 : BitVec 32) (v2385 : BitVec 32) (v2393 : BitVec 32) (k0_hw49 : k0_chk49 v2373 v2383 v2385 v2393) (k0_t7 : Fin (k0_t7_loop v2383 v2385).trips), ∀ (r : Fin 8), ∀ a, (k0_off293 v2373 v2383 v2385 v2393 k0_t7 (BitVec.ofNat 32 r.val)) a + S1x1x24x256.size a ≤ S4x64x64x256.size a := fun v2373 v2383 v2385 v2393 k0_hw49 k0_t7 r => k0_hw49.1 k0_t7 r
theorem k0_off307_inb : ∀ (v2373 : BitVec 32) (v2383 : BitVec 32) (v2385 : BitVec 32) (v2393 : BitVec 32) (k0_hw49 : k0_chk49 v2373 v2383 v2385 v2393) (k0_t8 : Fin (k0_t8_loop v2383 v2385).trips), ∀ (r : Fin 8), ∀ a, (k0_off307 v2373 v2383 v2385 v2393 k0_t8 (BitVec.ofNat 32 r.val)) a + S1x1x24x256.size a ≤ S4x64x64x256.size a := fun v2373 v2383 v2385 v2393 k0_hw49 k0_t8 r => k0_hw49.2 k0_t8 r

def k0_off308 (v2383 : BitVec 32) (v2385 : BitVec 32) (k0_t8 : Fin (k0_t8_loop v2383 v2385).trips) (c0_i32_2873 : BitVec 32) : Fin 3 → Nat :=
  let c2_2877 : Index := 2#32
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3436 : BitVec 32 := Scalar.addi v3161 c0_i32_2873
  let v3439 : Index := Scalar.indexCast v3436
  let c0_2878 : Index := 0#32
  ![2, v3439.toNat, 0]
def k0_off309 (v2373 : BitVec 32) (v2383 : BitVec 32) (v2385 : BitVec 32) (v2396 : BitVec 32) (k0_t8 : Fin (k0_t8_loop v2383 v2385).trips) (c0_i32_2942 : BitVec 32) : Fin 4 → Nat :=
  let v3559 : Index := Scalar.indexCast v2373
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3558 : BitVec 32 := Scalar.addi v3161 c0_i32_2942
  let v3560 : Index := Scalar.indexCast v3558
  let c8_i32_2055 : BitVec 32 := 8#32
  let v2397 : BitVec 32 := Scalar.muli v2396 c8_i32_2055
  let v3561 : Index := Scalar.indexCast v2397
  let c0_2943 : Index := 0#32
  ![v3559.toNat, v3560.toNat, v3561.toNat, 0]

def k0_chk50 (v2373 : BitVec 32) (v2383 : BitVec 32) (v2385 : BitVec 32) (v2396 : BitVec 32) : Prop :=
  (∀ k0_t7 : Fin (k0_t7_loop v2383 v2385).trips, ∀ (r : Fin 8), ∀ a, (k0_off295 v2373 v2383 v2385 v2396 k0_t7 (BitVec.ofNat 32 r.val)) a + S1x1x24x256.size a ≤ S4x64x64x256.size a) ∧
  (∀ k0_t8 : Fin (k0_t8_loop v2383 v2385).trips, ∀ (r : Fin 8), ∀ a, (k0_off309 v2373 v2383 v2385 v2396 k0_t8 (BitVec.ofNat 32 r.val)) a + S1x1x24x256.size a ≤ S4x64x64x256.size a)
theorem k0_off295_inb : ∀ (v2373 : BitVec 32) (v2383 : BitVec 32) (v2385 : BitVec 32) (v2396 : BitVec 32) (k0_hw50 : k0_chk50 v2373 v2383 v2385 v2396) (k0_t7 : Fin (k0_t7_loop v2383 v2385).trips), ∀ (r : Fin 8), ∀ a, (k0_off295 v2373 v2383 v2385 v2396 k0_t7 (BitVec.ofNat 32 r.val)) a + S1x1x24x256.size a ≤ S4x64x64x256.size a := fun v2373 v2383 v2385 v2396 k0_hw50 k0_t7 r => k0_hw50.1 k0_t7 r
theorem k0_off309_inb : ∀ (v2373 : BitVec 32) (v2383 : BitVec 32) (v2385 : BitVec 32) (v2396 : BitVec 32) (k0_hw50 : k0_chk50 v2373 v2383 v2385 v2396) (k0_t8 : Fin (k0_t8_loop v2383 v2385).trips), ∀ (r : Fin 8), ∀ a, (k0_off309 v2373 v2383 v2385 v2396 k0_t8 (BitVec.ofNat 32 r.val)) a + S1x1x24x256.size a ≤ S4x64x64x256.size a := fun v2373 v2383 v2385 v2396 k0_hw50 k0_t8 r => k0_hw50.2 k0_t8 r

def k0_off310 (v2383 : BitVec 32) (v2385 : BitVec 32) (k0_t8 : Fin (k0_t8_loop v2383 v2385).trips) (c0_i32_2945 : BitVec 32) : Fin 3 → Nat :=
  let c3_2949 : Index := 3#32
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3567 : BitVec 32 := Scalar.addi v3161 c0_i32_2945
  let v3570 : Index := Scalar.indexCast v3567
  let c0_2950 : Index := 0#32
  ![3, v3570.toNat, 0]
def k0_off311 (v2373 : BitVec 32) (v2383 : BitVec 32) (v2385 : BitVec 32) (v2399 : BitVec 32) (k0_t8 : Fin (k0_t8_loop v2383 v2385).trips) (c0_i32_3014 : BitVec 32) : Fin 4 → Nat :=
  let v3690 : Index := Scalar.indexCast v2373
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3689 : BitVec 32 := Scalar.addi v3161 c0_i32_3014
  let v3691 : Index := Scalar.indexCast v3689
  let c8_i32_2057 : BitVec 32 := 8#32
  let v2400 : BitVec 32 := Scalar.muli v2399 c8_i32_2057
  let v3692 : Index := Scalar.indexCast v2400
  let c0_3015 : Index := 0#32
  ![v3690.toNat, v3691.toNat, v3692.toNat, 0]

def k0_chk51 (v2373 : BitVec 32) (v2383 : BitVec 32) (v2385 : BitVec 32) (v2399 : BitVec 32) : Prop :=
  (∀ k0_t7 : Fin (k0_t7_loop v2383 v2385).trips, ∀ (r : Fin 8), ∀ a, (k0_off297 v2373 v2383 v2385 v2399 k0_t7 (BitVec.ofNat 32 r.val)) a + S1x1x24x256.size a ≤ S4x64x64x256.size a) ∧
  (∀ k0_t8 : Fin (k0_t8_loop v2383 v2385).trips, ∀ (r : Fin 8), ∀ a, (k0_off311 v2373 v2383 v2385 v2399 k0_t8 (BitVec.ofNat 32 r.val)) a + S1x1x24x256.size a ≤ S4x64x64x256.size a)
theorem k0_off297_inb : ∀ (v2373 : BitVec 32) (v2383 : BitVec 32) (v2385 : BitVec 32) (v2399 : BitVec 32) (k0_hw51 : k0_chk51 v2373 v2383 v2385 v2399) (k0_t7 : Fin (k0_t7_loop v2383 v2385).trips), ∀ (r : Fin 8), ∀ a, (k0_off297 v2373 v2383 v2385 v2399 k0_t7 (BitVec.ofNat 32 r.val)) a + S1x1x24x256.size a ≤ S4x64x64x256.size a := fun v2373 v2383 v2385 v2399 k0_hw51 k0_t7 r => k0_hw51.1 k0_t7 r
theorem k0_off311_inb : ∀ (v2373 : BitVec 32) (v2383 : BitVec 32) (v2385 : BitVec 32) (v2399 : BitVec 32) (k0_hw51 : k0_chk51 v2373 v2383 v2385 v2399) (k0_t8 : Fin (k0_t8_loop v2383 v2385).trips), ∀ (r : Fin 8), ∀ a, (k0_off311 v2373 v2383 v2385 v2399 k0_t8 (BitVec.ofNat 32 r.val)) a + S1x1x24x256.size a ≤ S4x64x64x256.size a := fun v2373 v2383 v2385 v2399 k0_hw51 k0_t8 r => k0_hw51.2 k0_t8 r

def k0_off312 (v2383 : BitVec 32) (v2385 : BitVec 32) (k0_t8 : Fin (k0_t8_loop v2383 v2385).trips) (c0_i32_3017 : BitVec 32) : Fin 3 → Nat :=
  let c4_3021 : Index := 4#32
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3698 : BitVec 32 := Scalar.addi v3161 c0_i32_3017
  let v3701 : Index := Scalar.indexCast v3698
  let c0_3022 : Index := 0#32
  ![4, v3701.toNat, 0]
def k0_off313 (v2373 : BitVec 32) (v2383 : BitVec 32) (v2385 : BitVec 32) (v2402 : BitVec 32) (k0_t8 : Fin (k0_t8_loop v2383 v2385).trips) (c0_i32_3086 : BitVec 32) : Fin 4 → Nat :=
  let v3821 : Index := Scalar.indexCast v2373
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3820 : BitVec 32 := Scalar.addi v3161 c0_i32_3086
  let v3822 : Index := Scalar.indexCast v3820
  let c8_i32_2059 : BitVec 32 := 8#32
  let v2403 : BitVec 32 := Scalar.muli v2402 c8_i32_2059
  let v3823 : Index := Scalar.indexCast v2403
  let c0_3087 : Index := 0#32
  ![v3821.toNat, v3822.toNat, v3823.toNat, 0]

def k0_chk52 (v2373 : BitVec 32) (v2383 : BitVec 32) (v2385 : BitVec 32) (v2402 : BitVec 32) : Prop :=
  (∀ k0_t7 : Fin (k0_t7_loop v2383 v2385).trips, ∀ (r : Fin 8), ∀ a, (k0_off299 v2373 v2383 v2385 v2402 k0_t7 (BitVec.ofNat 32 r.val)) a + S1x1x24x256.size a ≤ S4x64x64x256.size a) ∧
  (∀ k0_t8 : Fin (k0_t8_loop v2383 v2385).trips, ∀ (r : Fin 8), ∀ a, (k0_off313 v2373 v2383 v2385 v2402 k0_t8 (BitVec.ofNat 32 r.val)) a + S1x1x24x256.size a ≤ S4x64x64x256.size a)
theorem k0_off299_inb : ∀ (v2373 : BitVec 32) (v2383 : BitVec 32) (v2385 : BitVec 32) (v2402 : BitVec 32) (k0_hw52 : k0_chk52 v2373 v2383 v2385 v2402) (k0_t7 : Fin (k0_t7_loop v2383 v2385).trips), ∀ (r : Fin 8), ∀ a, (k0_off299 v2373 v2383 v2385 v2402 k0_t7 (BitVec.ofNat 32 r.val)) a + S1x1x24x256.size a ≤ S4x64x64x256.size a := fun v2373 v2383 v2385 v2402 k0_hw52 k0_t7 r => k0_hw52.1 k0_t7 r
theorem k0_off313_inb : ∀ (v2373 : BitVec 32) (v2383 : BitVec 32) (v2385 : BitVec 32) (v2402 : BitVec 32) (k0_hw52 : k0_chk52 v2373 v2383 v2385 v2402) (k0_t8 : Fin (k0_t8_loop v2383 v2385).trips), ∀ (r : Fin 8), ∀ a, (k0_off313 v2373 v2383 v2385 v2402 k0_t8 (BitVec.ofNat 32 r.val)) a + S1x1x24x256.size a ≤ S4x64x64x256.size a := fun v2373 v2383 v2385 v2402 k0_hw52 k0_t8 r => k0_hw52.2 k0_t8 r

def k0_off314 (v2383 : BitVec 32) (v2385 : BitVec 32) (k0_t8 : Fin (k0_t8_loop v2383 v2385).trips) (c0_i32_3089 : BitVec 32) : Fin 3 → Nat :=
  let c5_3093 : Index := 5#32
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3829 : BitVec 32 := Scalar.addi v3161 c0_i32_3089
  let v3832 : Index := Scalar.indexCast v3829
  let c0_3094 : Index := 0#32
  ![5, v3832.toNat, 0]
def k0_off315 (v2373 : BitVec 32) (v2383 : BitVec 32) (v2385 : BitVec 32) (v2405 : BitVec 32) (k0_t8 : Fin (k0_t8_loop v2383 v2385).trips) (c0_i32_3158 : BitVec 32) : Fin 4 → Nat :=
  let v3952 : Index := Scalar.indexCast v2373
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3951 : BitVec 32 := Scalar.addi v3161 c0_i32_3158
  let v3953 : Index := Scalar.indexCast v3951
  let c8_i32_2061 : BitVec 32 := 8#32
  let v2406 : BitVec 32 := Scalar.muli v2405 c8_i32_2061
  let v3954 : Index := Scalar.indexCast v2406
  let c0_3159 : Index := 0#32
  ![v3952.toNat, v3953.toNat, v3954.toNat, 0]

def k0_chk53 (v2373 : BitVec 32) (v2383 : BitVec 32) (v2385 : BitVec 32) (v2405 : BitVec 32) : Prop :=
  (∀ k0_t7 : Fin (k0_t7_loop v2383 v2385).trips, ∀ (r : Fin 8), ∀ a, (k0_off301 v2373 v2383 v2385 v2405 k0_t7 (BitVec.ofNat 32 r.val)) a + S1x1x24x256.size a ≤ S4x64x64x256.size a) ∧
  (∀ k0_t8 : Fin (k0_t8_loop v2383 v2385).trips, ∀ (r : Fin 8), ∀ a, (k0_off315 v2373 v2383 v2385 v2405 k0_t8 (BitVec.ofNat 32 r.val)) a + S1x1x24x256.size a ≤ S4x64x64x256.size a)
theorem k0_off301_inb : ∀ (v2373 : BitVec 32) (v2383 : BitVec 32) (v2385 : BitVec 32) (v2405 : BitVec 32) (k0_hw53 : k0_chk53 v2373 v2383 v2385 v2405) (k0_t7 : Fin (k0_t7_loop v2383 v2385).trips), ∀ (r : Fin 8), ∀ a, (k0_off301 v2373 v2383 v2385 v2405 k0_t7 (BitVec.ofNat 32 r.val)) a + S1x1x24x256.size a ≤ S4x64x64x256.size a := fun v2373 v2383 v2385 v2405 k0_hw53 k0_t7 r => k0_hw53.1 k0_t7 r
theorem k0_off315_inb : ∀ (v2373 : BitVec 32) (v2383 : BitVec 32) (v2385 : BitVec 32) (v2405 : BitVec 32) (k0_hw53 : k0_chk53 v2373 v2383 v2385 v2405) (k0_t8 : Fin (k0_t8_loop v2383 v2385).trips), ∀ (r : Fin 8), ∀ a, (k0_off315 v2373 v2383 v2385 v2405 k0_t8 (BitVec.ofNat 32 r.val)) a + S1x1x24x256.size a ≤ S4x64x64x256.size a := fun v2373 v2383 v2385 v2405 k0_hw53 k0_t8 r => k0_hw53.2 k0_t8 r

def k0_off316 (v2383 : BitVec 32) (v2385 : BitVec 32) (k0_t8 : Fin (k0_t8_loop v2383 v2385).trips) (c0_i32_3161 : BitVec 32) : Fin 3 → Nat :=
  let c6_3165 : Index := 6#32
  let c0_i32_2072 : BitVec 32 := 0#32
  let v2407 : BitVec 32 := Scalar.subi v2385 v2383
  let c7_i32_2062 : BitVec 32 := 7#32
  let v2408 : BitVec 32 := Scalar.addi v2407 c7_i32_2062
  let c0_i32_2064 : BitVec 32 := 0#32
  let v2410 : BitVec 1 := Scalar.cmpi .sgt v2408 c0_i32_2064
  let v2411 : BitVec 32 := Scalar.extui v2410
  let c0_i32_2065 : BitVec 32 := 0#32
  let v2412 : BitVec 1 := Scalar.cmpi .slt v2408 c0_i32_2065
  let v2413 : BitVec 32 := Scalar.extui v2412
  let v2414 : BitVec 32 := Scalar.subi v2411 v2413
  let c8_i32_2063 : BitVec 32 := 8#32
  let c0_i32_2066 : BitVec 32 := 0#32
  let v2415 : BitVec 1 := Scalar.cmpi .sgt c8_i32_2063 c0_i32_2066
  let v2416 : BitVec 32 := Scalar.extui v2415
  let c0_i32_2067 : BitVec 32 := 0#32
  let v2417 : BitVec 1 := Scalar.cmpi .slt c8_i32_2063 c0_i32_2067
  let v2418 : BitVec 32 := Scalar.extui v2417
  let v2419 : BitVec 32 := Scalar.subi v2416 v2418
  let v2420 : BitVec 1 := Scalar.cmpi .ne v2414 v2419
  let v2421 : BitVec 32 := Scalar.remsi v2408 c8_i32_2063
  let c0_i32_2068 : BitVec 32 := 0#32
  let v2422 : BitVec 1 := Scalar.cmpi .ne v2421 c0_i32_2068
  let v2423 : BitVec 1 := Scalar.andi v2420 v2422
  let v2409 : BitVec 32 := Scalar.divsi v2408 c8_i32_2063
  let c1_i32_2069 : BitVec 32 := 1#32
  let v2424 : BitVec 32 := Scalar.subi v2409 c1_i32_2069
  let v2425 : BitVec 32 := Scalar.select v2423 v2424 v2409
  let v2426 : BitVec 32 := Scalar.subi v2425 c0_i32_2072
  let c1_i32_2073 : BitVec 32 := 1#32
  let v2428 : BitVec 32 := Scalar.divsi v2426 c1_i32_2073
  let v2429 : BitVec 32 := Scalar.muli v2428 c1_i32_2073
  let v2430 : BitVec 32 := Scalar.addi c0_i32_2072 v2429
  let c1_i32_2075 : BitVec 32 := 1#32
  let arg12 : BitVec 32 := Scf.iv v2430 c1_i32_2075 k0_t8
  let c8_i32_2727 : BitVec 32 := 8#32
  let v3159 : BitVec 32 := Scalar.muli arg12 c8_i32_2727
  let v3160 : BitVec 32 := Scalar.addi v2383 v3159
  let c56_i32 : BitVec 32 := 56#32
  let v3161 : BitVec 32 := Scalar.minsi v3160 c56_i32
  let v3960 : BitVec 32 := Scalar.addi v3161 c0_i32_3161
  let v3963 : Index := Scalar.indexCast v3960
  let c0_3166 : Index := 0#32
  ![6, v3963.toNat, 0]

def k0_chk46 (v2383 : BitVec 32) (v2385 : BitVec 32) : Prop :=
  ((k0_t7_loop v2383 v2385).OK) ∧
  (∀ k0_t7 : Fin (k0_t7_loop v2383 v2385).trips, ∀ (r : Fin 8), ∀ a, (k0_off290 v2383 v2385 k0_t7 (BitVec.ofNat 32 r.val)) a + S1x1x256.size a ≤ S7x64x256.size a) ∧
  (∀ k0_t7 : Fin (k0_t7_loop v2383 v2385).trips, ∀ (r : Fin 8), ∀ a, (k0_off292 v2383 v2385 k0_t7 (BitVec.ofNat 32 r.val)) a + S1x1x256.size a ≤ S7x64x256.size a) ∧
  (∀ k0_t7 : Fin (k0_t7_loop v2383 v2385).trips, ∀ (r : Fin 8), ∀ a, (k0_off294 v2383 v2385 k0_t7 (BitVec.ofNat 32 r.val)) a + S1x1x256.size a ≤ S7x64x256.size a) ∧
  (∀ k0_t7 : Fin (k0_t7_loop v2383 v2385).trips, ∀ (r : Fin 8), ∀ a, (k0_off296 v2383 v2385 k0_t7 (BitVec.ofNat 32 r.val)) a + S1x1x256.size a ≤ S7x64x256.size a) ∧
  (∀ k0_t7 : Fin (k0_t7_loop v2383 v2385).trips, ∀ (r : Fin 8), ∀ a, (k0_off298 v2383 v2385 k0_t7 (BitVec.ofNat 32 r.val)) a + S1x1x256.size a ≤ S7x64x256.size a) ∧
  (∀ k0_t7 : Fin (k0_t7_loop v2383 v2385).trips, ∀ (r : Fin 8), ∀ a, (k0_off300 v2383 v2385 k0_t7 (BitVec.ofNat 32 r.val)) a + S1x1x256.size a ≤ S7x64x256.size a) ∧
  (∀ k0_t7 : Fin (k0_t7_loop v2383 v2385).trips, ∀ (r : Fin 8), ∀ a, (k0_off302 v2383 v2385 k0_t7 (BitVec.ofNat 32 r.val)) a + S1x1x256.size a ≤ S7x64x256.size a) ∧
  ((k0_t8_loop v2383 v2385).OK) ∧
  (∀ k0_t8 : Fin (k0_t8_loop v2383 v2385).trips, ∀ (r : Fin 8), ∀ a, (k0_off304 v2383 v2385 k0_t8 (BitVec.ofNat 32 r.val)) a + S1x1x256.size a ≤ S7x64x256.size a) ∧
  (∀ k0_t8 : Fin (k0_t8_loop v2383 v2385).trips, ∀ (r : Fin 8), ∀ a, (k0_off306 v2383 v2385 k0_t8 (BitVec.ofNat 32 r.val)) a + S1x1x256.size a ≤ S7x64x256.size a) ∧
  (∀ k0_t8 : Fin (k0_t8_loop v2383 v2385).trips, ∀ (r : Fin 8), ∀ a, (k0_off308 v2383 v2385 k0_t8 (BitVec.ofNat 32 r.val)) a + S1x1x256.size a ≤ S7x64x256.size a) ∧
  (∀ k0_t8 : Fin (k0_t8_loop v2383 v2385).trips, ∀ (r : Fin 8), ∀ a, (k0_off310 v2383 v2385 k0_t8 (BitVec.ofNat 32 r.val)) a + S1x1x256.size a ≤ S7x64x256.size a) ∧
  (∀ k0_t8 : Fin (k0_t8_loop v2383 v2385).trips, ∀ (r : Fin 8), ∀ a, (k0_off312 v2383 v2385 k0_t8 (BitVec.ofNat 32 r.val)) a + S1x1x256.size a ≤ S7x64x256.size a) ∧
  (∀ k0_t8 : Fin (k0_t8_loop v2383 v2385).trips, ∀ (r : Fin 8), ∀ a, (k0_off314 v2383 v2385 k0_t8 (BitVec.ofNat 32 r.val)) a + S1x1x256.size a ≤ S7x64x256.size a) ∧
  (∀ k0_t8 : Fin (k0_t8_loop v2383 v2385).trips, ∀ (r : Fin 8), ∀ a, (k0_off316 v2383 v2385 k0_t8 (BitVec.ofNat 32 r.val)) a + S1x1x256.size a ≤ S7x64x256.size a)
theorem k0_t7_ok : ∀ (v2383 : BitVec 32) (v2385 : BitVec 32) (k0_hw46 : k0_chk46 v2383 v2385), (k0_t7_loop v2383 v2385).OK := fun v2383 v2385 k0_hw46 => k0_hw46.1
theorem k0_off290_inb : ∀ (v2383 : BitVec 32) (v2385 : BitVec 32) (k0_hw46 : k0_chk46 v2383 v2385) (k0_t7 : Fin (k0_t7_loop v2383 v2385).trips), ∀ (r : Fin 8), ∀ a, (k0_off290 v2383 v2385 k0_t7 (BitVec.ofNat 32 r.val)) a + S1x1x256.size a ≤ S7x64x256.size a := fun v2383 v2385 k0_hw46 k0_t7 r => k0_hw46.2.1 k0_t7 r
theorem k0_off292_inb : ∀ (v2383 : BitVec 32) (v2385 : BitVec 32) (k0_hw46 : k0_chk46 v2383 v2385) (k0_t7 : Fin (k0_t7_loop v2383 v2385).trips), ∀ (r : Fin 8), ∀ a, (k0_off292 v2383 v2385 k0_t7 (BitVec.ofNat 32 r.val)) a + S1x1x256.size a ≤ S7x64x256.size a := fun v2383 v2385 k0_hw46 k0_t7 r => k0_hw46.2.2.1 k0_t7 r
theorem k0_off294_inb : ∀ (v2383 : BitVec 32) (v2385 : BitVec 32) (k0_hw46 : k0_chk46 v2383 v2385) (k0_t7 : Fin (k0_t7_loop v2383 v2385).trips), ∀ (r : Fin 8), ∀ a, (k0_off294 v2383 v2385 k0_t7 (BitVec.ofNat 32 r.val)) a + S1x1x256.size a ≤ S7x64x256.size a := fun v2383 v2385 k0_hw46 k0_t7 r => k0_hw46.2.2.2.1 k0_t7 r
theorem k0_off296_inb : ∀ (v2383 : BitVec 32) (v2385 : BitVec 32) (k0_hw46 : k0_chk46 v2383 v2385) (k0_t7 : Fin (k0_t7_loop v2383 v2385).trips), ∀ (r : Fin 8), ∀ a, (k0_off296 v2383 v2385 k0_t7 (BitVec.ofNat 32 r.val)) a + S1x1x256.size a ≤ S7x64x256.size a := fun v2383 v2385 k0_hw46 k0_t7 r => k0_hw46.2.2.2.2.1 k0_t7 r
theorem k0_off298_inb : ∀ (v2383 : BitVec 32) (v2385 : BitVec 32) (k0_hw46 : k0_chk46 v2383 v2385) (k0_t7 : Fin (k0_t7_loop v2383 v2385).trips), ∀ (r : Fin 8), ∀ a, (k0_off298 v2383 v2385 k0_t7 (BitVec.ofNat 32 r.val)) a + S1x1x256.size a ≤ S7x64x256.size a := fun v2383 v2385 k0_hw46 k0_t7 r => k0_hw46.2.2.2.2.2.1 k0_t7 r
theorem k0_off300_inb : ∀ (v2383 : BitVec 32) (v2385 : BitVec 32) (k0_hw46 : k0_chk46 v2383 v2385) (k0_t7 : Fin (k0_t7_loop v2383 v2385).trips), ∀ (r : Fin 8), ∀ a, (k0_off300 v2383 v2385 k0_t7 (BitVec.ofNat 32 r.val)) a + S1x1x256.size a ≤ S7x64x256.size a := fun v2383 v2385 k0_hw46 k0_t7 r => k0_hw46.2.2.2.2.2.2.1 k0_t7 r
theorem k0_off302_inb : ∀ (v2383 : BitVec 32) (v2385 : BitVec 32) (k0_hw46 : k0_chk46 v2383 v2385) (k0_t7 : Fin (k0_t7_loop v2383 v2385).trips), ∀ (r : Fin 8), ∀ a, (k0_off302 v2383 v2385 k0_t7 (BitVec.ofNat 32 r.val)) a + S1x1x256.size a ≤ S7x64x256.size a := fun v2383 v2385 k0_hw46 k0_t7 r => k0_hw46.2.2.2.2.2.2.2.1 k0_t7 r
theorem k0_t8_ok : ∀ (v2383 : BitVec 32) (v2385 : BitVec 32) (k0_hw46 : k0_chk46 v2383 v2385), (k0_t8_loop v2383 v2385).OK := fun v2383 v2385 k0_hw46 => k0_hw46.2.2.2.2.2.2.2.2.1
theorem k0_off304_inb : ∀ (v2383 : BitVec 32) (v2385 : BitVec 32) (k0_hw46 : k0_chk46 v2383 v2385) (k0_t8 : Fin (k0_t8_loop v2383 v2385).trips), ∀ (r : Fin 8), ∀ a, (k0_off304 v2383 v2385 k0_t8 (BitVec.ofNat 32 r.val)) a + S1x1x256.size a ≤ S7x64x256.size a := fun v2383 v2385 k0_hw46 k0_t8 r => k0_hw46.2.2.2.2.2.2.2.2.2.1 k0_t8 r
theorem k0_off306_inb : ∀ (v2383 : BitVec 32) (v2385 : BitVec 32) (k0_hw46 : k0_chk46 v2383 v2385) (k0_t8 : Fin (k0_t8_loop v2383 v2385).trips), ∀ (r : Fin 8), ∀ a, (k0_off306 v2383 v2385 k0_t8 (BitVec.ofNat 32 r.val)) a + S1x1x256.size a ≤ S7x64x256.size a := fun v2383 v2385 k0_hw46 k0_t8 r => k0_hw46.2.2.2.2.2.2.2.2.2.2.1 k0_t8 r
theorem k0_off308_inb : ∀ (v2383 : BitVec 32) (v2385 : BitVec 32) (k0_hw46 : k0_chk46 v2383 v2385) (k0_t8 : Fin (k0_t8_loop v2383 v2385).trips), ∀ (r : Fin 8), ∀ a, (k0_off308 v2383 v2385 k0_t8 (BitVec.ofNat 32 r.val)) a + S1x1x256.size a ≤ S7x64x256.size a := fun v2383 v2385 k0_hw46 k0_t8 r => k0_hw46.2.2.2.2.2.2.2.2.2.2.2.1 k0_t8 r
theorem k0_off310_inb : ∀ (v2383 : BitVec 32) (v2385 : BitVec 32) (k0_hw46 : k0_chk46 v2383 v2385) (k0_t8 : Fin (k0_t8_loop v2383 v2385).trips), ∀ (r : Fin 8), ∀ a, (k0_off310 v2383 v2385 k0_t8 (BitVec.ofNat 32 r.val)) a + S1x1x256.size a ≤ S7x64x256.size a := fun v2383 v2385 k0_hw46 k0_t8 r => k0_hw46.2.2.2.2.2.2.2.2.2.2.2.2.1 k0_t8 r
theorem k0_off312_inb : ∀ (v2383 : BitVec 32) (v2385 : BitVec 32) (k0_hw46 : k0_chk46 v2383 v2385) (k0_t8 : Fin (k0_t8_loop v2383 v2385).trips), ∀ (r : Fin 8), ∀ a, (k0_off312 v2383 v2385 k0_t8 (BitVec.ofNat 32 r.val)) a + S1x1x256.size a ≤ S7x64x256.size a := fun v2383 v2385 k0_hw46 k0_t8 r => k0_hw46.2.2.2.2.2.2.2.2.2.2.2.2.2.1 k0_t8 r
theorem k0_off314_inb : ∀ (v2383 : BitVec 32) (v2385 : BitVec 32) (k0_hw46 : k0_chk46 v2383 v2385) (k0_t8 : Fin (k0_t8_loop v2383 v2385).trips), ∀ (r : Fin 8), ∀ a, (k0_off314 v2383 v2385 k0_t8 (BitVec.ofNat 32 r.val)) a + S1x1x256.size a ≤ S7x64x256.size a := fun v2383 v2385 k0_hw46 k0_t8 r => k0_hw46.2.2.2.2.2.2.2.2.2.2.2.2.2.2.1 k0_t8 r
theorem k0_off316_inb : ∀ (v2383 : BitVec 32) (v2385 : BitVec 32) (k0_hw46 : k0_chk46 v2383 v2385) (k0_t8 : Fin (k0_t8_loop v2383 v2385).trips), ∀ (r : Fin 8), ∀ a, (k0_off316 v2383 v2385 k0_t8 (BitVec.ofNat 32 r.val)) a + S1x1x256.size a ≤ S7x64x256.size a := fun v2383 v2385 k0_hw46 k0_t8 r => k0_hw46.2.2.2.2.2.2.2.2.2.2.2.2.2.2.2 k0_t8 r

def k0_off317 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2431 : Index := Scalar.indexCast v2371
  let c0_2076 : Index := 0#32
  ![v2431.toNat, 0]
def k0_off318 (v2432 : BitVec 32) : Fin 3 → Nat :=
  let c0_2082 : Index := 0#32
  let c8_i32_2077 : BitVec 32 := 8#32
  let v2433 : BitVec 32 := Scalar.muli v2432 c8_i32_2077
  let v2439 : Index := Scalar.indexCast v2433
  let c0_2083 : Index := 0#32
  ![0, v2439.toNat, 0]

def k0_off319 (v2432 : BitVec 32) : Fin 3 → Nat :=
  let c1_2095 : Index := 1#32
  let c8_i32_2077 : BitVec 32 := 8#32
  let v2433 : BitVec 32 := Scalar.muli v2432 c8_i32_2077
  let v2453 : Index := Scalar.indexCast v2433
  let c0_2096 : Index := 0#32
  ![1, v2453.toNat, 0]
def k0_off320 (v2432 : BitVec 32) : Fin 3 → Nat :=
  let c2_2108 : Index := 2#32
  let c8_i32_2077 : BitVec 32 := 8#32
  let v2433 : BitVec 32 := Scalar.muli v2432 c8_i32_2077
  let v2467 : Index := Scalar.indexCast v2433
  let c0_2109 : Index := 0#32
  ![2, v2467.toNat, 0]
def k0_off321 (v2432 : BitVec 32) : Fin 3 → Nat :=
  let c3_2121 : Index := 3#32
  let c8_i32_2077 : BitVec 32 := 8#32
  let v2433 : BitVec 32 := Scalar.muli v2432 c8_i32_2077
  let v2481 : Index := Scalar.indexCast v2433
  let c0_2122 : Index := 0#32
  ![3, v2481.toNat, 0]
def k0_off322 (v2432 : BitVec 32) : Fin 3 → Nat :=
  let c4_2134 : Index := 4#32
  let c8_i32_2077 : BitVec 32 := 8#32
  let v2433 : BitVec 32 := Scalar.muli v2432 c8_i32_2077
  let v2495 : Index := Scalar.indexCast v2433
  let c0_2135 : Index := 0#32
  ![4, v2495.toNat, 0]
def k0_off323 (v2432 : BitVec 32) : Fin 3 → Nat :=
  let c5_2147 : Index := 5#32
  let c8_i32_2077 : BitVec 32 := 8#32
  let v2433 : BitVec 32 := Scalar.muli v2432 c8_i32_2077
  let v2509 : Index := Scalar.indexCast v2433
  let c0_2148 : Index := 0#32
  ![5, v2509.toNat, 0]
def k0_off324 (v2432 : BitVec 32) : Fin 3 → Nat :=
  let c6_2160 : Index := 6#32
  let c8_i32_2077 : BitVec 32 := 8#32
  let v2433 : BitVec 32 := Scalar.muli v2432 c8_i32_2077
  let v2523 : Index := Scalar.indexCast v2433
  let c0_2161 : Index := 0#32
  ![6, v2523.toNat, 0]

def k0_chk54 (v2432 : BitVec 32) : Prop :=
  (∀ a, (k0_off318 v2432) a + S1x24x256.size a ≤ S7x64x256.size a) ∧
  (∀ a, (k0_off319 v2432) a + S1x24x256.size a ≤ S7x64x256.size a) ∧
  (∀ a, (k0_off320 v2432) a + S1x24x256.size a ≤ S7x64x256.size a) ∧
  (∀ a, (k0_off321 v2432) a + S1x24x256.size a ≤ S7x64x256.size a) ∧
  (∀ a, (k0_off322 v2432) a + S1x24x256.size a ≤ S7x64x256.size a) ∧
  (∀ a, (k0_off323 v2432) a + S1x24x256.size a ≤ S7x64x256.size a) ∧
  (∀ a, (k0_off324 v2432) a + S1x24x256.size a ≤ S7x64x256.size a)
theorem k0_off318_inb : ∀ (v2432 : BitVec 32) (k0_hw54 : k0_chk54 v2432), ∀ a, (k0_off318 v2432) a + S1x24x256.size a ≤ S7x64x256.size a := fun v2432 k0_hw54 => k0_hw54.1
theorem k0_off319_inb : ∀ (v2432 : BitVec 32) (k0_hw54 : k0_chk54 v2432), ∀ a, (k0_off319 v2432) a + S1x24x256.size a ≤ S7x64x256.size a := fun v2432 k0_hw54 => k0_hw54.2.1
theorem k0_off320_inb : ∀ (v2432 : BitVec 32) (k0_hw54 : k0_chk54 v2432), ∀ a, (k0_off320 v2432) a + S1x24x256.size a ≤ S7x64x256.size a := fun v2432 k0_hw54 => k0_hw54.2.2.1
theorem k0_off321_inb : ∀ (v2432 : BitVec 32) (k0_hw54 : k0_chk54 v2432), ∀ a, (k0_off321 v2432) a + S1x24x256.size a ≤ S7x64x256.size a := fun v2432 k0_hw54 => k0_hw54.2.2.2.1
theorem k0_off322_inb : ∀ (v2432 : BitVec 32) (k0_hw54 : k0_chk54 v2432), ∀ a, (k0_off322 v2432) a + S1x24x256.size a ≤ S7x64x256.size a := fun v2432 k0_hw54 => k0_hw54.2.2.2.2.1
theorem k0_off323_inb : ∀ (v2432 : BitVec 32) (k0_hw54 : k0_chk54 v2432), ∀ a, (k0_off323 v2432) a + S1x24x256.size a ≤ S7x64x256.size a := fun v2432 k0_hw54 => k0_hw54.2.2.2.2.2.1
theorem k0_off324_inb : ∀ (v2432 : BitVec 32) (k0_hw54 : k0_chk54 v2432), ∀ a, (k0_off324 v2432) a + S1x24x256.size a ≤ S7x64x256.size a := fun v2432 k0_hw54 => k0_hw54.2.2.2.2.2.2

def k0_off325 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2535 : Index := Scalar.indexCast v2371
  let c1_2169 : Index := 1#32
  ![v2535.toNat, 1]
def k0_off326 (v2536 : BitVec 32) : Fin 3 → Nat :=
  let c0_2175 : Index := 0#32
  let c8_i32_2170 : BitVec 32 := 8#32
  let v2537 : BitVec 32 := Scalar.muli v2536 c8_i32_2170
  let v2543 : Index := Scalar.indexCast v2537
  let c0_2176 : Index := 0#32
  ![0, v2543.toNat, 0]

def k0_off327 (v2536 : BitVec 32) : Fin 3 → Nat :=
  let c1_2188 : Index := 1#32
  let c8_i32_2170 : BitVec 32 := 8#32
  let v2537 : BitVec 32 := Scalar.muli v2536 c8_i32_2170
  let v2557 : Index := Scalar.indexCast v2537
  let c0_2189 : Index := 0#32
  ![1, v2557.toNat, 0]
def k0_off328 (v2536 : BitVec 32) : Fin 3 → Nat :=
  let c2_2201 : Index := 2#32
  let c8_i32_2170 : BitVec 32 := 8#32
  let v2537 : BitVec 32 := Scalar.muli v2536 c8_i32_2170
  let v2571 : Index := Scalar.indexCast v2537
  let c0_2202 : Index := 0#32
  ![2, v2571.toNat, 0]
def k0_off329 (v2536 : BitVec 32) : Fin 3 → Nat :=
  let c3_2214 : Index := 3#32
  let c8_i32_2170 : BitVec 32 := 8#32
  let v2537 : BitVec 32 := Scalar.muli v2536 c8_i32_2170
  let v2585 : Index := Scalar.indexCast v2537
  let c0_2215 : Index := 0#32
  ![3, v2585.toNat, 0]
def k0_off330 (v2536 : BitVec 32) : Fin 3 → Nat :=
  let c4_2227 : Index := 4#32
  let c8_i32_2170 : BitVec 32 := 8#32
  let v2537 : BitVec 32 := Scalar.muli v2536 c8_i32_2170
  let v2599 : Index := Scalar.indexCast v2537
  let c0_2228 : Index := 0#32
  ![4, v2599.toNat, 0]
def k0_off331 (v2536 : BitVec 32) : Fin 3 → Nat :=
  let c5_2240 : Index := 5#32
  let c8_i32_2170 : BitVec 32 := 8#32
  let v2537 : BitVec 32 := Scalar.muli v2536 c8_i32_2170
  let v2613 : Index := Scalar.indexCast v2537
  let c0_2241 : Index := 0#32
  ![5, v2613.toNat, 0]
def k0_off332 (v2536 : BitVec 32) : Fin 3 → Nat :=
  let c6_2253 : Index := 6#32
  let c8_i32_2170 : BitVec 32 := 8#32
  let v2537 : BitVec 32 := Scalar.muli v2536 c8_i32_2170
  let v2627 : Index := Scalar.indexCast v2537
  let c0_2254 : Index := 0#32
  ![6, v2627.toNat, 0]

def k0_chk55 (v2536 : BitVec 32) : Prop :=
  (∀ a, (k0_off326 v2536) a + S1x24x256.size a ≤ S7x64x256.size a) ∧
  (∀ a, (k0_off327 v2536) a + S1x24x256.size a ≤ S7x64x256.size a) ∧
  (∀ a, (k0_off328 v2536) a + S1x24x256.size a ≤ S7x64x256.size a) ∧
  (∀ a, (k0_off329 v2536) a + S1x24x256.size a ≤ S7x64x256.size a) ∧
  (∀ a, (k0_off330 v2536) a + S1x24x256.size a ≤ S7x64x256.size a) ∧
  (∀ a, (k0_off331 v2536) a + S1x24x256.size a ≤ S7x64x256.size a) ∧
  (∀ a, (k0_off332 v2536) a + S1x24x256.size a ≤ S7x64x256.size a)
theorem k0_off326_inb : ∀ (v2536 : BitVec 32) (k0_hw55 : k0_chk55 v2536), ∀ a, (k0_off326 v2536) a + S1x24x256.size a ≤ S7x64x256.size a := fun v2536 k0_hw55 => k0_hw55.1
theorem k0_off327_inb : ∀ (v2536 : BitVec 32) (k0_hw55 : k0_chk55 v2536), ∀ a, (k0_off327 v2536) a + S1x24x256.size a ≤ S7x64x256.size a := fun v2536 k0_hw55 => k0_hw55.2.1
theorem k0_off328_inb : ∀ (v2536 : BitVec 32) (k0_hw55 : k0_chk55 v2536), ∀ a, (k0_off328 v2536) a + S1x24x256.size a ≤ S7x64x256.size a := fun v2536 k0_hw55 => k0_hw55.2.2.1
theorem k0_off329_inb : ∀ (v2536 : BitVec 32) (k0_hw55 : k0_chk55 v2536), ∀ a, (k0_off329 v2536) a + S1x24x256.size a ≤ S7x64x256.size a := fun v2536 k0_hw55 => k0_hw55.2.2.2.1
theorem k0_off330_inb : ∀ (v2536 : BitVec 32) (k0_hw55 : k0_chk55 v2536), ∀ a, (k0_off330 v2536) a + S1x24x256.size a ≤ S7x64x256.size a := fun v2536 k0_hw55 => k0_hw55.2.2.2.2.1
theorem k0_off331_inb : ∀ (v2536 : BitVec 32) (k0_hw55 : k0_chk55 v2536), ∀ a, (k0_off331 v2536) a + S1x24x256.size a ≤ S7x64x256.size a := fun v2536 k0_hw55 => k0_hw55.2.2.2.2.2.1
theorem k0_off332_inb : ∀ (v2536 : BitVec 32) (k0_hw55 : k0_chk55 v2536), ∀ a, (k0_off332 v2536) a + S1x24x256.size a ≤ S7x64x256.size a := fun v2536 k0_hw55 => k0_hw55.2.2.2.2.2.2

def k0_off333 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2639 : Index := Scalar.indexCast v2371
  let c2_2262 : Index := 2#32
  ![v2639.toNat, 2]
def k0_off334 (v2640 : BitVec 32) : Fin 3 → Nat :=
  let c0_2268 : Index := 0#32
  let c8_i32_2263 : BitVec 32 := 8#32
  let v2641 : BitVec 32 := Scalar.muli v2640 c8_i32_2263
  let v2647 : Index := Scalar.indexCast v2641
  let c0_2269 : Index := 0#32
  ![0, v2647.toNat, 0]

def k0_off335 (v2640 : BitVec 32) : Fin 3 → Nat :=
  let c1_2281 : Index := 1#32
  let c8_i32_2263 : BitVec 32 := 8#32
  let v2641 : BitVec 32 := Scalar.muli v2640 c8_i32_2263
  let v2661 : Index := Scalar.indexCast v2641
  let c0_2282 : Index := 0#32
  ![1, v2661.toNat, 0]
def k0_off336 (v2640 : BitVec 32) : Fin 3 → Nat :=
  let c2_2294 : Index := 2#32
  let c8_i32_2263 : BitVec 32 := 8#32
  let v2641 : BitVec 32 := Scalar.muli v2640 c8_i32_2263
  let v2675 : Index := Scalar.indexCast v2641
  let c0_2295 : Index := 0#32
  ![2, v2675.toNat, 0]
def k0_off337 (v2640 : BitVec 32) : Fin 3 → Nat :=
  let c3_2307 : Index := 3#32
  let c8_i32_2263 : BitVec 32 := 8#32
  let v2641 : BitVec 32 := Scalar.muli v2640 c8_i32_2263
  let v2689 : Index := Scalar.indexCast v2641
  let c0_2308 : Index := 0#32
  ![3, v2689.toNat, 0]
def k0_off338 (v2640 : BitVec 32) : Fin 3 → Nat :=
  let c4_2320 : Index := 4#32
  let c8_i32_2263 : BitVec 32 := 8#32
  let v2641 : BitVec 32 := Scalar.muli v2640 c8_i32_2263
  let v2703 : Index := Scalar.indexCast v2641
  let c0_2321 : Index := 0#32
  ![4, v2703.toNat, 0]
def k0_off339 (v2640 : BitVec 32) : Fin 3 → Nat :=
  let c5_2333 : Index := 5#32
  let c8_i32_2263 : BitVec 32 := 8#32
  let v2641 : BitVec 32 := Scalar.muli v2640 c8_i32_2263
  let v2717 : Index := Scalar.indexCast v2641
  let c0_2334 : Index := 0#32
  ![5, v2717.toNat, 0]
def k0_off340 (v2640 : BitVec 32) : Fin 3 → Nat :=
  let c6_2346 : Index := 6#32
  let c8_i32_2263 : BitVec 32 := 8#32
  let v2641 : BitVec 32 := Scalar.muli v2640 c8_i32_2263
  let v2731 : Index := Scalar.indexCast v2641
  let c0_2347 : Index := 0#32
  ![6, v2731.toNat, 0]

def k0_chk56 (v2640 : BitVec 32) : Prop :=
  (∀ a, (k0_off334 v2640) a + S1x24x256.size a ≤ S7x64x256.size a) ∧
  (∀ a, (k0_off335 v2640) a + S1x24x256.size a ≤ S7x64x256.size a) ∧
  (∀ a, (k0_off336 v2640) a + S1x24x256.size a ≤ S7x64x256.size a) ∧
  (∀ a, (k0_off337 v2640) a + S1x24x256.size a ≤ S7x64x256.size a) ∧
  (∀ a, (k0_off338 v2640) a + S1x24x256.size a ≤ S7x64x256.size a) ∧
  (∀ a, (k0_off339 v2640) a + S1x24x256.size a ≤ S7x64x256.size a) ∧
  (∀ a, (k0_off340 v2640) a + S1x24x256.size a ≤ S7x64x256.size a)
theorem k0_off334_inb : ∀ (v2640 : BitVec 32) (k0_hw56 : k0_chk56 v2640), ∀ a, (k0_off334 v2640) a + S1x24x256.size a ≤ S7x64x256.size a := fun v2640 k0_hw56 => k0_hw56.1
theorem k0_off335_inb : ∀ (v2640 : BitVec 32) (k0_hw56 : k0_chk56 v2640), ∀ a, (k0_off335 v2640) a + S1x24x256.size a ≤ S7x64x256.size a := fun v2640 k0_hw56 => k0_hw56.2.1
theorem k0_off336_inb : ∀ (v2640 : BitVec 32) (k0_hw56 : k0_chk56 v2640), ∀ a, (k0_off336 v2640) a + S1x24x256.size a ≤ S7x64x256.size a := fun v2640 k0_hw56 => k0_hw56.2.2.1
theorem k0_off337_inb : ∀ (v2640 : BitVec 32) (k0_hw56 : k0_chk56 v2640), ∀ a, (k0_off337 v2640) a + S1x24x256.size a ≤ S7x64x256.size a := fun v2640 k0_hw56 => k0_hw56.2.2.2.1
theorem k0_off338_inb : ∀ (v2640 : BitVec 32) (k0_hw56 : k0_chk56 v2640), ∀ a, (k0_off338 v2640) a + S1x24x256.size a ≤ S7x64x256.size a := fun v2640 k0_hw56 => k0_hw56.2.2.2.2.1
theorem k0_off339_inb : ∀ (v2640 : BitVec 32) (k0_hw56 : k0_chk56 v2640), ∀ a, (k0_off339 v2640) a + S1x24x256.size a ≤ S7x64x256.size a := fun v2640 k0_hw56 => k0_hw56.2.2.2.2.2.1
theorem k0_off340_inb : ∀ (v2640 : BitVec 32) (k0_hw56 : k0_chk56 v2640), ∀ a, (k0_off340 v2640) a + S1x24x256.size a ≤ S7x64x256.size a := fun v2640 k0_hw56 => k0_hw56.2.2.2.2.2.2

def k0_off341 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2743 : Index := Scalar.indexCast v2371
  let c3_2355 : Index := 3#32
  ![v2743.toNat, 3]
def k0_off342 (v2744 : BitVec 32) : Fin 3 → Nat :=
  let c0_2361 : Index := 0#32
  let c8_i32_2356 : BitVec 32 := 8#32
  let v2745 : BitVec 32 := Scalar.muli v2744 c8_i32_2356
  let v2751 : Index := Scalar.indexCast v2745
  let c0_2362 : Index := 0#32
  ![0, v2751.toNat, 0]

def k0_off343 (v2744 : BitVec 32) : Fin 3 → Nat :=
  let c1_2374 : Index := 1#32
  let c8_i32_2356 : BitVec 32 := 8#32
  let v2745 : BitVec 32 := Scalar.muli v2744 c8_i32_2356
  let v2765 : Index := Scalar.indexCast v2745
  let c0_2375 : Index := 0#32
  ![1, v2765.toNat, 0]
def k0_off344 (v2744 : BitVec 32) : Fin 3 → Nat :=
  let c2_2387 : Index := 2#32
  let c8_i32_2356 : BitVec 32 := 8#32
  let v2745 : BitVec 32 := Scalar.muli v2744 c8_i32_2356
  let v2779 : Index := Scalar.indexCast v2745
  let c0_2388 : Index := 0#32
  ![2, v2779.toNat, 0]
def k0_off345 (v2744 : BitVec 32) : Fin 3 → Nat :=
  let c3_2400 : Index := 3#32
  let c8_i32_2356 : BitVec 32 := 8#32
  let v2745 : BitVec 32 := Scalar.muli v2744 c8_i32_2356
  let v2793 : Index := Scalar.indexCast v2745
  let c0_2401 : Index := 0#32
  ![3, v2793.toNat, 0]
def k0_off346 (v2744 : BitVec 32) : Fin 3 → Nat :=
  let c4_2413 : Index := 4#32
  let c8_i32_2356 : BitVec 32 := 8#32
  let v2745 : BitVec 32 := Scalar.muli v2744 c8_i32_2356
  let v2807 : Index := Scalar.indexCast v2745
  let c0_2414 : Index := 0#32
  ![4, v2807.toNat, 0]
def k0_off347 (v2744 : BitVec 32) : Fin 3 → Nat :=
  let c5_2426 : Index := 5#32
  let c8_i32_2356 : BitVec 32 := 8#32
  let v2745 : BitVec 32 := Scalar.muli v2744 c8_i32_2356
  let v2821 : Index := Scalar.indexCast v2745
  let c0_2427 : Index := 0#32
  ![5, v2821.toNat, 0]
def k0_off348 (v2744 : BitVec 32) : Fin 3 → Nat :=
  let c6_2439 : Index := 6#32
  let c8_i32_2356 : BitVec 32 := 8#32
  let v2745 : BitVec 32 := Scalar.muli v2744 c8_i32_2356
  let v2835 : Index := Scalar.indexCast v2745
  let c0_2440 : Index := 0#32
  ![6, v2835.toNat, 0]

def k0_chk57 (v2744 : BitVec 32) : Prop :=
  (∀ a, (k0_off342 v2744) a + S1x24x256.size a ≤ S7x64x256.size a) ∧
  (∀ a, (k0_off343 v2744) a + S1x24x256.size a ≤ S7x64x256.size a) ∧
  (∀ a, (k0_off344 v2744) a + S1x24x256.size a ≤ S7x64x256.size a) ∧
  (∀ a, (k0_off345 v2744) a + S1x24x256.size a ≤ S7x64x256.size a) ∧
  (∀ a, (k0_off346 v2744) a + S1x24x256.size a ≤ S7x64x256.size a) ∧
  (∀ a, (k0_off347 v2744) a + S1x24x256.size a ≤ S7x64x256.size a) ∧
  (∀ a, (k0_off348 v2744) a + S1x24x256.size a ≤ S7x64x256.size a)
theorem k0_off342_inb : ∀ (v2744 : BitVec 32) (k0_hw57 : k0_chk57 v2744), ∀ a, (k0_off342 v2744) a + S1x24x256.size a ≤ S7x64x256.size a := fun v2744 k0_hw57 => k0_hw57.1
theorem k0_off343_inb : ∀ (v2744 : BitVec 32) (k0_hw57 : k0_chk57 v2744), ∀ a, (k0_off343 v2744) a + S1x24x256.size a ≤ S7x64x256.size a := fun v2744 k0_hw57 => k0_hw57.2.1
theorem k0_off344_inb : ∀ (v2744 : BitVec 32) (k0_hw57 : k0_chk57 v2744), ∀ a, (k0_off344 v2744) a + S1x24x256.size a ≤ S7x64x256.size a := fun v2744 k0_hw57 => k0_hw57.2.2.1
theorem k0_off345_inb : ∀ (v2744 : BitVec 32) (k0_hw57 : k0_chk57 v2744), ∀ a, (k0_off345 v2744) a + S1x24x256.size a ≤ S7x64x256.size a := fun v2744 k0_hw57 => k0_hw57.2.2.2.1
theorem k0_off346_inb : ∀ (v2744 : BitVec 32) (k0_hw57 : k0_chk57 v2744), ∀ a, (k0_off346 v2744) a + S1x24x256.size a ≤ S7x64x256.size a := fun v2744 k0_hw57 => k0_hw57.2.2.2.2.1
theorem k0_off347_inb : ∀ (v2744 : BitVec 32) (k0_hw57 : k0_chk57 v2744), ∀ a, (k0_off347 v2744) a + S1x24x256.size a ≤ S7x64x256.size a := fun v2744 k0_hw57 => k0_hw57.2.2.2.2.2.1
theorem k0_off348_inb : ∀ (v2744 : BitVec 32) (k0_hw57 : k0_chk57 v2744), ∀ a, (k0_off348 v2744) a + S1x24x256.size a ≤ S7x64x256.size a := fun v2744 k0_hw57 => k0_hw57.2.2.2.2.2.2

def k0_off349 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2847 : Index := Scalar.indexCast v2371
  let c4_2448 : Index := 4#32
  ![v2847.toNat, 4]
def k0_off350 (v2848 : BitVec 32) : Fin 3 → Nat :=
  let c0_2454 : Index := 0#32
  let c8_i32_2449 : BitVec 32 := 8#32
  let v2849 : BitVec 32 := Scalar.muli v2848 c8_i32_2449
  let v2855 : Index := Scalar.indexCast v2849
  let c0_2455 : Index := 0#32
  ![0, v2855.toNat, 0]

def k0_off351 (v2848 : BitVec 32) : Fin 3 → Nat :=
  let c1_2467 : Index := 1#32
  let c8_i32_2449 : BitVec 32 := 8#32
  let v2849 : BitVec 32 := Scalar.muli v2848 c8_i32_2449
  let v2869 : Index := Scalar.indexCast v2849
  let c0_2468 : Index := 0#32
  ![1, v2869.toNat, 0]
def k0_off352 (v2848 : BitVec 32) : Fin 3 → Nat :=
  let c2_2480 : Index := 2#32
  let c8_i32_2449 : BitVec 32 := 8#32
  let v2849 : BitVec 32 := Scalar.muli v2848 c8_i32_2449
  let v2883 : Index := Scalar.indexCast v2849
  let c0_2481 : Index := 0#32
  ![2, v2883.toNat, 0]
def k0_off353 (v2848 : BitVec 32) : Fin 3 → Nat :=
  let c3_2493 : Index := 3#32
  let c8_i32_2449 : BitVec 32 := 8#32
  let v2849 : BitVec 32 := Scalar.muli v2848 c8_i32_2449
  let v2897 : Index := Scalar.indexCast v2849
  let c0_2494 : Index := 0#32
  ![3, v2897.toNat, 0]
def k0_off354 (v2848 : BitVec 32) : Fin 3 → Nat :=
  let c4_2506 : Index := 4#32
  let c8_i32_2449 : BitVec 32 := 8#32
  let v2849 : BitVec 32 := Scalar.muli v2848 c8_i32_2449
  let v2911 : Index := Scalar.indexCast v2849
  let c0_2507 : Index := 0#32
  ![4, v2911.toNat, 0]
def k0_off355 (v2848 : BitVec 32) : Fin 3 → Nat :=
  let c5_2519 : Index := 5#32
  let c8_i32_2449 : BitVec 32 := 8#32
  let v2849 : BitVec 32 := Scalar.muli v2848 c8_i32_2449
  let v2925 : Index := Scalar.indexCast v2849
  let c0_2520 : Index := 0#32
  ![5, v2925.toNat, 0]
def k0_off356 (v2848 : BitVec 32) : Fin 3 → Nat :=
  let c6_2532 : Index := 6#32
  let c8_i32_2449 : BitVec 32 := 8#32
  let v2849 : BitVec 32 := Scalar.muli v2848 c8_i32_2449
  let v2939 : Index := Scalar.indexCast v2849
  let c0_2533 : Index := 0#32
  ![6, v2939.toNat, 0]

def k0_chk58 (v2848 : BitVec 32) : Prop :=
  (∀ a, (k0_off350 v2848) a + S1x24x256.size a ≤ S7x64x256.size a) ∧
  (∀ a, (k0_off351 v2848) a + S1x24x256.size a ≤ S7x64x256.size a) ∧
  (∀ a, (k0_off352 v2848) a + S1x24x256.size a ≤ S7x64x256.size a) ∧
  (∀ a, (k0_off353 v2848) a + S1x24x256.size a ≤ S7x64x256.size a) ∧
  (∀ a, (k0_off354 v2848) a + S1x24x256.size a ≤ S7x64x256.size a) ∧
  (∀ a, (k0_off355 v2848) a + S1x24x256.size a ≤ S7x64x256.size a) ∧
  (∀ a, (k0_off356 v2848) a + S1x24x256.size a ≤ S7x64x256.size a)
theorem k0_off350_inb : ∀ (v2848 : BitVec 32) (k0_hw58 : k0_chk58 v2848), ∀ a, (k0_off350 v2848) a + S1x24x256.size a ≤ S7x64x256.size a := fun v2848 k0_hw58 => k0_hw58.1
theorem k0_off351_inb : ∀ (v2848 : BitVec 32) (k0_hw58 : k0_chk58 v2848), ∀ a, (k0_off351 v2848) a + S1x24x256.size a ≤ S7x64x256.size a := fun v2848 k0_hw58 => k0_hw58.2.1
theorem k0_off352_inb : ∀ (v2848 : BitVec 32) (k0_hw58 : k0_chk58 v2848), ∀ a, (k0_off352 v2848) a + S1x24x256.size a ≤ S7x64x256.size a := fun v2848 k0_hw58 => k0_hw58.2.2.1
theorem k0_off353_inb : ∀ (v2848 : BitVec 32) (k0_hw58 : k0_chk58 v2848), ∀ a, (k0_off353 v2848) a + S1x24x256.size a ≤ S7x64x256.size a := fun v2848 k0_hw58 => k0_hw58.2.2.2.1
theorem k0_off354_inb : ∀ (v2848 : BitVec 32) (k0_hw58 : k0_chk58 v2848), ∀ a, (k0_off354 v2848) a + S1x24x256.size a ≤ S7x64x256.size a := fun v2848 k0_hw58 => k0_hw58.2.2.2.2.1
theorem k0_off355_inb : ∀ (v2848 : BitVec 32) (k0_hw58 : k0_chk58 v2848), ∀ a, (k0_off355 v2848) a + S1x24x256.size a ≤ S7x64x256.size a := fun v2848 k0_hw58 => k0_hw58.2.2.2.2.2.1
theorem k0_off356_inb : ∀ (v2848 : BitVec 32) (k0_hw58 : k0_chk58 v2848), ∀ a, (k0_off356 v2848) a + S1x24x256.size a ≤ S7x64x256.size a := fun v2848 k0_hw58 => k0_hw58.2.2.2.2.2.2

def k0_off357 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v2951 : Index := Scalar.indexCast v2371
  let c5_2541 : Index := 5#32
  ![v2951.toNat, 5]
def k0_off358 (v2952 : BitVec 32) : Fin 3 → Nat :=
  let c0_2547 : Index := 0#32
  let c8_i32_2542 : BitVec 32 := 8#32
  let v2953 : BitVec 32 := Scalar.muli v2952 c8_i32_2542
  let v2959 : Index := Scalar.indexCast v2953
  let c0_2548 : Index := 0#32
  ![0, v2959.toNat, 0]

def k0_off359 (v2952 : BitVec 32) : Fin 3 → Nat :=
  let c1_2560 : Index := 1#32
  let c8_i32_2542 : BitVec 32 := 8#32
  let v2953 : BitVec 32 := Scalar.muli v2952 c8_i32_2542
  let v2973 : Index := Scalar.indexCast v2953
  let c0_2561 : Index := 0#32
  ![1, v2973.toNat, 0]
def k0_off360 (v2952 : BitVec 32) : Fin 3 → Nat :=
  let c2_2573 : Index := 2#32
  let c8_i32_2542 : BitVec 32 := 8#32
  let v2953 : BitVec 32 := Scalar.muli v2952 c8_i32_2542
  let v2987 : Index := Scalar.indexCast v2953
  let c0_2574 : Index := 0#32
  ![2, v2987.toNat, 0]
def k0_off361 (v2952 : BitVec 32) : Fin 3 → Nat :=
  let c3_2586 : Index := 3#32
  let c8_i32_2542 : BitVec 32 := 8#32
  let v2953 : BitVec 32 := Scalar.muli v2952 c8_i32_2542
  let v3001 : Index := Scalar.indexCast v2953
  let c0_2587 : Index := 0#32
  ![3, v3001.toNat, 0]
def k0_off362 (v2952 : BitVec 32) : Fin 3 → Nat :=
  let c4_2599 : Index := 4#32
  let c8_i32_2542 : BitVec 32 := 8#32
  let v2953 : BitVec 32 := Scalar.muli v2952 c8_i32_2542
  let v3015 : Index := Scalar.indexCast v2953
  let c0_2600 : Index := 0#32
  ![4, v3015.toNat, 0]
def k0_off363 (v2952 : BitVec 32) : Fin 3 → Nat :=
  let c5_2612 : Index := 5#32
  let c8_i32_2542 : BitVec 32 := 8#32
  let v2953 : BitVec 32 := Scalar.muli v2952 c8_i32_2542
  let v3029 : Index := Scalar.indexCast v2953
  let c0_2613 : Index := 0#32
  ![5, v3029.toNat, 0]
def k0_off364 (v2952 : BitVec 32) : Fin 3 → Nat :=
  let c6_2625 : Index := 6#32
  let c8_i32_2542 : BitVec 32 := 8#32
  let v2953 : BitVec 32 := Scalar.muli v2952 c8_i32_2542
  let v3043 : Index := Scalar.indexCast v2953
  let c0_2626 : Index := 0#32
  ![6, v3043.toNat, 0]

def k0_chk59 (v2952 : BitVec 32) : Prop :=
  (∀ a, (k0_off358 v2952) a + S1x24x256.size a ≤ S7x64x256.size a) ∧
  (∀ a, (k0_off359 v2952) a + S1x24x256.size a ≤ S7x64x256.size a) ∧
  (∀ a, (k0_off360 v2952) a + S1x24x256.size a ≤ S7x64x256.size a) ∧
  (∀ a, (k0_off361 v2952) a + S1x24x256.size a ≤ S7x64x256.size a) ∧
  (∀ a, (k0_off362 v2952) a + S1x24x256.size a ≤ S7x64x256.size a) ∧
  (∀ a, (k0_off363 v2952) a + S1x24x256.size a ≤ S7x64x256.size a) ∧
  (∀ a, (k0_off364 v2952) a + S1x24x256.size a ≤ S7x64x256.size a)
theorem k0_off358_inb : ∀ (v2952 : BitVec 32) (k0_hw59 : k0_chk59 v2952), ∀ a, (k0_off358 v2952) a + S1x24x256.size a ≤ S7x64x256.size a := fun v2952 k0_hw59 => k0_hw59.1
theorem k0_off359_inb : ∀ (v2952 : BitVec 32) (k0_hw59 : k0_chk59 v2952), ∀ a, (k0_off359 v2952) a + S1x24x256.size a ≤ S7x64x256.size a := fun v2952 k0_hw59 => k0_hw59.2.1
theorem k0_off360_inb : ∀ (v2952 : BitVec 32) (k0_hw59 : k0_chk59 v2952), ∀ a, (k0_off360 v2952) a + S1x24x256.size a ≤ S7x64x256.size a := fun v2952 k0_hw59 => k0_hw59.2.2.1
theorem k0_off361_inb : ∀ (v2952 : BitVec 32) (k0_hw59 : k0_chk59 v2952), ∀ a, (k0_off361 v2952) a + S1x24x256.size a ≤ S7x64x256.size a := fun v2952 k0_hw59 => k0_hw59.2.2.2.1
theorem k0_off362_inb : ∀ (v2952 : BitVec 32) (k0_hw59 : k0_chk59 v2952), ∀ a, (k0_off362 v2952) a + S1x24x256.size a ≤ S7x64x256.size a := fun v2952 k0_hw59 => k0_hw59.2.2.2.2.1
theorem k0_off363_inb : ∀ (v2952 : BitVec 32) (k0_hw59 : k0_chk59 v2952), ∀ a, (k0_off363 v2952) a + S1x24x256.size a ≤ S7x64x256.size a := fun v2952 k0_hw59 => k0_hw59.2.2.2.2.2.1
theorem k0_off364_inb : ∀ (v2952 : BitVec 32) (k0_hw59 : k0_chk59 v2952), ∀ a, (k0_off364 v2952) a + S1x24x256.size a ≤ S7x64x256.size a := fun v2952 k0_hw59 => k0_hw59.2.2.2.2.2.2

def k0_off365 (i : grid0.Coords) : Fin 2 → Nat :=
  let arg0 : BitVec 32 := BitVec.ofNat 32 (i 0).val
  let c4_i32_2043 : BitVec 32 := 4#32
  let v2370 : BitVec 32 := Scalar.muli arg0 c4_i32_2043
  let c3_i32 : BitVec 32 := 3#32
  let v2371 : BitVec 32 := Scalar.addi v2370 c3_i32
  let v3055 : Index := Scalar.indexCast v2371
  let c6_2634 : Index := 6#32
  ![v3055.toNat, 6]
def k0_off366 (v3056 : BitVec 32) : Fin 3 → Nat :=
  let c0_2640 : Index := 0#32
  let c8_i32_2635 : BitVec 32 := 8#32
  let v3057 : BitVec 32 := Scalar.muli v3056 c8_i32_2635
  let v3063 : Index := Scalar.indexCast v3057
  let c0_2641 : Index := 0#32
  ![0, v3063.toNat, 0]

def k0_off367 (v3056 : BitVec 32) : Fin 3 → Nat :=
  let c1_2653 : Index := 1#32
  let c8_i32_2635 : BitVec 32 := 8#32
  let v3057 : BitVec 32 := Scalar.muli v3056 c8_i32_2635
  let v3077 : Index := Scalar.indexCast v3057
  let c0_2654 : Index := 0#32
  ![1, v3077.toNat, 0]
def k0_off368 (v3056 : BitVec 32) : Fin 3 → Nat :=
  let c2_2666 : Index := 2#32
  let c8_i32_2635 : BitVec 32 := 8#32
  let v3057 : BitVec 32 := Scalar.muli v3056 c8_i32_2635
  let v3091 : Index := Scalar.indexCast v3057
  let c0_2667 : Index := 0#32
  ![2, v3091.toNat, 0]
def k0_off369 (v3056 : BitVec 32) : Fin 3 → Nat :=
  let c3_2679 : Index := 3#32
  let c8_i32_2635 : BitVec 32 := 8#32
  let v3057 : BitVec 32 := Scalar.muli v3056 c8_i32_2635
  let v3105 : Index := Scalar.indexCast v3057
  let c0_2680 : Index := 0#32
  ![3, v3105.toNat, 0]
def k0_off370 (v3056 : BitVec 32) : Fin 3 → Nat :=
  let c4_2692 : Index := 4#32
  let c8_i32_2635 : BitVec 32 := 8#32
  let v3057 : BitVec 32 := Scalar.muli v3056 c8_i32_2635
  let v3119 : Index := Scalar.indexCast v3057
  let c0_2693 : Index := 0#32
  ![4, v3119.toNat, 0]
def k0_off371 (v3056 : BitVec 32) : Fin 3 → Nat :=
  let c5_2705 : Index := 5#32
  let c8_i32_2635 : BitVec 32 := 8#32
  let v3057 : BitVec 32 := Scalar.muli v3056 c8_i32_2635
  let v3133 : Index := Scalar.indexCast v3057
  let c0_2706 : Index := 0#32
  ![5, v3133.toNat, 0]
def k0_off372 (v3056 : BitVec 32) : Fin 3 → Nat :=
  let c6_2718 : Index := 6#32
  let c8_i32_2635 : BitVec 32 := 8#32
  let v3057 : BitVec 32 := Scalar.muli v3056 c8_i32_2635
  let v3147 : Index := Scalar.indexCast v3057
  let c0_2719 : Index := 0#32
  ![6, v3147.toNat, 0]

def k0_chk60 (v3056 : BitVec 32) : Prop :=
  (∀ a, (k0_off366 v3056) a + S1x24x256.size a ≤ S7x64x256.size a) ∧
  (∀ a, (k0_off367 v3056) a + S1x24x256.size a ≤ S7x64x256.size a) ∧
  (∀ a, (k0_off368 v3056) a + S1x24x256.size a ≤ S7x64x256.size a) ∧
  (∀ a, (k0_off369 v3056) a + S1x24x256.size a ≤ S7x64x256.size a) ∧
  (∀ a, (k0_off370 v3056) a + S1x24x256.size a ≤ S7x64x256.size a) ∧
  (∀ a, (k0_off371 v3056) a + S1x24x256.size a ≤ S7x64x256.size a) ∧
  (∀ a, (k0_off372 v3056) a + S1x24x256.size a ≤ S7x64x256.size a)
theorem k0_off366_inb : ∀ (v3056 : BitVec 32) (k0_hw60 : k0_chk60 v3056), ∀ a, (k0_off366 v3056) a + S1x24x256.size a ≤ S7x64x256.size a := fun v3056 k0_hw60 => k0_hw60.1
theorem k0_off367_inb : ∀ (v3056 : BitVec 32) (k0_hw60 : k0_chk60 v3056), ∀ a, (k0_off367 v3056) a + S1x24x256.size a ≤ S7x64x256.size a := fun v3056 k0_hw60 => k0_hw60.2.1
theorem k0_off368_inb : ∀ (v3056 : BitVec 32) (k0_hw60 : k0_chk60 v3056), ∀ a, (k0_off368 v3056) a + S1x24x256.size a ≤ S7x64x256.size a := fun v3056 k0_hw60 => k0_hw60.2.2.1
theorem k0_off369_inb : ∀ (v3056 : BitVec 32) (k0_hw60 : k0_chk60 v3056), ∀ a, (k0_off369 v3056) a + S1x24x256.size a ≤ S7x64x256.size a := fun v3056 k0_hw60 => k0_hw60.2.2.2.1
theorem k0_off370_inb : ∀ (v3056 : BitVec 32) (k0_hw60 : k0_chk60 v3056), ∀ a, (k0_off370 v3056) a + S1x24x256.size a ≤ S7x64x256.size a := fun v3056 k0_hw60 => k0_hw60.2.2.2.2.1
theorem k0_off371_inb : ∀ (v3056 : BitVec 32) (k0_hw60 : k0_chk60 v3056), ∀ a, (k0_off371 v3056) a + S1x24x256.size a ≤ S7x64x256.size a := fun v3056 k0_hw60 => k0_hw60.2.2.2.2.2.1
theorem k0_off372_inb : ∀ (v3056 : BitVec 32) (k0_hw60 : k0_chk60 v3056), ∀ a, (k0_off372 v3056) a + S1x24x256.size a ≤ S7x64x256.size a := fun v3056 k0_hw60 => k0_hw60.2.2.2.2.2.2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S4x64x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x7x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x7x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x7x7x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x256x64x64 : Shape := ⟨4, ![4, 256, 64, 64]⟩
abbrev S256x5 : Shape := ⟨2, ![256, 5]⟩
abbrev S256x1 : Shape := ⟨2, ![256, 1]⟩
abbrev S256 : Shape := ⟨1, ![256]⟩
abbrev S256x4 : Shape := ⟨2, ![256, 4]⟩
abbrev S_ : Shape := ⟨0, ![]⟩
abbrev S256x256x64x64 : Shape := ⟨4, ![256, 256, 64, 64]⟩
abbrev S64 : Shape := ⟨1, ![64]⟩
abbrev S1x64 : Shape := ⟨2, ![1, 64]⟩
abbrev S256x64 : Shape := ⟨2, ![256, 64]⟩
abbrev S256x1x1x64 : Shape := ⟨4, ![256, 1, 1, 64]⟩
abbrev S256x256x64 : Shape := ⟨3, ![256, 256, 64]⟩
abbrev S256x256x64x1 : Shape := ⟨4, ![256, 256, 64, 1]⟩
abbrev S256x256x64x7 : Shape := ⟨4, ![256, 256, 64, 7]⟩
abbrev S256x1x64x1 : Shape := ⟨4, ![256, 1, 64, 1]⟩
abbrev S256x256x7 : Shape := ⟨3, ![256, 256, 7]⟩
abbrev S256x256x1x7 : Shape := ⟨4, ![256, 256, 1, 7]⟩
abbrev S256x256x7x7 : Shape := ⟨4, ![256, 256, 7, 7]⟩
abbrev S256x1x1x1 : Shape := ⟨4, ![256, 1, 1, 1]⟩

abbrev nBuf : Space → Nat
  | .hbm => 1054
  | .vmem => 0
  | .smem => 0
  | _ => 0

abbrev hbmTy0_0 (i : Nat) : BufTy := match i % 128 with
  | 0 => ⟨S4x256x64x64, .f32⟩
  | 1 => ⟨S256x5, .f32⟩
  | 2 => ⟨S256x1, .f32⟩
  | 3 => ⟨S256, .f32⟩
  | 4 => ⟨S256, .i32⟩
  | 5 => ⟨S256x4, .f32⟩
  | 6 => ⟨S_, .f32⟩
  | 7 => ⟨S256x4, .f32⟩
  | 8 => ⟨S256x4, .f32⟩
  | 9 => ⟨S256x4, .f32⟩
  | 10 => ⟨S256x4, .i32⟩
  | 11 => ⟨S256x1, .i32⟩
  | 12 => ⟨S256, .i32⟩
  | 13 => ⟨S_, .i32⟩
  | 14 => ⟨S_, .i32⟩
  | 15 => ⟨S_, .i32⟩
  | 16 => ⟨S256, .i32⟩
  | 17 => ⟨S256, .i32⟩
  | 18 => ⟨S_, .i32⟩
  | 19 => ⟨S256, .i32⟩
  | 20 => ⟨S256, .i32⟩
  | 21 => ⟨S256x1, .i32⟩
  | 22 => ⟨S256, .i32⟩
  | 23 => ⟨S_, .i32⟩
  | 24 => ⟨S_, .i32⟩
  | 25 => ⟨S_, .i32⟩
  | 26 => ⟨S256, .i32⟩
  | 27 => ⟨S256, .i32⟩
  | 28 => ⟨S_, .i32⟩
  | 29 => ⟨S256, .i32⟩
  | 30 => ⟨S256, .i32⟩
  | 31 => ⟨S256x1, .i32⟩
  | 32 => ⟨S256, .i32⟩
  | 33 => ⟨S_, .i32⟩
  | 34 => ⟨S_, .i32⟩
  | 35 => ⟨S_, .i32⟩
  | 36 => ⟨S256, .i32⟩
  | 37 => ⟨S256, .i32⟩
  | 38 => ⟨S_, .i32⟩
  | 39 => ⟨S256, .i32⟩
  | 40 => ⟨S256, .i32⟩
  | 41 => ⟨S256x1, .i32⟩
  | 42 => ⟨S256, .i32⟩
  | 43 => ⟨S_, .i32⟩
  | 44 => ⟨S_, .i32⟩
  | 45 => ⟨S_, .i32⟩
  | 46 => ⟨S256, .i32⟩
  | 47 => ⟨S256, .i32⟩
  | 48 => ⟨S_, .i32⟩
  | 49 => ⟨S256, .i32⟩
  | 50 => ⟨S256, .i32⟩
  | 51 => ⟨S256, .i1⟩
  | 52 => ⟨S256, .i1⟩
  | 53 => ⟨S256, .i1⟩
  | 54 => ⟨S_, .i32⟩
  | 55 => ⟨S256, .i32⟩
  | 56 => ⟨S256, .i1⟩
  | 57 => ⟨S_, .i32⟩
  | 58 => ⟨S256, .i32⟩
  | 59 => ⟨S256, .i32⟩
  | 60 => ⟨S256, .i32⟩
  | 61 => ⟨S256x1, .i32⟩
  | 62 => ⟨S256x256x64x64, .f32⟩
  | 63 => ⟨S256, .i32⟩
  | 64 => ⟨S256, .i32⟩
  | 65 => ⟨S64, .i32⟩
  | 66 => ⟨S64, .i32⟩
  | 67 => ⟨S_, .i32⟩
  | 68 => ⟨S256, .i32⟩
  | 69 => ⟨S256, .i32⟩
  | 70 => ⟨S_, .i32⟩
  | 71 => ⟨S_, .i32⟩
  | 72 => ⟨S256, .i32⟩
  | 73 => ⟨S256, .i32⟩
  | 74 => ⟨S256, .i32⟩
  | 75 => ⟨S_, .i32⟩
  | 76 => ⟨S256, .i32⟩
  | 77 => ⟨S256, .i1⟩
  | 78 => ⟨S256, .i32⟩
  | 79 => ⟨S256, .i32⟩
  | 80 => ⟨S_, .i32⟩
  | 81 => ⟨S256, .i32⟩
  | 82 => ⟨S256, .i1⟩
  | 83 => ⟨S256, .i1⟩
  | 84 => ⟨S_, .i32⟩
  | 85 => ⟨S256, .i32⟩
  | 86 => ⟨S256, .i32⟩
  | 87 => ⟨S256, .i32⟩
  | 88 => ⟨S256, .i32⟩
  | 89 => ⟨S_, .i32⟩
  | 90 => ⟨S256, .i32⟩
  | 91 => ⟨S256, .i32⟩
  | 92 => ⟨S_, .i32⟩
  | 93 => ⟨S256, .i32⟩
  | 94 => ⟨S256, .i32⟩
  | 95 => ⟨S_, .i32⟩
  | 96 => ⟨S256, .i32⟩
  | 97 => ⟨S256, .i32⟩
  | 98 => ⟨S_, .i32⟩
  | 99 => ⟨S_, .i32⟩
  | 100 => ⟨S256, .i32⟩
  | 101 => ⟨S256, .i32⟩
  | 102 => ⟨S256, .i32⟩
  | 103 => ⟨S_, .i32⟩
  | 104 => ⟨S256, .i32⟩
  | 105 => ⟨S256, .i1⟩
  | 106 => ⟨S256, .i32⟩
  | 107 => ⟨S256, .i32⟩
  | 108 => ⟨S_, .i32⟩
  | 109 => ⟨S256, .i32⟩
  | 110 => ⟨S256, .i1⟩
  | 111 => ⟨S256, .i1⟩
  | 112 => ⟨S_, .i32⟩
  | 113 => ⟨S256, .i32⟩
  | 114 => ⟨S256, .i32⟩
  | 115 => ⟨S256, .i32⟩
  | 116 => ⟨S256, .i32⟩
  | 117 => ⟨S1x64, .i32⟩
  | 118 => ⟨S256x1, .i32⟩
  | 119 => ⟨S256x64, .i32⟩
  | 120 => ⟨S256x64, .i32⟩
  | 121 => ⟨S256x64, .i1⟩
  | 122 => ⟨S1x64, .i32⟩
  | 123 => ⟨S256x1, .i32⟩
  | 124 => ⟨S256x64, .i32⟩
  | 125 => ⟨S256x64, .i32⟩
  | 126 => ⟨S256x64, .i1⟩
  | 127 => ⟨S256x64, .i1⟩
  | _ => ⟨S4x256x64x64, .f32⟩

abbrev hbmTy0_1 (i : Nat) : BufTy := match i % 128 with
  | 0 => ⟨S256x1x1x64, .i1⟩
  | 1 => ⟨S_, .f32⟩
  | 2 => ⟨S_, .f32⟩
  | 3 => ⟨S256x256x64x64, .i1⟩
  | 4 => ⟨S256x256x64x64, .f32⟩
  | 5 => ⟨S256x256x64x64, .f32⟩
  | 6 => ⟨S_, .f32⟩
  | 7 => ⟨S256x256x64, .f32⟩
  | 8 => ⟨S_, .i32⟩
  | 9 => ⟨S256, .i32⟩
  | 10 => ⟨S256, .i32⟩
  | 11 => ⟨S_, .i32⟩
  | 12 => ⟨S_, .i32⟩
  | 13 => ⟨S256, .i32⟩
  | 14 => ⟨S256, .i32⟩
  | 15 => ⟨S256, .i32⟩
  | 16 => ⟨S_, .i32⟩
  | 17 => ⟨S256, .i32⟩
  | 18 => ⟨S256, .i1⟩
  | 19 => ⟨S256, .i32⟩
  | 20 => ⟨S256, .i32⟩
  | 21 => ⟨S_, .i32⟩
  | 22 => ⟨S256, .i32⟩
  | 23 => ⟨S256, .i1⟩
  | 24 => ⟨S256, .i1⟩
  | 25 => ⟨S_, .i32⟩
  | 26 => ⟨S256, .i32⟩
  | 27 => ⟨S256, .i32⟩
  | 28 => ⟨S256, .i32⟩
  | 29 => ⟨S256, .i32⟩
  | 30 => ⟨S_, .i32⟩
  | 31 => ⟨S256, .i32⟩
  | 32 => ⟨S256, .i32⟩
  | 33 => ⟨S_, .i32⟩
  | 34 => ⟨S256, .i32⟩
  | 35 => ⟨S256, .i32⟩
  | 36 => ⟨S_, .i32⟩
  | 37 => ⟨S256, .i32⟩
  | 38 => ⟨S256, .i32⟩
  | 39 => ⟨S_, .i32⟩
  | 40 => ⟨S_, .i32⟩
  | 41 => ⟨S256, .i32⟩
  | 42 => ⟨S256, .i32⟩
  | 43 => ⟨S256, .i32⟩
  | 44 => ⟨S_, .i32⟩
  | 45 => ⟨S256, .i32⟩
  | 46 => ⟨S256, .i1⟩
  | 47 => ⟨S256, .i32⟩
  | 48 => ⟨S256, .i32⟩
  | 49 => ⟨S_, .i32⟩
  | 50 => ⟨S256, .i32⟩
  | 51 => ⟨S256, .i1⟩
  | 52 => ⟨S256, .i1⟩
  | 53 => ⟨S_, .i32⟩
  | 54 => ⟨S256, .i32⟩
  | 55 => ⟨S256, .i32⟩
  | 56 => ⟨S256, .i32⟩
  | 57 => ⟨S256, .i32⟩
  | 58 => ⟨S1x64, .i32⟩
  | 59 => ⟨S256x1, .i32⟩
  | 60 => ⟨S256x64, .i32⟩
  | 61 => ⟨S256x64, .i32⟩
  | 62 => ⟨S256x64, .i1⟩
  | 63 => ⟨S1x64, .i32⟩
  | 64 => ⟨S256x1, .i32⟩
  | 65 => ⟨S256x64, .i32⟩
  | 66 => ⟨S256x64, .i32⟩
  | 67 => ⟨S256x64, .i1⟩
  | 68 => ⟨S256x64, .i1⟩
  | 69 => ⟨S256x1x1x64, .i1⟩
  | 70 => ⟨S_, .f32⟩
  | 71 => ⟨S_, .f32⟩
  | 72 => ⟨S256x256x64x64, .i1⟩
  | 73 => ⟨S256x256x64x64, .f32⟩
  | 74 => ⟨S256x256x64x64, .f32⟩
  | 75 => ⟨S_, .f32⟩
  | 76 => ⟨S256x256x64, .f32⟩
  | 77 => ⟨S_, .i32⟩
  | 78 => ⟨S256, .i32⟩
  | 79 => ⟨S256, .i32⟩
  | 80 => ⟨S_, .i32⟩
  | 81 => ⟨S_, .i32⟩
  | 82 => ⟨S256, .i32⟩
  | 83 => ⟨S256, .i32⟩
  | 84 => ⟨S256, .i32⟩
  | 85 => ⟨S_, .i32⟩
  | 86 => ⟨S256, .i32⟩
  | 87 => ⟨S256, .i1⟩
  | 88 => ⟨S256, .i32⟩
  | 89 => ⟨S256, .i32⟩
  | 90 => ⟨S_, .i32⟩
  | 91 => ⟨S256, .i32⟩
  | 92 => ⟨S256, .i1⟩
  | 93 => ⟨S256, .i1⟩
  | 94 => ⟨S_, .i32⟩
  | 95 => ⟨S256, .i32⟩
  | 96 => ⟨S256, .i32⟩
  | 97 => ⟨S256, .i32⟩
  | 98 => ⟨S256, .i32⟩
  | 99 => ⟨S_, .i32⟩
  | 100 => ⟨S256, .i32⟩
  | 101 => ⟨S256, .i32⟩
  | 102 => ⟨S_, .i32⟩
  | 103 => ⟨S256, .i32⟩
  | 104 => ⟨S256, .i32⟩
  | 105 => ⟨S_, .i32⟩
  | 106 => ⟨S256, .i32⟩
  | 107 => ⟨S256, .i32⟩
  | 108 => ⟨S_, .i32⟩
  | 109 => ⟨S_, .i32⟩
  | 110 => ⟨S256, .i32⟩
  | 111 => ⟨S256, .i32⟩
  | 112 => ⟨S256, .i32⟩
  | 113 => ⟨S_, .i32⟩
  | 114 => ⟨S256, .i32⟩
  | 115 => ⟨S256, .i1⟩
  | 116 => ⟨S256, .i32⟩
  | 117 => ⟨S256, .i32⟩
  | 118 => ⟨S_, .i32⟩
  | 119 => ⟨S256, .i32⟩
  | 120 => ⟨S256, .i1⟩
  | 121 => ⟨S256, .i1⟩
  | 122 => ⟨S_, .i32⟩
  | 123 => ⟨S256, .i32⟩
  | 124 => ⟨S256, .i32⟩
  | 125 => ⟨S256, .i32⟩
  | 126 => ⟨S256, .i32⟩
  | 127 => ⟨S1x64, .i32⟩
  | _ => ⟨S4x256x64x64, .f32⟩

abbrev hbmTy0_2 (i : Nat) : BufTy := match i % 128 with
  | 0 => ⟨S256x1, .i32⟩
  | 1 => ⟨S256x64, .i32⟩
  | 2 => ⟨S256x64, .i32⟩
  | 3 => ⟨S256x64, .i1⟩
  | 4 => ⟨S1x64, .i32⟩
  | 5 => ⟨S256x1, .i32⟩
  | 6 => ⟨S256x64, .i32⟩
  | 7 => ⟨S256x64, .i32⟩
  | 8 => ⟨S256x64, .i1⟩
  | 9 => ⟨S256x64, .i1⟩
  | 10 => ⟨S256x1x1x64, .i1⟩
  | 11 => ⟨S_, .f32⟩
  | 12 => ⟨S_, .f32⟩
  | 13 => ⟨S256x256x64x64, .i1⟩
  | 14 => ⟨S256x256x64x64, .f32⟩
  | 15 => ⟨S256x256x64x64, .f32⟩
  | 16 => ⟨S_, .f32⟩
  | 17 => ⟨S256x256x64, .f32⟩
  | 18 => ⟨S_, .i32⟩
  | 19 => ⟨S256, .i32⟩
  | 20 => ⟨S256, .i32⟩
  | 21 => ⟨S_, .i32⟩
  | 22 => ⟨S_, .i32⟩
  | 23 => ⟨S256, .i32⟩
  | 24 => ⟨S256, .i32⟩
  | 25 => ⟨S256, .i32⟩
  | 26 => ⟨S_, .i32⟩
  | 27 => ⟨S256, .i32⟩
  | 28 => ⟨S256, .i1⟩
  | 29 => ⟨S256, .i32⟩
  | 30 => ⟨S256, .i32⟩
  | 31 => ⟨S_, .i32⟩
  | 32 => ⟨S256, .i32⟩
  | 33 => ⟨S256, .i1⟩
  | 34 => ⟨S256, .i1⟩
  | 35 => ⟨S_, .i32⟩
  | 36 => ⟨S256, .i32⟩
  | 37 => ⟨S256, .i32⟩
  | 38 => ⟨S256, .i32⟩
  | 39 => ⟨S256, .i32⟩
  | 40 => ⟨S_, .i32⟩
  | 41 => ⟨S256, .i32⟩
  | 42 => ⟨S256, .i32⟩
  | 43 => ⟨S_, .i32⟩
  | 44 => ⟨S256, .i32⟩
  | 45 => ⟨S256, .i32⟩
  | 46 => ⟨S_, .i32⟩
  | 47 => ⟨S256, .i32⟩
  | 48 => ⟨S256, .i32⟩
  | 49 => ⟨S_, .i32⟩
  | 50 => ⟨S_, .i32⟩
  | 51 => ⟨S256, .i32⟩
  | 52 => ⟨S256, .i32⟩
  | 53 => ⟨S256, .i32⟩
  | 54 => ⟨S_, .i32⟩
  | 55 => ⟨S256, .i32⟩
  | 56 => ⟨S256, .i1⟩
  | 57 => ⟨S256, .i32⟩
  | 58 => ⟨S256, .i32⟩
  | 59 => ⟨S_, .i32⟩
  | 60 => ⟨S256, .i32⟩
  | 61 => ⟨S256, .i1⟩
  | 62 => ⟨S256, .i1⟩
  | 63 => ⟨S_, .i32⟩
  | 64 => ⟨S256, .i32⟩
  | 65 => ⟨S256, .i32⟩
  | 66 => ⟨S256, .i32⟩
  | 67 => ⟨S256, .i32⟩
  | 68 => ⟨S1x64, .i32⟩
  | 69 => ⟨S256x1, .i32⟩
  | 70 => ⟨S256x64, .i32⟩
  | 71 => ⟨S256x64, .i32⟩
  | 72 => ⟨S256x64, .i1⟩
  | 73 => ⟨S1x64, .i32⟩
  | 74 => ⟨S256x1, .i32⟩
  | 75 => ⟨S256x64, .i32⟩
  | 76 => ⟨S256x64, .i32⟩
  | 77 => ⟨S256x64, .i1⟩
  | 78 => ⟨S256x64, .i1⟩
  | 79 => ⟨S256x1x1x64, .i1⟩
  | 80 => ⟨S_, .f32⟩
  | 81 => ⟨S_, .f32⟩
  | 82 => ⟨S256x256x64x64, .i1⟩
  | 83 => ⟨S256x256x64x64, .f32⟩
  | 84 => ⟨S256x256x64x64, .f32⟩
  | 85 => ⟨S_, .f32⟩
  | 86 => ⟨S256x256x64, .f32⟩
  | 87 => ⟨S_, .i32⟩
  | 88 => ⟨S256, .i32⟩
  | 89 => ⟨S256, .i32⟩
  | 90 => ⟨S_, .i32⟩
  | 91 => ⟨S_, .i32⟩
  | 92 => ⟨S256, .i32⟩
  | 93 => ⟨S256, .i32⟩
  | 94 => ⟨S256, .i32⟩
  | 95 => ⟨S_, .i32⟩
  | 96 => ⟨S256, .i32⟩
  | 97 => ⟨S256, .i1⟩
  | 98 => ⟨S256, .i32⟩
  | 99 => ⟨S256, .i32⟩
  | 100 => ⟨S_, .i32⟩
  | 101 => ⟨S256, .i32⟩
  | 102 => ⟨S256, .i1⟩
  | 103 => ⟨S256, .i1⟩
  | 104 => ⟨S_, .i32⟩
  | 105 => ⟨S256, .i32⟩
  | 106 => ⟨S256, .i32⟩
  | 107 => ⟨S256, .i32⟩
  | 108 => ⟨S256, .i32⟩
  | 109 => ⟨S_, .i32⟩
  | 110 => ⟨S256, .i32⟩
  | 111 => ⟨S256, .i32⟩
  | 112 => ⟨S_, .i32⟩
  | 113 => ⟨S256, .i32⟩
  | 114 => ⟨S256, .i32⟩
  | 115 => ⟨S_, .i32⟩
  | 116 => ⟨S256, .i32⟩
  | 117 => ⟨S256, .i32⟩
  | 118 => ⟨S_, .i32⟩
  | 119 => ⟨S_, .i32⟩
  | 120 => ⟨S256, .i32⟩
  | 121 => ⟨S256, .i32⟩
  | 122 => ⟨S256, .i32⟩
  | 123 => ⟨S_, .i32⟩
  | 124 => ⟨S256, .i32⟩
  | 125 => ⟨S256, .i1⟩
  | 126 => ⟨S256, .i32⟩
  | 127 => ⟨S256, .i32⟩
  | _ => ⟨S4x256x64x64, .f32⟩

abbrev hbmTy0_3 (i : Nat) : BufTy := match i % 128 with
  | 0 => ⟨S_, .i32⟩
  | 1 => ⟨S256, .i32⟩
  | 2 => ⟨S256, .i1⟩
  | 3 => ⟨S256, .i1⟩
  | 4 => ⟨S_, .i32⟩
  | 5 => ⟨S256, .i32⟩
  | 6 => ⟨S256, .i32⟩
  | 7 => ⟨S256, .i32⟩
  | 8 => ⟨S256, .i32⟩
  | 9 => ⟨S1x64, .i32⟩
  | 10 => ⟨S256x1, .i32⟩
  | 11 => ⟨S256x64, .i32⟩
  | 12 => ⟨S256x64, .i32⟩
  | 13 => ⟨S256x64, .i1⟩
  | 14 => ⟨S1x64, .i32⟩
  | 15 => ⟨S256x1, .i32⟩
  | 16 => ⟨S256x64, .i32⟩
  | 17 => ⟨S256x64, .i32⟩
  | 18 => ⟨S256x64, .i1⟩
  | 19 => ⟨S256x64, .i1⟩
  | 20 => ⟨S256x1x1x64, .i1⟩
  | 21 => ⟨S_, .f32⟩
  | 22 => ⟨S_, .f32⟩
  | 23 => ⟨S256x256x64x64, .i1⟩
  | 24 => ⟨S256x256x64x64, .f32⟩
  | 25 => ⟨S256x256x64x64, .f32⟩
  | 26 => ⟨S_, .f32⟩
  | 27 => ⟨S256x256x64, .f32⟩
  | 28 => ⟨S_, .i32⟩
  | 29 => ⟨S256, .i32⟩
  | 30 => ⟨S256, .i32⟩
  | 31 => ⟨S_, .i32⟩
  | 32 => ⟨S_, .i32⟩
  | 33 => ⟨S256, .i32⟩
  | 34 => ⟨S256, .i32⟩
  | 35 => ⟨S256, .i32⟩
  | 36 => ⟨S_, .i32⟩
  | 37 => ⟨S256, .i32⟩
  | 38 => ⟨S256, .i1⟩
  | 39 => ⟨S256, .i32⟩
  | 40 => ⟨S256, .i32⟩
  | 41 => ⟨S_, .i32⟩
  | 42 => ⟨S256, .i32⟩
  | 43 => ⟨S256, .i1⟩
  | 44 => ⟨S256, .i1⟩
  | 45 => ⟨S_, .i32⟩
  | 46 => ⟨S256, .i32⟩
  | 47 => ⟨S256, .i32⟩
  | 48 => ⟨S256, .i32⟩
  | 49 => ⟨S256, .i32⟩
  | 50 => ⟨S_, .i32⟩
  | 51 => ⟨S256, .i32⟩
  | 52 => ⟨S256, .i32⟩
  | 53 => ⟨S_, .i32⟩
  | 54 => ⟨S256, .i32⟩
  | 55 => ⟨S256, .i32⟩
  | 56 => ⟨S_, .i32⟩
  | 57 => ⟨S256, .i32⟩
  | 58 => ⟨S256, .i32⟩
  | 59 => ⟨S_, .i32⟩
  | 60 => ⟨S_, .i32⟩
  | 61 => ⟨S256, .i32⟩
  | 62 => ⟨S256, .i32⟩
  | 63 => ⟨S256, .i32⟩
  | 64 => ⟨S_, .i32⟩
  | 65 => ⟨S256, .i32⟩
  | 66 => ⟨S256, .i1⟩
  | 67 => ⟨S256, .i32⟩
  | 68 => ⟨S256, .i32⟩
  | 69 => ⟨S_, .i32⟩
  | 70 => ⟨S256, .i32⟩
  | 71 => ⟨S256, .i1⟩
  | 72 => ⟨S256, .i1⟩
  | 73 => ⟨S_, .i32⟩
  | 74 => ⟨S256, .i32⟩
  | 75 => ⟨S256, .i32⟩
  | 76 => ⟨S256, .i32⟩
  | 77 => ⟨S256, .i32⟩
  | 78 => ⟨S1x64, .i32⟩
  | 79 => ⟨S256x1, .i32⟩
  | 80 => ⟨S256x64, .i32⟩
  | 81 => ⟨S256x64, .i32⟩
  | 82 => ⟨S256x64, .i1⟩
  | 83 => ⟨S1x64, .i32⟩
  | 84 => ⟨S256x1, .i32⟩
  | 85 => ⟨S256x64, .i32⟩
  | 86 => ⟨S256x64, .i32⟩
  | 87 => ⟨S256x64, .i1⟩
  | 88 => ⟨S256x64, .i1⟩
  | 89 => ⟨S256x1x1x64, .i1⟩
  | 90 => ⟨S_, .f32⟩
  | 91 => ⟨S_, .f32⟩
  | 92 => ⟨S256x256x64x64, .i1⟩
  | 93 => ⟨S256x256x64x64, .f32⟩
  | 94 => ⟨S256x256x64x64, .f32⟩
  | 95 => ⟨S_, .f32⟩
  | 96 => ⟨S256x256x64, .f32⟩
  | 97 => ⟨S_, .i32⟩
  | 98 => ⟨S256, .i32⟩
  | 99 => ⟨S256, .i32⟩
  | 100 => ⟨S_, .i32⟩
  | 101 => ⟨S_, .i32⟩
  | 102 => ⟨S256, .i32⟩
  | 103 => ⟨S256, .i32⟩
  | 104 => ⟨S256, .i32⟩
  | 105 => ⟨S_, .i32⟩
  | 106 => ⟨S256, .i32⟩
  | 107 => ⟨S256, .i1⟩
  | 108 => ⟨S256, .i32⟩
  | 109 => ⟨S256, .i32⟩
  | 110 => ⟨S_, .i32⟩
  | 111 => ⟨S256, .i32⟩
  | 112 => ⟨S256, .i1⟩
  | 113 => ⟨S256, .i1⟩
  | 114 => ⟨S_, .i32⟩
  | 115 => ⟨S256, .i32⟩
  | 116 => ⟨S256, .i32⟩
  | 117 => ⟨S256, .i32⟩
  | 118 => ⟨S256, .i32⟩
  | 119 => ⟨S_, .i32⟩
  | 120 => ⟨S256, .i32⟩
  | 121 => ⟨S256, .i32⟩
  | 122 => ⟨S_, .i32⟩
  | 123 => ⟨S256, .i32⟩
  | 124 => ⟨S256, .i32⟩
  | 125 => ⟨S_, .i32⟩
  | 126 => ⟨S256, .i32⟩
  | 127 => ⟨S256, .i32⟩
  | _ => ⟨S4x256x64x64, .f32⟩

abbrev hbmTy0_4 (i : Nat) : BufTy := match i % 128 with
  | 0 => ⟨S_, .i32⟩
  | 1 => ⟨S_, .i32⟩
  | 2 => ⟨S256, .i32⟩
  | 3 => ⟨S256, .i32⟩
  | 4 => ⟨S256, .i32⟩
  | 5 => ⟨S_, .i32⟩
  | 6 => ⟨S256, .i32⟩
  | 7 => ⟨S256, .i1⟩
  | 8 => ⟨S256, .i32⟩
  | 9 => ⟨S256, .i32⟩
  | 10 => ⟨S_, .i32⟩
  | 11 => ⟨S256, .i32⟩
  | 12 => ⟨S256, .i1⟩
  | 13 => ⟨S256, .i1⟩
  | 14 => ⟨S_, .i32⟩
  | 15 => ⟨S256, .i32⟩
  | 16 => ⟨S256, .i32⟩
  | 17 => ⟨S256, .i32⟩
  | 18 => ⟨S256, .i32⟩
  | 19 => ⟨S1x64, .i32⟩
  | 20 => ⟨S256x1, .i32⟩
  | 21 => ⟨S256x64, .i32⟩
  | 22 => ⟨S256x64, .i32⟩
  | 23 => ⟨S256x64, .i1⟩
  | 24 => ⟨S1x64, .i32⟩
  | 25 => ⟨S256x1, .i32⟩
  | 26 => ⟨S256x64, .i32⟩
  | 27 => ⟨S256x64, .i32⟩
  | 28 => ⟨S256x64, .i1⟩
  | 29 => ⟨S256x64, .i1⟩
  | 30 => ⟨S256x1x1x64, .i1⟩
  | 31 => ⟨S_, .f32⟩
  | 32 => ⟨S_, .f32⟩
  | 33 => ⟨S256x256x64x64, .i1⟩
  | 34 => ⟨S256x256x64x64, .f32⟩
  | 35 => ⟨S256x256x64x64, .f32⟩
  | 36 => ⟨S_, .f32⟩
  | 37 => ⟨S256x256x64, .f32⟩
  | 38 => ⟨S256x256x64x1, .f32⟩
  | 39 => ⟨S256x256x64x1, .f32⟩
  | 40 => ⟨S256x256x64x1, .f32⟩
  | 41 => ⟨S256x256x64x1, .f32⟩
  | 42 => ⟨S256x256x64x1, .f32⟩
  | 43 => ⟨S256x256x64x1, .f32⟩
  | 44 => ⟨S256x256x64x1, .f32⟩
  | 45 => ⟨S256x256x64x7, .f32⟩
  | 46 => ⟨S_, .i32⟩
  | 47 => ⟨S256, .i32⟩
  | 48 => ⟨S256, .i32⟩
  | 49 => ⟨S_, .i32⟩
  | 50 => ⟨S_, .i32⟩
  | 51 => ⟨S256, .i32⟩
  | 52 => ⟨S256, .i32⟩
  | 53 => ⟨S256, .i32⟩
  | 54 => ⟨S_, .i32⟩
  | 55 => ⟨S256, .i32⟩
  | 56 => ⟨S256, .i1⟩
  | 57 => ⟨S256, .i32⟩
  | 58 => ⟨S256, .i32⟩
  | 59 => ⟨S_, .i32⟩
  | 60 => ⟨S256, .i32⟩
  | 61 => ⟨S256, .i1⟩
  | 62 => ⟨S256, .i1⟩
  | 63 => ⟨S_, .i32⟩
  | 64 => ⟨S256, .i32⟩
  | 65 => ⟨S256, .i32⟩
  | 66 => ⟨S256, .i32⟩
  | 67 => ⟨S256, .i32⟩
  | 68 => ⟨S_, .i32⟩
  | 69 => ⟨S256, .i32⟩
  | 70 => ⟨S256, .i32⟩
  | 71 => ⟨S_, .i32⟩
  | 72 => ⟨S256, .i32⟩
  | 73 => ⟨S256, .i32⟩
  | 74 => ⟨S_, .i32⟩
  | 75 => ⟨S256, .i32⟩
  | 76 => ⟨S256, .i32⟩
  | 77 => ⟨S_, .i32⟩
  | 78 => ⟨S_, .i32⟩
  | 79 => ⟨S256, .i32⟩
  | 80 => ⟨S256, .i32⟩
  | 81 => ⟨S256, .i32⟩
  | 82 => ⟨S_, .i32⟩
  | 83 => ⟨S256, .i32⟩
  | 84 => ⟨S256, .i1⟩
  | 85 => ⟨S256, .i32⟩
  | 86 => ⟨S256, .i32⟩
  | 87 => ⟨S_, .i32⟩
  | 88 => ⟨S256, .i32⟩
  | 89 => ⟨S256, .i1⟩
  | 90 => ⟨S256, .i1⟩
  | 91 => ⟨S_, .i32⟩
  | 92 => ⟨S256, .i32⟩
  | 93 => ⟨S256, .i32⟩
  | 94 => ⟨S256, .i32⟩
  | 95 => ⟨S256, .i32⟩
  | 96 => ⟨S1x64, .i32⟩
  | 97 => ⟨S256x1, .i32⟩
  | 98 => ⟨S256x64, .i32⟩
  | 99 => ⟨S256x64, .i32⟩
  | 100 => ⟨S256x64, .i1⟩
  | 101 => ⟨S1x64, .i32⟩
  | 102 => ⟨S256x1, .i32⟩
  | 103 => ⟨S256x64, .i32⟩
  | 104 => ⟨S256x64, .i32⟩
  | 105 => ⟨S256x64, .i1⟩
  | 106 => ⟨S256x64, .i1⟩
  | 107 => ⟨S256x1x64x1, .i1⟩
  | 108 => ⟨S_, .f32⟩
  | 109 => ⟨S_, .f32⟩
  | 110 => ⟨S256x256x64x7, .i1⟩
  | 111 => ⟨S256x256x64x7, .f32⟩
  | 112 => ⟨S256x256x64x7, .f32⟩
  | 113 => ⟨S_, .f32⟩
  | 114 => ⟨S256x256x7, .f32⟩
  | 115 => ⟨S_, .i32⟩
  | 116 => ⟨S256, .i32⟩
  | 117 => ⟨S256, .i32⟩
  | 118 => ⟨S_, .i32⟩
  | 119 => ⟨S_, .i32⟩
  | 120 => ⟨S256, .i32⟩
  | 121 => ⟨S256, .i32⟩
  | 122 => ⟨S256, .i32⟩
  | 123 => ⟨S_, .i32⟩
  | 124 => ⟨S256, .i32⟩
  | 125 => ⟨S256, .i1⟩
  | 126 => ⟨S256, .i32⟩
  | 127 => ⟨S256, .i32⟩
  | _ => ⟨S4x256x64x64, .f32⟩

abbrev hbmTy0_5 (i : Nat) : BufTy := match i % 128 with
  | 0 => ⟨S_, .i32⟩
  | 1 => ⟨S256, .i32⟩
  | 2 => ⟨S256, .i1⟩
  | 3 => ⟨S256, .i1⟩
  | 4 => ⟨S_, .i32⟩
  | 5 => ⟨S256, .i32⟩
  | 6 => ⟨S256, .i32⟩
  | 7 => ⟨S256, .i32⟩
  | 8 => ⟨S256, .i32⟩
  | 9 => ⟨S_, .i32⟩
  | 10 => ⟨S256, .i32⟩
  | 11 => ⟨S256, .i32⟩
  | 12 => ⟨S_, .i32⟩
  | 13 => ⟨S256, .i32⟩
  | 14 => ⟨S256, .i32⟩
  | 15 => ⟨S_, .i32⟩
  | 16 => ⟨S256, .i32⟩
  | 17 => ⟨S256, .i32⟩
  | 18 => ⟨S_, .i32⟩
  | 19 => ⟨S_, .i32⟩
  | 20 => ⟨S256, .i32⟩
  | 21 => ⟨S256, .i32⟩
  | 22 => ⟨S256, .i32⟩
  | 23 => ⟨S_, .i32⟩
  | 24 => ⟨S256, .i32⟩
  | 25 => ⟨S256, .i1⟩
  | 26 => ⟨S256, .i32⟩
  | 27 => ⟨S256, .i32⟩
  | 28 => ⟨S_, .i32⟩
  | 29 => ⟨S256, .i32⟩
  | 30 => ⟨S256, .i1⟩
  | 31 => ⟨S256, .i1⟩
  | 32 => ⟨S_, .i32⟩
  | 33 => ⟨S256, .i32⟩
  | 34 => ⟨S256, .i32⟩
  | 35 => ⟨S256, .i32⟩
  | 36 => ⟨S256, .i32⟩
  | 37 => ⟨S1x64, .i32⟩
  | 38 => ⟨S256x1, .i32⟩
  | 39 => ⟨S256x64, .i32⟩
  | 40 => ⟨S256x64, .i32⟩
  | 41 => ⟨S256x64, .i1⟩
  | 42 => ⟨S1x64, .i32⟩
  | 43 => ⟨S256x1, .i32⟩
  | 44 => ⟨S256x64, .i32⟩
  | 45 => ⟨S256x64, .i32⟩
  | 46 => ⟨S256x64, .i1⟩
  | 47 => ⟨S256x64, .i1⟩
  | 48 => ⟨S256x1x64x1, .i1⟩
  | 49 => ⟨S_, .f32⟩
  | 50 => ⟨S_, .f32⟩
  | 51 => ⟨S256x256x64x7, .i1⟩
  | 52 => ⟨S256x256x64x7, .f32⟩
  | 53 => ⟨S256x256x64x7, .f32⟩
  | 54 => ⟨S_, .f32⟩
  | 55 => ⟨S256x256x7, .f32⟩
  | 56 => ⟨S_, .i32⟩
  | 57 => ⟨S256, .i32⟩
  | 58 => ⟨S256, .i32⟩
  | 59 => ⟨S_, .i32⟩
  | 60 => ⟨S_, .i32⟩
  | 61 => ⟨S256, .i32⟩
  | 62 => ⟨S256, .i32⟩
  | 63 => ⟨S256, .i32⟩
  | 64 => ⟨S_, .i32⟩
  | 65 => ⟨S256, .i32⟩
  | 66 => ⟨S256, .i1⟩
  | 67 => ⟨S256, .i32⟩
  | 68 => ⟨S256, .i32⟩
  | 69 => ⟨S_, .i32⟩
  | 70 => ⟨S256, .i32⟩
  | 71 => ⟨S256, .i1⟩
  | 72 => ⟨S256, .i1⟩
  | 73 => ⟨S_, .i32⟩
  | 74 => ⟨S256, .i32⟩
  | 75 => ⟨S256, .i32⟩
  | 76 => ⟨S256, .i32⟩
  | 77 => ⟨S256, .i32⟩
  | 78 => ⟨S_, .i32⟩
  | 79 => ⟨S256, .i32⟩
  | 80 => ⟨S256, .i32⟩
  | 81 => ⟨S_, .i32⟩
  | 82 => ⟨S256, .i32⟩
  | 83 => ⟨S256, .i32⟩
  | 84 => ⟨S_, .i32⟩
  | 85 => ⟨S256, .i32⟩
  | 86 => ⟨S256, .i32⟩
  | 87 => ⟨S_, .i32⟩
  | 88 => ⟨S_, .i32⟩
  | 89 => ⟨S256, .i32⟩
  | 90 => ⟨S256, .i32⟩
  | 91 => ⟨S256, .i32⟩
  | 92 => ⟨S_, .i32⟩
  | 93 => ⟨S256, .i32⟩
  | 94 => ⟨S256, .i1⟩
  | 95 => ⟨S256, .i32⟩
  | 96 => ⟨S256, .i32⟩
  | 97 => ⟨S_, .i32⟩
  | 98 => ⟨S256, .i32⟩
  | 99 => ⟨S256, .i1⟩
  | 100 => ⟨S256, .i1⟩
  | 101 => ⟨S_, .i32⟩
  | 102 => ⟨S256, .i32⟩
  | 103 => ⟨S256, .i32⟩
  | 104 => ⟨S256, .i32⟩
  | 105 => ⟨S256, .i32⟩
  | 106 => ⟨S1x64, .i32⟩
  | 107 => ⟨S256x1, .i32⟩
  | 108 => ⟨S256x64, .i32⟩
  | 109 => ⟨S256x64, .i32⟩
  | 110 => ⟨S256x64, .i1⟩
  | 111 => ⟨S1x64, .i32⟩
  | 112 => ⟨S256x1, .i32⟩
  | 113 => ⟨S256x64, .i32⟩
  | 114 => ⟨S256x64, .i32⟩
  | 115 => ⟨S256x64, .i1⟩
  | 116 => ⟨S256x64, .i1⟩
  | 117 => ⟨S256x1x64x1, .i1⟩
  | 118 => ⟨S_, .f32⟩
  | 119 => ⟨S_, .f32⟩
  | 120 => ⟨S256x256x64x7, .i1⟩
  | 121 => ⟨S256x256x64x7, .f32⟩
  | 122 => ⟨S256x256x64x7, .f32⟩
  | 123 => ⟨S_, .f32⟩
  | 124 => ⟨S256x256x7, .f32⟩
  | 125 => ⟨S_, .i32⟩
  | 126 => ⟨S256, .i32⟩
  | 127 => ⟨S256, .i32⟩
  | _ => ⟨S4x256x64x64, .f32⟩

abbrev hbmTy0_6 (i : Nat) : BufTy := match i % 128 with
  | 0 => ⟨S_, .i32⟩
  | 1 => ⟨S_, .i32⟩
  | 2 => ⟨S256, .i32⟩
  | 3 => ⟨S256, .i32⟩
  | 4 => ⟨S256, .i32⟩
  | 5 => ⟨S_, .i32⟩
  | 6 => ⟨S256, .i32⟩
  | 7 => ⟨S256, .i1⟩
  | 8 => ⟨S256, .i32⟩
  | 9 => ⟨S256, .i32⟩
  | 10 => ⟨S_, .i32⟩
  | 11 => ⟨S256, .i32⟩
  | 12 => ⟨S256, .i1⟩
  | 13 => ⟨S256, .i1⟩
  | 14 => ⟨S_, .i32⟩
  | 15 => ⟨S256, .i32⟩
  | 16 => ⟨S256, .i32⟩
  | 17 => ⟨S256, .i32⟩
  | 18 => ⟨S256, .i32⟩
  | 19 => ⟨S_, .i32⟩
  | 20 => ⟨S256, .i32⟩
  | 21 => ⟨S256, .i32⟩
  | 22 => ⟨S_, .i32⟩
  | 23 => ⟨S256, .i32⟩
  | 24 => ⟨S256, .i32⟩
  | 25 => ⟨S_, .i32⟩
  | 26 => ⟨S256, .i32⟩
  | 27 => ⟨S256, .i32⟩
  | 28 => ⟨S_, .i32⟩
  | 29 => ⟨S_, .i32⟩
  | 30 => ⟨S256, .i32⟩
  | 31 => ⟨S256, .i32⟩
  | 32 => ⟨S256, .i32⟩
  | 33 => ⟨S_, .i32⟩
  | 34 => ⟨S256, .i32⟩
  | 35 => ⟨S256, .i1⟩
  | 36 => ⟨S256, .i32⟩
  | 37 => ⟨S256, .i32⟩
  | 38 => ⟨S_, .i32⟩
  | 39 => ⟨S256, .i32⟩
  | 40 => ⟨S256, .i1⟩
  | 41 => ⟨S256, .i1⟩
  | 42 => ⟨S_, .i32⟩
  | 43 => ⟨S256, .i32⟩
  | 44 => ⟨S256, .i32⟩
  | 45 => ⟨S256, .i32⟩
  | 46 => ⟨S256, .i32⟩
  | 47 => ⟨S1x64, .i32⟩
  | 48 => ⟨S256x1, .i32⟩
  | 49 => ⟨S256x64, .i32⟩
  | 50 => ⟨S256x64, .i32⟩
  | 51 => ⟨S256x64, .i1⟩
  | 52 => ⟨S1x64, .i32⟩
  | 53 => ⟨S256x1, .i32⟩
  | 54 => ⟨S256x64, .i32⟩
  | 55 => ⟨S256x64, .i32⟩
  | 56 => ⟨S256x64, .i1⟩
  | 57 => ⟨S256x64, .i1⟩
  | 58 => ⟨S256x1x64x1, .i1⟩
  | 59 => ⟨S_, .f32⟩
  | 60 => ⟨S_, .f32⟩
  | 61 => ⟨S256x256x64x7, .i1⟩
  | 62 => ⟨S256x256x64x7, .f32⟩
  | 63 => ⟨S256x256x64x7, .f32⟩
  | 64 => ⟨S_, .f32⟩
  | 65 => ⟨S256x256x7, .f32⟩
  | 66 => ⟨S_, .i32⟩
  | 67 => ⟨S256, .i32⟩
  | 68 => ⟨S256, .i32⟩
  | 69 => ⟨S_, .i32⟩
  | 70 => ⟨S_, .i32⟩
  | 71 => ⟨S256, .i32⟩
  | 72 => ⟨S256, .i32⟩
  | 73 => ⟨S256, .i32⟩
  | 74 => ⟨S_, .i32⟩
  | 75 => ⟨S256, .i32⟩
  | 76 => ⟨S256, .i1⟩
  | 77 => ⟨S256, .i32⟩
  | 78 => ⟨S256, .i32⟩
  | 79 => ⟨S_, .i32⟩
  | 80 => ⟨S256, .i32⟩
  | 81 => ⟨S256, .i1⟩
  | 82 => ⟨S256, .i1⟩
  | 83 => ⟨S_, .i32⟩
  | 84 => ⟨S256, .i32⟩
  | 85 => ⟨S256, .i32⟩
  | 86 => ⟨S256, .i32⟩
  | 87 => ⟨S256, .i32⟩
  | 88 => ⟨S_, .i32⟩
  | 89 => ⟨S256, .i32⟩
  | 90 => ⟨S256, .i32⟩
  | 91 => ⟨S_, .i32⟩
  | 92 => ⟨S256, .i32⟩
  | 93 => ⟨S256, .i32⟩
  | 94 => ⟨S_, .i32⟩
  | 95 => ⟨S256, .i32⟩
  | 96 => ⟨S256, .i32⟩
  | 97 => ⟨S_, .i32⟩
  | 98 => ⟨S_, .i32⟩
  | 99 => ⟨S256, .i32⟩
  | 100 => ⟨S256, .i32⟩
  | 101 => ⟨S256, .i32⟩
  | 102 => ⟨S_, .i32⟩
  | 103 => ⟨S256, .i32⟩
  | 104 => ⟨S256, .i1⟩
  | 105 => ⟨S256, .i32⟩
  | 106 => ⟨S256, .i32⟩
  | 107 => ⟨S_, .i32⟩
  | 108 => ⟨S256, .i32⟩
  | 109 => ⟨S256, .i1⟩
  | 110 => ⟨S256, .i1⟩
  | 111 => ⟨S_, .i32⟩
  | 112 => ⟨S256, .i32⟩
  | 113 => ⟨S256, .i32⟩
  | 114 => ⟨S256, .i32⟩
  | 115 => ⟨S256, .i32⟩
  | 116 => ⟨S1x64, .i32⟩
  | 117 => ⟨S256x1, .i32⟩
  | 118 => ⟨S256x64, .i32⟩
  | 119 => ⟨S256x64, .i32⟩
  | 120 => ⟨S256x64, .i1⟩
  | 121 => ⟨S1x64, .i32⟩
  | 122 => ⟨S256x1, .i32⟩
  | 123 => ⟨S256x64, .i32⟩
  | 124 => ⟨S256x64, .i32⟩
  | 125 => ⟨S256x64, .i1⟩
  | 126 => ⟨S256x64, .i1⟩
  | 127 => ⟨S256x1x64x1, .i1⟩
  | _ => ⟨S4x256x64x64, .f32⟩

abbrev hbmTy0_7 (i : Nat) : BufTy := match i % 128 with
  | 0 => ⟨S_, .f32⟩
  | 1 => ⟨S_, .f32⟩
  | 2 => ⟨S256x256x64x7, .i1⟩
  | 3 => ⟨S256x256x64x7, .f32⟩
  | 4 => ⟨S256x256x64x7, .f32⟩
  | 5 => ⟨S_, .f32⟩
  | 6 => ⟨S256x256x7, .f32⟩
  | 7 => ⟨S_, .i32⟩
  | 8 => ⟨S256, .i32⟩
  | 9 => ⟨S256, .i32⟩
  | 10 => ⟨S_, .i32⟩
  | 11 => ⟨S_, .i32⟩
  | 12 => ⟨S256, .i32⟩
  | 13 => ⟨S256, .i32⟩
  | 14 => ⟨S256, .i32⟩
  | 15 => ⟨S_, .i32⟩
  | 16 => ⟨S256, .i32⟩
  | 17 => ⟨S256, .i1⟩
  | 18 => ⟨S256, .i32⟩
  | 19 => ⟨S256, .i32⟩
  | 20 => ⟨S_, .i32⟩
  | 21 => ⟨S256, .i32⟩
  | 22 => ⟨S256, .i1⟩
  | 23 => ⟨S256, .i1⟩
  | 24 => ⟨S_, .i32⟩
  | 25 => ⟨S256, .i32⟩
  | 26 => ⟨S256, .i32⟩
  | 27 => ⟨S256, .i32⟩
  | 28 => ⟨S256, .i32⟩
  | 29 => ⟨S_, .i32⟩
  | 30 => ⟨S256, .i32⟩
  | 31 => ⟨S256, .i32⟩
  | 32 => ⟨S_, .i32⟩
  | 33 => ⟨S256, .i32⟩
  | 34 => ⟨S256, .i32⟩
  | 35 => ⟨S_, .i32⟩
  | 36 => ⟨S256, .i32⟩
  | 37 => ⟨S256, .i32⟩
  | 38 => ⟨S_, .i32⟩
  | 39 => ⟨S_, .i32⟩
  | 40 => ⟨S256, .i32⟩
  | 41 => ⟨S256, .i32⟩
  | 42 => ⟨S256, .i32⟩
  | 43 => ⟨S_, .i32⟩
  | 44 => ⟨S256, .i32⟩
  | 45 => ⟨S256, .i1⟩
  | 46 => ⟨S256, .i32⟩
  | 47 => ⟨S256, .i32⟩
  | 48 => ⟨S_, .i32⟩
  | 49 => ⟨S256, .i32⟩
  | 50 => ⟨S256, .i1⟩
  | 51 => ⟨S256, .i1⟩
  | 52 => ⟨S_, .i32⟩
  | 53 => ⟨S256, .i32⟩
  | 54 => ⟨S256, .i32⟩
  | 55 => ⟨S256, .i32⟩
  | 56 => ⟨S256, .i32⟩
  | 57 => ⟨S1x64, .i32⟩
  | 58 => ⟨S256x1, .i32⟩
  | 59 => ⟨S256x64, .i32⟩
  | 60 => ⟨S256x64, .i32⟩
  | 61 => ⟨S256x64, .i1⟩
  | 62 => ⟨S1x64, .i32⟩
  | 63 => ⟨S256x1, .i32⟩
  | 64 => ⟨S256x64, .i32⟩
  | 65 => ⟨S256x64, .i32⟩
  | 66 => ⟨S256x64, .i1⟩
  | 67 => ⟨S256x64, .i1⟩
  | 68 => ⟨S256x1x64x1, .i1⟩
  | 69 => ⟨S_, .f32⟩
  | 70 => ⟨S_, .f32⟩
  | 71 => ⟨S256x256x64x7, .i1⟩
  | 72 => ⟨S256x256x64x7, .f32⟩
  | 73 => ⟨S256x256x64x7, .f32⟩
  | 74 => ⟨S_, .f32⟩
  | 75 => ⟨S256x256x7, .f32⟩
  | 76 => ⟨S_, .i32⟩
  | 77 => ⟨S256, .i32⟩
  | 78 => ⟨S256, .i32⟩
  | 79 => ⟨S_, .i32⟩
  | 80 => ⟨S_, .i32⟩
  | 81 => ⟨S256, .i32⟩
  | 82 => ⟨S256, .i32⟩
  | 83 => ⟨S256, .i32⟩
  | 84 => ⟨S_, .i32⟩
  | 85 => ⟨S256, .i32⟩
  | 86 => ⟨S256, .i1⟩
  | 87 => ⟨S256, .i32⟩
  | 88 => ⟨S256, .i32⟩
  | 89 => ⟨S_, .i32⟩
  | 90 => ⟨S256, .i32⟩
  | 91 => ⟨S256, .i1⟩
  | 92 => ⟨S256, .i1⟩
  | 93 => ⟨S_, .i32⟩
  | 94 => ⟨S256, .i32⟩
  | 95 => ⟨S256, .i32⟩
  | 96 => ⟨S256, .i32⟩
  | 97 => ⟨S256, .i32⟩
  | 98 => ⟨S_, .i32⟩
  | 99 => ⟨S256, .i32⟩
  | 100 => ⟨S256, .i32⟩
  | 101 => ⟨S_, .i32⟩
  | 102 => ⟨S256, .i32⟩
  | 103 => ⟨S256, .i32⟩
  | 104 => ⟨S_, .i32⟩
  | 105 => ⟨S256, .i32⟩
  | 106 => ⟨S256, .i32⟩
  | 107 => ⟨S_, .i32⟩
  | 108 => ⟨S_, .i32⟩
  | 109 => ⟨S256, .i32⟩
  | 110 => ⟨S256, .i32⟩
  | 111 => ⟨S256, .i32⟩
  | 112 => ⟨S_, .i32⟩
  | 113 => ⟨S256, .i32⟩
  | 114 => ⟨S256, .i1⟩
  | 115 => ⟨S256, .i32⟩
  | 116 => ⟨S256, .i32⟩
  | 117 => ⟨S_, .i32⟩
  | 118 => ⟨S256, .i32⟩
  | 119 => ⟨S256, .i1⟩
  | 120 => ⟨S256, .i1⟩
  | 121 => ⟨S_, .i32⟩
  | 122 => ⟨S256, .i32⟩
  | 123 => ⟨S256, .i32⟩
  | 124 => ⟨S256, .i32⟩
  | 125 => ⟨S256, .i32⟩
  | 126 => ⟨S1x64, .i32⟩
  | 127 => ⟨S256x1, .i32⟩
  | _ => ⟨S4x256x64x64, .f32⟩

abbrev hbmTy0_8 (i : Nat) : BufTy := match i % 128 with
  | 0 => ⟨S256x64, .i32⟩
  | 1 => ⟨S256x64, .i32⟩
  | 2 => ⟨S256x64, .i1⟩
  | 3 => ⟨S1x64, .i32⟩
  | 4 => ⟨S256x1, .i32⟩
  | 5 => ⟨S256x64, .i32⟩
  | 6 => ⟨S256x64, .i32⟩
  | 7 => ⟨S256x64, .i1⟩
  | 8 => ⟨S256x64, .i1⟩
  | 9 => ⟨S256x1x64x1, .i1⟩
  | 10 => ⟨S_, .f32⟩
  | 11 => ⟨S_, .f32⟩
  | 12 => ⟨S256x256x64x7, .i1⟩
  | 13 => ⟨S256x256x64x7, .f32⟩
  | 14 => ⟨S256x256x64x7, .f32⟩
  | 15 => ⟨S_, .f32⟩
  | 16 => ⟨S256x256x7, .f32⟩
  | 17 => ⟨S256x256x1x7, .f32⟩
  | 18 => ⟨S256x256x1x7, .f32⟩
  | 19 => ⟨S256x256x1x7, .f32⟩
  | 20 => ⟨S256x256x1x7, .f32⟩
  | 21 => ⟨S256x256x1x7, .f32⟩
  | 22 => ⟨S256x256x1x7, .f32⟩
  | 23 => ⟨S256x256x1x7, .f32⟩
  | 24 => ⟨S256x256x7x7, .f32⟩
  | 25 => ⟨S256x1x1x1, .i1⟩
  | 26 => ⟨S_, .f32⟩
  | 27 => ⟨S256x256x7x7, .i1⟩
  | 28 => ⟨S256x256x7x7, .f32⟩
  | 29 => ⟨S256x256x7x7, .f32⟩
  | _ => ⟨S4x256x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4x256x64x64, .f32⟩

abbrev bufTy : (tb : Table) → Fin (tcTables nBuf tb) → BufTy
  | .hbm, ⟨i, _⟩ => hbmTy i
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_c_2 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_c_4 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_c_6 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_v24 : Ref sig .tc := ⟨.hbm, 56, rfl⟩
abbrev main_c_8 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_9 : Ref sig .tc := ⟨.hbm, 67, rfl⟩
abbrev main_v34 : Ref sig .tc := ⟨.hbm, 68, rfl⟩
abbrev main_v35 : Ref sig .tc := ⟨.hbm, 69, rfl⟩
abbrev main_c_10 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_v6 : Ref sig .tc := ⟨.hbm, 77, rfl⟩
abbrev main_call5_v7 : Ref sig .tc := ⟨.hbm, 78, rfl⟩
abbrev main_call5_v8 : Ref sig .tc := ⟨.hbm, 79, rfl⟩
abbrev main_call5_c : Ref sig .tc := ⟨.hbm, 80, rfl⟩
abbrev main_call5_v9 : Ref sig .tc := ⟨.hbm, 81, rfl⟩
abbrev main_call5_v10 : Ref sig .tc := ⟨.hbm, 82, rfl⟩
abbrev main_call5_v11 : Ref sig .tc := ⟨.hbm, 83, rfl⟩
abbrev main_call5_c_0 : Ref sig .tc := ⟨.hbm, 84, rfl⟩
abbrev main_call5_v12 : Ref sig .tc := ⟨.hbm, 85, rfl⟩
abbrev main_call5_v13 : Ref sig .tc := ⟨.hbm, 86, rfl⟩
abbrev main_v36 : Ref sig .tc := ⟨.hbm, 87, rfl⟩
abbrev main_v37 : Ref sig .tc := ⟨.hbm, 88, rfl⟩
abbrev main_c_11 : Ref sig .tc := ⟨.hbm, 89, rfl⟩
abbrev main_v38 : Ref sig .tc := ⟨.hbm, 90, rfl⟩
abbrev main_v39 : Ref sig .tc := ⟨.hbm, 91, rfl⟩
abbrev main_c_12 : Ref sig .tc := ⟨.hbm, 92, rfl⟩
abbrev main_v40 : Ref sig .tc := ⟨.hbm, 93, rfl⟩
abbrev main_v41 : Ref sig .tc := ⟨.hbm, 94, rfl⟩
abbrev main_c_13 : Ref sig .tc := ⟨.hbm, 95, rfl⟩
abbrev main_v42 : Ref sig .tc := ⟨.hbm, 96, rfl⟩
abbrev main_v43 : Ref sig .tc := ⟨.hbm, 97, rfl⟩
abbrev main_c_14 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_call6_v3 : Ref sig .tc := ⟨.hbm, 102, rfl⟩
abbrev main_call6_v4 : Ref sig .tc := ⟨.hbm, 103, rfl⟩
abbrev main_call6_v5 : Ref sig .tc := ⟨.hbm, 104, rfl⟩
abbrev main_call6_v6 : Ref sig .tc := ⟨.hbm, 105, rfl⟩
abbrev main_call6_v7 : Ref sig .tc := ⟨.hbm, 106, rfl⟩
abbrev main_call6_v8 : Ref sig .tc := ⟨.hbm, 107, rfl⟩
abbrev main_call6_c : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_c_0 : Ref sig .tc := ⟨.hbm, 112, rfl⟩
abbrev main_call6_v12 : Ref sig .tc := ⟨.hbm, 113, rfl⟩
abbrev main_call6_v13 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_15 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_v58 : Ref sig .tc := ⟨.hbm, 133, rfl⟩
abbrev main_cst_16 : Ref sig .tc := ⟨.hbm, 134, rfl⟩
abbrev main_v59 : Ref sig .tc := ⟨.hbm, 135, rfl⟩
abbrev main_c_17 : Ref sig .tc := ⟨.hbm, 136, rfl⟩
abbrev main_v60 : Ref sig .tc := ⟨.hbm, 137, rfl⟩
abbrev main_v61 : Ref sig .tc := ⟨.hbm, 138, rfl⟩
abbrev main_c_18 : Ref sig .tc := ⟨.hbm, 139, rfl⟩
abbrev main_call8_v0 : Ref sig .tc := ⟨.hbm, 140, rfl⟩
abbrev main_call8_v1 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_call8_v5 : Ref sig .tc := ⟨.hbm, 145, rfl⟩
abbrev main_call8_v6 : Ref sig .tc := ⟨.hbm, 146, rfl⟩
abbrev main_call8_v7 : Ref sig .tc := ⟨.hbm, 147, rfl⟩
abbrev main_call8_v8 : Ref sig .tc := ⟨.hbm, 148, rfl⟩
abbrev main_call8_c : Ref sig .tc := ⟨.hbm, 149, rfl⟩
abbrev main_call8_v9 : Ref sig .tc := ⟨.hbm, 150, rfl⟩
abbrev main_call8_v10 : Ref sig .tc := ⟨.hbm, 151, rfl⟩
abbrev main_call8_v11 : Ref sig .tc := ⟨.hbm, 152, rfl⟩
abbrev main_call8_c_0 : Ref sig .tc := ⟨.hbm, 153, rfl⟩
abbrev main_call8_v12 : Ref sig .tc := ⟨.hbm, 154, rfl⟩
abbrev main_call8_v13 : Ref sig .tc := ⟨.hbm, 155, rfl⟩
abbrev main_v62 : Ref sig .tc := ⟨.hbm, 156, rfl⟩
abbrev main_v63 : Ref sig .tc := ⟨.hbm, 157, rfl⟩
abbrev main_c_19 : Ref sig .tc := ⟨.hbm, 158, rfl⟩
abbrev main_v64 : Ref sig .tc := ⟨.hbm, 159, rfl⟩
abbrev main_v65 : Ref sig .tc := ⟨.hbm, 160, rfl⟩
abbrev main_c_20 : Ref sig .tc := ⟨.hbm, 161, rfl⟩
abbrev main_v66 : Ref sig .tc := ⟨.hbm, 162, rfl⟩
abbrev main_v67 : Ref sig .tc := ⟨.hbm, 163, rfl⟩
abbrev main_c_21 : Ref sig .tc := ⟨.hbm, 164, rfl⟩
abbrev main_v68 : Ref sig .tc := ⟨.hbm, 165, rfl⟩
abbrev main_v69 : Ref sig .tc := ⟨.hbm, 166, rfl⟩
abbrev main_c_22 : Ref sig .tc := ⟨.hbm, 167, rfl⟩
abbrev main_call9_v0 : Ref sig .tc := ⟨.hbm, 168, rfl⟩
abbrev main_call9_v1 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_call9_v5 : Ref sig .tc := ⟨.hbm, 173, rfl⟩
abbrev main_call9_v6 : Ref sig .tc := ⟨.hbm, 174, rfl⟩
abbrev main_call9_v7 : Ref sig .tc := ⟨.hbm, 175, rfl⟩
abbrev main_call9_v8 : Ref sig .tc := ⟨.hbm, 176, rfl⟩
abbrev main_call9_c : Ref sig .tc := ⟨.hbm, 177, rfl⟩
abbrev main_call9_v9 : Ref sig .tc := ⟨.hbm, 178, rfl⟩
abbrev main_call9_v10 : Ref sig .tc := ⟨.hbm, 179, rfl⟩
abbrev main_call9_v11 : Ref sig .tc := ⟨.hbm, 180, rfl⟩
abbrev main_call9_c_0 : Ref sig .tc := ⟨.hbm, 181, rfl⟩
abbrev main_call9_v12 : Ref sig .tc := ⟨.hbm, 182, rfl⟩
abbrev main_call9_v13 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_cst_23 : Ref sig .tc := ⟨.hbm, 198, rfl⟩
abbrev main_call10_v0 : Ref sig .tc := ⟨.hbm, 199, rfl⟩
abbrev main_call10_v1 : Ref sig .tc := ⟨.hbm, 200, rfl⟩
abbrev main_call10_v2 : Ref sig .tc := ⟨.hbm, 201, rfl⟩
abbrev main_v84 : Ref sig .tc := ⟨.hbm, 202, rfl⟩
abbrev main_cst_24 : Ref sig .tc := ⟨.hbm, 203, rfl⟩
abbrev main_v85 : Ref sig .tc := ⟨.hbm, 204, rfl⟩
abbrev main_c_25 : Ref sig .tc := ⟨.hbm, 205, rfl⟩
abbrev main_v86 : Ref sig .tc := ⟨.hbm, 206, rfl⟩
abbrev main_v87 : Ref sig .tc := ⟨.hbm, 207, rfl⟩
abbrev main_c_26 : Ref sig .tc := ⟨.hbm, 208, rfl⟩
abbrev main_call11_v0 : Ref sig .tc := ⟨.hbm, 209, rfl⟩
abbrev main_call11_v1 : Ref sig .tc := ⟨.hbm, 210, rfl⟩
abbrev main_call11_v2 : Ref sig .tc := ⟨.hbm, 211, rfl⟩
abbrev main_call11_v3 : Ref sig .tc := ⟨.hbm, 212, rfl⟩
abbrev main_call11_v4 : Ref sig .tc := ⟨.hbm, 213, rfl⟩
abbrev main_call11_v5 : Ref sig .tc := ⟨.hbm, 214, rfl⟩
abbrev main_call11_v6 : Ref sig .tc := ⟨.hbm, 215, rfl⟩
abbrev main_call11_v7 : Ref sig .tc := ⟨.hbm, 216, rfl⟩
abbrev main_call11_v8 : Ref sig .tc := ⟨.hbm, 217, rfl⟩
abbrev main_call11_c : Ref sig .tc := ⟨.hbm, 218, rfl⟩
abbrev main_call11_v9 : Ref sig .tc := ⟨.hbm, 219, rfl⟩
abbrev main_call11_v10 : Ref sig .tc := ⟨.hbm, 220, rfl⟩
abbrev main_call11_v11 : Ref sig .tc := ⟨.hbm, 221, rfl⟩
abbrev main_call11_c_0 : Ref sig .tc := ⟨.hbm, 222, rfl⟩
abbrev main_call11_v12 : Ref sig .tc := ⟨.hbm, 223, rfl⟩
abbrev main_call11_v13 : Ref sig .tc := ⟨.hbm, 224, rfl⟩
abbrev main_v88 : Ref sig .tc := ⟨.hbm, 225, rfl⟩
abbrev main_v89 : Ref sig .tc := ⟨.hbm, 226, rfl⟩
abbrev main_c_27 : Ref sig .tc := ⟨.hbm, 227, rfl⟩
abbrev main_v90 : Ref sig .tc := ⟨.hbm, 228, rfl⟩
abbrev main_v91 : Ref sig .tc := ⟨.hbm, 229, rfl⟩
abbrev main_c_28 : Ref sig .tc := ⟨.hbm, 230, rfl⟩
abbrev main_v92 : Ref sig .tc := ⟨.hbm, 231, rfl⟩
abbrev main_v93 : Ref sig .tc := ⟨.hbm, 232, rfl⟩
abbrev main_c_29 : Ref sig .tc := ⟨.hbm, 233, rfl⟩
abbrev main_v94 : Ref sig .tc := ⟨.hbm, 234, rfl⟩
abbrev main_v95 : Ref sig .tc := ⟨.hbm, 235, rfl⟩
abbrev main_c_30 : Ref sig .tc := ⟨.hbm, 236, rfl⟩
abbrev main_call12_v0 : Ref sig .tc := ⟨.hbm, 237, rfl⟩
abbrev main_call12_v1 : Ref sig .tc := ⟨.hbm, 238, rfl⟩
abbrev main_call12_v2 : Ref sig .tc := ⟨.hbm, 239, rfl⟩
abbrev main_call12_v3 : Ref sig .tc := ⟨.hbm, 240, rfl⟩
abbrev main_call12_v4 : Ref sig .tc := ⟨.hbm, 241, rfl⟩
abbrev main_call12_v5 : Ref sig .tc := ⟨.hbm, 242, rfl⟩
abbrev main_call12_v6 : Ref sig .tc := ⟨.hbm, 243, rfl⟩
abbrev main_call12_v7 : Ref sig .tc := ⟨.hbm, 244, rfl⟩
abbrev main_call12_v8 : Ref sig .tc := ⟨.hbm, 245, rfl⟩
abbrev main_call12_c : Ref sig .tc := ⟨.hbm, 246, rfl⟩
abbrev main_call12_v9 : Ref sig .tc := ⟨.hbm, 247, rfl⟩
abbrev main_call12_v10 : Ref sig .tc := ⟨.hbm, 248, rfl⟩
abbrev main_call12_v11 : Ref sig .tc := ⟨.hbm, 249, rfl⟩
abbrev main_call12_c_0 : Ref sig .tc := ⟨.hbm, 250, rfl⟩
abbrev main_call12_v12 : Ref sig .tc := ⟨.hbm, 251, rfl⟩
abbrev main_call12_v13 : Ref sig .tc := ⟨.hbm, 252, rfl⟩
abbrev main_v96 : Ref sig .tc := ⟨.hbm, 253, rfl⟩
abbrev main_v97 : Ref sig .tc := ⟨.hbm, 254, rfl⟩
abbrev main_v98 : Ref sig .tc := ⟨.hbm, 255, rfl⟩
abbrev main_v99 : Ref sig .tc := ⟨.hbm, 256, rfl⟩
abbrev main_v100 : Ref sig .tc := ⟨.hbm, 257, rfl⟩
abbrev main_v101 : Ref sig .tc := ⟨.hbm, 258, rfl⟩
abbrev main_v102 : Ref sig .tc := ⟨.hbm, 259, rfl⟩
abbrev main_v103 : Ref sig .tc := ⟨.hbm, 260, rfl⟩
abbrev main_v104 : Ref sig .tc := ⟨.hbm, 261, rfl⟩
abbrev main_v105 : Ref sig .tc := ⟨.hbm, 262, rfl⟩
abbrev main_v106 : Ref sig .tc := ⟨.hbm, 263, rfl⟩
abbrev main_v107 : Ref sig .tc := ⟨.hbm, 264, rfl⟩
abbrev main_v108 : Ref sig .tc := ⟨.hbm, 265, rfl⟩
abbrev main_v109 : Ref sig .tc := ⟨.hbm, 266, rfl⟩
abbrev main_cst_31 : Ref sig .tc := ⟨.hbm, 267, rfl⟩
abbrev main_call13_v0 : Ref sig .tc := ⟨.hbm, 268, rfl⟩
abbrev main_call13_v1 : Ref sig .tc := ⟨.hbm, 269, rfl⟩
abbrev main_call13_v2 : Ref sig .tc := ⟨.hbm, 270, rfl⟩
abbrev main_v110 : Ref sig .tc := ⟨.hbm, 271, rfl⟩
abbrev main_cst_32 : Ref sig .tc := ⟨.hbm, 272, rfl⟩
abbrev main_v111 : Ref sig .tc := ⟨.hbm, 273, rfl⟩
abbrev main_c_33 : Ref sig .tc := ⟨.hbm, 274, rfl⟩
abbrev main_v112 : Ref sig .tc := ⟨.hbm, 275, rfl⟩
abbrev main_v113 : Ref sig .tc := ⟨.hbm, 276, rfl⟩
abbrev main_c_34 : Ref sig .tc := ⟨.hbm, 277, rfl⟩
abbrev main_call14_v0 : Ref sig .tc := ⟨.hbm, 278, rfl⟩
abbrev main_call14_v1 : Ref sig .tc := ⟨.hbm, 279, rfl⟩
abbrev main_call14_v2 : Ref sig .tc := ⟨.hbm, 280, rfl⟩
abbrev main_call14_v3 : Ref sig .tc := ⟨.hbm, 281, rfl⟩
abbrev main_call14_v4 : Ref sig .tc := ⟨.hbm, 282, rfl⟩
abbrev main_call14_v5 : Ref sig .tc := ⟨.hbm, 283, rfl⟩
abbrev main_call14_v6 : Ref sig .tc := ⟨.hbm, 284, rfl⟩
abbrev main_call14_v7 : Ref sig .tc := ⟨.hbm, 285, rfl⟩
abbrev main_call14_v8 : Ref sig .tc := ⟨.hbm, 286, rfl⟩
abbrev main_call14_c : Ref sig .tc := ⟨.hbm, 287, rfl⟩
abbrev main_call14_v9 : Ref sig .tc := ⟨.hbm, 288, rfl⟩
abbrev main_call14_v10 : Ref sig .tc := ⟨.hbm, 289, rfl⟩
abbrev main_call14_v11 : Ref sig .tc := ⟨.hbm, 290, rfl⟩
abbrev main_call14_c_0 : Ref sig .tc := ⟨.hbm, 291, rfl⟩
abbrev main_call14_v12 : Ref sig .tc := ⟨.hbm, 292, rfl⟩
abbrev main_call14_v13 : Ref sig .tc := ⟨.hbm, 293, rfl⟩
abbrev main_v114 : Ref sig .tc := ⟨.hbm, 294, rfl⟩
abbrev main_v115 : Ref sig .tc := ⟨.hbm, 295, rfl⟩
abbrev main_c_35 : Ref sig .tc := ⟨.hbm, 296, rfl⟩
abbrev main_v116 : Ref sig .tc := ⟨.hbm, 297, rfl⟩
abbrev main_v117 : Ref sig .tc := ⟨.hbm, 298, rfl⟩
abbrev main_c_36 : Ref sig .tc := ⟨.hbm, 299, rfl⟩
abbrev main_v118 : Ref sig .tc := ⟨.hbm, 300, rfl⟩
abbrev main_v119 : Ref sig .tc := ⟨.hbm, 301, rfl⟩
abbrev main_c_37 : Ref sig .tc := ⟨.hbm, 302, rfl⟩
abbrev main_v120 : Ref sig .tc := ⟨.hbm, 303, rfl⟩
abbrev main_v121 : Ref sig .tc := ⟨.hbm, 304, rfl⟩
abbrev main_c_38 : Ref sig .tc := ⟨.hbm, 305, rfl⟩
abbrev main_call15_v0 : Ref sig .tc := ⟨.hbm, 306, rfl⟩
abbrev main_call15_v1 : Ref sig .tc := ⟨.hbm, 307, rfl⟩
abbrev main_call15_v2 : Ref sig .tc := ⟨.hbm, 308, rfl⟩
abbrev main_call15_v3 : Ref sig .tc := ⟨.hbm, 309, rfl⟩
abbrev main_call15_v4 : Ref sig .tc := ⟨.hbm, 310, rfl⟩
abbrev main_call15_v5 : Ref sig .tc := ⟨.hbm, 311, rfl⟩
abbrev main_call15_v6 : Ref sig .tc := ⟨.hbm, 312, rfl⟩
abbrev main_call15_v7 : Ref sig .tc := ⟨.hbm, 313, rfl⟩
abbrev main_call15_v8 : Ref sig .tc := ⟨.hbm, 314, rfl⟩
abbrev main_call15_c : Ref sig .tc := ⟨.hbm, 315, rfl⟩
abbrev main_call15_v9 : Ref sig .tc := ⟨.hbm, 316, rfl⟩
abbrev main_call15_v10 : Ref sig .tc := ⟨.hbm, 317, rfl⟩
abbrev main_call15_v11 : Ref sig .tc := ⟨.hbm, 318, rfl⟩
abbrev main_call15_c_0 : Ref sig .tc := ⟨.hbm, 319, rfl⟩
abbrev main_call15_v12 : Ref sig .tc := ⟨.hbm, 320, rfl⟩
abbrev main_call15_v13 : Ref sig .tc := ⟨.hbm, 321, rfl⟩
abbrev main_v122 : Ref sig .tc := ⟨.hbm, 322, rfl⟩
abbrev main_v123 : Ref sig .tc := ⟨.hbm, 323, rfl⟩
abbrev main_v124 : Ref sig .tc := ⟨.hbm, 324, rfl⟩
abbrev main_v125 : Ref sig .tc := ⟨.hbm, 325, rfl⟩
abbrev main_v126 : Ref sig .tc := ⟨.hbm, 326, rfl⟩
abbrev main_v127 : Ref sig .tc := ⟨.hbm, 327, rfl⟩
abbrev main_v128 : Ref sig .tc := ⟨.hbm, 328, rfl⟩
abbrev main_v129 : Ref sig .tc := ⟨.hbm, 329, rfl⟩
abbrev main_v130 : Ref sig .tc := ⟨.hbm, 330, rfl⟩
abbrev main_v131 : Ref sig .tc := ⟨.hbm, 331, rfl⟩
abbrev main_v132 : Ref sig .tc := ⟨.hbm, 332, rfl⟩
abbrev main_v133 : Ref sig .tc := ⟨.hbm, 333, rfl⟩
abbrev main_v134 : Ref sig .tc := ⟨.hbm, 334, rfl⟩
abbrev main_v135 : Ref sig .tc := ⟨.hbm, 335, rfl⟩
abbrev main_cst_39 : Ref sig .tc := ⟨.hbm, 336, rfl⟩
abbrev main_call16_v0 : Ref sig .tc := ⟨.hbm, 337, rfl⟩
abbrev main_call16_v1 : Ref sig .tc := ⟨.hbm, 338, rfl⟩
abbrev main_call16_v2 : Ref sig .tc := ⟨.hbm, 339, rfl⟩
abbrev main_v136 : Ref sig .tc := ⟨.hbm, 340, rfl⟩
abbrev main_cst_40 : Ref sig .tc := ⟨.hbm, 341, rfl⟩
abbrev main_v137 : Ref sig .tc := ⟨.hbm, 342, rfl⟩
abbrev main_c_41 : Ref sig .tc := ⟨.hbm, 343, rfl⟩
abbrev main_v138 : Ref sig .tc := ⟨.hbm, 344, rfl⟩
abbrev main_v139 : Ref sig .tc := ⟨.hbm, 345, rfl⟩
abbrev main_c_42 : Ref sig .tc := ⟨.hbm, 346, rfl⟩
abbrev main_call17_v0 : Ref sig .tc := ⟨.hbm, 347, rfl⟩
abbrev main_call17_v1 : Ref sig .tc := ⟨.hbm, 348, rfl⟩
abbrev main_call17_v2 : Ref sig .tc := ⟨.hbm, 349, rfl⟩
abbrev main_call17_v3 : Ref sig .tc := ⟨.hbm, 350, rfl⟩
abbrev main_call17_v4 : Ref sig .tc := ⟨.hbm, 351, rfl⟩
abbrev main_call17_v5 : Ref sig .tc := ⟨.hbm, 352, rfl⟩
abbrev main_call17_v6 : Ref sig .tc := ⟨.hbm, 353, rfl⟩
abbrev main_call17_v7 : Ref sig .tc := ⟨.hbm, 354, rfl⟩
abbrev main_call17_v8 : Ref sig .tc := ⟨.hbm, 355, rfl⟩
abbrev main_call17_c : Ref sig .tc := ⟨.hbm, 356, rfl⟩
abbrev main_call17_v9 : Ref sig .tc := ⟨.hbm, 357, rfl⟩
abbrev main_call17_v10 : Ref sig .tc := ⟨.hbm, 358, rfl⟩
abbrev main_call17_v11 : Ref sig .tc := ⟨.hbm, 359, rfl⟩
abbrev main_call17_c_0 : Ref sig .tc := ⟨.hbm, 360, rfl⟩
abbrev main_call17_v12 : Ref sig .tc := ⟨.hbm, 361, rfl⟩
abbrev main_call17_v13 : Ref sig .tc := ⟨.hbm, 362, rfl⟩
abbrev main_v140 : Ref sig .tc := ⟨.hbm, 363, rfl⟩
abbrev main_v141 : Ref sig .tc := ⟨.hbm, 364, rfl⟩
abbrev main_c_43 : Ref sig .tc := ⟨.hbm, 365, rfl⟩
abbrev main_v142 : Ref sig .tc := ⟨.hbm, 366, rfl⟩
abbrev main_v143 : Ref sig .tc := ⟨.hbm, 367, rfl⟩
abbrev main_c_44 : Ref sig .tc := ⟨.hbm, 368, rfl⟩
abbrev main_v144 : Ref sig .tc := ⟨.hbm, 369, rfl⟩
abbrev main_v145 : Ref sig .tc := ⟨.hbm, 370, rfl⟩
abbrev main_c_45 : Ref sig .tc := ⟨.hbm, 371, rfl⟩
abbrev main_v146 : Ref sig .tc := ⟨.hbm, 372, rfl⟩
abbrev main_v147 : Ref sig .tc := ⟨.hbm, 373, rfl⟩
abbrev main_c_46 : Ref sig .tc := ⟨.hbm, 374, rfl⟩
abbrev main_call18_v0 : Ref sig .tc := ⟨.hbm, 375, rfl⟩
abbrev main_call18_v1 : Ref sig .tc := ⟨.hbm, 376, rfl⟩
abbrev main_call18_v2 : Ref sig .tc := ⟨.hbm, 377, rfl⟩
abbrev main_call18_v3 : Ref sig .tc := ⟨.hbm, 378, rfl⟩
abbrev main_call18_v4 : Ref sig .tc := ⟨.hbm, 379, rfl⟩
abbrev main_call18_v5 : Ref sig .tc := ⟨.hbm, 380, rfl⟩
abbrev main_call18_v6 : Ref sig .tc := ⟨.hbm, 381, rfl⟩
abbrev main_call18_v7 : Ref sig .tc := ⟨.hbm, 382, rfl⟩
abbrev main_call18_v8 : Ref sig .tc := ⟨.hbm, 383, rfl⟩
abbrev main_call18_c : Ref sig .tc := ⟨.hbm, 384, rfl⟩
abbrev main_call18_v9 : Ref sig .tc := ⟨.hbm, 385, rfl⟩
abbrev main_call18_v10 : Ref sig .tc := ⟨.hbm, 386, rfl⟩
abbrev main_call18_v11 : Ref sig .tc := ⟨.hbm, 387, rfl⟩
abbrev main_call18_c_0 : Ref sig .tc := ⟨.hbm, 388, rfl⟩
abbrev main_call18_v12 : Ref sig .tc := ⟨.hbm, 389, rfl⟩
abbrev main_call18_v13 : Ref sig .tc := ⟨.hbm, 390, rfl⟩
abbrev main_v148 : Ref sig .tc := ⟨.hbm, 391, rfl⟩
abbrev main_v149 : Ref sig .tc := ⟨.hbm, 392, rfl⟩
abbrev main_v150 : Ref sig .tc := ⟨.hbm, 393, rfl⟩
abbrev main_v151 : Ref sig .tc := ⟨.hbm, 394, rfl⟩
abbrev main_v152 : Ref sig .tc := ⟨.hbm, 395, rfl⟩
abbrev main_v153 : Ref sig .tc := ⟨.hbm, 396, rfl⟩
abbrev main_v154 : Ref sig .tc := ⟨.hbm, 397, rfl⟩
abbrev main_v155 : Ref sig .tc := ⟨.hbm, 398, rfl⟩
abbrev main_v156 : Ref sig .tc := ⟨.hbm, 399, rfl⟩
abbrev main_v157 : Ref sig .tc := ⟨.hbm, 400, rfl⟩
abbrev main_v158 : Ref sig .tc := ⟨.hbm, 401, rfl⟩
abbrev main_v159 : Ref sig .tc := ⟨.hbm, 402, rfl⟩
abbrev main_v160 : Ref sig .tc := ⟨.hbm, 403, rfl⟩
abbrev main_v161 : Ref sig .tc := ⟨.hbm, 404, rfl⟩
abbrev main_cst_47 : Ref sig .tc := ⟨.hbm, 405, rfl⟩
abbrev main_call19_v0 : Ref sig .tc := ⟨.hbm, 406, rfl⟩
abbrev main_call19_v1 : Ref sig .tc := ⟨.hbm, 407, rfl⟩
abbrev main_call19_v2 : Ref sig .tc := ⟨.hbm, 408, rfl⟩
abbrev main_v162 : Ref sig .tc := ⟨.hbm, 409, rfl⟩
abbrev main_cst_48 : Ref sig .tc := ⟨.hbm, 410, rfl⟩
abbrev main_v163 : Ref sig .tc := ⟨.hbm, 411, rfl⟩
abbrev main_c_49 : Ref sig .tc := ⟨.hbm, 412, rfl⟩
abbrev main_v164 : Ref sig .tc := ⟨.hbm, 413, rfl⟩
abbrev main_v165 : Ref sig .tc := ⟨.hbm, 414, rfl⟩
abbrev main_c_50 : Ref sig .tc := ⟨.hbm, 415, rfl⟩
abbrev main_call20_v0 : Ref sig .tc := ⟨.hbm, 416, rfl⟩
abbrev main_call20_v1 : Ref sig .tc := ⟨.hbm, 417, rfl⟩
abbrev main_call20_v2 : Ref sig .tc := ⟨.hbm, 418, rfl⟩
abbrev main_call20_v3 : Ref sig .tc := ⟨.hbm, 419, rfl⟩
abbrev main_call20_v4 : Ref sig .tc := ⟨.hbm, 420, rfl⟩
abbrev main_call20_v5 : Ref sig .tc := ⟨.hbm, 421, rfl⟩
abbrev main_call20_v6 : Ref sig .tc := ⟨.hbm, 422, rfl⟩
abbrev main_call20_v7 : Ref sig .tc := ⟨.hbm, 423, rfl⟩
abbrev main_call20_v8 : Ref sig .tc := ⟨.hbm, 424, rfl⟩
abbrev main_call20_c : Ref sig .tc := ⟨.hbm, 425, rfl⟩
abbrev main_call20_v9 : Ref sig .tc := ⟨.hbm, 426, rfl⟩
abbrev main_call20_v10 : Ref sig .tc := ⟨.hbm, 427, rfl⟩
abbrev main_call20_v11 : Ref sig .tc := ⟨.hbm, 428, rfl⟩
abbrev main_call20_c_0 : Ref sig .tc := ⟨.hbm, 429, rfl⟩
abbrev main_call20_v12 : Ref sig .tc := ⟨.hbm, 430, rfl⟩
abbrev main_call20_v13 : Ref sig .tc := ⟨.hbm, 431, rfl⟩
abbrev main_v166 : Ref sig .tc := ⟨.hbm, 432, rfl⟩
abbrev main_v167 : Ref sig .tc := ⟨.hbm, 433, rfl⟩
abbrev main_c_51 : Ref sig .tc := ⟨.hbm, 434, rfl⟩
abbrev main_v168 : Ref sig .tc := ⟨.hbm, 435, rfl⟩
abbrev main_v169 : Ref sig .tc := ⟨.hbm, 436, rfl⟩
abbrev main_c_52 : Ref sig .tc := ⟨.hbm, 437, rfl⟩
abbrev main_v170 : Ref sig .tc := ⟨.hbm, 438, rfl⟩
abbrev main_v171 : Ref sig .tc := ⟨.hbm, 439, rfl⟩
abbrev main_c_53 : Ref sig .tc := ⟨.hbm, 440, rfl⟩
abbrev main_v172 : Ref sig .tc := ⟨.hbm, 441, rfl⟩
abbrev main_v173 : Ref sig .tc := ⟨.hbm, 442, rfl⟩
abbrev main_c_54 : Ref sig .tc := ⟨.hbm, 443, rfl⟩
abbrev main_call21_v0 : Ref sig .tc := ⟨.hbm, 444, rfl⟩
abbrev main_call21_v1 : Ref sig .tc := ⟨.hbm, 445, rfl⟩
abbrev main_call21_v2 : Ref sig .tc := ⟨.hbm, 446, rfl⟩
abbrev main_call21_v3 : Ref sig .tc := ⟨.hbm, 447, rfl⟩
abbrev main_call21_v4 : Ref sig .tc := ⟨.hbm, 448, rfl⟩
abbrev main_call21_v5 : Ref sig .tc := ⟨.hbm, 449, rfl⟩
abbrev main_call21_v6 : Ref sig .tc := ⟨.hbm, 450, rfl⟩
abbrev main_call21_v7 : Ref sig .tc := ⟨.hbm, 451, rfl⟩
abbrev main_call21_v8 : Ref sig .tc := ⟨.hbm, 452, rfl⟩
abbrev main_call21_c : Ref sig .tc := ⟨.hbm, 453, rfl⟩
abbrev main_call21_v9 : Ref sig .tc := ⟨.hbm, 454, rfl⟩
abbrev main_call21_v10 : Ref sig .tc := ⟨.hbm, 455, rfl⟩
abbrev main_call21_v11 : Ref sig .tc := ⟨.hbm, 456, rfl⟩
abbrev main_call21_c_0 : Ref sig .tc := ⟨.hbm, 457, rfl⟩
abbrev main_call21_v12 : Ref sig .tc := ⟨.hbm, 458, rfl⟩
abbrev main_call21_v13 : Ref sig .tc := ⟨.hbm, 459, rfl⟩
abbrev main_v174 : Ref sig .tc := ⟨.hbm, 460, rfl⟩
abbrev main_v175 : Ref sig .tc := ⟨.hbm, 461, rfl⟩
abbrev main_v176 : Ref sig .tc := ⟨.hbm, 462, rfl⟩
abbrev main_v177 : Ref sig .tc := ⟨.hbm, 463, rfl⟩
abbrev main_v178 : Ref sig .tc := ⟨.hbm, 464, rfl⟩
abbrev main_v179 : Ref sig .tc := ⟨.hbm, 465, rfl⟩
abbrev main_v180 : Ref sig .tc := ⟨.hbm, 466, rfl⟩
abbrev main_v181 : Ref sig .tc := ⟨.hbm, 467, rfl⟩
abbrev main_v182 : Ref sig .tc := ⟨.hbm, 468, rfl⟩
abbrev main_v183 : Ref sig .tc := ⟨.hbm, 469, rfl⟩
abbrev main_v184 : Ref sig .tc := ⟨.hbm, 470, rfl⟩
abbrev main_v185 : Ref sig .tc := ⟨.hbm, 471, rfl⟩
abbrev main_v186 : Ref sig .tc := ⟨.hbm, 472, rfl⟩
abbrev main_v187 : Ref sig .tc := ⟨.hbm, 473, rfl⟩
abbrev main_cst_55 : Ref sig .tc := ⟨.hbm, 474, rfl⟩
abbrev main_call22_v0 : Ref sig .tc := ⟨.hbm, 475, rfl⟩
abbrev main_call22_v1 : Ref sig .tc := ⟨.hbm, 476, rfl⟩
abbrev main_call22_v2 : Ref sig .tc := ⟨.hbm, 477, rfl⟩
abbrev main_v188 : Ref sig .tc := ⟨.hbm, 478, rfl⟩
abbrev main_cst_56 : Ref sig .tc := ⟨.hbm, 479, rfl⟩
abbrev main_v189 : Ref sig .tc := ⟨.hbm, 480, rfl⟩
abbrev main_c_57 : Ref sig .tc := ⟨.hbm, 481, rfl⟩
abbrev main_v190 : Ref sig .tc := ⟨.hbm, 482, rfl⟩
abbrev main_v191 : Ref sig .tc := ⟨.hbm, 483, rfl⟩
abbrev main_c_58 : Ref sig .tc := ⟨.hbm, 484, rfl⟩
abbrev main_call23_v0 : Ref sig .tc := ⟨.hbm, 485, rfl⟩
abbrev main_call23_v1 : Ref sig .tc := ⟨.hbm, 486, rfl⟩
abbrev main_call23_v2 : Ref sig .tc := ⟨.hbm, 487, rfl⟩
abbrev main_call23_v3 : Ref sig .tc := ⟨.hbm, 488, rfl⟩
abbrev main_call23_v4 : Ref sig .tc := ⟨.hbm, 489, rfl⟩
abbrev main_call23_v5 : Ref sig .tc := ⟨.hbm, 490, rfl⟩
abbrev main_call23_v6 : Ref sig .tc := ⟨.hbm, 491, rfl⟩
abbrev main_call23_v7 : Ref sig .tc := ⟨.hbm, 492, rfl⟩
abbrev main_call23_v8 : Ref sig .tc := ⟨.hbm, 493, rfl⟩
abbrev main_call23_c : Ref sig .tc := ⟨.hbm, 494, rfl⟩
abbrev main_call23_v9 : Ref sig .tc := ⟨.hbm, 495, rfl⟩
abbrev main_call23_v10 : Ref sig .tc := ⟨.hbm, 496, rfl⟩
abbrev main_call23_v11 : Ref sig .tc := ⟨.hbm, 497, rfl⟩
abbrev main_call23_c_0 : Ref sig .tc := ⟨.hbm, 498, rfl⟩
abbrev main_call23_v12 : Ref sig .tc := ⟨.hbm, 499, rfl⟩
abbrev main_call23_v13 : Ref sig .tc := ⟨.hbm, 500, rfl⟩
abbrev main_v192 : Ref sig .tc := ⟨.hbm, 501, rfl⟩
abbrev main_v193 : Ref sig .tc := ⟨.hbm, 502, rfl⟩
abbrev main_c_59 : Ref sig .tc := ⟨.hbm, 503, rfl⟩
abbrev main_v194 : Ref sig .tc := ⟨.hbm, 504, rfl⟩
abbrev main_v195 : Ref sig .tc := ⟨.hbm, 505, rfl⟩
abbrev main_c_60 : Ref sig .tc := ⟨.hbm, 506, rfl⟩
abbrev main_v196 : Ref sig .tc := ⟨.hbm, 507, rfl⟩
abbrev main_v197 : Ref sig .tc := ⟨.hbm, 508, rfl⟩
abbrev main_c_61 : Ref sig .tc := ⟨.hbm, 509, rfl⟩
abbrev main_v198 : Ref sig .tc := ⟨.hbm, 510, rfl⟩
abbrev main_v199 : Ref sig .tc := ⟨.hbm, 511, rfl⟩
abbrev main_c_62 : Ref sig .tc := ⟨.hbm, 512, rfl⟩
abbrev main_call24_v0 : Ref sig .tc := ⟨.hbm, 513, rfl⟩
abbrev main_call24_v1 : Ref sig .tc := ⟨.hbm, 514, rfl⟩
abbrev main_call24_v2 : Ref sig .tc := ⟨.hbm, 515, rfl⟩
abbrev main_call24_v3 : Ref sig .tc := ⟨.hbm, 516, rfl⟩
abbrev main_call24_v4 : Ref sig .tc := ⟨.hbm, 517, rfl⟩
abbrev main_call24_v5 : Ref sig .tc := ⟨.hbm, 518, rfl⟩
abbrev main_call24_v6 : Ref sig .tc := ⟨.hbm, 519, rfl⟩
abbrev main_call24_v7 : Ref sig .tc := ⟨.hbm, 520, rfl⟩
abbrev main_call24_v8 : Ref sig .tc := ⟨.hbm, 521, rfl⟩
abbrev main_call24_c : Ref sig .tc := ⟨.hbm, 522, rfl⟩
abbrev main_call24_v9 : Ref sig .tc := ⟨.hbm, 523, rfl⟩
abbrev main_call24_v10 : Ref sig .tc := ⟨.hbm, 524, rfl⟩
abbrev main_call24_v11 : Ref sig .tc := ⟨.hbm, 525, rfl⟩
abbrev main_call24_c_0 : Ref sig .tc := ⟨.hbm, 526, rfl⟩
abbrev main_call24_v12 : Ref sig .tc := ⟨.hbm, 527, rfl⟩
abbrev main_call24_v13 : Ref sig .tc := ⟨.hbm, 528, rfl⟩
abbrev main_v200 : Ref sig .tc := ⟨.hbm, 529, rfl⟩
abbrev main_v201 : Ref sig .tc := ⟨.hbm, 530, rfl⟩
abbrev main_v202 : Ref sig .tc := ⟨.hbm, 531, rfl⟩
abbrev main_v203 : Ref sig .tc := ⟨.hbm, 532, rfl⟩
abbrev main_v204 : Ref sig .tc := ⟨.hbm, 533, rfl⟩
abbrev main_v205 : Ref sig .tc := ⟨.hbm, 534, rfl⟩
abbrev main_v206 : Ref sig .tc := ⟨.hbm, 535, rfl⟩
abbrev main_v207 : Ref sig .tc := ⟨.hbm, 536, rfl⟩
abbrev main_v208 : Ref sig .tc := ⟨.hbm, 537, rfl⟩
abbrev main_v209 : Ref sig .tc := ⟨.hbm, 538, rfl⟩
abbrev main_v210 : Ref sig .tc := ⟨.hbm, 539, rfl⟩
abbrev main_v211 : Ref sig .tc := ⟨.hbm, 540, rfl⟩
abbrev main_v212 : Ref sig .tc := ⟨.hbm, 541, rfl⟩
abbrev main_v213 : Ref sig .tc := ⟨.hbm, 542, rfl⟩
abbrev main_cst_63 : Ref sig .tc := ⟨.hbm, 543, rfl⟩
abbrev main_call25_v0 : Ref sig .tc := ⟨.hbm, 544, rfl⟩
abbrev main_call25_v1 : Ref sig .tc := ⟨.hbm, 545, rfl⟩
abbrev main_call25_v2 : Ref sig .tc := ⟨.hbm, 546, rfl⟩
abbrev main_v214 : Ref sig .tc := ⟨.hbm, 547, rfl⟩
abbrev main_cst_64 : Ref sig .tc := ⟨.hbm, 548, rfl⟩
abbrev main_v215 : Ref sig .tc := ⟨.hbm, 549, rfl⟩
abbrev main_v216 : Ref sig .tc := ⟨.hbm, 550, rfl⟩
abbrev main_v217 : Ref sig .tc := ⟨.hbm, 551, rfl⟩
abbrev main_v218 : Ref sig .tc := ⟨.hbm, 552, rfl⟩
abbrev main_v219 : Ref sig .tc := ⟨.hbm, 553, rfl⟩
abbrev main_v220 : Ref sig .tc := ⟨.hbm, 554, rfl⟩
abbrev main_v221 : Ref sig .tc := ⟨.hbm, 555, rfl⟩
abbrev main_v222 : Ref sig .tc := ⟨.hbm, 556, rfl⟩
abbrev main_v223 : Ref sig .tc := ⟨.hbm, 557, rfl⟩
abbrev main_c_65 : Ref sig .tc := ⟨.hbm, 558, rfl⟩
abbrev main_v224 : Ref sig .tc := ⟨.hbm, 559, rfl⟩
abbrev main_v225 : Ref sig .tc := ⟨.hbm, 560, rfl⟩
abbrev main_c_66 : Ref sig .tc := ⟨.hbm, 561, rfl⟩
abbrev main_call26_v0 : Ref sig .tc := ⟨.hbm, 562, rfl⟩
abbrev main_call26_v1 : Ref sig .tc := ⟨.hbm, 563, rfl⟩
abbrev main_call26_v2 : Ref sig .tc := ⟨.hbm, 564, rfl⟩
abbrev main_call26_v3 : Ref sig .tc := ⟨.hbm, 565, rfl⟩
abbrev main_call26_v4 : Ref sig .tc := ⟨.hbm, 566, rfl⟩
abbrev main_call26_v5 : Ref sig .tc := ⟨.hbm, 567, rfl⟩
abbrev main_call26_v6 : Ref sig .tc := ⟨.hbm, 568, rfl⟩
abbrev main_call26_v7 : Ref sig .tc := ⟨.hbm, 569, rfl⟩
abbrev main_call26_v8 : Ref sig .tc := ⟨.hbm, 570, rfl⟩
abbrev main_call26_c : Ref sig .tc := ⟨.hbm, 571, rfl⟩
abbrev main_call26_v9 : Ref sig .tc := ⟨.hbm, 572, rfl⟩
abbrev main_call26_v10 : Ref sig .tc := ⟨.hbm, 573, rfl⟩
abbrev main_call26_v11 : Ref sig .tc := ⟨.hbm, 574, rfl⟩
abbrev main_call26_c_0 : Ref sig .tc := ⟨.hbm, 575, rfl⟩
abbrev main_call26_v12 : Ref sig .tc := ⟨.hbm, 576, rfl⟩
abbrev main_call26_v13 : Ref sig .tc := ⟨.hbm, 577, rfl⟩
abbrev main_v226 : Ref sig .tc := ⟨.hbm, 578, rfl⟩
abbrev main_v227 : Ref sig .tc := ⟨.hbm, 579, rfl⟩
abbrev main_c_67 : Ref sig .tc := ⟨.hbm, 580, rfl⟩
abbrev main_v228 : Ref sig .tc := ⟨.hbm, 581, rfl⟩
abbrev main_v229 : Ref sig .tc := ⟨.hbm, 582, rfl⟩
abbrev main_c_68 : Ref sig .tc := ⟨.hbm, 583, rfl⟩
abbrev main_v230 : Ref sig .tc := ⟨.hbm, 584, rfl⟩
abbrev main_v231 : Ref sig .tc := ⟨.hbm, 585, rfl⟩
abbrev main_c_69 : Ref sig .tc := ⟨.hbm, 586, rfl⟩
abbrev main_v232 : Ref sig .tc := ⟨.hbm, 587, rfl⟩
abbrev main_v233 : Ref sig .tc := ⟨.hbm, 588, rfl⟩
abbrev main_c_70 : Ref sig .tc := ⟨.hbm, 589, rfl⟩
abbrev main_call27_v0 : Ref sig .tc := ⟨.hbm, 590, rfl⟩
abbrev main_call27_v1 : Ref sig .tc := ⟨.hbm, 591, rfl⟩
abbrev main_call27_v2 : Ref sig .tc := ⟨.hbm, 592, rfl⟩
abbrev main_call27_v3 : Ref sig .tc := ⟨.hbm, 593, rfl⟩
abbrev main_call27_v4 : Ref sig .tc := ⟨.hbm, 594, rfl⟩
abbrev main_call27_v5 : Ref sig .tc := ⟨.hbm, 595, rfl⟩
abbrev main_call27_v6 : Ref sig .tc := ⟨.hbm, 596, rfl⟩
abbrev main_call27_v7 : Ref sig .tc := ⟨.hbm, 597, rfl⟩
abbrev main_call27_v8 : Ref sig .tc := ⟨.hbm, 598, rfl⟩
abbrev main_call27_c : Ref sig .tc := ⟨.hbm, 599, rfl⟩
abbrev main_call27_v9 : Ref sig .tc := ⟨.hbm, 600, rfl⟩
abbrev main_call27_v10 : Ref sig .tc := ⟨.hbm, 601, rfl⟩
abbrev main_call27_v11 : Ref sig .tc := ⟨.hbm, 602, rfl⟩
abbrev main_call27_c_0 : Ref sig .tc := ⟨.hbm, 603, rfl⟩
abbrev main_call27_v12 : Ref sig .tc := ⟨.hbm, 604, rfl⟩
abbrev main_call27_v13 : Ref sig .tc := ⟨.hbm, 605, rfl⟩
abbrev main_v234 : Ref sig .tc := ⟨.hbm, 606, rfl⟩
abbrev main_v235 : Ref sig .tc := ⟨.hbm, 607, rfl⟩
abbrev main_v236 : Ref sig .tc := ⟨.hbm, 608, rfl⟩
abbrev main_v237 : Ref sig .tc := ⟨.hbm, 609, rfl⟩
abbrev main_v238 : Ref sig .tc := ⟨.hbm, 610, rfl⟩
abbrev main_v239 : Ref sig .tc := ⟨.hbm, 611, rfl⟩
abbrev main_v240 : Ref sig .tc := ⟨.hbm, 612, rfl⟩
abbrev main_v241 : Ref sig .tc := ⟨.hbm, 613, rfl⟩
abbrev main_v242 : Ref sig .tc := ⟨.hbm, 614, rfl⟩
abbrev main_v243 : Ref sig .tc := ⟨.hbm, 615, rfl⟩
abbrev main_v244 : Ref sig .tc := ⟨.hbm, 616, rfl⟩
abbrev main_v245 : Ref sig .tc := ⟨.hbm, 617, rfl⟩
abbrev main_v246 : Ref sig .tc := ⟨.hbm, 618, rfl⟩
abbrev main_v247 : Ref sig .tc := ⟨.hbm, 619, rfl⟩
abbrev main_cst_71 : Ref sig .tc := ⟨.hbm, 620, rfl⟩
abbrev main_call28_v0 : Ref sig .tc := ⟨.hbm, 621, rfl⟩
abbrev main_call28_v1 : Ref sig .tc := ⟨.hbm, 622, rfl⟩
abbrev main_call28_v2 : Ref sig .tc := ⟨.hbm, 623, rfl⟩
abbrev main_v248 : Ref sig .tc := ⟨.hbm, 624, rfl⟩
abbrev main_cst_72 : Ref sig .tc := ⟨.hbm, 625, rfl⟩
abbrev main_v249 : Ref sig .tc := ⟨.hbm, 626, rfl⟩
abbrev main_c_73 : Ref sig .tc := ⟨.hbm, 627, rfl⟩
abbrev main_v250 : Ref sig .tc := ⟨.hbm, 628, rfl⟩
abbrev main_v251 : Ref sig .tc := ⟨.hbm, 629, rfl⟩
abbrev main_c_74 : Ref sig .tc := ⟨.hbm, 630, rfl⟩
abbrev main_call29_v0 : Ref sig .tc := ⟨.hbm, 631, rfl⟩
abbrev main_call29_v1 : Ref sig .tc := ⟨.hbm, 632, rfl⟩
abbrev main_call29_v2 : Ref sig .tc := ⟨.hbm, 633, rfl⟩
abbrev main_call29_v3 : Ref sig .tc := ⟨.hbm, 634, rfl⟩
abbrev main_call29_v4 : Ref sig .tc := ⟨.hbm, 635, rfl⟩
abbrev main_call29_v5 : Ref sig .tc := ⟨.hbm, 636, rfl⟩
abbrev main_call29_v6 : Ref sig .tc := ⟨.hbm, 637, rfl⟩
abbrev main_call29_v7 : Ref sig .tc := ⟨.hbm, 638, rfl⟩
abbrev main_call29_v8 : Ref sig .tc := ⟨.hbm, 639, rfl⟩
abbrev main_call29_c : Ref sig .tc := ⟨.hbm, 640, rfl⟩
abbrev main_call29_v9 : Ref sig .tc := ⟨.hbm, 641, rfl⟩
abbrev main_call29_v10 : Ref sig .tc := ⟨.hbm, 642, rfl⟩
abbrev main_call29_v11 : Ref sig .tc := ⟨.hbm, 643, rfl⟩
abbrev main_call29_c_0 : Ref sig .tc := ⟨.hbm, 644, rfl⟩
abbrev main_call29_v12 : Ref sig .tc := ⟨.hbm, 645, rfl⟩
abbrev main_call29_v13 : Ref sig .tc := ⟨.hbm, 646, rfl⟩
abbrev main_v252 : Ref sig .tc := ⟨.hbm, 647, rfl⟩
abbrev main_v253 : Ref sig .tc := ⟨.hbm, 648, rfl⟩
abbrev main_c_75 : Ref sig .tc := ⟨.hbm, 649, rfl⟩
abbrev main_v254 : Ref sig .tc := ⟨.hbm, 650, rfl⟩
abbrev main_v255 : Ref sig .tc := ⟨.hbm, 651, rfl⟩
abbrev main_c_76 : Ref sig .tc := ⟨.hbm, 652, rfl⟩
abbrev main_v256 : Ref sig .tc := ⟨.hbm, 653, rfl⟩
abbrev main_v257 : Ref sig .tc := ⟨.hbm, 654, rfl⟩
abbrev main_c_77 : Ref sig .tc := ⟨.hbm, 655, rfl⟩
abbrev main_v258 : Ref sig .tc := ⟨.hbm, 656, rfl⟩
abbrev main_v259 : Ref sig .tc := ⟨.hbm, 657, rfl⟩
abbrev main_c_78 : Ref sig .tc := ⟨.hbm, 658, rfl⟩
abbrev main_call30_v0 : Ref sig .tc := ⟨.hbm, 659, rfl⟩
abbrev main_call30_v1 : Ref sig .tc := ⟨.hbm, 660, rfl⟩
abbrev main_call30_v2 : Ref sig .tc := ⟨.hbm, 661, rfl⟩
abbrev main_call30_v3 : Ref sig .tc := ⟨.hbm, 662, rfl⟩
abbrev main_call30_v4 : Ref sig .tc := ⟨.hbm, 663, rfl⟩
abbrev main_call30_v5 : Ref sig .tc := ⟨.hbm, 664, rfl⟩
abbrev main_call30_v6 : Ref sig .tc := ⟨.hbm, 665, rfl⟩
abbrev main_call30_v7 : Ref sig .tc := ⟨.hbm, 666, rfl⟩
abbrev main_call30_v8 : Ref sig .tc := ⟨.hbm, 667, rfl⟩
abbrev main_call30_c : Ref sig .tc := ⟨.hbm, 668, rfl⟩
abbrev main_call30_v9 : Ref sig .tc := ⟨.hbm, 669, rfl⟩
abbrev main_call30_v10 : Ref sig .tc := ⟨.hbm, 670, rfl⟩
abbrev main_call30_v11 : Ref sig .tc := ⟨.hbm, 671, rfl⟩
abbrev main_call30_c_0 : Ref sig .tc := ⟨.hbm, 672, rfl⟩
abbrev main_call30_v12 : Ref sig .tc := ⟨.hbm, 673, rfl⟩
abbrev main_call30_v13 : Ref sig .tc := ⟨.hbm, 674, rfl⟩
abbrev main_v260 : Ref sig .tc := ⟨.hbm, 675, rfl⟩
abbrev main_v261 : Ref sig .tc := ⟨.hbm, 676, rfl⟩
abbrev main_v262 : Ref sig .tc := ⟨.hbm, 677, rfl⟩
abbrev main_v263 : Ref sig .tc := ⟨.hbm, 678, rfl⟩
abbrev main_v264 : Ref sig .tc := ⟨.hbm, 679, rfl⟩
abbrev main_v265 : Ref sig .tc := ⟨.hbm, 680, rfl⟩
abbrev main_v266 : Ref sig .tc := ⟨.hbm, 681, rfl⟩
abbrev main_v267 : Ref sig .tc := ⟨.hbm, 682, rfl⟩
abbrev main_v268 : Ref sig .tc := ⟨.hbm, 683, rfl⟩
abbrev main_v269 : Ref sig .tc := ⟨.hbm, 684, rfl⟩
abbrev main_v270 : Ref sig .tc := ⟨.hbm, 685, rfl⟩
abbrev main_v271 : Ref sig .tc := ⟨.hbm, 686, rfl⟩
abbrev main_v272 : Ref sig .tc := ⟨.hbm, 687, rfl⟩
abbrev main_v273 : Ref sig .tc := ⟨.hbm, 688, rfl⟩
abbrev main_cst_79 : Ref sig .tc := ⟨.hbm, 689, rfl⟩
abbrev main_call31_v0 : Ref sig .tc := ⟨.hbm, 690, rfl⟩
abbrev main_call31_v1 : Ref sig .tc := ⟨.hbm, 691, rfl⟩
abbrev main_call31_v2 : Ref sig .tc := ⟨.hbm, 692, rfl⟩
abbrev main_v274 : Ref sig .tc := ⟨.hbm, 693, rfl⟩
abbrev main_cst_80 : Ref sig .tc := ⟨.hbm, 694, rfl⟩
abbrev main_v275 : Ref sig .tc := ⟨.hbm, 695, rfl⟩
abbrev main_c_81 : Ref sig .tc := ⟨.hbm, 696, rfl⟩
abbrev main_v276 : Ref sig .tc := ⟨.hbm, 697, rfl⟩
abbrev main_v277 : Ref sig .tc := ⟨.hbm, 698, rfl⟩
abbrev main_c_82 : Ref sig .tc := ⟨.hbm, 699, rfl⟩
abbrev main_call32_v0 : Ref sig .tc := ⟨.hbm, 700, rfl⟩
abbrev main_call32_v1 : Ref sig .tc := ⟨.hbm, 701, rfl⟩
abbrev main_call32_v2 : Ref sig .tc := ⟨.hbm, 702, rfl⟩
abbrev main_call32_v3 : Ref sig .tc := ⟨.hbm, 703, rfl⟩
abbrev main_call32_v4 : Ref sig .tc := ⟨.hbm, 704, rfl⟩
abbrev main_call32_v5 : Ref sig .tc := ⟨.hbm, 705, rfl⟩
abbrev main_call32_v6 : Ref sig .tc := ⟨.hbm, 706, rfl⟩
abbrev main_call32_v7 : Ref sig .tc := ⟨.hbm, 707, rfl⟩
abbrev main_call32_v8 : Ref sig .tc := ⟨.hbm, 708, rfl⟩
abbrev main_call32_c : Ref sig .tc := ⟨.hbm, 709, rfl⟩
abbrev main_call32_v9 : Ref sig .tc := ⟨.hbm, 710, rfl⟩
abbrev main_call32_v10 : Ref sig .tc := ⟨.hbm, 711, rfl⟩
abbrev main_call32_v11 : Ref sig .tc := ⟨.hbm, 712, rfl⟩
abbrev main_call32_c_0 : Ref sig .tc := ⟨.hbm, 713, rfl⟩
abbrev main_call32_v12 : Ref sig .tc := ⟨.hbm, 714, rfl⟩
abbrev main_call32_v13 : Ref sig .tc := ⟨.hbm, 715, rfl⟩
abbrev main_v278 : Ref sig .tc := ⟨.hbm, 716, rfl⟩
abbrev main_v279 : Ref sig .tc := ⟨.hbm, 717, rfl⟩
abbrev main_c_83 : Ref sig .tc := ⟨.hbm, 718, rfl⟩
abbrev main_v280 : Ref sig .tc := ⟨.hbm, 719, rfl⟩
abbrev main_v281 : Ref sig .tc := ⟨.hbm, 720, rfl⟩
abbrev main_c_84 : Ref sig .tc := ⟨.hbm, 721, rfl⟩
abbrev main_v282 : Ref sig .tc := ⟨.hbm, 722, rfl⟩
abbrev main_v283 : Ref sig .tc := ⟨.hbm, 723, rfl⟩
abbrev main_c_85 : Ref sig .tc := ⟨.hbm, 724, rfl⟩
abbrev main_v284 : Ref sig .tc := ⟨.hbm, 725, rfl⟩
abbrev main_v285 : Ref sig .tc := ⟨.hbm, 726, rfl⟩
abbrev main_c_86 : Ref sig .tc := ⟨.hbm, 727, rfl⟩
abbrev main_call33_v0 : Ref sig .tc := ⟨.hbm, 728, rfl⟩
abbrev main_call33_v1 : Ref sig .tc := ⟨.hbm, 729, rfl⟩
abbrev main_call33_v2 : Ref sig .tc := ⟨.hbm, 730, rfl⟩
abbrev main_call33_v3 : Ref sig .tc := ⟨.hbm, 731, rfl⟩
abbrev main_call33_v4 : Ref sig .tc := ⟨.hbm, 732, rfl⟩
abbrev main_call33_v5 : Ref sig .tc := ⟨.hbm, 733, rfl⟩
abbrev main_call33_v6 : Ref sig .tc := ⟨.hbm, 734, rfl⟩
abbrev main_call33_v7 : Ref sig .tc := ⟨.hbm, 735, rfl⟩
abbrev main_call33_v8 : Ref sig .tc := ⟨.hbm, 736, rfl⟩
abbrev main_call33_c : Ref sig .tc := ⟨.hbm, 737, rfl⟩
abbrev main_call33_v9 : Ref sig .tc := ⟨.hbm, 738, rfl⟩
abbrev main_call33_v10 : Ref sig .tc := ⟨.hbm, 739, rfl⟩
abbrev main_call33_v11 : Ref sig .tc := ⟨.hbm, 740, rfl⟩
abbrev main_call33_c_0 : Ref sig .tc := ⟨.hbm, 741, rfl⟩
abbrev main_call33_v12 : Ref sig .tc := ⟨.hbm, 742, rfl⟩
abbrev main_call33_v13 : Ref sig .tc := ⟨.hbm, 743, rfl⟩
abbrev main_v286 : Ref sig .tc := ⟨.hbm, 744, rfl⟩
abbrev main_v287 : Ref sig .tc := ⟨.hbm, 745, rfl⟩
abbrev main_v288 : Ref sig .tc := ⟨.hbm, 746, rfl⟩
abbrev main_v289 : Ref sig .tc := ⟨.hbm, 747, rfl⟩
abbrev main_v290 : Ref sig .tc := ⟨.hbm, 748, rfl⟩
abbrev main_v291 : Ref sig .tc := ⟨.hbm, 749, rfl⟩
abbrev main_v292 : Ref sig .tc := ⟨.hbm, 750, rfl⟩
abbrev main_v293 : Ref sig .tc := ⟨.hbm, 751, rfl⟩
abbrev main_v294 : Ref sig .tc := ⟨.hbm, 752, rfl⟩
abbrev main_v295 : Ref sig .tc := ⟨.hbm, 753, rfl⟩
abbrev main_v296 : Ref sig .tc := ⟨.hbm, 754, rfl⟩
abbrev main_v297 : Ref sig .tc := ⟨.hbm, 755, rfl⟩
abbrev main_v298 : Ref sig .tc := ⟨.hbm, 756, rfl⟩
abbrev main_v299 : Ref sig .tc := ⟨.hbm, 757, rfl⟩
abbrev main_cst_87 : Ref sig .tc := ⟨.hbm, 758, rfl⟩
abbrev main_call34_v0 : Ref sig .tc := ⟨.hbm, 759, rfl⟩
abbrev main_call34_v1 : Ref sig .tc := ⟨.hbm, 760, rfl⟩
abbrev main_call34_v2 : Ref sig .tc := ⟨.hbm, 761, rfl⟩
abbrev main_v300 : Ref sig .tc := ⟨.hbm, 762, rfl⟩
abbrev main_cst_88 : Ref sig .tc := ⟨.hbm, 763, rfl⟩
abbrev main_v301 : Ref sig .tc := ⟨.hbm, 764, rfl⟩
abbrev main_c_89 : Ref sig .tc := ⟨.hbm, 765, rfl⟩
abbrev main_v302 : Ref sig .tc := ⟨.hbm, 766, rfl⟩
abbrev main_v303 : Ref sig .tc := ⟨.hbm, 767, rfl⟩
abbrev main_c_90 : Ref sig .tc := ⟨.hbm, 768, rfl⟩
abbrev main_call35_v0 : Ref sig .tc := ⟨.hbm, 769, rfl⟩
abbrev main_call35_v1 : Ref sig .tc := ⟨.hbm, 770, rfl⟩
abbrev main_call35_v2 : Ref sig .tc := ⟨.hbm, 771, rfl⟩
abbrev main_call35_v3 : Ref sig .tc := ⟨.hbm, 772, rfl⟩
abbrev main_call35_v4 : Ref sig .tc := ⟨.hbm, 773, rfl⟩
abbrev main_call35_v5 : Ref sig .tc := ⟨.hbm, 774, rfl⟩
abbrev main_call35_v6 : Ref sig .tc := ⟨.hbm, 775, rfl⟩
abbrev main_call35_v7 : Ref sig .tc := ⟨.hbm, 776, rfl⟩
abbrev main_call35_v8 : Ref sig .tc := ⟨.hbm, 777, rfl⟩
abbrev main_call35_c : Ref sig .tc := ⟨.hbm, 778, rfl⟩
abbrev main_call35_v9 : Ref sig .tc := ⟨.hbm, 779, rfl⟩
abbrev main_call35_v10 : Ref sig .tc := ⟨.hbm, 780, rfl⟩
abbrev main_call35_v11 : Ref sig .tc := ⟨.hbm, 781, rfl⟩
abbrev main_call35_c_0 : Ref sig .tc := ⟨.hbm, 782, rfl⟩
abbrev main_call35_v12 : Ref sig .tc := ⟨.hbm, 783, rfl⟩
abbrev main_call35_v13 : Ref sig .tc := ⟨.hbm, 784, rfl⟩
abbrev main_v304 : Ref sig .tc := ⟨.hbm, 785, rfl⟩
abbrev main_v305 : Ref sig .tc := ⟨.hbm, 786, rfl⟩
abbrev main_c_91 : Ref sig .tc := ⟨.hbm, 787, rfl⟩
abbrev main_v306 : Ref sig .tc := ⟨.hbm, 788, rfl⟩
abbrev main_v307 : Ref sig .tc := ⟨.hbm, 789, rfl⟩
abbrev main_c_92 : Ref sig .tc := ⟨.hbm, 790, rfl⟩
abbrev main_v308 : Ref sig .tc := ⟨.hbm, 791, rfl⟩
abbrev main_v309 : Ref sig .tc := ⟨.hbm, 792, rfl⟩
abbrev main_c_93 : Ref sig .tc := ⟨.hbm, 793, rfl⟩
abbrev main_v310 : Ref sig .tc := ⟨.hbm, 794, rfl⟩
abbrev main_v311 : Ref sig .tc := ⟨.hbm, 795, rfl⟩
abbrev main_c_94 : Ref sig .tc := ⟨.hbm, 796, rfl⟩
abbrev main_call36_v0 : Ref sig .tc := ⟨.hbm, 797, rfl⟩
abbrev main_call36_v1 : Ref sig .tc := ⟨.hbm, 798, rfl⟩
abbrev main_call36_v2 : Ref sig .tc := ⟨.hbm, 799, rfl⟩
abbrev main_call36_v3 : Ref sig .tc := ⟨.hbm, 800, rfl⟩
abbrev main_call36_v4 : Ref sig .tc := ⟨.hbm, 801, rfl⟩
abbrev main_call36_v5 : Ref sig .tc := ⟨.hbm, 802, rfl⟩
abbrev main_call36_v6 : Ref sig .tc := ⟨.hbm, 803, rfl⟩
abbrev main_call36_v7 : Ref sig .tc := ⟨.hbm, 804, rfl⟩
abbrev main_call36_v8 : Ref sig .tc := ⟨.hbm, 805, rfl⟩
abbrev main_call36_c : Ref sig .tc := ⟨.hbm, 806, rfl⟩
abbrev main_call36_v9 : Ref sig .tc := ⟨.hbm, 807, rfl⟩
abbrev main_call36_v10 : Ref sig .tc := ⟨.hbm, 808, rfl⟩
abbrev main_call36_v11 : Ref sig .tc := ⟨.hbm, 809, rfl⟩
abbrev main_call36_c_0 : Ref sig .tc := ⟨.hbm, 810, rfl⟩
abbrev main_call36_v12 : Ref sig .tc := ⟨.hbm, 811, rfl⟩
abbrev main_call36_v13 : Ref sig .tc := ⟨.hbm, 812, rfl⟩
abbrev main_v312 : Ref sig .tc := ⟨.hbm, 813, rfl⟩
abbrev main_v313 : Ref sig .tc := ⟨.hbm, 814, rfl⟩
abbrev main_v314 : Ref sig .tc := ⟨.hbm, 815, rfl⟩
abbrev main_v315 : Ref sig .tc := ⟨.hbm, 816, rfl⟩
abbrev main_v316 : Ref sig .tc := ⟨.hbm, 817, rfl⟩
abbrev main_v317 : Ref sig .tc := ⟨.hbm, 818, rfl⟩
abbrev main_v318 : Ref sig .tc := ⟨.hbm, 819, rfl⟩
abbrev main_v319 : Ref sig .tc := ⟨.hbm, 820, rfl⟩
abbrev main_v320 : Ref sig .tc := ⟨.hbm, 821, rfl⟩
abbrev main_v321 : Ref sig .tc := ⟨.hbm, 822, rfl⟩
abbrev main_v322 : Ref sig .tc := ⟨.hbm, 823, rfl⟩
abbrev main_v323 : Ref sig .tc := ⟨.hbm, 824, rfl⟩
abbrev main_v324 : Ref sig .tc := ⟨.hbm, 825, rfl⟩
abbrev main_v325 : Ref sig .tc := ⟨.hbm, 826, rfl⟩
abbrev main_cst_95 : Ref sig .tc := ⟨.hbm, 827, rfl⟩
abbrev main_call37_v0 : Ref sig .tc := ⟨.hbm, 828, rfl⟩
abbrev main_call37_v1 : Ref sig .tc := ⟨.hbm, 829, rfl⟩
abbrev main_call37_v2 : Ref sig .tc := ⟨.hbm, 830, rfl⟩
abbrev main_v326 : Ref sig .tc := ⟨.hbm, 831, rfl⟩
abbrev main_cst_96 : Ref sig .tc := ⟨.hbm, 832, rfl⟩
abbrev main_v327 : Ref sig .tc := ⟨.hbm, 833, rfl⟩
abbrev main_c_97 : Ref sig .tc := ⟨.hbm, 834, rfl⟩
abbrev main_v328 : Ref sig .tc := ⟨.hbm, 835, rfl⟩
abbrev main_v329 : Ref sig .tc := ⟨.hbm, 836, rfl⟩
abbrev main_c_98 : Ref sig .tc := ⟨.hbm, 837, rfl⟩
abbrev main_call38_v0 : Ref sig .tc := ⟨.hbm, 838, rfl⟩
abbrev main_call38_v1 : Ref sig .tc := ⟨.hbm, 839, rfl⟩
abbrev main_call38_v2 : Ref sig .tc := ⟨.hbm, 840, rfl⟩
abbrev main_call38_v3 : Ref sig .tc := ⟨.hbm, 841, rfl⟩
abbrev main_call38_v4 : Ref sig .tc := ⟨.hbm, 842, rfl⟩
abbrev main_call38_v5 : Ref sig .tc := ⟨.hbm, 843, rfl⟩
abbrev main_call38_v6 : Ref sig .tc := ⟨.hbm, 844, rfl⟩
abbrev main_call38_v7 : Ref sig .tc := ⟨.hbm, 845, rfl⟩
abbrev main_call38_v8 : Ref sig .tc := ⟨.hbm, 846, rfl⟩
abbrev main_call38_c : Ref sig .tc := ⟨.hbm, 847, rfl⟩
abbrev main_call38_v9 : Ref sig .tc := ⟨.hbm, 848, rfl⟩
abbrev main_call38_v10 : Ref sig .tc := ⟨.hbm, 849, rfl⟩
abbrev main_call38_v11 : Ref sig .tc := ⟨.hbm, 850, rfl⟩
abbrev main_call38_c_0 : Ref sig .tc := ⟨.hbm, 851, rfl⟩
abbrev main_call38_v12 : Ref sig .tc := ⟨.hbm, 852, rfl⟩
abbrev main_call38_v13 : Ref sig .tc := ⟨.hbm, 853, rfl⟩
abbrev main_v330 : Ref sig .tc := ⟨.hbm, 854, rfl⟩
abbrev main_v331 : Ref sig .tc := ⟨.hbm, 855, rfl⟩
abbrev main_c_99 : Ref sig .tc := ⟨.hbm, 856, rfl⟩
abbrev main_v332 : Ref sig .tc := ⟨.hbm, 857, rfl⟩
abbrev main_v333 : Ref sig .tc := ⟨.hbm, 858, rfl⟩
abbrev main_c_100 : Ref sig .tc := ⟨.hbm, 859, rfl⟩
abbrev main_v334 : Ref sig .tc := ⟨.hbm, 860, rfl⟩
abbrev main_v335 : Ref sig .tc := ⟨.hbm, 861, rfl⟩
abbrev main_c_101 : Ref sig .tc := ⟨.hbm, 862, rfl⟩
abbrev main_v336 : Ref sig .tc := ⟨.hbm, 863, rfl⟩
abbrev main_v337 : Ref sig .tc := ⟨.hbm, 864, rfl⟩
abbrev main_c_102 : Ref sig .tc := ⟨.hbm, 865, rfl⟩
abbrev main_call39_v0 : Ref sig .tc := ⟨.hbm, 866, rfl⟩
abbrev main_call39_v1 : Ref sig .tc := ⟨.hbm, 867, rfl⟩
abbrev main_call39_v2 : Ref sig .tc := ⟨.hbm, 868, rfl⟩
abbrev main_call39_v3 : Ref sig .tc := ⟨.hbm, 869, rfl⟩
abbrev main_call39_v4 : Ref sig .tc := ⟨.hbm, 870, rfl⟩
abbrev main_call39_v5 : Ref sig .tc := ⟨.hbm, 871, rfl⟩
abbrev main_call39_v6 : Ref sig .tc := ⟨.hbm, 872, rfl⟩
abbrev main_call39_v7 : Ref sig .tc := ⟨.hbm, 873, rfl⟩
abbrev main_call39_v8 : Ref sig .tc := ⟨.hbm, 874, rfl⟩
abbrev main_call39_c : Ref sig .tc := ⟨.hbm, 875, rfl⟩
abbrev main_call39_v9 : Ref sig .tc := ⟨.hbm, 876, rfl⟩
abbrev main_call39_v10 : Ref sig .tc := ⟨.hbm, 877, rfl⟩
abbrev main_call39_v11 : Ref sig .tc := ⟨.hbm, 878, rfl⟩
abbrev main_call39_c_0 : Ref sig .tc := ⟨.hbm, 879, rfl⟩
abbrev main_call39_v12 : Ref sig .tc := ⟨.hbm, 880, rfl⟩
abbrev main_call39_v13 : Ref sig .tc := ⟨.hbm, 881, rfl⟩
abbrev main_v338 : Ref sig .tc := ⟨.hbm, 882, rfl⟩
abbrev main_v339 : Ref sig .tc := ⟨.hbm, 883, rfl⟩
abbrev main_v340 : Ref sig .tc := ⟨.hbm, 884, rfl⟩
abbrev main_v341 : Ref sig .tc := ⟨.hbm, 885, rfl⟩
abbrev main_v342 : Ref sig .tc := ⟨.hbm, 886, rfl⟩
abbrev main_v343 : Ref sig .tc := ⟨.hbm, 887, rfl⟩
abbrev main_v344 : Ref sig .tc := ⟨.hbm, 888, rfl⟩
abbrev main_v345 : Ref sig .tc := ⟨.hbm, 889, rfl⟩
abbrev main_v346 : Ref sig .tc := ⟨.hbm, 890, rfl⟩
abbrev main_v347 : Ref sig .tc := ⟨.hbm, 891, rfl⟩
abbrev main_v348 : Ref sig .tc := ⟨.hbm, 892, rfl⟩
abbrev main_v349 : Ref sig .tc := ⟨.hbm, 893, rfl⟩
abbrev main_v350 : Ref sig .tc := ⟨.hbm, 894, rfl⟩
abbrev main_v351 : Ref sig .tc := ⟨.hbm, 895, rfl⟩
abbrev main_cst_103 : Ref sig .tc := ⟨.hbm, 896, rfl⟩
abbrev main_call40_v0 : Ref sig .tc := ⟨.hbm, 897, rfl⟩
abbrev main_call40_v1 : Ref sig .tc := ⟨.hbm, 898, rfl⟩
abbrev main_call40_v2 : Ref sig .tc := ⟨.hbm, 899, rfl⟩
abbrev main_v352 : Ref sig .tc := ⟨.hbm, 900, rfl⟩
abbrev main_cst_104 : Ref sig .tc := ⟨.hbm, 901, rfl⟩
abbrev main_v353 : Ref sig .tc := ⟨.hbm, 902, rfl⟩
abbrev main_c_105 : Ref sig .tc := ⟨.hbm, 903, rfl⟩
abbrev main_v354 : Ref sig .tc := ⟨.hbm, 904, rfl⟩
abbrev main_v355 : Ref sig .tc := ⟨.hbm, 905, rfl⟩
abbrev main_c_106 : Ref sig .tc := ⟨.hbm, 906, rfl⟩
abbrev main_call41_v0 : Ref sig .tc := ⟨.hbm, 907, rfl⟩
abbrev main_call41_v1 : Ref sig .tc := ⟨.hbm, 908, rfl⟩
abbrev main_call41_v2 : Ref sig .tc := ⟨.hbm, 909, rfl⟩
abbrev main_call41_v3 : Ref sig .tc := ⟨.hbm, 910, rfl⟩
abbrev main_call41_v4 : Ref sig .tc := ⟨.hbm, 911, rfl⟩
abbrev main_call41_v5 : Ref sig .tc := ⟨.hbm, 912, rfl⟩
abbrev main_call41_v6 : Ref sig .tc := ⟨.hbm, 913, rfl⟩
abbrev main_call41_v7 : Ref sig .tc := ⟨.hbm, 914, rfl⟩
abbrev main_call41_v8 : Ref sig .tc := ⟨.hbm, 915, rfl⟩
abbrev main_call41_c : Ref sig .tc := ⟨.hbm, 916, rfl⟩
abbrev main_call41_v9 : Ref sig .tc := ⟨.hbm, 917, rfl⟩
abbrev main_call41_v10 : Ref sig .tc := ⟨.hbm, 918, rfl⟩
abbrev main_call41_v11 : Ref sig .tc := ⟨.hbm, 919, rfl⟩
abbrev main_call41_c_0 : Ref sig .tc := ⟨.hbm, 920, rfl⟩
abbrev main_call41_v12 : Ref sig .tc := ⟨.hbm, 921, rfl⟩
abbrev main_call41_v13 : Ref sig .tc := ⟨.hbm, 922, rfl⟩
abbrev main_v356 : Ref sig .tc := ⟨.hbm, 923, rfl⟩
abbrev main_v357 : Ref sig .tc := ⟨.hbm, 924, rfl⟩
abbrev main_c_107 : Ref sig .tc := ⟨.hbm, 925, rfl⟩
abbrev main_v358 : Ref sig .tc := ⟨.hbm, 926, rfl⟩
abbrev main_v359 : Ref sig .tc := ⟨.hbm, 927, rfl⟩
abbrev main_c_108 : Ref sig .tc := ⟨.hbm, 928, rfl⟩
abbrev main_v360 : Ref sig .tc := ⟨.hbm, 929, rfl⟩
abbrev main_v361 : Ref sig .tc := ⟨.hbm, 930, rfl⟩
abbrev main_c_109 : Ref sig .tc := ⟨.hbm, 931, rfl⟩
abbrev main_v362 : Ref sig .tc := ⟨.hbm, 932, rfl⟩
abbrev main_v363 : Ref sig .tc := ⟨.hbm, 933, rfl⟩
abbrev main_c_110 : Ref sig .tc := ⟨.hbm, 934, rfl⟩
abbrev main_call42_v0 : Ref sig .tc := ⟨.hbm, 935, rfl⟩
abbrev main_call42_v1 : Ref sig .tc := ⟨.hbm, 936, rfl⟩
abbrev main_call42_v2 : Ref sig .tc := ⟨.hbm, 937, rfl⟩
abbrev main_call42_v3 : Ref sig .tc := ⟨.hbm, 938, rfl⟩
abbrev main_call42_v4 : Ref sig .tc := ⟨.hbm, 939, rfl⟩
abbrev main_call42_v5 : Ref sig .tc := ⟨.hbm, 940, rfl⟩
abbrev main_call42_v6 : Ref sig .tc := ⟨.hbm, 941, rfl⟩
abbrev main_call42_v7 : Ref sig .tc := ⟨.hbm, 942, rfl⟩
abbrev main_call42_v8 : Ref sig .tc := ⟨.hbm, 943, rfl⟩
abbrev main_call42_c : Ref sig .tc := ⟨.hbm, 944, rfl⟩
abbrev main_call42_v9 : Ref sig .tc := ⟨.hbm, 945, rfl⟩
abbrev main_call42_v10 : Ref sig .tc := ⟨.hbm, 946, rfl⟩
abbrev main_call42_v11 : Ref sig .tc := ⟨.hbm, 947, rfl⟩
abbrev main_call42_c_0 : Ref sig .tc := ⟨.hbm, 948, rfl⟩
abbrev main_call42_v12 : Ref sig .tc := ⟨.hbm, 949, rfl⟩
abbrev main_call42_v13 : Ref sig .tc := ⟨.hbm, 950, rfl⟩
abbrev main_v364 : Ref sig .tc := ⟨.hbm, 951, rfl⟩
abbrev main_v365 : Ref sig .tc := ⟨.hbm, 952, rfl⟩
abbrev main_v366 : Ref sig .tc := ⟨.hbm, 953, rfl⟩
abbrev main_v367 : Ref sig .tc := ⟨.hbm, 954, rfl⟩
abbrev main_v368 : Ref sig .tc := ⟨.hbm, 955, rfl⟩
abbrev main_v369 : Ref sig .tc := ⟨.hbm, 956, rfl⟩
abbrev main_v370 : Ref sig .tc := ⟨.hbm, 957, rfl⟩
abbrev main_v371 : Ref sig .tc := ⟨.hbm, 958, rfl⟩
abbrev main_v372 : Ref sig .tc := ⟨.hbm, 959, rfl⟩
abbrev main_v373 : Ref sig .tc := ⟨.hbm, 960, rfl⟩
abbrev main_v374 : Ref sig .tc := ⟨.hbm, 961, rfl⟩
abbrev main_v375 : Ref sig .tc := ⟨.hbm, 962, rfl⟩
abbrev main_v376 : Ref sig .tc := ⟨.hbm, 963, rfl⟩
abbrev main_v377 : Ref sig .tc := ⟨.hbm, 964, rfl⟩
abbrev main_cst_111 : Ref sig .tc := ⟨.hbm, 965, rfl⟩
abbrev main_call43_v0 : Ref sig .tc := ⟨.hbm, 966, rfl⟩
abbrev main_call43_v1 : Ref sig .tc := ⟨.hbm, 967, rfl⟩
abbrev main_call43_v2 : Ref sig .tc := ⟨.hbm, 968, rfl⟩
abbrev main_v378 : Ref sig .tc := ⟨.hbm, 969, rfl⟩
abbrev main_cst_112 : Ref sig .tc := ⟨.hbm, 970, rfl⟩
abbrev main_v379 : Ref sig .tc := ⟨.hbm, 971, rfl⟩
abbrev main_c_113 : Ref sig .tc := ⟨.hbm, 972, rfl⟩
abbrev main_v380 : Ref sig .tc := ⟨.hbm, 973, rfl⟩
abbrev main_v381 : Ref sig .tc := ⟨.hbm, 974, rfl⟩
abbrev main_c_114 : Ref sig .tc := ⟨.hbm, 975, rfl⟩
abbrev main_call44_v0 : Ref sig .tc := ⟨.hbm, 976, rfl⟩
abbrev main_call44_v1 : Ref sig .tc := ⟨.hbm, 977, rfl⟩
abbrev main_call44_v2 : Ref sig .tc := ⟨.hbm, 978, rfl⟩
abbrev main_call44_v3 : Ref sig .tc := ⟨.hbm, 979, rfl⟩
abbrev main_call44_v4 : Ref sig .tc := ⟨.hbm, 980, rfl⟩
abbrev main_call44_v5 : Ref sig .tc := ⟨.hbm, 981, rfl⟩
abbrev main_call44_v6 : Ref sig .tc := ⟨.hbm, 982, rfl⟩
abbrev main_call44_v7 : Ref sig .tc := ⟨.hbm, 983, rfl⟩
abbrev main_call44_v8 : Ref sig .tc := ⟨.hbm, 984, rfl⟩
abbrev main_call44_c : Ref sig .tc := ⟨.hbm, 985, rfl⟩
abbrev main_call44_v9 : Ref sig .tc := ⟨.hbm, 986, rfl⟩
abbrev main_call44_v10 : Ref sig .tc := ⟨.hbm, 987, rfl⟩
abbrev main_call44_v11 : Ref sig .tc := ⟨.hbm, 988, rfl⟩
abbrev main_call44_c_0 : Ref sig .tc := ⟨.hbm, 989, rfl⟩
abbrev main_call44_v12 : Ref sig .tc := ⟨.hbm, 990, rfl⟩
abbrev main_call44_v13 : Ref sig .tc := ⟨.hbm, 991, rfl⟩
abbrev main_v382 : Ref sig .tc := ⟨.hbm, 992, rfl⟩
abbrev main_v383 : Ref sig .tc := ⟨.hbm, 993, rfl⟩
abbrev main_c_115 : Ref sig .tc := ⟨.hbm, 994, rfl⟩
abbrev main_v384 : Ref sig .tc := ⟨.hbm, 995, rfl⟩
abbrev main_v385 : Ref sig .tc := ⟨.hbm, 996, rfl⟩
abbrev main_c_116 : Ref sig .tc := ⟨.hbm, 997, rfl⟩
abbrev main_v386 : Ref sig .tc := ⟨.hbm, 998, rfl⟩
abbrev main_v387 : Ref sig .tc := ⟨.hbm, 999, rfl⟩
abbrev main_c_117 : Ref sig .tc := ⟨.hbm, 1000, rfl⟩
abbrev main_v388 : Ref sig .tc := ⟨.hbm, 1001, rfl⟩
abbrev main_v389 : Ref sig .tc := ⟨.hbm, 1002, rfl⟩
abbrev main_c_118 : Ref sig .tc := ⟨.hbm, 1003, rfl⟩
abbrev main_call45_v0 : Ref sig .tc := ⟨.hbm, 1004, rfl⟩
abbrev main_call45_v1 : Ref sig .tc := ⟨.hbm, 1005, rfl⟩
abbrev main_call45_v2 : Ref sig .tc := ⟨.hbm, 1006, rfl⟩
abbrev main_call45_v3 : Ref sig .tc := ⟨.hbm, 1007, rfl⟩
abbrev main_call45_v4 : Ref sig .tc := ⟨.hbm, 1008, rfl⟩
abbrev main_call45_v5 : Ref sig .tc := ⟨.hbm, 1009, rfl⟩
abbrev main_call45_v6 : Ref sig .tc := ⟨.hbm, 1010, rfl⟩
abbrev main_call45_v7 : Ref sig .tc := ⟨.hbm, 1011, rfl⟩
abbrev main_call45_v8 : Ref sig .tc := ⟨.hbm, 1012, rfl⟩
abbrev main_call45_c : Ref sig .tc := ⟨.hbm, 1013, rfl⟩
abbrev main_call45_v9 : Ref sig .tc := ⟨.hbm, 1014, rfl⟩
abbrev main_call45_v10 : Ref sig .tc := ⟨.hbm, 1015, rfl⟩
abbrev main_call45_v11 : Ref sig .tc := ⟨.hbm, 1016, rfl⟩
abbrev main_call45_c_0 : Ref sig .tc := ⟨.hbm, 1017, rfl⟩
abbrev main_call45_v12 : Ref sig .tc := ⟨.hbm, 1018, rfl⟩
abbrev main_call45_v13 : Ref sig .tc := ⟨.hbm, 1019, rfl⟩
abbrev main_v390 : Ref sig .tc := ⟨.hbm, 1020, rfl⟩
abbrev main_v391 : Ref sig .tc := ⟨.hbm, 1021, rfl⟩
abbrev main_v392 : Ref sig .tc := ⟨.hbm, 1022, rfl⟩
abbrev main_v393 : Ref sig .tc := ⟨.hbm, 1023, rfl⟩
abbrev main_v394 : Ref sig .tc := ⟨.hbm, 1024, rfl⟩
abbrev main_v395 : Ref sig .tc := ⟨.hbm, 1025, rfl⟩
abbrev main_v396 : Ref sig .tc := ⟨.hbm, 1026, rfl⟩
abbrev main_v397 : Ref sig .tc := ⟨.hbm, 1027, rfl⟩
abbrev main_v398 : Ref sig .tc := ⟨.hbm, 1028, rfl⟩
abbrev main_v399 : Ref sig .tc := ⟨.hbm, 1029, rfl⟩
abbrev main_v400 : Ref sig .tc := ⟨.hbm, 1030, rfl⟩
abbrev main_v401 : Ref sig .tc := ⟨.hbm, 1031, rfl⟩
abbrev main_v402 : Ref sig .tc := ⟨.hbm, 1032, rfl⟩
abbrev main_v403 : Ref sig .tc := ⟨.hbm, 1033, rfl⟩
abbrev main_cst_119 : Ref sig .tc := ⟨.hbm, 1034, rfl⟩
abbrev main_call46_v0 : Ref sig .tc := ⟨.hbm, 1035, rfl⟩
abbrev main_call46_v1 : Ref sig .tc := ⟨.hbm, 1036, rfl⟩
abbrev main_call46_v2 : Ref sig .tc := ⟨.hbm, 1037, rfl⟩
abbrev main_v404 : Ref sig .tc := ⟨.hbm, 1038, rfl⟩
abbrev main_cst_120 : Ref sig .tc := ⟨.hbm, 1039, rfl⟩
abbrev main_v405 : Ref sig .tc := ⟨.hbm, 1040, rfl⟩
abbrev main_v406 : Ref sig .tc := ⟨.hbm, 1041, rfl⟩
abbrev main_v407 : Ref sig .tc := ⟨.hbm, 1042, rfl⟩
abbrev main_v408 : Ref sig .tc := ⟨.hbm, 1043, rfl⟩
abbrev main_v409 : Ref sig .tc := ⟨.hbm, 1044, rfl⟩
abbrev main_v410 : Ref sig .tc := ⟨.hbm, 1045, rfl⟩
abbrev main_v411 : Ref sig .tc := ⟨.hbm, 1046, rfl⟩
abbrev main_v412 : Ref sig .tc := ⟨.hbm, 1047, rfl⟩
abbrev main_v413 : Ref sig .tc := ⟨.hbm, 1048, rfl⟩
abbrev main_v414 : Ref sig .tc := ⟨.hbm, 1049, rfl⟩
abbrev main_cst_121 : Ref sig .tc := ⟨.hbm, 1050, rfl⟩
abbrev main_call47_v0 : Ref sig .tc := ⟨.hbm, 1051, rfl⟩
abbrev main_call47_v1 : Ref sig .tc := ⟨.hbm, 1052, rfl⟩
abbrev main_v415 : Ref sig .tc := ⟨.hbm, 1053, rfl⟩

abbrev nD : Nat := 1
abbrev τ : Topo := Topo.v7x

variable {F : FTy → Type} [FloatOps F]
-- ==== Proof.InRange.lean ====
/- What the precondition says of one roi: its image number, read as a word, is below four. -/
module

public import proofs.«01_k».proof.Proof.Gen.Pre_batch_in_range
public import Idealize.ShloMosaic.Lib.ReduceAll
public import Idealize.ShloMosaic.Lib.Pointwise

@[expose] public section

namespace Cert.InRange

open Idealize.ShloMosaic Cert.Pre_batch_in_range

variable {F : FTy → Type} [FloatOps F]

/-- A word that is not negative and below four is one of the first four naturals. -/
theorem word_lt (x : BitVec 32) (h : IntOp.cmpi .sge x 0#32 = 1#1) (h' : IntOp.cmpi .slt x 4#32 = 1#1) : x.toNat < 4 := by
  change BitVec.ofBool (BitVec.sle 0#32 x) = 1#1 at h
  change BitVec.ofBool (BitVec.slt x 4#32) = 1#1 at h'
  have g : BitVec.sle 0#32 x = true := by cases e : BitVec.sle 0#32 x <;> simp_all
  have g' : BitVec.slt x 4#32 = true := by cases e : BitVec.slt x 4#32 <;> simp_all
  simp only [BitVec.sle, BitVec.slt, decide_eq_true_eq] at g g'
  simp only [BitVec.toInt, BitVec.toNat_ofNat] at g g'
  split_ifs at g g' <;> omega

/-- Every roi names one of the four images. -/
theorem batch_lt (x : FVec F S4x256x64x64 .f32) (y : FVec F S256x5 .f32) (h : fn x y = fun _ => 1#1) (r : Fin 256) :
    (FloatOps.fptosi 32 (y (ix2 r 0)) : BitVec 32).toNat < 4 := by
  have e := congrFun h ix0
  unfold fn at e
  haveI : Subsingleton S_.Idx := ⟨fun a b => funext fun d => Fin.elim0 d⟩
  have e' := Host.reduce_andi_all _ _ _ _ _ e (ix1 r)
  have e2 := IntOp.andi_eq_one.1 e'
  have hx : (fptosi 32 (shapeCast S256 (extractStridedSlice S256x1 ![0, 0] y Facts.slices_S256x5_S256x1_0_0) Facts.shapeCasts_S256x1_S256) : IVec S256 32) (ix1 r)
      = FloatOps.fptosi 32 (y (ix2 r 0)) := by
    pointwise
  rw [← hx]
  exact word_lt _ e2.1 e2.2

end Cert.InRange
end
-- ==== Proof.Kernel.BodyEq.lean ====
/- The printed body is the structured one. -/
module

public import proofs.«01_k».proof.Proof.Kernel.Body

@[expose] public section

noncomputable section

namespace Cert.Kernel.Roi

open Idealize.ShloMosaic Idealize.SL.Sem Cert.Kernel Cert.Kernel.Facts₀ Cert.Kernel.Facts

variable {F : FTy → Type} [FloatOps F] [Facts]

set_option pp.maxSteps 400 in
set_option maxRecDepth 100000 in
set_option maxHeartbeats 40000000 in
theorem body_eq (i : grid0.Coords) (arg1 : Memref sig .tc .smem S256 .i32) (harg1 : arg1.IsWhole) (arg2 : Memref sig .tc .smem S256 .i32) (harg2 : arg2.IsWhole) (arg3 : Memref sig .tc .smem S256 .i32) (harg3 : arg3.IsWhole) (arg4 : Memref sig .tc .smem S256 .i32) (harg4 : arg4.IsWhole) (arg5 : Memref sig .tc .smem S256x7 .i32) (harg5 : arg5.IsWhole) (arg6 : Memref sig .tc .smem S256x7 .i32) (harg6 : arg6.IsWhole) (arg7 : Memref sig .tc .vmem S4x64x64x256 .f32) (harg7 : arg7.IsWhole) (arg8 : Memref sig .tc .vmem S256x7x24 .f32) (harg8 : arg8.IsWhole) (arg9 : Memref sig .tc .vmem S256x7x24 .f32) (harg9 : arg9.IsWhole) (arg10 : Memref sig .tc .vmem S4x7x7x256 .f32) (harg10 : arg10.IsWhole) (arg11 : Memref sig .tc .vmem S4x7x64x256 .f32) (harg11 : arg11.IsWhole) :
    cc0_roi_pool (F := F) i arg1 harg1 arg2 harg2 arg3 harg3 arg4 harg4 arg5 harg5 arg6 harg6 arg7 harg7 arg8 harg8 arg9 harg9 arg10 harg10 arg11 harg11
      = body i arg1 arg2 arg3 arg4 arg5 arg6 arg7 arg8 arg9 arg10 arg11 := by
  by_cases h : Scalar.cmpi .ne (Scalar.extui (Scalar.cmpi .eq (BitVec.ofNat 32 (i 0).val) 0#32) : BitVec 32) 0#32 = 1#1
  · simp only [cc0_roi_pool, k0_part303, k0_part304, k0_part201, k0_part202, k0_part228, k0_part254, k0_part279,
      body, fill, roi, loadW, steps, dif_pos h, bind_assoc, pure_bind]
    rfl
  · simp only [cc0_roi_pool, k0_part303, k0_part304, k0_part201, k0_part202, k0_part228, k0_part254, k0_part279,
      body, fill, roi, loadW, steps, dif_neg h, bind_assoc, pure_bind]
    rfl

end Cert.Kernel.Roi
end
end
-- ==== Proof.KernelIdeal.Host.lean ====
/- The host program around the kernel: the lines before it, the lines after it, and the contents the kernel finds. -/
module

public import proofs.«01_k».proof.Proof.Gen.KernelIdeal.Launch
public import Idealize.ShloMosaic.Lib.Pipeline.FrameSuffix

@[expose] public section

set_option maxRecDepth 4000

noncomputable section

namespace Cert.KernelIdeal.Roi

open Idealize.ShloMosaic Idealize.ShloMosaic.TcCoe Cert.KernelIdeal Cert.KernelIdeal.Gen
open Idealize.SL Idealize.SL.RA Idealize.SL.Sem

variable {F : FTy → Type} [FloatOps F]
variable (m : (ℓ : Loc nD τ sig) → Buf (Elt F) ℓ)

/-- The host lines before the kernel. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

/-- The contents the kernel finds on core `c`. -/
def V0 (c : Dev nD) : Valuation τ sig (Elt F) := StableHlo.after (List.flatten preOps) (fun b => m (c, b))

theorem hostOps0_fresh : (hostOps0 : List (HloOp τ sig (Elt F))).Forall fun op => op.fresh = ∅ := by
  simp only [List.Forall]; (repeat' constructor)
theorem hostOps0_1_fresh : (hostOps0_1 : List (HloOp τ sig (Elt F))).Forall fun op => op.fresh = ∅ := by
  simp only [List.Forall]; (repeat' constructor)
theorem hostOps0_2_fresh : (hostOps0_2 : List (HloOp τ sig (Elt F))).Forall fun op => op.fresh = ∅ := by
  simp only [List.Forall]; (repeat' constructor)
theorem hostOps0_3_fresh : (hostOps0_3 : List (HloOp τ sig (Elt F))).Forall fun op => op.fresh = ∅ := by
  simp only [List.Forall]; (repeat' constructor)
theorem hostOps0_4_fresh : (hostOps0_4 : List (HloOp τ sig (Elt F))).Forall fun op => op.fresh = ∅ := by
  simp only [List.Forall]; (repeat' constructor)
theorem hostOps0_5_fresh : (hostOps0_5 : List (HloOp τ sig (Elt F))).Forall fun op => op.fresh = ∅ := by
  simp only [List.Forall]; (repeat' constructor)
theorem hostOps0_6_fresh : (hostOps0_6 : List (HloOp τ sig (Elt F))).Forall fun op => op.fresh = ∅ := by
  simp only [List.Forall]; (repeat' constructor)
theorem hostOps0_7_fresh : (hostOps0_7 : List (HloOp τ sig (Elt F))).Forall fun op => op.fresh = ∅ := by
  simp only [List.Forall]; (repeat' constructor)
theorem hostOps0_8_fresh : (hostOps0_8 : List (HloOp τ sig (Elt F))).Forall fun op => op.fresh = ∅ := by
  simp only [List.Forall]; (repeat' constructor)
theorem hostOps0_9_fresh : (hostOps0_9 : List (HloOp τ sig (Elt F))).Forall fun op => op.fresh = ∅ := by
  simp only [List.Forall]; (repeat' constructor)
theorem hostOps0_10_fresh : (hostOps0_10 : List (HloOp τ sig (Elt F))).Forall fun op => op.fresh = ∅ := by
  simp only [List.Forall]; (repeat' constructor)
theorem hostOps0_11_fresh : (hostOps0_11 : List (HloOp τ sig (Elt F))).Forall fun op => op.fresh = ∅ := by
  simp only [List.Forall]; (repeat' constructor)
theorem hostOps0_12_fresh : (hostOps0_12 : List (HloOp τ sig (Elt F))).Forall fun op => op.fresh = ∅ := by
  simp only [List.Forall]; (repeat' constructor)
theorem hostOps0_13_fresh : (hostOps0_13 : List (HloOp τ sig (Elt F))).Forall fun op => op.fresh = ∅ := by
  simp only [List.Forall]; (repeat' constructor)
theorem hostOps0_14_fresh : (hostOps0_14 : List (HloOp τ sig (Elt F))).Forall fun op => op.fresh = ∅ := by
  simp only [List.Forall]; (repeat' constructor)
theorem hostOps0_15_fresh : (hostOps0_15 : List (HloOp τ sig (Elt F))).Forall fun op => op.fresh = ∅ := by
  simp only [List.Forall]; (repeat' constructor)
theorem hostOps0_16_fresh : (hostOps0_16 : List (HloOp τ sig (Elt F))).Forall fun op => op.fresh = ∅ := by
  simp only [List.Forall]; (repeat' constructor)
theorem hostOps0_17_fresh : (hostOps0_17 : List (HloOp τ sig (Elt F))).Forall fun op => op.fresh = ∅ := by
  simp only [List.Forall]; (repeat' constructor)
theorem hostOps0_18_fresh : (hostOps0_18 : List (HloOp τ sig (Elt F))).Forall fun op => op.fresh = ∅ := by
  simp only [List.Forall]; (repeat' constructor)
theorem hostOps0_19_fresh : (hostOps0_19 : List (HloOp τ sig (Elt F))).Forall fun op => op.fresh = ∅ := by
  simp only [List.Forall]; (repeat' constructor)
theorem hostOps0_20_fresh : (hostOps0_20 : List (HloOp τ sig (Elt F))).Forall fun op => op.fresh = ∅ := by
  simp only [List.Forall]; (repeat' constructor)
theorem hostOps0_21_fresh : (hostOps0_21 : List (HloOp τ sig (Elt F))).Forall fun op => op.fresh = ∅ := by
  simp only [List.Forall]; (repeat' constructor)
theorem hostOps0_22_fresh : (hostOps0_22 : List (HloOp τ sig (Elt F))).Forall fun op => op.fresh = ∅ := by
  simp only [List.Forall]; (repeat' constructor)
theorem hostOps0_23_fresh : (hostOps0_23 : List (HloOp τ sig (Elt F))).Forall fun op => op.fresh = ∅ := by
  simp only [List.Forall]; (repeat' constructor)
theorem hostOps0_24_fresh : (hostOps0_24 : List (HloOp τ sig (Elt F))).Forall fun op => op.fresh = ∅ := by
  simp only [List.Forall]; (repeat' constructor)
theorem hostOps0_25_fresh : (hostOps0_25 : List (HloOp τ sig (Elt F))).Forall fun op => op.fresh = ∅ := by
  simp only [List.Forall]; (repeat' constructor)
theorem hostOps0_26_fresh : (hostOps0_26 : List (HloOp τ sig (Elt F))).Forall fun op => op.fresh = ∅ := by
  simp only [List.Forall]; (repeat' constructor)

set_option maxHeartbeats 1600000 in
/-- The program is the lines before the kernel, the kernel, and the lines after it. -/
theorem hmain : Pipeline.HMainPK (Ix := Unit) (Name := ℕ) (U := UR sig nD τ) (Lvl := ℕ) pcfgs 0 defs₀ Variants.none m (main (F := F))
    (fun c b => V0 m c (Proc.devRef .tc b))
      (fun _ => Pipeline.chain ([hostOps1].map StableHlo.seq)) :=
  Pipeline.hmainP_around pcfgs 0 defs₀ Variants.none m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh⟩) main_chain

theorem sfx_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  obtain rfl := List.mem_singleton.mp hop
  intro j
  fin_cases j <;> simp only [StableHlo.unary_bufs, Finset.mem_insert, Finset.mem_singleton, not_or]
    <;> and_intros <;> exact StableHlo.devRef_ne_of_ne (by decide)

theorem sfx_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl

theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  fin_cases w <;> simp only [StableHlo.unary_writes, Finset.mem_singleton] <;> exact StableHlo.devRef_ne_of_ne (by decide)

end Cert.KernelIdeal.Roi
end
end
-- ==== Proof.KernelIdeal.HostReads.lean ====
/- What the host lines before the kernel leave in the buffers the kernel reads, element by element. Each equation is between buffers of the one final state. -/
module

public import proofs.«01_k».proof.Proof.KernelIdeal.Host
public import Idealize.ShloMosaic.Lib.StableHlo.ReadAt

@[expose] public section

set_option maxRecDepth 4000

noncomputable section

namespace Cert.KernelIdeal.Roi

open Idealize.ShloMosaic Idealize.ShloMosaic.TcCoe Cert.KernelIdeal Cert.KernelIdeal.Gen

variable {F : FTy → Type} [FloatOps F]

/-- The sign of a word. -/
def sgn (a : BitVec 32) : BitVec 32 := if a = 0 then 0 else if BitVec.msb a = true then -1 else 1

/-- Division rounded down, as the host lines spell it. -/
def fdiv (a b : BitVec 32) : BitVec 32 :=
  Scalar.select
    (IntOp.andi (IntOp.cmpi .ne (sgn a) (sgn b)) (IntOp.cmpi .ne (IntOp.remsi .host a b) 0#32))
    (IntOp.subi (IntOp.divsi .host a b) 1#32) (IntOp.divsi .host a b)

/-- An edge of a region in cells: scaled, rounded, made an integer and clipped to the array. -/
def pix (x : F .f32) : BitVec 32 :=
  IntOp.minsi 63#32 (IntOp.maxsi 0#32 (FloatOps.fptosi 32 (FloatOps.hostUnary .roundeven (FloatOps.mulf x (FloatOps.ofBits .f32 1023410176#32)))))

variable (m : (ℓ : Loc nD τ sig) → Buf (Elt F) ℓ) (c : Dev nD)

/-- The contents read from line group `k` on. -/
theorem V0_from (k : ℕ) : ∃ W, V0 m c = StableHlo.after (List.flatten (preOps.drop k)) W :=
  ⟨StableHlo.after (List.flatten (preOps.take k)) (fun b => m (c, b)), by
    unfold V0
    conv_lhs => rw [← List.take_append_drop k preOps]
    rw [List.flatten_append, StableHlo.after_append]⟩

/-- Buffer `b` of the final state. -/
abbrev H (b : Ref sig .tc) := V0 m c (Proc.devRef .tc b)

/-- A clipped edge. -/
theorem host_v10 (r : Fin 256) : (H m c main_v10 : Vec F S256 .i32) (ix1 r) = pix ((H m c main_arg1 : Vec F S256x5 .f32) (ix2 r 1)) := by
  obtain ⟨W, hW⟩ := V0_from m c 0
  unfold H pix
  rw [hW]
  simp only [preOps, List.drop_succ_cons, List.drop_zero]
  after_reads_at
  rfl

/-- A clipped edge. -/
theorem host_v13 (r : Fin 256) : (H m c main_v13 : Vec F S256 .i32) (ix1 r) = pix ((H m c main_arg1 : Vec F S256x5 .f32) (ix2 r 2)) := by
  obtain ⟨W, hW⟩ := V0_from m c 0
  unfold H pix
  rw [hW]
  simp only [preOps, List.drop_succ_cons, List.drop_zero]
  after_reads_at
  rfl

/-- A clipped edge. -/
theorem host_v16 (r : Fin 256) : (H m c main_v16 : Vec F S256 .i32) (ix1 r) = pix ((H m c main_arg1 : Vec F S256x5 .f32) (ix2 r 3)) := by
  obtain ⟨W, hW⟩ := V0_from m c 0
  unfold H pix
  rw [hW]
  simp only [preOps, List.drop_succ_cons, List.drop_zero]
  after_reads_at
  rfl

/-- A clipped edge. -/
theorem host_v19 (r : Fin 256) : (H m c main_v19 : Vec F S256 .i32) (ix1 r) = pix ((H m c main_arg1 : Vec F S256x5 .f32) (ix2 r 4)) := by
  obtain ⟨W, hW⟩ := V0_from m c 0
  unfold H pix
  rw [hW]
  simp only [preOps, List.drop_succ_cons, List.drop_zero]
  after_reads_at
  rfl

/-- The image number. -/
theorem host_v2 (r : Fin 256) : (H m c main_v2 : Vec F S256 .i32) (ix1 r) = FloatOps.fptosi 32 ((H m c main_arg1 : Vec F S256x5 .f32) (ix2 r 0)) := by
  obtain ⟨W, hW⟩ := V0_from m c 0
  unfold H
  rw [hW]
  simp only [preOps, List.drop_succ_cons, List.drop_zero]
  after_reads_at

/-- Whether the region has area. -/
theorem host_v23 (r : Fin 256) : (H m c main_v23 : Vec F S256 .i32) (ix1 r) = BitVec.setWidth 32 (IntOp.andi (IntOp.cmpi .slt ((H m c main_v10 : Vec F S256 .i32) (ix1 r)) ((H m c main_v16 : Vec F S256 .i32) (ix1 r))) (IntOp.cmpi .slt ((H m c main_v13 : Vec F S256 .i32) (ix1 r)) ((H m c main_v19 : Vec F S256 .i32) (ix1 r)))) := by
  obtain ⟨W, hW⟩ := V0_from m c 10
  unfold H
  rw [hW]
  simp only [preOps, List.drop_succ_cons, List.drop_zero]
  after_reads_at

/-- Where a bin starts, from the region's edge. -/
theorem host_v33 (r : Fin 256) (j : Fin 7) : (H m c main_v33 : Vec F S256x7 .i32) (ix2 r j) = fdiv (IntOp.muli (BitVec.ofNat 32 j.val) (IntOp.subi ((H m c main_v19 : Vec F S256 .i32) (ix1 r)) ((H m c main_v13 : Vec F S256 .i32) (ix1 r)))) 7#32 := by
  obtain ⟨W, hW⟩ := V0_from m c 10
  unfold H
  rw [hW]
  simp only [preOps, List.drop_succ_cons, List.drop_zero]
  unfold fdiv sgn
  after_reads_at
  rfl

/-- Where a bin starts. -/
theorem host_v35 (r : Fin 256) (j : Fin 7) : (H m c main_v35 : Vec F S256x7 .i32) (ix2 r j) = IntOp.addi ((H m c main_v13 : Vec F S256 .i32) (ix1 r)) ((H m c main_v33 : Vec F S256x7 .i32) (ix2 r j)) := by
  obtain ⟨W, hW⟩ := V0_from m c 10
  unfold H
  rw [hW]
  simp only [preOps, List.drop_succ_cons, List.drop_zero]
  after_reads_at

/-- Where a bin ends, from the region's edge. -/
theorem host_v48 (r : Fin 256) (j : Fin 7) : (H m c main_v48 : Vec F S256x7 .i32) (ix2 r j) = fdiv (IntOp.subi (IntOp.addi (IntOp.muli (IntOp.addi (BitVec.ofNat 32 j.val) 1#32) (IntOp.subi ((H m c main_v19 : Vec F S256 .i32) (ix1 r)) ((H m c main_v13 : Vec F S256 .i32) (ix1 r)))) 7#32) 1#32) 7#32 := by
  obtain ⟨W, hW⟩ := V0_from m c 10
  unfold H
  rw [hW]
  simp only [preOps, List.drop_succ_cons, List.drop_zero]
  unfold fdiv sgn
  after_reads_at
  rfl

/-- Where a bin ends. -/
theorem host_v50 (r : Fin 256) (j : Fin 7) : (H m c main_v50 : Vec F S256x7 .i32) (ix2 r j) = IntOp.addi ((H m c main_v13 : Vec F S256 .i32) (ix1 r)) ((H m c main_v48 : Vec F S256x7 .i32) (ix2 r j)) := by
  obtain ⟨W, hW⟩ := V0_from m c 10
  unfold H
  rw [hW]
  simp only [preOps, List.drop_succ_cons, List.drop_zero]
  after_reads_at

/-- The block a bin's window starts with. -/
theorem host_v53 (r : Fin 256) (j : Fin 7) : (H m c main_v53 : Vec F S256x7 .i32) (ix2 r j) = IntOp.minsi (fdiv ((H m c main_v35 : Vec F S256x7 .i32) (ix2 r j)) 8#32) 5#32 := by
  obtain ⟨W, hW⟩ := V0_from m c 14
  unfold H
  rw [hW]
  simp only [preOps, List.drop_succ_cons, List.drop_zero]
  unfold fdiv sgn
  after_reads_at
  rfl

/-- The mask of a bin over its window. -/
theorem host_v69 (r : Fin 256) (j : Fin 7) (y : Fin 24) : (H m c main_v69 : Vec F S256x7x24 .f32) (ix3 r j y) = Scalar.select (IntOp.andi (IntOp.cmpi .sge (IntOp.addi (IntOp.muli 8#32 ((H m c main_v53 : Vec F S256x7 .i32) (ix2 r j))) (BitVec.ofNat 32 y.val)) ((H m c main_v35 : Vec F S256x7 .i32) (ix2 r j))) (IntOp.cmpi .slt (IntOp.addi (IntOp.muli 8#32 ((H m c main_v53 : Vec F S256x7 .i32) (ix2 r j))) (BitVec.ofNat 32 y.val)) ((H m c main_v50 : Vec F S256x7 .i32) (ix2 r j)))) (FloatOps.ofBits .f32 0x00000000#32) (FloatOps.ofBits .f32 0xFF800000#32) := by
  obtain ⟨W, hW⟩ := V0_from m c 16
  unfold H
  rw [hW]
  simp only [preOps, List.drop_succ_cons, List.drop_zero]
  after_reads_at

/-- Where a bin starts, from the region's edge. -/
theorem host_v76 (r : Fin 256) (j : Fin 7) : (H m c main_v76 : Vec F S256x7 .i32) (ix2 r j) = fdiv (IntOp.muli (BitVec.ofNat 32 j.val) (IntOp.subi ((H m c main_v16 : Vec F S256 .i32) (ix1 r)) ((H m c main_v10 : Vec F S256 .i32) (ix1 r)))) 7#32 := by
  obtain ⟨W, hW⟩ := V0_from m c 10
  unfold H
  rw [hW]
  simp only [preOps, List.drop_succ_cons, List.drop_zero]
  unfold fdiv sgn
  after_reads_at
  rfl

/-- Where a bin starts. -/
theorem host_v78 (r : Fin 256) (j : Fin 7) : (H m c main_v78 : Vec F S256x7 .i32) (ix2 r j) = IntOp.addi ((H m c main_v10 : Vec F S256 .i32) (ix1 r)) ((H m c main_v76 : Vec F S256x7 .i32) (ix2 r j)) := by
  obtain ⟨W, hW⟩ := V0_from m c 10
  unfold H
  rw [hW]
  simp only [preOps, List.drop_succ_cons, List.drop_zero]
  after_reads_at

/-- Where a bin ends, from the region's edge. -/
theorem host_v91 (r : Fin 256) (j : Fin 7) : (H m c main_v91 : Vec F S256x7 .i32) (ix2 r j) = fdiv (IntOp.subi (IntOp.addi (IntOp.muli (IntOp.addi (BitVec.ofNat 32 j.val) 1#32) (IntOp.subi ((H m c main_v16 : Vec F S256 .i32) (ix1 r)) ((H m c main_v10 : Vec F S256 .i32) (ix1 r)))) 7#32) 1#32) 7#32 := by
  obtain ⟨W, hW⟩ := V0_from m c 10
  unfold H
  rw [hW]
  simp only [preOps, List.drop_succ_cons, List.drop_zero]
  unfold fdiv sgn
  after_reads_at
  rfl

/-- Where a bin ends. -/
theorem host_v93 (r : Fin 256) (j : Fin 7) : (H m c main_v93 : Vec F S256x7 .i32) (ix2 r j) = IntOp.addi ((H m c main_v10 : Vec F S256 .i32) (ix1 r)) ((H m c main_v91 : Vec F S256x7 .i32) (ix2 r j)) := by
  obtain ⟨W, hW⟩ := V0_from m c 10
  unfold H
  rw [hW]
  simp only [preOps, List.drop_succ_cons, List.drop_zero]
  after_reads_at

/-- The block a bin's window starts with. -/
theorem host_v96 (r : Fin 256) (j : Fin 7) : (H m c main_v96 : Vec F S256x7 .i32) (ix2 r j) = IntOp.minsi (fdiv ((H m c main_v78 : Vec F S256x7 .i32) (ix2 r j)) 8#32) 5#32 := by
  obtain ⟨W, hW⟩ := V0_from m c 22
  unfold H
  rw [hW]
  simp only [preOps, List.drop_succ_cons, List.drop_zero]
  unfold fdiv sgn
  after_reads_at
  rfl

/-- The mask of a bin over its window. -/
theorem host_v112 (r : Fin 256) (j : Fin 7) (y : Fin 24) : (H m c main_v112 : Vec F S256x7x24 .f32) (ix3 r j y) = Scalar.select (IntOp.andi (IntOp.cmpi .sge (IntOp.addi (IntOp.muli 8#32 ((H m c main_v96 : Vec F S256x7 .i32) (ix2 r j))) (BitVec.ofNat 32 y.val)) ((H m c main_v78 : Vec F S256x7 .i32) (ix2 r j))) (IntOp.cmpi .slt (IntOp.addi (IntOp.muli 8#32 ((H m c main_v96 : Vec F S256x7 .i32) (ix2 r j))) (BitVec.ofNat 32 y.val)) ((H m c main_v93 : Vec F S256x7 .i32) (ix2 r j)))) (FloatOps.ofBits .f32 0x00000000#32) (FloatOps.ofBits .f32 0xFF800000#32) := by
  obtain ⟨W, hW⟩ := V0_from m c 24
  unfold H
  rw [hW]
  simp only [preOps, List.drop_succ_cons, List.drop_zero]
  after_reads_at

/-- The features with the channels last. -/
theorem host_v113 (n : Fin 4) (h w : Fin 64) (k : Fin 256) : (H m c main_v113 : Vec F S4x64x64x256 .f32) (ix4 n h w k) = (H m c main_arg0 : Vec F S4x256x64x64 .f32) (ix4 n k h w) := by
  obtain ⟨W, hW⟩ := V0_from m c 26
  unfold H
  rw [hW]
  simp only [preOps, List.drop_succ_cons, List.drop_zero]
  after_reads_at

/-- The arguments are not written. -/
theorem host_arg0 : H m c main_arg0 = m (c, Proc.devRef .tc main_arg0) := by
  unfold H V0 preOps
  after_reads_simp

theorem host_arg1 : H m c main_arg1 = m (c, Proc.devRef .tc main_arg1) := by
  unfold H V0 preOps
  after_reads_simp

end Cert.KernelIdeal.Roi
end
end
-- ==== Proof.KernelIdeal.Bins.lean ====
/- The bins in whole numbers: where each starts and ends, and the words the host lines hold of them. -/
module

public import proofs.«01_k».proof.Proof.KernelIdeal.HostReads

@[expose] public section

set_option maxRecDepth 4000

noncomputable section

namespace Cert.KernelIdeal.Roi

open Idealize.ShloMosaic

/-- The word of a whole number. -/
abbrev wd (z : ℤ) : BitVec 32 := BitVec.ofInt 32 z

theorem fdiv7_table : ∀ k : Fin 1024, fdiv (wd ((k.val : ℤ) - 512)) 7#32 = wd (((k.val : ℤ) - 512) / 7) := by decide +kernel
theorem fdiv8_table : ∀ k : Fin 1024, fdiv (wd ((k.val : ℤ) - 512)) 8#32 = wd (((k.val : ℤ) - 512) / 8) := by decide +kernel

theorem fdiv7 (z : ℤ) (h : -512 ≤ z) (h' : z < 512) : fdiv (wd z) 7#32 = wd (z / 7) := by
  have := fdiv7_table ⟨(z + 512).toNat, by omega⟩
  simp only [Int.toNat_of_nonneg (show 0 ≤ z + 512 by omega), Int.add_sub_cancel] at this
  exact this
theorem fdiv8 (z : ℤ) (h : -512 ≤ z) (h' : z < 512) : fdiv (wd z) 8#32 = wd (z / 8) := by
  have := fdiv8_table ⟨(z + 512).toNat, by omega⟩
  simp only [Int.toNat_of_nonneg (show 0 ≤ z + 512 by omega), Int.add_sub_cancel] at this
  exact this

theorem wd_nat (n : ℕ) : BitVec.ofNat 32 n = wd n := (BitVec.ofInt_natCast 32 n).symm
theorem wd_toNat (x : BitVec 32) : x = wd x.toNat := by rw [← wd_nat, BitVec.ofNat_toNat, BitVec.setWidth_eq]
theorem wd_add (a b : ℤ) : IntOp.addi (wd a) (wd b) = wd (a + b) := (BitVec.ofInt_add a b).symm
theorem wd_mul (a b : ℤ) : IntOp.muli (wd a) (wd b) = wd (a * b) := (BitVec.ofInt_mul a b).symm
theorem wd_sub (a b : ℤ) : IntOp.subi (wd a) (wd b) = wd (a - b) := by
  rw [show a - b = a + -b from rfl, wd, wd, wd, BitVec.ofInt_add, BitVec.ofInt_neg]
  exact BitVec.sub_eq_add_neg ..

theorem toInt_wd (a : ℤ) (h : -4096 ≤ a) (h' : a < 4096) : (wd a).toInt = a := by
  rw [wd, BitVec.toInt_ofInt]
  exact Int.bmod_eq_of_le (by norm_num; omega) (by norm_num; omega)

theorem toNat_wd (a : ℤ) (h : 0 ≤ a) (h' : a < 4096) : (wd a).toNat = a.toNat := by
  obtain ⟨n, rfl⟩ := Int.eq_ofNat_of_zero_le h
  rw [← wd_nat, BitVec.toNat_ofNat]
  simp only [Int.toNat_natCast]
  omega

theorem wd_sge (a b : ℤ) (h : -4096 ≤ a) (h' : a < 4096) (g : -4096 ≤ b) (g' : b < 4096) :
    IntOp.cmpi .sge (wd a) (wd b) = BitVec.ofBool (decide (b ≤ a)) := by
  show BitVec.ofBool (BitVec.sle (wd b) (wd a)) = _
  rw [BitVec.sle, toInt_wd a h h', toInt_wd b g g']
theorem wd_slt (a b : ℤ) (h : -4096 ≤ a) (h' : a < 4096) (g : -4096 ≤ b) (g' : b < 4096) :
    IntOp.cmpi .slt (wd a) (wd b) = BitVec.ofBool (decide (a < b)) := by
  show BitVec.ofBool (BitVec.slt (wd a) (wd b)) = _
  rw [BitVec.slt, toInt_wd a h h', toInt_wd b g g']

theorem andi_ofBool (p q : Bool) : IntOp.andi (BitVec.ofBool p) (BitVec.ofBool q) = BitVec.ofBool (p && q) := by
  cases p <;> cases q <;> decide

theorem select_ofBool {α : Type} (p : Bool) (x y : α) : Scalar.select (BitVec.ofBool p) x y = if p then x else y := by
  cases p <;> rfl

/-- The first cell of bin `j` of the range from `a` to `b`. -/
def binLo (a b j : ℤ) : ℤ := a + j * (b - a) / 7
/-- The cell after the last of bin `j` of the range from `a` to `b`. -/
def binHi (a b j : ℤ) : ℤ := a + ((j + 1) * (b - a) + 6) / 7

/-- Where a bin's first block lies. -/
def blk8 (z : ℤ) : ℤ := min (z / 8) 5

/-- What is known of a bin. -/
abbrev BinFacts (a b j : ℤ) : Prop :=
    0 ≤ binLo a b j ∧ binLo a b j < 64 ∧ -64 ≤ binHi a b j ∧ binHi a b j < 128 ∧ -512 ≤ j * (b - a) ∧ j * (b - a) < 448
      ∧ -512 ≤ (j + 1) * (b - a) + 6 ∧ (j + 1) * (b - a) + 6 < 512 ∧ (a ≤ b → binHi a b j ≤ b) ∧ (a ≤ b → a ≤ binLo a b j)
      ∧ (a < b → binLo a b j < binHi a b j) ∧ (a ≤ b → binHi a b j ≤ binLo a b j + 11)

theorem bin_bounds (a b j : ℤ) (ha : 0 ≤ a) (ha' : a < 64) (hb : 0 ≤ b) (hb' : b < 64) (hj : 0 ≤ j) (hj' : j < 7) : BinFacts a b j := by
  unfold BinFacts binLo binHi
  obtain rfl | rfl | rfl | rfl | rfl | rfl | rfl : j = 0 ∨ j = 1 ∨ j = 2 ∨ j = 3 ∨ j = 4 ∨ j = 5 ∨ j = 6 := by omega
  all_goals omega

/-- A word clipped to the cells of an axis. -/
theorem clip_lt (x : BitVec 32) : (IntOp.minsi 63#32 (IntOp.maxsi 0#32 x)).toNat < 64 := by
  unfold IntOp.minsi IntOp.maxsi
  simp only [BitVec.slt, decide_eq_true_eq]
  split_ifs with h h' h' <;> simp only [BitVec.toInt, BitVec.toNat_ofNat] at * <;> split_ifs at * <;> omega

variable {F : FTy → Type} [FloatOps F]

theorem pix_lt (x : F .f32) : (pix x).toNat < 64 := clip_lt _

/-- The words of a bin's first cell, from the words of the range's ends. -/
theorem lo_word (a b : BitVec 32) (ha : a.toNat < 64) (hb : b.toNat < 64) (j : ℕ) (hj : j < 7) :
    IntOp.addi a (fdiv (IntOp.muli (BitVec.ofNat 32 j) (IntOp.subi b a)) 7#32) = wd (binLo a.toNat b.toNat j) := by
  have hb' := bin_bounds a.toNat b.toNat j (by omega) (by omega) (by omega) (by omega) (by omega) (by omega)
  conv_lhs => rw [wd_toNat a, wd_toNat b, wd_nat, wd_sub, wd_mul, fdiv7 _ (by omega) (by omega), wd_add]
  rfl

/-- The word of the cell after a bin's last. -/
theorem hi_word (a b : BitVec 32) (ha : a.toNat < 64) (hb : b.toNat < 64) (j : ℕ) (hj : j < 7) :
    IntOp.addi a (fdiv (IntOp.subi (IntOp.addi (IntOp.muli (IntOp.addi (BitVec.ofNat 32 j) 1#32) (IntOp.subi b a)) 7#32) 1#32) 7#32)
      = wd (binHi a.toNat b.toNat j) := by
  have hb' := bin_bounds a.toNat b.toNat j (by omega) (by omega) (by omega) (by omega) (by omega) (by omega)
  conv_lhs =>
    rw [wd_toNat a, wd_toNat b, wd_nat, show (1#32 : BitVec 32) = wd 1 from rfl, show IntOp.addi _ 7#32 = IntOp.addi _ (wd 7) from rfl,
      wd_sub, wd_add, wd_mul, wd_add, wd_sub]
    rw [show ((j : ℤ) + 1) * ((b.toNat : ℤ) - a.toNat) + 7 - 1 = ((j : ℤ) + 1) * ((b.toNat : ℤ) - a.toNat) + 6 by omega,
      fdiv7 _ (by omega) (by omega), wd_add]
  rfl

theorem min_word (z : ℤ) (h : 0 ≤ z) (h' : z < 64) : IntOp.minsi (fdiv (wd z) 8#32) 5#32 = wd (blk8 z) := by
  rw [fdiv8 _ (by omega) (by omega)]
  unfold IntOp.minsi blk8
  rw [BitVec.slt, toInt_wd _ (by omega) (by omega), show (5#32 : BitVec 32) = wd 5 from rfl, toInt_wd _ (by omega) (by omega)]
  by_cases g : z / 8 < 5
  · rw [if_pos (decide_eq_true g), min_eq_left (by omega)]
  · rw [if_neg (by simpa using g), min_eq_right (by omega)]

variable (m : (ℓ : Loc nD τ sig) → Buf (Elt F) ℓ) (c : Dev nD)
open Idealize.ShloMosaic.TcCoe Cert.KernelIdeal Cert.KernelIdeal.Gen

/-- The ends of region `r`'s two ranges, in cells. -/
def X0 (r : Fin 256) : ℕ := (pix ((H m c main_arg1 : Vec F S256x5 .f32) (ix2 r 1))).toNat
def Y0 (r : Fin 256) : ℕ := (pix ((H m c main_arg1 : Vec F S256x5 .f32) (ix2 r 2))).toNat
def X1 (r : Fin 256) : ℕ := (pix ((H m c main_arg1 : Vec F S256x5 .f32) (ix2 r 3))).toNat
def Y1 (r : Fin 256) : ℕ := (pix ((H m c main_arg1 : Vec F S256x5 .f32) (ix2 r 4))).toNat

theorem X0_lt (r) : X0 m c r < 64 := pix_lt _
theorem X1_lt (r) : X1 m c r < 64 := pix_lt _
theorem Y0_lt (r) : Y0 m c r < 64 := pix_lt _
theorem Y1_lt (r) : Y1 m c r < 64 := pix_lt _

theorem v35_eq (r : Fin 256) (j : Fin 7) : (H m c main_v35 : Vec F S256x7 .i32) (ix2 r j) = wd (binLo (Y0 m c r) (Y1 m c r) j.val) := by
  rw [host_v35, host_v33, host_v13, host_v19]
  exact lo_word _ _ (pix_lt _) (pix_lt _) _ j.isLt
theorem v50_eq (r : Fin 256) (j : Fin 7) : (H m c main_v50 : Vec F S256x7 .i32) (ix2 r j) = wd (binHi (Y0 m c r) (Y1 m c r) j.val) := by
  rw [host_v50, host_v48, host_v13, host_v19]
  exact hi_word _ _ (pix_lt _) (pix_lt _) _ j.isLt
theorem v78_eq (r : Fin 256) (j : Fin 7) : (H m c main_v78 : Vec F S256x7 .i32) (ix2 r j) = wd (binLo (X0 m c r) (X1 m c r) j.val) := by
  rw [host_v78, host_v76, host_v10, host_v16]
  exact lo_word _ _ (pix_lt _) (pix_lt _) _ j.isLt
theorem v93_eq (r : Fin 256) (j : Fin 7) : (H m c main_v93 : Vec F S256x7 .i32) (ix2 r j) = wd (binHi (X0 m c r) (X1 m c r) j.val) := by
  rw [host_v93, host_v91, host_v10, host_v16]
  exact hi_word _ _ (pix_lt _) (pix_lt _) _ j.isLt

theorem ybin (r : Fin 256) (j : Fin 7) : BinFacts (Y0 m c r) (Y1 m c r) j.val := bin_bounds _ _ _ (by omega) (by have := Y0_lt m c r; omega) (by omega)
  (by have := Y1_lt m c r; omega) (by omega) (by omega)
theorem xbin (r : Fin 256) (j : Fin 7) : BinFacts (X0 m c r) (X1 m c r) j.val := bin_bounds _ _ _ (by omega) (by have := X0_lt m c r; omega) (by omega)
  (by have := X1_lt m c r; omega) (by omega) (by omega)

theorem v53_eq (r : Fin 256) (j : Fin 7) : (H m c main_v53 : Vec F S256x7 .i32) (ix2 r j) = wd (blk8 (binLo (Y0 m c r) (Y1 m c r) j.val)) := by
  have h := ybin m c r j
  rw [host_v53, v35_eq]
  exact min_word _ h.1 h.2.1
theorem v96_eq (r : Fin 256) (j : Fin 7) : (H m c main_v96 : Vec F S256x7 .i32) (ix2 r j) = wd (blk8 (binLo (X0 m c r) (X1 m c r) j.val)) := by
  have h := xbin m c r j
  rw [host_v96, v78_eq]
  exact min_word _ h.1 h.2.1

theorem mask_word (k lo hi : ℤ) (y : ℕ) (hy : y < 24) (hk : 0 ≤ k) (hk' : k ≤ 5) (hl : 0 ≤ lo) (hl' : lo < 64) (hh : -64 ≤ hi) (hh' : hi < 128)
    (z t : F .f32) :
    Scalar.select (IntOp.andi (IntOp.cmpi .sge (IntOp.addi (IntOp.muli 8#32 (wd k)) (BitVec.ofNat 32 y)) (wd lo))
      (IntOp.cmpi .slt (IntOp.addi (IntOp.muli 8#32 (wd k)) (BitVec.ofNat 32 y)) (wd hi))) z t
      = if lo ≤ 8 * k + y ∧ 8 * k + y < hi then z else t := by
  rw [show (8#32 : BitVec 32) = wd 8 from rfl, wd_nat, wd_mul, wd_add, wd_sge _ _ (by omega) (by omega) (by omega) (by omega),
    wd_slt _ _ (by omega) (by omega) (by omega) (by omega), andi_ofBool, select_ofBool]
  by_cases h1 : lo ≤ 8 * k + y <;> by_cases h2 : 8 * k + y < hi <;> simp [h1, h2]

/-- The mask of a column bin over its window. -/
theorem v69_eq (r : Fin 256) (j : Fin 7) (y : Fin 24) : (H m c main_v69 : Vec F S256x7x24 .f32) (ix3 r j y)
    = if binLo (Y0 m c r) (Y1 m c r) j.val ≤ 8 * blk8 (binLo (Y0 m c r) (Y1 m c r) j.val) + y.val
        ∧ 8 * blk8 (binLo (Y0 m c r) (Y1 m c r) j.val) + y.val < binHi (Y0 m c r) (Y1 m c r) j.val
      then FloatOps.ofBits .f32 0x00000000#32 else FloatOps.ofBits .f32 0xFF800000#32 := by
  have h := ybin m c r j
  rw [host_v69, v53_eq, v35_eq, v50_eq]
  exact mask_word _ _ _ _ y.isLt (by unfold blk8; omega) (by unfold blk8; omega) h.1 h.2.1 h.2.2.1 h.2.2.2.1 _ _
/-- The mask of a row bin over its window. -/
theorem v112_eq (r : Fin 256) (j : Fin 7) (y : Fin 24) : (H m c main_v112 : Vec F S256x7x24 .f32) (ix3 r j y)
    = if binLo (X0 m c r) (X1 m c r) j.val ≤ 8 * blk8 (binLo (X0 m c r) (X1 m c r) j.val) + y.val
        ∧ 8 * blk8 (binLo (X0 m c r) (X1 m c r) j.val) + y.val < binHi (X0 m c r) (X1 m c r) j.val
      then FloatOps.ofBits .f32 0x00000000#32 else FloatOps.ofBits .f32 0xFF800000#32 := by
  have h := xbin m c r j
  rw [host_v112, v96_eq, v78_eq, v93_eq]
  exact mask_word _ _ _ _ y.isLt (by unfold blk8; omega) (by unfold blk8; omega) h.1 h.2.1 h.2.2.1 h.2.2.2.1 _ _

end Cert.KernelIdeal.Roi
end
end
-- ==== Proof.KernelIdeal.Body.lean ====
/- The kernel's body in its own structure: four rois per grid point; per roi the table reads, the loop over
   blocks of eight feature rows that writes the reduced rows to the scratch, and the seven-by-seven bins read
   back from it. The printed body is this program. -/
module

public import proofs.«01_k».proof.Proof.Gen.KernelIdeal

@[expose] public section

noncomputable section

namespace Cert.KernelIdeal.Roi

open Idealize.ShloMosaic Idealize.SL.Sem Cert.KernelIdeal Cert.KernelIdeal.Facts₀ Cert.KernelIdeal.Facts

variable {F : FTy → Type} [FloatOps F] [Facts]

/-- `n` steps one after the other, each told its number. -/
def steps {E : Type → Type} : (n : Nat) → (Fin n → Prog E PUnit) → Prog E PUnit
  | 0, _ => pure ⟨⟩
  | n + 1, p => do p 0; steps n fun k => p k.succ

/-- The number of the roi that step `rr` of grid point `i` works on, as the kernel computes it. -/
def roiWord (i : grid0.Coords) (rr : Fin 4) : BitVec 32 :=
  Scalar.addi (Scalar.muli (BitVec.ofNat 32 (i 0).val) 4#32) (BitVec.ofNat 32 rr.val)

theorem roiWord_toNat (i : grid0.Coords) (rr : Fin 4) : (roiWord i rr).toNat = 4 * (i 0).val + rr.val := by
  have h : (i 0).val < 64 := (i 0).isLt
  have hr := rr.isLt
  show ((BitVec.ofNat 32 (i 0).val) * 4#32 + BitVec.ofNat 32 rr.val).toNat = _
  simp only [BitVec.toNat_add, BitVec.toNat_mul, BitVec.toNat_ofNat]
  omega

/-- Where a table of one word per roi is read. -/
def wordOff (i : grid0.Coords) (rr : Fin 4) : Fin 1 → Nat :=
  let x : Index := Scalar.indexCast (roiWord i rr)
  ![x.toNat]

/-- Where a table of seven words per roi is read. -/
def binOff (i : grid0.Coords) (rr : Fin 4) (j : Fin 7) : Fin 2 → Nat :=
  let x : Index := Scalar.indexCast (roiWord i rr)
  ![x.toNat, j.val]

/-- Where a roi's masks are read. -/
def maskOff (i : grid0.Coords) (rr : Fin 4) : Fin 3 → Nat :=
  let x : Index := Scalar.indexCast (roiWord i rr)
  ![x.toNat, 0, 0]

theorem wordOff_inb (i : grid0.Coords) (rr : Fin 4) : ∀ a, wordOff i rr a + S1.size a ≤ S256.size a := by
  have h : (i 0).val < 64 := (i 0).isLt
  have hr := rr.isLt
  have hx := roiWord_toNat i rr
  intro a
  match a with
  | 0 => show (roiWord i rr).toNat + 1 ≤ 256; omega

theorem binOff_inb (i : grid0.Coords) (rr : Fin 4) (j : Fin 7) : ∀ a, binOff i rr j a + S1x1.size a ≤ S256x7.size a := by
  have h : (i 0).val < 64 := (i 0).isLt
  have hr := rr.isLt
  have hx := roiWord_toNat i rr
  intro a
  match a with
  | 0 => show (roiWord i rr).toNat + 1 ≤ 256; omega
  | 1 => show j.val + 1 ≤ 7; omega

theorem maskOff_inb (i : grid0.Coords) (rr : Fin 4) : ∀ a, maskOff i rr a + S1x7x24.size a ≤ S256x7x24.size a := by
  have h : (i 0).val < 64 := (i 0).isLt
  have hr := rr.isLt
  have hx := roiWord_toNat i rr
  intro a
  match a with
  | 0 => show (roiWord i rr).toNat + 1 ≤ 256; omega
  | 1 => show 0 + 7 ≤ 7; omega
  | 2 => show 0 + 24 ≤ 24; omega

/-- The first row a trip writes. -/
def base (y0 iv : BitVec 32) : BitVec 32 :=
  Scalar.minsi (Scalar.addi y0 (Scalar.muli iv 8#32)) 56#32

/-- Where a row of features is read. -/
def featOff (b row w : BitVec 32) : Fin 4 → Nat :=
  let x : Index := Scalar.indexCast b
  let y : Index := Scalar.indexCast row
  let z : Index := Scalar.indexCast (Scalar.muli w 8#32)
  ![x.toNat, y.toNat, z.toNat, 0]

/-- Where a reduced row is written. -/
def rowOff (j : Fin 7) (row : BitVec 32) : Fin 3 → Nat :=
  let y : Index := Scalar.indexCast row
  ![j.val, y.toNat, 0]

/-- Where a bin's twenty-four reduced rows are read. -/
def colOff (j : Fin 7) (h : BitVec 32) : Fin 3 → Nat :=
  let y : Index := Scalar.indexCast (Scalar.muli h 8#32)
  ![j.val, y.toNat, 0]

theorem slice_row : ∀ j : Fin 7, S7x24.Slices ![j.val, 0] S1x24 := by decide

theorem inb_slab : ∀ rr : Fin 4, ∀ a, (![rr.val, 0, 0, 0] : Fin 4 → Nat) a + S1x7x64x256.size a ≤ S4x7x64x256.size a := by decide

/-- Where a bin's row of the result block is written. -/
abbrev outOff (rr : Fin 4) (i j : Fin 7) : Fin 4 → Nat := ![rr.val, i.val, j.val, 0]

theorem outOff_inb : ∀ (rr : Fin 4) (i j : Fin 7), ∀ a, outOff rr i j a + S1x1x1x256.size a ≤ S4x7x7x256.size a := by decide

/-- One row of a roi's mask as a column. -/
def maskCol (m : FVec F S7x24 .f32) (j : Fin 7) : FVec F S24x1 .f32 :=
  shapeCast S24x1 (shapeCast S24 (extractStridedSlice S1x24 ![j.val, 0] m (slice_row j)) shapeCasts_S1x24_S24) shapeCasts_S24_S24x1

/-- Twenty-four rows, each plus its mask, and the greatest of each column. -/
def maxRows (x : FVec F S24x256 .f32) (m : FVec F S24x1 .f32) : FVec F S256 .f32 :=
  multiReduction .maximumf [0] S256 (addf x (broadcastTo S24x256 m broadcasts_S24x1_S24x256)) 0xFF800000#32 reduces_S24x256_S256 (.inl rfl) rfl

/-- The reduced row a row step writes, of the features it reads. -/
def rowVal (cm : FVec F S7x24 .f32) (j : Fin 7) (x : Vec F S1x1x24x256 .f32) : Vec F S1x1x256 .f32 :=
  shapeCast S1x1x256 (maxRows (shapeCast S24x256 x shapeCasts_S1x1x24x256_S24x256) (maskCol cm j)) shapeCasts_S256_S1x1x256

/-- The row of the result a bin writes, of the reduced rows it reads. -/
def outVal (rm : FVec F S7x24 .f32) (valid : BitVec 32) (i : Fin 7) (x : Vec F S1x24x256 .f32) : Vec F S1x1x1x256 .f32 :=
  shapeCast S1x1x1x256
    (Scalar.select (Scalar.cmpi .sgt valid 0#32)
      (maxRows (shapeCast S24x256 x shapeCasts_S1x24x256_S24x256) (maskCol rm i))
      (broadcast S256 (Scalar.ofBits .f32 0x00000000#32 : F .f32))) shapeCasts_S256_S1x1x1x256

/-- Step `rr`'s part of the scratch. -/
def slab (rr : Fin 4) (arg11 : Memref sig .tc .vmem S4x7x64x256 .f32) : Memref sig .tc .vmem S7x64x256 .f32 :=
  (arg11.slice (Rect.unit (s := S4x7x64x256) ![rr.val, 0, 0, 0] S1x7x64x256.size (inb_slab rr)) (fun _ => rfl)).squeeze S7x64x256 squeezes_S1x7x64x256_S7x64x256

section
variable (arg7 : Memref sig .tc .vmem S4x64x64x256 .f32) (arg10 : Memref sig .tc .vmem S4x7x7x256 .f32)
  (arg11 : Memref sig .tc .vmem S4x7x64x256 .f32)

/-- A row step: one window of a feature row, reduced, into the scratch. -/
def rowOp (rr : Fin 4) (cm : FVec F S7x24 .f32) (j : Fin 7) (fo : Fin 4 → Nat) (ro : Fin 3 → Nat)
    (hf : ∀ a, fo a + S1x1x24x256.size a ≤ S4x64x64x256.size a)
    (hr : ∀ a, ro a + S1x1x256.size a ≤ S7x64x256.size a) :
    Prog (TpuEff nD τ sig (Elt F) Λ₀ .tc) PUnit := do
  let x ← Prog.lift (.load arg7 (Rect.unit (s := S4x64x64x256) fo S1x1x24x256.size hf).toLoadRect (View.loadsAt_vmem h_S1x1x24x256))
  let _ ← Prog.lift (.load (slab rr arg11) (Rect.unit (s := S7x64x256) ro S1x1x256.size hr).toLoadRect (View.loadsAt_vmem h_S1x1x256))
  Prog.lift (.store (slab rr arg11) (Rect.unit (s := S7x64x256) ro S1x1x256.size hr) (rowVal cm j x)
    Finset.univ (View.stores_vmem_bits_univ h_S1x1x256 rfl) (.inl rfl))

/-- A trip: seven bins' columns, eight rows each. -/
def trip (rr : Fin 4) (cm : FVec F S7x24 .f32) (b y0 iv : BitVec 32) (w : Fin 7 → BitVec 32)
    (hf : ∀ j : Fin 7, ∀ r : Fin 8, ∀ a, featOff b (Scalar.addi (base y0 iv) (BitVec.ofNat 32 r.val)) (w j) a + S1x1x24x256.size a ≤ S4x64x64x256.size a)
    (hr : ∀ j : Fin 7, ∀ r : Fin 8, ∀ a, rowOff j (Scalar.addi (base y0 iv) (BitVec.ofNat 32 r.val)) a + S1x1x256.size a ≤ S7x64x256.size a) :
    Prog (TpuEff nD τ sig (Elt F) Λ₀ .tc) PUnit :=
  steps 7 fun j => steps 8 fun r =>
    rowOp arg7 arg11 rr cm j (featOff b (Scalar.addi (base y0 iv) (BitVec.ofNat 32 r.val)) (w j))
      (rowOff j (Scalar.addi (base y0 iv) (BitVec.ofNat 32 r.val))) (hf j r) (hr j r)

/-- A bin: its reduced rows, reduced again, into the result block. -/
def outOp (rr : Fin 4) (rm : FVec F S7x24 .f32) (valid : BitVec 32) (i j : Fin 7) (co : Fin 3 → Nat)
    (hc : ∀ a, co a + S1x24x256.size a ≤ S7x64x256.size a) :
    Prog (TpuEff nD τ sig (Elt F) Λ₀ .tc) PUnit := do
  let x ← Prog.lift (.load (slab rr arg11) (Rect.unit (s := S7x64x256) co S1x24x256.size hc).toLoadRect (View.loadsAt_vmem h_S1x24x256))
  let _ ← Prog.lift (.load arg10 (Rect.unit (s := S4x7x7x256) (outOff rr i j) S1x1x1x256.size (outOff_inb rr i j)).toLoadRect (View.loadsAt_vmem h_S1x1x1x256))
  Prog.lift (.store arg10 (Rect.unit (s := S4x7x7x256) (outOff rr i j) S1x1x1x256.size (outOff_inb rr i j)) (outVal rm valid i x)
    Finset.univ (View.stores_vmem_bits_univ h_S1x1x1x256 rfl) (.inl rfl))

end

/-- What the kernel requires of a column window's start: every feature row a trip reads there is in range. -/
theorem feat_inb {b y0 y1 w : BitVec 32} (h : k0_chk2 b y0 y1 w) (k : Fin (k0_t1_loop y0 y1).trips) (r : Fin 8) :
    ∀ a, featOff b (Scalar.addi (base y0 (Scf.iv 0#32 1#32 k)) (BitVec.ofNat 32 r.val)) w a + S1x1x24x256.size a ≤ S4x64x64x256.size a :=
  h.1 k r

/-- The same for the second loop. -/
theorem feat_inb' {b y0 y1 w : BitVec 32} (h : k0_chk2 b y0 y1 w) (k : Fin (k0_t2_loop y0 y1).trips) (r : Fin 8) :
    ∀ a, featOff b (Scalar.addi (base y0 (Scf.iv (k0_t1_loop y0 y1).ub 1#32 k)) (BitVec.ofNat 32 r.val)) w a + S1x1x24x256.size a ≤ S4x64x64x256.size a :=
  h.2 k r

/-- The rows the first loop writes are in range. -/
theorem row_inb {y0 y1 : BitVec 32} (h : k0_chk1 y0 y1) (k : Fin (k0_t1_loop y0 y1).trips) (j : Fin 7) (r : Fin 8) :
    ∀ a, rowOff j (Scalar.addi (base y0 (Scf.iv 0#32 1#32 k)) (BitVec.ofNat 32 r.val)) a + S1x1x256.size a ≤ S7x64x256.size a :=
  match j with
  | 0 => h.2.1 k r
  | 1 => h.2.2.1 k r
  | 2 => h.2.2.2.1 k r
  | 3 => h.2.2.2.2.1 k r
  | 4 => h.2.2.2.2.2.1 k r
  | 5 => h.2.2.2.2.2.2.1 k r
  | 6 => h.2.2.2.2.2.2.2.1 k r

/-- The rows the second loop writes are in range. -/
theorem row_inb' {y0 y1 : BitVec 32} (h : k0_chk1 y0 y1) (k : Fin (k0_t2_loop y0 y1).trips) (j : Fin 7) (r : Fin 8) :
    ∀ a, rowOff j (Scalar.addi (base y0 (Scf.iv (k0_t1_loop y0 y1).ub 1#32 k)) (BitVec.ofNat 32 r.val)) a + S1x1x256.size a ≤ S7x64x256.size a :=
  match j with
  | 0 => h.2.2.2.2.2.2.2.2.2.1 k r
  | 1 => h.2.2.2.2.2.2.2.2.2.2.1 k r
  | 2 => h.2.2.2.2.2.2.2.2.2.2.2.1 k r
  | 3 => h.2.2.2.2.2.2.2.2.2.2.2.2.1 k r
  | 4 => h.2.2.2.2.2.2.2.2.2.2.2.2.2.1 k r
  | 5 => h.2.2.2.2.2.2.2.2.2.2.2.2.2.2.1 k r
  | 6 => h.2.2.2.2.2.2.2.2.2.2.2.2.2.2.2 k r

/-- The rows a bin reads are in range. -/
theorem col_inb {h : BitVec 32} (hh : k0_chk9 h) (j : Fin 7) :
    ∀ a, colOff j h a + S1x24x256.size a ≤ S7x64x256.size a :=
  match j with
  | 0 => hh.1
  | 1 => hh.2.1
  | 2 => hh.2.2.1
  | 3 => hh.2.2.2.1
  | 4 => hh.2.2.2.2.1
  | 5 => hh.2.2.2.2.2.1
  | 6 => hh.2.2.2.2.2.2

/-- A column window's start, with what the kernel requires of it. -/
def loadW (arg5 : Memref sig .tc .smem S256x7 .i32) (i : grid0.Coords) (rr : Fin 4) (b y0 y1 : BitVec 32) (j : Fin 7) :
    Prog (TpuEff nD τ sig (Elt F) Λ₀ .tc) (Σ' w : BitVec 32, k0_chk2 b y0 y1 w) := do
  let w : Elt F .i32 ← smemLoad arg5 (Rect.unit (s := S256x7) (binOff i rr j) S1x1.size (binOff_inb i rr j)) numel1_S1x1 rfl
  have h : k0_chk2 b y0 y1 w := (← Prog.lift (TpuEff.assume (k0_chk2 b y0 y1 w) (k0_chk2.dec b y0 y1 w))).down
  pure ⟨w, h⟩

/-- The bins of one row. -/
def outRow (arg6 : Memref sig .tc .smem S256x7 .i32) (arg10 : Memref sig .tc .vmem S4x7x7x256 .f32)
    (arg11 : Memref sig .tc .vmem S4x7x64x256 .f32) (i : grid0.Coords) (rr : Fin 4) (rm : FVec F S7x24 .f32)
    (valid : BitVec 32) (ii : Fin 7) : Prog (TpuEff nD τ sig (Elt F) Λ₀ .tc) PUnit := do
  let h : Elt F .i32 ← smemLoad arg6 (Rect.unit (s := S256x7) (binOff i rr ii) S1x1.size (binOff_inb i rr ii)) numel1_S1x1 rfl
  have hh : k0_chk9 h := (← Prog.lift (TpuEff.assume (k0_chk9 h) (k0_chk9.dec h))).down
  steps 7 fun j => outOp arg10 arg11 rr rm valid ii j (colOff j h) (col_inb hh j)

/-- One roi. -/
def roi (i : grid0.Coords) (arg1 arg2 arg3 arg4 : Memref sig .tc .smem S256 .i32) (arg5 arg6 : Memref sig .tc .smem S256x7 .i32)
    (arg7 : Memref sig .tc .vmem S4x64x64x256 .f32) (arg8 arg9 : Memref sig .tc .vmem S256x7x24 .f32)
    (arg10 : Memref sig .tc .vmem S4x7x7x256 .f32) (arg11 : Memref sig .tc .vmem S4x7x64x256 .f32) (rr : Fin 4) :
    Prog (TpuEff nD τ sig (Elt F) Λ₀ .tc) PUnit := do
  let b : Elt F .i32 ← smemLoad arg1 (Rect.unit (s := S256) (wordOff i rr) S1.size (wordOff_inb i rr)) numel1_S1 rfl
  let cm ← Prog.lift (.load arg8 (Rect.unit (s := S256x7x24) (maskOff i rr) S1x7x24.size (maskOff_inb i rr)).toLoadRect (View.loadsAt_vmem h_S1x7x24))
  let rm ← Prog.lift (.load arg9 (Rect.unit (s := S256x7x24) (maskOff i rr) S1x7x24.size (maskOff_inb i rr)).toLoadRect (View.loadsAt_vmem h_S1x7x24))
  let valid : Elt F .i32 ← smemLoad arg2 (Rect.unit (s := S256) (wordOff i rr) S1.size (wordOff_inb i rr)) numel1_S1 rfl
  let y0 : Elt F .i32 ← smemLoad arg3 (Rect.unit (s := S256) (wordOff i rr) S1.size (wordOff_inb i rr)) numel1_S1 rfl
  let y1 : Elt F .i32 ← smemLoad arg4 (Rect.unit (s := S256) (wordOff i rr) S1.size (wordOff_inb i rr)) numel1_S1 rfl
  have hw : k0_chk1 y0 y1 := (← Prog.lift (TpuEff.assume (k0_chk1 y0 y1) (k0_chk1.dec y0 y1))).down
  let w0 ← loadW arg5 i rr b y0 y1 0
  let w1 ← loadW arg5 i rr b y0 y1 1
  let w2 ← loadW arg5 i rr b y0 y1 2
  let w3 ← loadW arg5 i rr b y0 y1 3
  let w4 ← loadW arg5 i rr b y0 y1 4
  let w5 ← loadW arg5 i rr b y0 y1 5
  let w6 ← loadW arg5 i rr b y0 y1 6
  let w : Fin 7 → (Σ' w : BitVec 32, k0_chk2 b y0 y1 w) := ![w0, w1, w2, w3, w4, w5, w6]
  Scf.Loop.for (k0_t1_loop y0 y1) (k0_t1_ok y0 y1 hw) PUnit.unit fun k _ =>
    trip arg7 arg11 rr (shapeCast S7x24 cm shapeCasts_S1x7x24_S7x24) b y0 (Scf.iv 0#32 1#32 k) (fun j => (w j).1)
      (fun j r => feat_inb (w j).2 k r) (fun j r => row_inb hw k j r)
  Scf.Loop.for (k0_t2_loop y0 y1) (k0_t2_ok y0 y1 hw) PUnit.unit fun k _ =>
    trip arg7 arg11 rr (shapeCast S7x24 cm shapeCasts_S1x7x24_S7x24) b y0 (Scf.iv (k0_t1_loop y0 y1).ub 1#32 k) (fun j => (w j).1)
      (fun j r => feat_inb' (w j).2 k r) (fun j r => row_inb' hw k j r)
  steps 7 fun ii => outRow arg6 arg10 arg11 i rr (shapeCast S7x24 rm shapeCasts_S1x7x24_S7x24) valid ii

/-- At the first point the scratch is filled with −∞. -/
def fill (i : grid0.Coords) (arg11 : Memref sig .tc .vmem S4x7x64x256 .f32) : Prog (TpuEff nD τ sig (Elt F) Λ₀ .tc) PUnit :=
  if _h : Scalar.cmpi .ne (Scalar.extui (Scalar.cmpi .eq (BitVec.ofNat 32 (i 0).val) 0#32) : BitVec 32) 0#32 = 1#1 then do
    let _ ← Prog.lift (.load arg11 (Rect.unit (s := S4x7x64x256) ![0, 0, 0, 0] S4x7x64x256.size inb_S4x7x64x256_S4x7x64x256_0_0_0_0).toLoadRect (View.loadsAt_vmem h_S4x7x64x256))
    Prog.lift (.store arg11 (Rect.unit (s := S4x7x64x256) ![0, 0, 0, 0] S4x7x64x256.size inb_S4x7x64x256_S4x7x64x256_0_0_0_0)
      (shapeCast S4x7x64x256 (broadcast S4x7x64x256 (Scalar.ofBits .f32 0xFF800000#32 : F .f32)) shapeCasts_S4x7x64x256_S4x7x64x256)
      Finset.univ (View.stores_vmem_bits_univ h_S4x7x64x256 rfl) (.inl rfl))
    pure ⟨⟩
  else pure ⟨⟩

/-- The body at a grid point. -/
def body (i : grid0.Coords) (arg1 arg2 arg3 arg4 : Memref sig .tc .smem S256 .i32) (arg5 arg6 : Memref sig .tc .smem S256x7 .i32)
    (arg7 : Memref sig .tc .vmem S4x64x64x256 .f32) (arg8 arg9 : Memref sig .tc .vmem S256x7x24 .f32)
    (arg10 : Memref sig .tc .vmem S4x7x7x256 .f32) (arg11 : Memref sig .tc .vmem S4x7x64x256 .f32) :
    Prog (TpuEff nD τ sig (Elt F) Λ₀ .tc) PUnit := do
  fill i arg11
  steps 4 fun rr => roi i arg1 arg2 arg3 arg4 arg5 arg6 arg7 arg8 arg9 arg10 arg11 rr

end Cert.KernelIdeal.Roi
end
end
-- ==== Proof.KernelIdeal.Pool.lean ====
/- The greatest over a bin, and the greatest over the window of twenty-four that holds it. -/
module

public import proofs.«01_k».proof.Proof.KernelIdeal.Bins
public import proofs.«01_k».proof.Proof.KernelIdeal.Body
public import Idealize.ShloMosaic.PureOps.Ideal.Laws
public import Idealize.ShloMosaic.Lib.Pointwise

@[expose] public section

noncomputable section

namespace Cert.KernelIdeal.Roi

open Idealize.ShloMosaic Idealize.ShloMosaic.TcCoe Cert.KernelIdeal Cert.KernelIdeal.Gen

/-- The greatest of `g` over the cells from `lo` up to `hi`. -/
def binSup (lo hi : ℤ) (g : ℕ → EReal) : EReal :=
  Finset.univ.sup fun h : Fin 64 => if lo ≤ (h.val : ℤ) ∧ (h.val : ℤ) < hi then g h.val else ⊥

/-- Two functions that agree on the bin have the same greatest value there. -/
theorem binSup_congr (lo hi : ℤ) (f g : ℕ → EReal) (h : ∀ y : ℕ, y < 64 → lo ≤ (y : ℤ) → (y : ℤ) < hi → f y = g y) : binSup lo hi f = binSup lo hi g := by
  unfold binSup
  refine Finset.sup_congr rfl fun y _ => ?_
  by_cases c : lo ≤ (y.val : ℤ) ∧ (y.val : ℤ) < hi
  · rw [if_pos c, if_pos c, h y.val y.isLt c.1 c.2]
  · rw [if_neg c, if_neg c]

/-- The window of twenty-four from the bin's first block on holds the bin. -/
theorem window_sup (lo hi : ℤ) (g : ℕ → EReal) (h0 : 0 ≤ lo) (h1 : hi ≤ 64) (h2 : hi ≤ lo + 11) :
    (Finset.univ.sup fun y : Fin 24 => if lo ≤ 8 * blk8 lo + y.val ∧ 8 * blk8 lo + y.val < hi then g (8 * blk8 lo + y.val).toNat else ⊥)
      = binSup lo hi g := by
  have hb : 0 ≤ blk8 lo := by unfold blk8; omega
  have hb5 : blk8 lo ≤ 5 := by unfold blk8; omega
  have hlo : 8 * blk8 lo ≤ lo := by unfold blk8; omega
  have hhi : hi ≤ 8 * blk8 lo + 24 := by unfold blk8; omega
  unfold binSup
  apply le_antisymm
  · refine Finset.sup_le fun y _ => ?_
    have hy := y.isLt
    split_ifs with c
    · have hn : (8 * blk8 lo + y.val).toNat < 64 := by omega
      refine le_trans ?_ (Finset.le_sup (f := fun h : Fin 64 => if lo ≤ (h.val : ℤ) ∧ (h.val : ℤ) < hi then g h.val else ⊥)
        (Finset.mem_univ (⟨_, hn⟩ : Fin 64)))
      show _ ≤ if _ then _ else _
      rw [if_pos (by constructor <;> simp only [] <;> omega)]
    · exact bot_le
  · refine Finset.sup_le fun h _ => ?_
    split_ifs with c
    · have hn : ((h.val : ℤ) - 8 * blk8 lo).toNat < 24 := by omega
      refine le_trans ?_ (Finset.le_sup (f := fun y : Fin 24 => if lo ≤ 8 * blk8 lo + y.val ∧ 8 * blk8 lo + y.val < hi then g (8 * blk8 lo + y.val).toNat else ⊥)
        (Finset.mem_univ (⟨_, hn⟩ : Fin 24)))
      show _ ≤ if _ then _ else _
      rw [if_pos (by constructor <;> simp only [] <;> omega)]
      rw [show (8 * blk8 lo + ((((h.val : ℤ) - 8 * blk8 lo).toNat : ℕ) : ℤ)).toNat = h.val from by omega]
    · exact bot_le

/-- The two words the masks hold. -/
theorem neg_inf : (FloatOps.ofBits .f32 0xFF800000#32 : Ideal .f32) = (⊥ : EReal) := by
  show Ideal.ofBits .f32 0xFF800000#32 = ⊥
  simp [Ideal.ofBits, Ideal.ieee]
theorem zero_word : (FloatOps.ofBits .f32 0x00000000#32 : Ideal .f32) = (0 : EReal) := by
  show Ideal.ofBits .f32 0x00000000#32 = 0
  simp [Ideal.ofBits, Ideal.ieee]

/-- Adding a mask of zero and negative infinity. -/
theorem add_mask (p : Prop) [Decidable p] (x : EReal) :
    x + (if p then (FloatOps.ofBits .f32 0x00000000#32 : Ideal .f32) else FloatOps.ofBits .f32 0xFF800000#32) = if p then x else ⊥ := by
  split_ifs
  · rw [zero_word]; exact add_zero x
  · rw [neg_inf]; exact EReal.add_bot x

/-- A reduced row: the greatest over the window of each element plus its mask. -/
theorem rowVal_apply (cm : FVec Ideal S7x24 .f32) (j : Fin 7) (x : Vec Ideal S1x1x24x256 .f32) (ch : Fin 256) :
    rowVal cm j x (ix3 (0 : Fin 1) (0 : Fin 1) ch) = Finset.univ.sup fun w : Fin 24 => (x (ix4 (0 : Fin 1) (0 : Fin 1) w ch) + cm (ix2 j w) : EReal) := by
  unfold rowVal maxRows maskCol
  pointwise
  rw [show Ideal.ofBits .f32 0xFF800000#32 = (⊥ : EReal) from neg_inf]
  rfl

/-- A row of the result: the greatest over the window of the reduced rows, or zero where the roi is empty. -/
theorem outVal_apply (rm : FVec Ideal S7x24 .f32) (valid : BitVec 32) (i : Fin 7) (x : Vec Ideal S1x24x256 .f32) (ch : Fin 256) :
    outVal rm valid i x (ix4 (0 : Fin 1) (0 : Fin 1) (0 : Fin 1) ch)
      = if (IntOp.cmpi .sgt valid 0#32) = 1#1 then Finset.univ.sup fun w : Fin 24 => (x (ix3 (0 : Fin 1) w ch) + rm (ix2 i w) : EReal) else (0 : EReal) := by
  unfold outVal maxRows maskCol
  pointwise
  rw [show Ideal.ofBits .f32 0xFF800000#32 = (⊥ : EReal) from neg_inf]
  rfl

end Cert.KernelIdeal.Roi
end
end
-- ==== Proof.KernelIdeal.BodyEq.lean ====
/- The printed body is the structured one. -/
module

public import proofs.«01_k».proof.Proof.KernelIdeal.Body

@[expose] public section

noncomputable section

namespace Cert.KernelIdeal.Roi

open Idealize.ShloMosaic Idealize.SL.Sem Cert.KernelIdeal Cert.KernelIdeal.Facts₀ Cert.KernelIdeal.Facts

variable {F : FTy → Type} [FloatOps F] [Facts]

set_option pp.maxSteps 400 in
set_option maxRecDepth 100000 in
set_option maxHeartbeats 40000000 in
theorem body_eq (i : grid0.Coords) (arg1 : Memref sig .tc .smem S256 .i32) (harg1 : arg1.IsWhole) (arg2 : Memref sig .tc .smem S256 .i32) (harg2 : arg2.IsWhole) (arg3 : Memref sig .tc .smem S256 .i32) (harg3 : arg3.IsWhole) (arg4 : Memref sig .tc .smem S256 .i32) (harg4 : arg4.IsWhole) (arg5 : Memref sig .tc .smem S256x7 .i32) (harg5 : arg5.IsWhole) (arg6 : Memref sig .tc .smem S256x7 .i32) (harg6 : arg6.IsWhole) (arg7 : Memref sig .tc .vmem S4x64x64x256 .f32) (harg7 : arg7.IsWhole) (arg8 : Memref sig .tc .vmem S256x7x24 .f32) (harg8 : arg8.IsWhole) (arg9 : Memref sig .tc .vmem S256x7x24 .f32) (harg9 : arg9.IsWhole) (arg10 : Memref sig .tc .vmem S4x7x7x256 .f32) (harg10 : arg10.IsWhole) (arg11 : Memref sig .tc .vmem S4x7x64x256 .f32) (harg11 : arg11.IsWhole) :
    cc0_roi_pool (F := F) i arg1 harg1 arg2 harg2 arg3 harg3 arg4 harg4 arg5 harg5 arg6 harg6 arg7 harg7 arg8 harg8 arg9 harg9 arg10 harg10 arg11 harg11
      = body i arg1 arg2 arg3 arg4 arg5 arg6 arg7 arg8 arg9 arg10 arg11 := by
  by_cases h : Scalar.cmpi .ne (Scalar.extui (Scalar.cmpi .eq (BitVec.ofNat 32 (i 0).val) 0#32) : BitVec 32) 0#32 = 1#1
  · simp only [cc0_roi_pool, k0_part303, k0_part304, k0_part201, k0_part202, k0_part228, k0_part254, k0_part279,
      body, fill, roi, loadW, steps, dif_pos h, bind_assoc, pure_bind]
    rfl
  · simp only [cc0_roi_pool, k0_part303, k0_part304, k0_part201, k0_part202, k0_part228, k0_part254, k0_part279,
      body, fill, roi, loadW, steps, dif_neg h, bind_assoc, pure_bind]
    rfl

end Cert.KernelIdeal.Roi
end
end
-- ==== Proof.KernelIdeal.Words.lean ====
/- The kernel's words in range: the two loops' trip counts, and where a trip's rows lie. -/
module

public import proofs.«01_k».proof.Proof.KernelIdeal.Body

@[expose] public section

noncomputable section

namespace Cert.KernelIdeal.Roi

open Idealize.ShloMosaic Idealize.SL.Sem Cert.KernelIdeal Cert.KernelIdeal.Facts₀ Cert.KernelIdeal.Facts

/-- The first loop's operands depend on the difference of the two rows only, -/
theorem t1_eq (y0 y1 : BitVec 32) : k0_t1_loop y0 y1 = k0_t1_loop 0#32 (y1 - y0) := by
  have h : Scalar.subi (y1 - y0) 0#32 = Scalar.subi y1 y0 := BitVec.sub_zero _
  unfold k0_t1_loop
  rw [h]

/-- and so do the second's. -/
theorem t2_eq (y0 y1 : BitVec 32) : k0_t2_loop y0 y1 = k0_t2_loop 0#32 (y1 - y0) := by
  have h : Scalar.subi (y1 - y0) 0#32 = Scalar.subi y1 y0 := BitVec.sub_zero _
  unfold k0_t2_loop
  rw [h]

set_option maxRecDepth 100000 in
theorem loops_at : ∀ D : Fin 127,
    (k0_t1_loop 0#32 (BitVec.ofNat 32 D.val - 63#32)).OK ∧ (k0_t2_loop 0#32 (BitVec.ofNat 32 D.val - 63#32)).OK
      ∧ (k0_t1_loop 0#32 (BitVec.ofNat 32 D.val - 63#32)).trips = (D.val - 56) / 8
      ∧ (k0_t2_loop 0#32 (BitVec.ofNat 32 D.val - 63#32)).trips = 0 := by
  decide

/-- For rows in range the first loop makes one trip per block of eight rows begun, and the second none. -/
theorem loops {y0 y1 : BitVec 32} (h0 : y0.toNat ≤ 63) (h1 : y1.toNat ≤ 63) :
    (k0_t1_loop y0 y1).OK ∧ (k0_t2_loop y0 y1).OK ∧ (k0_t1_loop y0 y1).trips = (y1.toNat + 7 - y0.toNat) / 8
      ∧ (k0_t2_loop y0 y1).trips = 0 := by
  have hd : y1 - y0 = BitVec.ofNat 32 (y1.toNat + 63 - y0.toNat) - 63#32 := by
    apply BitVec.eq_of_toNat_eq
    simp only [BitVec.toNat_sub, BitVec.toNat_ofNat]
    omega
  have h := loops_at ⟨y1.toNat + 63 - y0.toNat, by omega⟩
  rw [t1_eq, t2_eq, hd]
  refine ⟨h.1, h.2.1, h.2.2.1.trans ?_, h.2.2.2⟩
  show (y1.toNat + 63 - y0.toNat - 56) / 8 = _
  congr 1; omega

theorem iv_toNat (k : Nat) (hk : k < 8) : (Scf.iv 0#32 1#32 k : BitVec 32).toNat = k := by
  show (0#32 + BitVec.ofNat 32 k * 1#32).toNat = k
  simp only [BitVec.toNat_add, BitVec.toNat_mul, BitVec.toNat_ofNat]
  omega

/-- The first row of trip `k`. -/
theorem base_toNat {y0 : BitVec 32} (h0 : y0.toNat ≤ 63) (k : Nat) (hk : k < 8) :
    (base y0 (Scf.iv 0#32 1#32 k)).toNat = min (y0.toNat + 8 * k) 56 := by
  have hiv := iv_toNat k hk
  have e : (Scalar.addi y0 (Scalar.muli (Scf.iv 0#32 1#32 k) 8#32)).toNat = y0.toNat + 8 * k := by
    show (y0 + Scf.iv 0#32 1#32 k * 8#32).toNat = _
    simp only [BitVec.toNat_add, BitVec.toNat_mul, BitVec.toNat_ofNat, hiv]
    omega
  show (if (Scalar.addi y0 (Scalar.muli (Scf.iv 0#32 1#32 k) 8#32)).slt 56#32 then _ else _ : BitVec 32).toNat = _
  have hs : (Scalar.addi y0 (Scalar.muli (Scf.iv 0#32 1#32 k) 8#32)).slt 56#32 = decide (y0.toNat + 8 * k < 56) := by
    rw [BitVec.slt, BitVec.toInt_eq_toNat_of_lt (by rw [e]; omega), e]
    simp only [decide_eq_decide]
    show ((y0.toNat + 8 * k : ℕ) : ℤ) < 56 ↔ _
    omega
  rw [hs]
  by_cases h : y0.toNat + 8 * k < 56
  · rw [if_pos (by simpa using h), e]; omega
  · rw [if_neg (by simpa using h)]; show 56 = _; omega

/-- A trip's rows. -/
theorem row_toNat {y0 : BitVec 32} (h0 : y0.toNat ≤ 63) (k : Nat) (hk : k < 8) (r : Fin 8) :
    (Scalar.addi (base y0 (Scf.iv 0#32 1#32 k)) (BitVec.ofNat 32 r.val)).toNat = min (y0.toNat + 8 * k) 56 + r.val := by
  have hb := base_toNat h0 k hk
  have hr := r.isLt
  show (base y0 (Scf.iv 0#32 1#32 k) + BitVec.ofNat 32 r.val).toNat = _
  simp only [BitVec.toNat_add, BitVec.toNat_ofNat, hb]
  omega

theorem times8_toNat {w : BitVec 32} (hw : w.toNat ≤ 5) : (Scalar.muli w 8#32).toNat = 8 * w.toNat := by
  show (w * 8#32).toNat = _
  simp only [BitVec.toNat_mul, BitVec.toNat_ofNat]
  omega

variable {y0 y1 b w h : BitVec 32}

/-- What the kernel requires of a roi's rows. -/
theorem chk1 (h0 : y0.toNat ≤ 63) (h1 : y1.toNat ≤ 63) : k0_chk1 y0 y1 := by
  obtain ⟨hok, hok', ht, ht'⟩ := loops h0 h1
  have row : ∀ (j : Fin 7) (k : Fin (k0_t1_loop y0 y1).trips) (r : Fin 8),
      ∀ a, rowOff j (Scalar.addi (base y0 (Scf.iv 0#32 1#32 k)) (BitVec.ofNat 32 r.val)) a + S1x1x256.size a ≤ S7x64x256.size a := by
    intro j k r a
    have hr := r.isLt
    have hj := j.isLt
    have hk : k.val < 8 := by have := k.isLt; omega
    have e := row_toNat h0 k hk r
    match a with
    | 0 => show j.val + 1 ≤ 7; omega
    | 1 => show (Scalar.addi (base y0 (Scf.iv 0#32 1#32 k)) (BitVec.ofNat 32 r.val)).toNat + 1 ≤ 64; omega
    | 2 => show 0 + 256 ≤ 256; omega
  have none : ∀ (k : Fin (k0_t2_loop y0 y1).trips), False := fun k => by have := k.isLt; omega
  exact ⟨hok, row 0, row 1, row 2, row 3, row 4, row 5, row 6, hok', fun k => (none k).elim, fun k => (none k).elim,
    fun k => (none k).elim, fun k => (none k).elim, fun k => (none k).elim, fun k => (none k).elim, fun k => (none k).elim⟩

/-- What the kernel requires of a column window. -/
theorem chk2 (hb : b.toNat < 4) (h0 : y0.toNat ≤ 63) (h1 : y1.toNat ≤ 63) (hw : w.toNat ≤ 5) : k0_chk2 b y0 y1 w := by
  obtain ⟨-, -, ht, ht'⟩ := loops h0 h1
  refine ⟨fun k r => ?_, fun k => by have := k.isLt; omega⟩
  show ∀ a, featOff b (Scalar.addi (base y0 (Scf.iv 0#32 1#32 k)) (BitVec.ofNat 32 r.val)) w a + S1x1x24x256.size a ≤ S4x64x64x256.size a
  intro a
  have hr := r.isLt
  have hk : k.val < 8 := by have := k.isLt; omega
  have e := row_toNat h0 k hk r
  have e' := times8_toNat hw
  match a with
  | 0 => show b.toNat + 1 ≤ 4; omega
  | 1 => show (Scalar.addi (base y0 (Scf.iv 0#32 1#32 k)) (BitVec.ofNat 32 r.val)).toNat + 1 ≤ 64; omega
  | 2 => show (Scalar.muli w 8#32).toNat + 24 ≤ 64; omega
  | 3 => show 0 + 256 ≤ 256; omega

/-- What the kernel requires of a row window. -/
theorem chk9 (hh : h.toNat ≤ 5) : k0_chk9 h := by
  have e' := times8_toNat hh
  have col : ∀ (j : Fin 7), ∀ a, colOff j h a + S1x24x256.size a ≤ S7x64x256.size a := by
    intro j a
    have hj := j.isLt
    match a with
    | 0 => show j.val + 1 ≤ 7; omega
    | 1 => show (Scalar.muli h 8#32).toNat + 24 ≤ 64; omega
    | 2 => show 0 + 256 ≤ 256; omega
  exact ⟨col 0, col 1, col 2, col 3, col 4, col 5, col 6⟩

end Cert.KernelIdeal.Roi
end
end
-- ==== Proof.KernelIdeal.Rules.lean ====
/- What the body's loads and stores do to memrefs owned at their values: a load reads the owned values at its
   rectangle's elements; a store whose payload agrees with a target `G` on the elements it writes turns
   `mix S G X` — the target on `S`, `X` elsewhere — into the same mixture on a larger set. -/
module

public import proofs.«01_k».proof.Proof.KernelIdeal.Words
public import proofs.«01_k».proof.Proof.Gen.KernelIdeal.Launch
public import Idealize.ShloMosaic.Lib.ValueIdx
public import Idealize.ShloMosaic.Lib.ValueLayout

@[expose] public section

noncomputable section

namespace Cert.KernelIdeal.Roi

open Idealize.ShloMosaic Idealize.ShloMosaic.ValueIdx Cert.KernelIdeal Cert.KernelIdeal.Facts₀ Cert.KernelIdeal.Facts
open Idealize.SL
open Idealize.SL.RA Idealize.SL.Sem Idealize.SL.ProofMode
open Idealize.SL.BI (sProp bigSep)
open scoped Idealize.SL.BI
open Idealize.SL.BI.BIBase Idealize.SL.BI.Laws

variable {F : FTy → Type} [FloatOps F] [Facts]

/-- The target `G` on `S`, `f` elsewhere. -/
def mix {ι α : Type} (S : Set ι) (G f : ι → α) : ι → α := fun i => by
  classical exact if i ∈ S then G i else f i

theorem mix_pos {ι α : Type} {S : Set ι} {G f : ι → α} {i : ι} (h : i ∈ S) : mix S G f i = G i := if_pos h
theorem mix_neg {ι α : Type} {S : Set ι} {G f : ι → α} {i : ι} (h : i ∉ S) : mix S G f i = f i := if_neg h
theorem mix_empty {ι α : Type} (G f : ι → α) : mix ∅ G f = f := funext fun _ => mix_neg (Set.notMem_empty _)
theorem mix_univ {ι α : Type} (G f : ι → α) : mix Set.univ G f = G := funext fun _ => mix_pos (Set.mem_univ _)

/-- Contents that are the target on `T` and `mix S G f` elsewhere are the mixture on the union. -/
theorem eq_mix_union {ι α : Type} {S T : Set ι} {G f X : ι → α} (hT : ∀ i ∈ T, X i = G i) (hn : ∀ i ∉ T, X i = mix S G f i) :
    X = mix (S ∪ T) G f := by
  funext i
  by_cases h : i ∈ T
  · rw [hT i h, mix_pos (Set.mem_union_right S h)]
  · rw [hn i h]
    by_cases h' : i ∈ S
    · rw [mix_pos h', mix_pos (Set.mem_union_left T h')]
    · rw [mix_neg h', mix_neg (S := S ∪ T) (fun o => o.elim h' h)]

/-- The scratch's index of an element of step `rr`'s part of it. -/
def slabIdx (rr : Fin 4) (y : S7x64x256.Idx) : S4x7x64x256.Idx := ix4 rr (y 0) (y 1) (y 2)

theorem slabIdx_inj (rr : Fin 4) {x y : S7x64x256.Idx} (h : slabIdx rr x = slabIdx rr y) : x = y := by
  rw [eq_ix3 x, eq_ix3 y]
  have h0 : x 0 = y 0 := congrFun h 1
  have h1 : x 1 = y 1 := congrFun h 2
  have h2 : x 2 = y 2 := congrFun h 3
  rw [h0, h1, h2]

theorem slab_emb (rr : Fin 4) (m : Memref sig .tc .vmem S4x7x64x256 .f32) (y : S7x64x256.Idx) :
    (slab rr m).view.emb y = m.view.emb (slabIdx rr y) := by
  show m.view.emb ((Rect.unit (s := S4x7x64x256) ![rr.val, 0, 0, 0] S1x7x64x256.size (inb_slab rr)).emb
    (Shape.reshapeEquiv (s := S1x7x64x256) (s' := S7x64x256) squeezes_S1x7x64x256_S7x64x256.numel_eq y)) = _
  have hy : Shape.reshapeEquiv (s := S1x7x64x256) (s' := S7x64x256) squeezes_S1x7x64x256_S7x64x256.numel_eq y
      = ix4 (⟨0, Nat.one_pos⟩ : Fin 1) (y 0 : Fin 7) (y 1 : Fin 64) (y 2 : Fin 256) :=
    (congrArg _ (eq_ix3 y)).trans (reshapeEquiv_ix3_1abc (a := 7) (b := 64) (c := 256) squeezes_S1x7x64x256_S7x64x256.numel_eq (y 0) (y 1) (y 2))
  rw [hy]
  congr 1
  funext a
  apply Fin.ext
  match a with
  | 0 => rfl
  | 1 => show 0 + 1 * (y 0).val = (y 0).val; omega
  | 2 => show 0 + 1 * (y 1).val = (y 1).val; omega
  | 3 => show 0 + 1 * (y 2).val = (y 2).val; omega

theorem slab_access_set (rr : Fin 4) (m : Memref sig .tc .vmem S4x7x64x256 .f32) (r : Rect S7x64x256) :
    ((slab rr m).access r).set ⊆ m.view.set := by
  intro i hi
  obtain ⟨x, -, rfl⟩ := Finset.mem_map.mp hi
  show (slab rr m).view.emb (r.emb x) ∈ _
  rw [slab_emb]
  exact m.view.emb_mem_set _

section
variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (d : Dev nD) (bd : Option 𝒱.V) (E : Set Name)

/-- A load through a rectangle of an owned memref. -/
theorem wp_load_owned {cs : CoreSpace} {s : Shape} {e : EltTy} {m : Memref sig .tc cs s e} {r : Rect s} {hl : m.view.LoadsAt r}
    {α : Type} {k : (r.shape.Idx → Elt F e) → Prog (TpuEff nD τ sig (Elt F) Λ₀ .tc) α} {q : PosShare TreeShare} {X : s.Idx → Elt F e}
    {Q : α → sProp 𝕄} :
    (owns (d.tc : Thread nD τ) m q X : sProp 𝕄)
      ⊢ iprop((owns (d.tc : Thread nD τ) m q X -∗ wp frame (wpE defs 𝒱 (d.tc : Thread nD τ) bd) E (k fun x => X (r.emb x)) Q)
        -∗ wp frame (wpE defs 𝒱 (d.tc : Thread nD τ) bd) E (Prog.lift (.load m r.toLoadRect hl) >>= k) Q) := by
  show _ ⊢ iprop(_ -∗ wp frame (wpE defs 𝒱 (d.tc : Thread nD τ) bd) E (.op (.load m r.toLoadRect hl) k) Q)
  unfold owns
  iintro ⟨%f, %hf, H⟩ HK
  subst hf
  iapply (wp_load_rect 𝒱 (d.tc : Thread nD τ) bd E (m := m) (r := r) (hl := hl) (k := k) (S := m.view.set) (q := q) (f := f)
    (View.set_slice_subset m.view r)) $$ H
  iintro H
  iapply HK
  iexists f
  isplitr; · ipureintro; rfl
  iexact H

/-- A word read from an owned table. -/
theorem wp_smem_owned {s : Shape} {e : EltTy} {m : Memref sig .tc .smem s e} {r : Rect s} {h1 : r.shape.numel = 1} {hp : e.packing = 1}
    {α : Type} {k : Elt F e → Prog (TpuEff nD τ sig (Elt F) Λ₀ .tc) α} {q : PosShare TreeShare} {X : s.Idx → Elt F e}
    {Q : α → sProp 𝕄} (i : s.Idx) (hi : ∀ x : r.shape.Idx, r.emb x = i) :
    (owns (d.tc : Thread nD τ) m q X : sProp 𝕄)
      ⊢ iprop((owns (d.tc : Thread nD τ) m q X -∗ wp frame (wpE defs 𝒱 (d.tc : Thread nD τ) bd) E (k (X i)) Q)
        -∗ wp frame (wpE defs 𝒱 (d.tc : Thread nD τ) bd) E (smemLoad (p := .tc) m r h1 hp >>= k) Q) := by
  unfold owns
  iintro ⟨%f, %hf, H⟩ HK
  subst hf
  have h := wp_smemLoadElt (defs := defs) 𝒱 (d.tc : Thread nD τ) bd (Γ := .empty) E (Q := Q) (m := m) (r := r) (hw := View.loads_smem_one hp h1)
    (x := Shape.Idx.first (h1.symm ▸ Nat.one_pos)) (k := k) (S := m.view.set) (q := q) (f := f) (View.set_slice_subset m.view r)
  have hx : (m.access r).read (Elt F) f (Shape.Idx.first (h1.symm ▸ Nat.one_pos)) = m.view.read (Elt F) f i := by
    rw [← hi (Shape.Idx.first (h1.symm ▸ Nat.one_pos))]; rfl
  rw [hx] at h
  iapply h $$ H
  iintro H
  iapply HK
  iexists f
  isplitr; · ipureintro; rfl
  iexact H

/-- A load from step `rr`'s part of the owned scratch. -/
theorem wp_load_slab (rr : Fin 4) {m : Memref sig .tc .vmem S4x7x64x256 .f32} {r : Rect S7x64x256} {hl : (slab rr m).view.LoadsAt r}
    {α : Type} {k : (r.shape.Idx → Elt F .f32) → Prog (TpuEff nD τ sig (Elt F) Λ₀ .tc) α} {q : PosShare TreeShare}
    {X : S4x7x64x256.Idx → Elt F .f32} {Q : α → sProp 𝕄} :
    (owns (d.tc : Thread nD τ) m q X : sProp 𝕄)
      ⊢ iprop((owns (d.tc : Thread nD τ) m q X -∗ wp frame (wpE defs 𝒱 (d.tc : Thread nD τ) bd) E (k fun x => X (slabIdx rr (r.emb x))) Q)
        -∗ wp frame (wpE defs 𝒱 (d.tc : Thread nD τ) bd) E (Prog.lift (.load (slab rr m) r.toLoadRect hl) >>= k) Q) := by
  show _ ⊢ iprop(_ -∗ wp frame (wpE defs 𝒱 (d.tc : Thread nD τ) bd) E (.op (.load (slab rr m) r.toLoadRect hl) k) Q)
  unfold owns
  iintro ⟨%f, %hf, H⟩ HK
  subst hf
  have h := wp_load_rect (defs := defs) 𝒱 (d.tc : Thread nD τ) bd (Γ := .empty) E (Q := Q) (m := slab rr m) (r := r) (hl := hl) (k := k)
    (S := m.view.set) (q := q) (f := f) (slab_access_set rr m r)
  have hx : ((slab rr m).access r).read (Elt F) f = fun x => m.view.read (Elt F) f (slabIdx rr (r.emb x)) := by
    funext x
    show cast _ (f ((slab rr m).view.emb (r.emb x))) = cast _ (f (m.view.emb (slabIdx rr (r.emb x))))
    rw [slab_emb]
  rw [hx] at h
  have h' : (m.view.loc (d.tc : Thread nD τ) ↦[m.view.set]{q} f : sProp 𝕄)
      ⊢ iprop(((m.view.loc (d.tc : Thread nD τ) ↦[m.view.set]{q} f)
          -∗ wp frame (wpE defs 𝒱 (d.tc : Thread nD τ) bd) E (k fun x => m.view.read (Elt F) f (slabIdx rr (r.emb x))) Q)
        -∗ wp frame (wpE defs 𝒱 (d.tc : Thread nD τ) bd) E (.op (.load (slab rr m) r.toLoadRect hl) k) Q) := h
  iapply h' $$ H
  iintro H
  iapply HK
  iexists f
  isplitr; · ipureintro; rfl
  iexact H

/-- A store into an owned memref whose payload is the target's. -/
theorem wp_store_owned {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {α : Type} {k : PUnit → Prog (TpuEff nD τ sig (Elt F) Λ₀ .tc) α} {S : Set s.Idx} {G X : s.Idx → Elt F e} {Q : α → sProp 𝕄}
    (S' : Set s.Idx) (hS : S' = S ∪ Set.range r.emb) (hG : ∀ x, w x = G (r.emb x)) :
    (owns (d.tc : Thread nD τ) m fullShare (mix S G X) : sProp 𝕄)
      ⊢ iprop((owns (d.tc : Thread nD τ) m fullShare (mix S' G X) -∗ wp frame (wpE defs 𝒱 (d.tc : Thread nD τ) bd) E (k ⟨⟩) Q)
        -∗ wp frame (wpE defs 𝒱 (d.tc : Thread nD τ) bd) E (Prog.lift (.store m r w Finset.univ hx hm) >>= k) Q) := by
  show _ ⊢ iprop(_ -∗ wp frame (wpE defs 𝒱 (d.tc : Thread nD τ) bd) E (.op (.store m r w Finset.univ hx hm) k) Q)
  subst hS
  unfold owns
  iintro ⟨%f, %hf, H⟩ HK
  iapply (wp_store 𝒱 (d.tc : Thread nD τ) bd E (m := m) (r := r) (w := w) (Mk := Finset.univ) (hx := hx) (hm := hm) (k := k) (S := m.view.set) (f := f)
    (View.set_slice_subset m.view r)) $$ H
  iintro H
  iapply HK
  iexists ((m.access r).write (Elt F) f w Finset.univ)
  isplitr
  · ipureintro
    refine eq_mix_union (fun i hi => ?_) (fun i hi => ?_)
    · obtain ⟨x, rfl⟩ := hi
      exact (congrFun (View.read_write_univ (v := m.access r) f w) x).trans (hG x)
    · rw [← hf]
      show cast _ ((m.access r).write (Elt F) f w Finset.univ (m.view.emb i)) = cast _ (f (m.view.emb i))
      rw [View.write_of_not_mem]
      intro hmem
      obtain ⟨x, -, hx⟩ := Finset.mem_map.mp hmem
      exact hi ⟨x, m.view.emb.injective hx⟩
  · iexact H

/-- A store into step `rr`'s part of the owned scratch. -/
theorem wp_store_slab (rr : Fin 4) {m : Memref sig .tc .vmem S4x7x64x256 .f32} {r : Rect S7x64x256} {w : r.shape.Idx → Elt F .f32}
    {hx : ((slab rr m).access r).Stores Finset.univ} {hm : Finset.univ = Finset.univ ∨ ∀ a, r.stride a = 1}
    {α : Type} {k : PUnit → Prog (TpuEff nD τ sig (Elt F) Λ₀ .tc) α} {S : Set S4x7x64x256.Idx} {G X : S4x7x64x256.Idx → Elt F .f32}
    {Q : α → sProp 𝕄} (S' : Set S4x7x64x256.Idx) (hS : S' = S ∪ Set.range fun x => slabIdx rr (r.emb x))
    (hG : ∀ x, w x = G (slabIdx rr (r.emb x))) :
    (owns (d.tc : Thread nD τ) m fullShare (mix S G X) : sProp 𝕄)
      ⊢ iprop((owns (d.tc : Thread nD τ) m fullShare (mix S' G X) -∗ wp frame (wpE defs 𝒱 (d.tc : Thread nD τ) bd) E (k ⟨⟩) Q)
        -∗ wp frame (wpE defs 𝒱 (d.tc : Thread nD τ) bd) E (Prog.lift (.store (slab rr m) r w Finset.univ hx hm) >>= k) Q) := by
  show _ ⊢ iprop(_ -∗ wp frame (wpE defs 𝒱 (d.tc : Thread nD τ) bd) E (.op (.store (slab rr m) r w Finset.univ hx hm) k) Q)
  subst hS
  unfold owns
  iintro ⟨%f, %hf, H⟩ HK
  have h' : (m.view.loc (d.tc : Thread nD τ) ↦[m.view.set]{fullShare} f : sProp 𝕄)
      ⊢ iprop(((m.view.loc (d.tc : Thread nD τ) ↦[m.view.set]{fullShare} (((slab rr m).access r).write (Elt F) f w Finset.univ))
          -∗ wp frame (wpE defs 𝒱 (d.tc : Thread nD τ) bd) E (k ⟨⟩) Q)
        -∗ wp frame (wpE defs 𝒱 (d.tc : Thread nD τ) bd) E (.op (.store (slab rr m) r w Finset.univ hx hm) k) Q) :=
    wp_store 𝒱 (d.tc : Thread nD τ) bd E (m := slab rr m) (r := r) (w := w) (Mk := Finset.univ) (hx := hx) (hm := hm) (k := k) (S := m.view.set) (f := f)
      (slab_access_set rr m r)
  iapply h' $$ H
  iintro H
  iapply HK
  iexists (((slab rr m).access r).write (Elt F) f w Finset.univ)
  isplitr
  · ipureintro
    refine eq_mix_union (fun i hi => ?_) (fun i hi => ?_)
    · obtain ⟨x, rfl⟩ := hi
      have hw := (congrFun (View.read_write_univ (v := (slab rr m).access r) f w) x).trans (hG x)
      rw [← hw]
      show cast _ (((slab rr m).access r).write (Elt F) f w Finset.univ (m.view.emb (slabIdx rr (r.emb x))))
        = cast _ (((slab rr m).access r).write (Elt F) f w Finset.univ ((slab rr m).view.emb (r.emb x)))
      rw [slab_emb]
    · rw [← hf]
      show cast _ (((slab rr m).access r).write (Elt F) f w Finset.univ (m.view.emb i)) = cast _ (f (m.view.emb i))
      have hnot : m.view.emb i ∉ ((slab rr m).access r).setOn Finset.univ := by
        intro hmem
        obtain ⟨x, -, hx⟩ := Finset.mem_map.mp hmem
        have hx' : (slab rr m).view.emb (r.emb x) = m.view.emb i := hx
        rw [slab_emb] at hx'
        exact hi ⟨x, m.view.emb.injective hx'⟩
      exact congrArg _ (View.write_of_not_mem (v := (slab rr m).access r) f w Finset.univ hnot)
  · iexact H

/-- `n` steps, by an invariant. -/
theorem wp_steps {n : Nat} (p : Fin n → Prog (TpuEff nD τ sig (Elt F) Λ₀ .tc) PUnit) (I : Nat → sProp 𝕄)
    (h : ∀ k : Fin n, I k ⊢ wp frame (wpE defs 𝒱 (d.tc : Thread nD τ) bd) E (p k) fun _ => I (k + 1)) :
    I 0 ⊢ wp frame (wpE defs 𝒱 (d.tc : Thread nD τ) bd) E (steps n p) fun _ => I n := by
  induction n generalizing I with
  | zero =>
    show I 0 ⊢ wp _ _ _ (pure _) _
    rw [wp_pure]
    exact Idealize.SL.BI.fupd_intro
  | succ n ih =>
    show I 0 ⊢ wp _ _ _ (p 0 >>= fun _ => steps n fun k => p k.succ) _
    rw [wp_bind]
    refine (h 0).trans (wp_mono _ _ _ fun _ => ?_)
    exact ih (fun k => p k.succ) (fun k => I (k + 1)) (fun k => h k.succ)

end

end Cert.KernelIdeal.Roi
end
end
-- ==== Proof.KernelIdeal.Target.lean ====
/- What a grid point computes, stated at an index: the reduced rows of the scratch, and the block of the result. -/
module

public import proofs.«01_k».proof.Proof.KernelIdeal.Rules

@[expose] public section

noncomputable section

namespace Cert.KernelIdeal.Roi

open Idealize.ShloMosaic Idealize.ShloMosaic.ValueIdx Cert.KernelIdeal Cert.KernelIdeal.Facts₀ Cert.KernelIdeal.Facts

variable {F : FTy → Type} [FloatOps F] [Facts]

/-- What the kernel reads: six tables, the features, and the two masks. -/
structure Ins (F : FTy → Type) where
  b : Vec F S256 .i32
  valid : Vec F S256 .i32
  y0 : Vec F S256 .i32
  y1 : Vec F S256 .i32
  wk : Vec F S256x7 .i32
  hk : Vec F S256x7 .i32
  feat : Vec F S4x64x64x256 .f32
  cm : Vec F S256x7x24 .f32
  rm : Vec F S256x7x24 .f32

/-- The tables' ranges. -/
structure Ins.Ok (I : Ins F) : Prop where
  b : ∀ r, (I.b r : BitVec 32).toNat < 4
  y0 : ∀ r, (I.y0 r : BitVec 32).toNat ≤ 63
  y1 : ∀ r, (I.y1 r : BitVec 32).toNat ≤ 63
  wk : ∀ r, (I.wk r : BitVec 32).toNat ≤ 5
  hk : ∀ r, (I.hk r : BitVec 32).toNat ≤ 5

/-- The roi of step `rr` of a grid point. -/
def roiOf (i : grid0.Coords) (rr : Fin 4) : Fin 256 :=
  ⟨4 * (i 0).val + rr.val, by have h : (i 0).val < 64 := (i 0).isLt; have := rr.isLt; omega⟩

/-- A roi's masks. -/
def maskAt (m : Vec F S256x7x24 .f32) (i : grid0.Coords) (rr : Fin 4) : FVec F S7x24 .f32 :=
  shapeCast S7x24 (fun x => m ((Rect.unit (s := S256x7x24) (maskOff i rr) S1x7x24.size (maskOff_inb i rr)).emb x)) shapeCasts_S1x7x24_S7x24

/-- The window of twenty-four features a bin's columns are taken from, at one row. -/
def featWin (I : Ins F) (r : Fin 256) (j : Fin 7) (y : Fin 64) : Vec F S1x1x24x256 .f32 := fun z =>
  I.feat (ix4 (Fin.ofNat 4 (I.b (ix1 r) : BitVec 32).toNat) y
    (Fin.ofNat 64 (8 * (I.wk (ix2 r j) : BitVec 32).toNat + (z 2 : Fin 24).val)) (z 3 : Fin 256))

/-- A reduced row of the scratch. -/
def rowTarget (I : Ins F) (i : grid0.Coords) : S4x7x64x256.Idx → Elt F .f32 := fun x =>
  rowVal (maskAt I.cm i (x 0)) (x 1) (featWin I (roiOf i (x 0)) (x 1) (x 2)) (ix3 (0 : Fin 1) (0 : Fin 1) (x 3 : Fin 256))

/-- Row `y` lies in one of the first `n` blocks of eight from row `a` on, the last block moved up to end at row 64. -/
def InTrips (a n y : Nat) : Prop := ∃ k < n, min (a + 8 * k) 56 ≤ y ∧ y < min (a + 8 * k) 56 + 8

/-- The number of blocks of eight from `a` up to `b`. -/
def tripsOf (a b : Nat) : Nat := (b + 7 - a) / 8

/-- The rows of the scratch a grid point writes. -/
def rowSet (I : Ins F) (i : grid0.Coords) : Set S4x7x64x256.Idx := {x |
  InTrips (I.y0 (ix1 (roiOf i (x 0))) : BitVec 32).toNat
    (tripsOf (I.y0 (ix1 (roiOf i (x 0))) : BitVec 32).toNat (I.y1 (ix1 (roiOf i (x 0))) : BitVec 32).toNat) (x 2).val}

/-- The scratch after a grid point that found it at `f`. -/
def scrAfter (I : Ins F) (i : grid0.Coords) (f : S4x7x64x256.Idx → Elt F .f32) : S4x7x64x256.Idx → Elt F .f32 :=
  mix (rowSet I i) (rowTarget I i) f

/-- The window of twenty-four reduced rows a bin is taken from. -/
def scrWin (I : Ins F) (r : Fin 256) (rr : Fin 4) (ii j : Fin 7) (f : S4x7x64x256.Idx → Elt F .f32) : Vec F S1x24x256 .f32 := fun z =>
  f (ix4 rr j (Fin.ofNat 64 (8 * (I.hk (ix2 r ii) : BitVec 32).toNat + (z 1 : Fin 24).val)) (z 2 : Fin 256))

/-- The block of the result a grid point computes from the scratch it found at `f`. -/
def outAfter (I : Ins F) (i : grid0.Coords) (f : S4x7x64x256.Idx → Elt F .f32) : S4x7x7x256.Idx → Elt F .f32 := fun x =>
  outVal (maskAt I.rm i (x 0)) (I.valid (ix1 (roiOf i (x 0)))) (x 1)
    (scrWin I (roiOf i (x 0)) (x 0) (x 1) (x 2) (scrAfter I i f)) (ix4 (0 : Fin 1) (0 : Fin 1) (0 : Fin 1) (x 3 : Fin 256))

end Cert.KernelIdeal.Roi
end
end
-- ==== Proof.KernelIdeal.Steps.lean ====
/- The triples of a trip's rows and of a row of bins. -/
module

public import proofs.«01_k».proof.Proof.KernelIdeal.Target

@[expose] public section

noncomputable section

namespace Cert.KernelIdeal.Roi

open Idealize.ShloMosaic Idealize.ShloMosaic.ValueIdx Cert.KernelIdeal Cert.KernelIdeal.Facts₀ Cert.KernelIdeal.Facts
open Idealize.SL
open Idealize.SL.RA Idealize.SL.Sem Idealize.SL.ProofMode
open Idealize.SL.BI (sProp bigSep)
open scoped Idealize.SL.BI
open Idealize.SL.BI.BIBase Idealize.SL.BI.Laws

variable {F : FTy → Type} [FloatOps F] [Facts]
variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (d : Dev nD) (bd : Option 𝒱.V) (E : Set Name)

section
variable (arg7 : Memref sig .tc .vmem S4x64x64x256 .f32) (arg10 : Memref sig .tc .vmem S4x7x7x256 .f32)
  (arg11 : Memref sig .tc .vmem S4x7x64x256 .f32)

theorem idx3_row {ro : Fin 3 → Nat} (hr : ∀ a, ro a + S1x1x256.size a ≤ S7x64x256.size a) {rr : Fin 4} {j : Fin 7}
    (h0 : ro 0 = j.val) (h2 : ro 2 = 0) :
    (Set.range fun x => slabIdx rr ((Rect.unit (s := S7x64x256) ro S1x1x256.size hr).emb x))
      = {x : S4x7x64x256.Idx | x 0 = rr ∧ x 1 = j ∧ (x 2).val = ro 1} := by
  ext x
  constructor
  · rintro ⟨z, rfl⟩
    have z0 : (z 0).val < 1 := (z 0).isLt
    have z1 : (z 1).val < 1 := (z 1).isLt
    refine ⟨rfl, Fin.ext ?_, ?_⟩
    · show ro 0 + 1 * (z 0).val = j.val; omega
    · show ro 1 + 1 * (z 1).val = ro 1; omega
  · rintro ⟨hx0, hx1, hx2⟩
    refine ⟨ix3 (0 : Fin 1) (0 : Fin 1) (x 3 : Fin 256), ?_⟩
    funext a
    apply Fin.ext
    match a with
    | 0 => exact (congrArg Fin.val hx0).symm
    | 1 => show ro 0 + 1 * 0 = (x 1).val; rw [hx1, h0]; rfl
    | 2 => show ro 1 + 1 * 0 = (x 2).val; omega
    | 3 => show ro 2 + 1 * (x 3).val = (x 3).val; omega

/-- A row step. -/
theorem wp_rowOp (rr : Fin 4) (cm : FVec F S7x24 .f32) (j : Fin 7) (fo : Fin 4 → Nat) (ro : Fin 3 → Nat)
    (hf : ∀ a, fo a + S1x1x24x256.size a ≤ S4x64x64x256.size a) (hr : ∀ a, ro a + S1x1x256.size a ≤ S7x64x256.size a)
    (h0 : ro 0 = j.val) (h2 : ro 2 = 0) {q : PosShare TreeShare} {X : S4x64x64x256.Idx → Elt F .f32}
    {S : Set S4x7x64x256.Idx} {G f : S4x7x64x256.Idx → Elt F .f32} (S' : Set S4x7x64x256.Idx)
    (hS : S' = S ∪ {x | x 0 = rr ∧ x 1 = j ∧ (x 2).val = ro 1})
    (hG : ∀ x : S4x7x64x256.Idx, x 0 = rr → x 1 = j → (x 2).val = ro 1 →
      rowVal cm j (fun z => X ((Rect.unit (s := S4x64x64x256) fo S1x1x24x256.size hf).emb z)) (ix3 (0 : Fin 1) (0 : Fin 1) (x 3 : Fin 256)) = G x) :
    iprop(owns (d.tc : Thread nD τ) arg7 q X ∗ owns (d.tc : Thread nD τ) arg11 fullShare (mix S G f) : sProp 𝕄)
      ⊢ wp frame (wpE defs 𝒱 (d.tc : Thread nD τ) bd) E (rowOp arg7 arg11 rr cm j fo ro hf hr) fun _ =>
        iprop(owns (d.tc : Thread nD τ) arg7 q X ∗ owns (d.tc : Thread nD τ) arg11 fullShare (mix S' G f)) := by
  unfold rowOp
  iintro ⟨H7, H11⟩
  iapply (wp_load_owned 𝒱 d bd E) $$ H7
  iintro H7
  iapply (wp_load_slab 𝒱 d bd E rr) $$ H11
  iintro H11
  have hG' : ∀ x, rowVal cm j (fun z => X ((Rect.unit (s := S4x64x64x256) fo S1x1x24x256.size hf).emb z)) x
      = G (slabIdx rr ((Rect.unit (s := S7x64x256) ro S1x1x256.size hr).emb x)) := by
    intro x
    have z0 : (x 0).val < 1 := (x 0).isLt
    have z1 : (x 1).val < 1 := (x 1).isLt
    have hx : x = ix3 (0 : Fin 1) (0 : Fin 1) (x 2 : Fin 256) := by
      funext a
      apply Fin.ext
      match a with
      | 0 => show (x 0).val = 0; omega
      | 1 => show (x 1).val = 0; omega
      | 2 => rfl
    have hm : slabIdx rr ((Rect.unit (s := S7x64x256) ro S1x1x256.size hr).emb x) ∈ {x : S4x7x64x256.Idx | x 0 = rr ∧ x 1 = j ∧ (x 2).val = ro 1} := by
      rw [← idx3_row hr h0 h2]; exact ⟨x, rfl⟩
    rw [← hG _ hm.1 hm.2.1 hm.2.2]
    conv_lhs => rw [hx]
    congr 2
    apply Fin.ext
    show (x 2).val = ro 2 + 1 * (x 2).val
    omega
  rw [← bind_pure (Prog.lift _)]
  iapply (wp_store_slab 𝒱 d bd E rr S' (by rw [idx3_row hr h0 h2]; exact hS) hG') $$ H11
  iintro H11
  rw [wp_pure]
  imodintro
  isplitl [H7]; · iexact H7
  iexact H11

/-- A trip: the eight rows from row `B` on, of every column. -/
theorem wp_trip (rr : Fin 4) (cm : FVec F S7x24 .f32) (b y0 iv : BitVec 32) (w : Fin 7 → BitVec 32)
    (hf : ∀ j : Fin 7, ∀ r : Fin 8, ∀ a, featOff b (Scalar.addi (base y0 iv) (BitVec.ofNat 32 r.val)) (w j) a + S1x1x24x256.size a ≤ S4x64x64x256.size a)
    (hr : ∀ j : Fin 7, ∀ r : Fin 8, ∀ a, rowOff j (Scalar.addi (base y0 iv) (BitVec.ofNat 32 r.val)) a + S1x1x256.size a ≤ S7x64x256.size a)
    (B : Nat) (hB : ∀ r : Fin 8, (Scalar.addi (base y0 iv) (BitVec.ofNat 32 r.val)).toNat = B + r.val)
    {q : PosShare TreeShare} {X : S4x64x64x256.Idx → Elt F .f32}
    {S : Set S4x7x64x256.Idx} {G f : S4x7x64x256.Idx → Elt F .f32} (S' : Set S4x7x64x256.Idx)
    (hS : S' = S ∪ {x | x 0 = rr ∧ B ≤ (x 2).val ∧ (x 2).val < B + 8})
    (hG : ∀ (x : S4x7x64x256.Idx) (r : Fin 8), x 0 = rr → (x 2).val = B + r.val →
      rowVal cm (x 1) (fun z => X ((Rect.unit (s := S4x64x64x256) (featOff b (Scalar.addi (base y0 iv) (BitVec.ofNat 32 r.val)) (w (x 1))) S1x1x24x256.size (hf (x 1) r)).emb z))
        (ix3 (0 : Fin 1) (0 : Fin 1) (x 3 : Fin 256)) = G x) :
    iprop(owns (d.tc : Thread nD τ) arg7 q X ∗ owns (d.tc : Thread nD τ) arg11 fullShare (mix S G f) : sProp 𝕄)
      ⊢ wp frame (wpE defs 𝒱 (d.tc : Thread nD τ) bd) E (trip arg7 arg11 rr cm b y0 iv w hf hr) fun _ =>
        iprop(owns (d.tc : Thread nD τ) arg7 q X ∗ owns (d.tc : Thread nD τ) arg11 fullShare (mix S' G f)) := by
  have hout := wp_steps (defs := defs) 𝒱 d bd E (fun j : Fin 7 => steps 8 fun r =>
      rowOp arg7 arg11 rr cm j (featOff b (Scalar.addi (base y0 iv) (BitVec.ofNat 32 r.val)) (w j))
        (rowOff j (Scalar.addi (base y0 iv) (BitVec.ofNat 32 r.val))) (hf j r) (hr j r))
    (fun n => (iprop(owns (d.tc : Thread nD τ) arg7 q X ∗ owns (d.tc : Thread nD τ) arg11 fullShare
      (mix (S ∪ {x | x 0 = rr ∧ (x 1).val < n ∧ B ≤ (x 2).val ∧ (x 2).val < B + 8}) G f)) : sProp 𝕄)) ?_
  · have e0 : S ∪ {x : S4x7x64x256.Idx | x 0 = rr ∧ (x 1).val < 0 ∧ B ≤ (x 2).val ∧ (x 2).val < B + 8} = S := by
      ext x; simp
    have e7 : S ∪ {x : S4x7x64x256.Idx | x 0 = rr ∧ (x 1).val < 7 ∧ B ≤ (x 2).val ∧ (x 2).val < B + 8} = S' := by
      rw [hS]; ext x
      have hx : (x 1).val < 7 := (x 1).isLt
      simp [hx]
    beta_reduce at hout
    rw [e0, e7] at hout
    exact hout
  · intro j
    have hin := wp_steps (defs := defs) 𝒱 d bd E (fun r : Fin 8 =>
        rowOp arg7 arg11 rr cm j (featOff b (Scalar.addi (base y0 iv) (BitVec.ofNat 32 r.val)) (w j))
          (rowOff j (Scalar.addi (base y0 iv) (BitVec.ofNat 32 r.val))) (hf j r) (hr j r))
      (fun n => (iprop(owns (d.tc : Thread nD τ) arg7 q X ∗ owns (d.tc : Thread nD τ) arg11 fullShare
        (mix ((S ∪ {x | x 0 = rr ∧ (x 1).val < j.val ∧ B ≤ (x 2).val ∧ (x 2).val < B + 8})
          ∪ {x | x 0 = rr ∧ x 1 = j ∧ B ≤ (x 2).val ∧ (x 2).val < B + n}) G f)) : sProp 𝕄)) ?_
    · have e0 : (S ∪ {x : S4x7x64x256.Idx | x 0 = rr ∧ (x 1).val < j.val ∧ B ≤ (x 2).val ∧ (x 2).val < B + 8})
          ∪ {x | x 0 = rr ∧ x 1 = j ∧ B ≤ (x 2).val ∧ (x 2).val < B + 0}
          = S ∪ {x | x 0 = rr ∧ (x 1).val < j.val ∧ B ≤ (x 2).val ∧ (x 2).val < B + 8} := by
        ext x
        simp only [Set.mem_union, Set.mem_setOf_eq]
        constructor
        · rintro (h | h)
          · exact h
          · omega
        · exact Or.inl
      have e8 : (S ∪ {x : S4x7x64x256.Idx | x 0 = rr ∧ (x 1).val < j.val ∧ B ≤ (x 2).val ∧ (x 2).val < B + 8})
          ∪ {x | x 0 = rr ∧ x 1 = j ∧ B ≤ (x 2).val ∧ (x 2).val < B + 8}
          = S ∪ {x | x 0 = rr ∧ (x 1).val < j.val + 1 ∧ B ≤ (x 2).val ∧ (x 2).val < B + 8} := by
        ext x
        have hj : x 1 = j ↔ (x 1).val = j.val := Fin.ext_iff
        simp only [Set.mem_union, Set.mem_setOf_eq, hj]
        constructor
        · rintro ((h | ⟨h1, h2, h3⟩) | ⟨h1, h2, h3⟩)
          · exact Or.inl h
          · exact Or.inr ⟨h1, by omega, h3⟩
          · exact Or.inr ⟨h1, by omega, h3⟩
        · rintro (h | ⟨h1, h2, h3⟩)
          · exact Or.inl (Or.inl h)
          · by_cases hlt : (x 1).val < j.val
            · exact Or.inl (Or.inr ⟨h1, hlt, h3⟩)
            · exact Or.inr ⟨h1, by omega, h3⟩
      beta_reduce at hin
      rw [e0, e8] at hin
      exact hin
    · intro r
      have e1 : rowOff j (Scalar.addi (base y0 iv) (BitVec.ofNat 32 r.val)) 1 = B + r.val := hB r
      refine wp_rowOp 𝒱 d bd E arg7 arg11 rr cm j _ _ (hf j r) (hr j r) rfl rfl _ ?_ ?_
      · rw [e1]
        generalize S ∪ {x : S4x7x64x256.Idx | x 0 = rr ∧ (x 1).val < j.val ∧ B ≤ (x 2).val ∧ (x 2).val < B + 8} = T
        rw [Set.union_assoc]
        congr 1
        ext x
        simp only [Set.mem_union, Set.mem_setOf_eq]
        constructor
        · rintro ⟨h1, h2, h3⟩
          by_cases hlt : (x 2).val < B + r.val
          · exact Or.inl ⟨h1, h2, h3.1, hlt⟩
          · exact Or.inr ⟨h1, h2, by omega⟩
        · rintro (⟨h1, h2, h3⟩ | ⟨h1, h2, h3⟩)
          · exact ⟨h1, h2, h3.1, by omega⟩
          · exact ⟨h1, h2, by omega, by omega⟩
      · intro x h1 h2 h3
        subst h2
        exact hG x r h1 (h3.trans e1)

/-- A bin. -/
theorem wp_outOp (rr : Fin 4) (rm : FVec F S7x24 .f32) (valid : BitVec 32) (i j : Fin 7) (co : Fin 3 → Nat)
    (hc : ∀ a, co a + S1x24x256.size a ≤ S7x64x256.size a) {q : PosShare TreeShare} {Y : S4x7x64x256.Idx → Elt F .f32}
    {S : Set S4x7x7x256.Idx} {G f : S4x7x7x256.Idx → Elt F .f32} (S' : Set S4x7x7x256.Idx)
    (hS : S' = S ∪ {x | x 0 = rr ∧ x 1 = i ∧ x 2 = j})
    (hG : ∀ x : S4x7x7x256.Idx, x 0 = rr → x 1 = i → x 2 = j →
      outVal rm valid i (fun z => Y (slabIdx rr ((Rect.unit (s := S7x64x256) co S1x24x256.size hc).emb z)))
        (ix4 (0 : Fin 1) (0 : Fin 1) (0 : Fin 1) (x 3 : Fin 256)) = G x) :
    iprop(owns (d.tc : Thread nD τ) arg11 q Y ∗ owns (d.tc : Thread nD τ) arg10 fullShare (mix S G f) : sProp 𝕄)
      ⊢ wp frame (wpE defs 𝒱 (d.tc : Thread nD τ) bd) E (outOp arg10 arg11 rr rm valid i j co hc) fun _ =>
        iprop(owns (d.tc : Thread nD τ) arg11 q Y ∗ owns (d.tc : Thread nD τ) arg10 fullShare (mix S' G f)) := by
  have hrange : (Set.range (Rect.unit (s := S4x7x7x256) (outOff rr i j) S1x1x1x256.size (outOff_inb rr i j)).emb)
      = {x : S4x7x7x256.Idx | x 0 = rr ∧ x 1 = i ∧ x 2 = j} := by
    ext x
    constructor
    · rintro ⟨z, rfl⟩
      have z0 : (z 0).val < 1 := (z 0).isLt
      have z1 : (z 1).val < 1 := (z 1).isLt
      have z2 : (z 2).val < 1 := (z 2).isLt
      refine ⟨Fin.ext ?_, Fin.ext ?_, Fin.ext ?_⟩
      · show rr.val + 1 * (z 0).val = rr.val; omega
      · show i.val + 1 * (z 1).val = i.val; omega
      · show j.val + 1 * (z 2).val = j.val; omega
    · rintro ⟨hx0, hx1, hx2⟩
      refine ⟨ix4 (0 : Fin 1) (0 : Fin 1) (0 : Fin 1) (x 3 : Fin 256), ?_⟩
      funext a
      apply Fin.ext
      match a with
      | 0 => show rr.val + 1 * 0 = (x 0).val; rw [hx0]; rfl
      | 1 => show i.val + 1 * 0 = (x 1).val; rw [hx1]; rfl
      | 2 => show j.val + 1 * 0 = (x 2).val; rw [hx2]; rfl
      | 3 => show 0 + 1 * (x 3).val = (x 3).val; omega
  unfold outOp
  iintro ⟨H11, H10⟩
  iapply (wp_load_slab 𝒱 d bd E rr) $$ H11
  iintro H11
  iapply (wp_load_owned 𝒱 d bd E) $$ H10
  iintro H10
  have hG' : ∀ x, outVal rm valid i (fun z => Y (slabIdx rr ((Rect.unit (s := S7x64x256) co S1x24x256.size hc).emb z))) x
      = G ((Rect.unit (s := S4x7x7x256) (outOff rr i j) S1x1x1x256.size (outOff_inb rr i j)).emb x) := by
    intro x
    have z0 : (x 0).val < 1 := (x 0).isLt
    have z1 : (x 1).val < 1 := (x 1).isLt
    have z2 : (x 2).val < 1 := (x 2).isLt
    have hx : x = ix4 (0 : Fin 1) (0 : Fin 1) (0 : Fin 1) (x 3 : Fin 256) := by
      funext a
      apply Fin.ext
      match a with
      | 0 => show (x 0).val = 0; omega
      | 1 => show (x 1).val = 0; omega
      | 2 => show (x 2).val = 0; omega
      | 3 => rfl
    have hm : (Rect.unit (s := S4x7x7x256) (outOff rr i j) S1x1x1x256.size (outOff_inb rr i j)).emb x ∈ {x : S4x7x7x256.Idx | x 0 = rr ∧ x 1 = i ∧ x 2 = j} := by
      rw [← hrange]; exact ⟨x, rfl⟩
    rw [← hG _ hm.1 hm.2.1 hm.2.2]
    conv_lhs => rw [hx]
    congr 2
    apply Fin.ext
    show (x 3).val = 0 + 1 * (x 3).val
    omega
  rw [← bind_pure (Prog.lift _)]
  iapply (wp_store_owned 𝒱 d bd E S' (by rw [hrange]; exact hS) hG') $$ H10
  iintro H10
  rw [wp_pure]
  imodintro
  isplitl [H11]; · iexact H11
  iexact H10

end

end Cert.KernelIdeal.Roi
end
end
-- ==== Proof.KernelIdeal.RoiStep.lean ====
/- The triples of a roi and of the whole body at a grid point. -/
module

public import proofs.«01_k».proof.Proof.KernelIdeal.Steps

@[expose] public section

noncomputable section

namespace Cert.KernelIdeal.Roi

open Idealize.ShloMosaic Idealize.ShloMosaic.ValueIdx Cert.KernelIdeal Cert.KernelIdeal.Facts₀ Cert.KernelIdeal.Facts
open Idealize.SL
open Idealize.SL.RA Idealize.SL.Sem Idealize.SL.ProofMode
open Idealize.SL.BI (sProp bigSep)
open scoped Idealize.SL.BI
open Idealize.SL.BI.BIBase Idealize.SL.BI.Laws

variable {F : FTy → Type} [FloatOps F] [Facts]
variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (d : Dev nD) (bd : Option 𝒱.V) (E : Set Name)

theorem wp_assume_lift {P : Prop} {dec : Decidable P} {α : Type} {k : PLift P → Prog (TpuEff nD τ sig (Elt F) Λ₀ .tc) α} (h : P) {Q : α → sProp 𝕄} :
    wp frame (wpE defs 𝒱 (d.tc : Thread nD τ) bd) E (k ⟨h⟩) Q
      ⊢ wp frame (wpE defs 𝒱 (d.tc : Thread nD τ) bd) E (Prog.lift (TpuEff.assume P dec) >>= k) Q :=
  wp_assume 𝒱 (d.tc : Thread nD τ) bd E h

/-- A triple at the head of a program, the rest of the assertion kept aside. -/
theorem wp_of_triple {P P' : sProp 𝕄} {α β : Type} {p : Prog (TpuEff nD τ sig (Elt F) Λ₀ .tc) α} {k : α → Prog (TpuEff nD τ sig (Elt F) Λ₀ .tc) β}
    {Q : β → sProp 𝕄} (h : P ⊢ wp frame (wpE defs 𝒱 (d.tc : Thread nD τ) bd) E p fun _ => P') :
    P ⊢ iprop((∀ a, P' -∗ wp frame (wpE defs 𝒱 (d.tc : Thread nD τ) bd) E (k a) Q)
      -∗ wp frame (wpE defs 𝒱 (d.tc : Thread nD τ) bd) E (p >>= k) Q) := by
  rw [wp_bind]
  iintro HP HK
  iapply (wp_wand_r frame (wpE defs 𝒱 (d.tc : Thread nD τ) bd) E)
  isplitl [HP]
  · iapply h; iexact HP
  · iexact HK

theorem word_emb (i : grid0.Coords) (rr : Fin 4) (x : (Rect.unit (s := S256) (wordOff i rr) S1.size (wordOff_inb i rr)).shape.Idx) :
    (Rect.unit (s := S256) (wordOff i rr) S1.size (wordOff_inb i rr)).emb x = ix1 (roiOf i rr) := by
  have x0 : (x 0).val < 1 := (x 0).isLt
  have e := roiWord_toNat i rr
  funext a
  apply Fin.ext
  match a with
  | 0 => show (roiWord i rr).toNat + 1 * (x 0).val = 4 * (i 0).val + rr.val; omega

theorem bin_emb (i : grid0.Coords) (rr : Fin 4) (j : Fin 7) (x : (Rect.unit (s := S256x7) (binOff i rr j) S1x1.size (binOff_inb i rr j)).shape.Idx) :
    (Rect.unit (s := S256x7) (binOff i rr j) S1x1.size (binOff_inb i rr j)).emb x = ix2 (roiOf i rr) j := by
  have x0 : (x 0).val < 1 := (x 0).isLt
  have x1 : (x 1).val < 1 := (x 1).isLt
  have e := roiWord_toNat i rr
  funext a
  apply Fin.ext
  match a with
  | 0 => show (roiWord i rr).toNat + 1 * (x 0).val = 4 * (i 0).val + rr.val; omega
  | 1 => show j.val + 1 * (x 1).val = j.val; omega

/-- A column window's start. -/
theorem wp_loadW (I : Ins F) (arg5 : Memref sig .tc .smem S256x7 .i32) (i : grid0.Coords) (rr : Fin 4) (b y0 y1 : BitVec 32) (j : Fin 7)
    (h : k0_chk2 b y0 y1 (I.wk (ix2 (roiOf i rr) j))) {q : PosShare TreeShare} {α : Type}
    {k : (Σ' w : BitVec 32, k0_chk2 b y0 y1 w) → Prog (TpuEff nD τ sig (Elt F) Λ₀ .tc) α} {Q : α → sProp 𝕄} :
    (owns (d.tc : Thread nD τ) arg5 q I.wk : sProp 𝕄)
      ⊢ iprop((owns (d.tc : Thread nD τ) arg5 q I.wk
          -∗ wp frame (wpE defs 𝒱 (d.tc : Thread nD τ) bd) E (k ⟨I.wk (ix2 (roiOf i rr) j), h⟩) Q)
        -∗ wp frame (wpE defs 𝒱 (d.tc : Thread nD τ) bd) E (loadW arg5 i rr b y0 y1 j >>= k) Q) := by
  unfold loadW
  rw [bind_assoc]
  iintro H HK
  iapply (wp_smem_owned 𝒱 d bd E (ix2 (roiOf i rr) j) (bin_emb i rr j)) $$ H
  iintro H
  rw [bind_assoc]
  iapply (wp_assume_lift 𝒱 d bd E h)
  rw [pure_bind]
  iapply HK
  iexact H

section
variable (arg7 : Memref sig .tc .vmem S4x64x64x256 .f32) (arg10 : Memref sig .tc .vmem S4x7x7x256 .f32)
  (arg11 : Memref sig .tc .vmem S4x7x64x256 .f32)

theorem inTrips_succ (a n y : Nat) : InTrips a (n + 1) y ↔ InTrips a n y ∨ (min (a + 8 * n) 56 ≤ y ∧ y < min (a + 8 * n) 56 + 8) := by
  constructor
  · rintro ⟨k, hk, h⟩
    by_cases hkn : k = n
    · subst hkn; exact Or.inr h
    · exact Or.inl ⟨k, by omega, h⟩
  · rintro (⟨k, hk, h⟩ | h)
    · exact ⟨k, by omega, h⟩
    · exact ⟨n, by omega, h⟩

theorem feat_emb (I : Ins F) (hI : I.Ok) (i : grid0.Coords) (rr : Fin 4) (j : Fin 7) (y : Fin 64) (row w : BitVec 32) (hrow : row.toNat = y.val)
    (hw : w = I.wk (ix2 (roiOf i rr) j)) (hf : ∀ a, featOff (I.b (ix1 (roiOf i rr))) row w a + S1x1x24x256.size a ≤ S4x64x64x256.size a) :
    (fun z => I.feat ((Rect.unit (s := S4x64x64x256) (featOff (I.b (ix1 (roiOf i rr))) row w) S1x1x24x256.size hf).emb z))
      = featWin I (roiOf i rr) j y := by
  funext z
  unfold featWin
  subst hw
  congr 1
  have z0 : (z 0).val < 1 := (z 0).isLt
  have z1 : (z 1).val < 1 := (z 1).isLt
  have z2 : (z 2).val < 24 := (z 2).isLt
  have hb := hI.b (ix1 (roiOf i rr))
  have hk := hI.wk (ix2 (roiOf i rr) j)
  have e := times8_toNat hk
  funext a
  apply Fin.ext
  match a with
  | 0 => show (I.b (ix1 (roiOf i rr)) : BitVec 32).toNat + 1 * (z 0).val = (I.b (ix1 (roiOf i rr)) : BitVec 32).toNat % 4; omega
  | 1 => show row.toNat + 1 * (z 1).val = y.val; omega
  | 2 => show (Scalar.muli (I.wk (ix2 (roiOf i rr) j)) 8#32).toNat + 1 * (z 2).val = (8 * (I.wk (ix2 (roiOf i rr) j) : BitVec 32).toNat + (z 2).val) % 64; omega
  | 3 => show 0 + 1 * (z 3).val = (z 3).val; omega

/-- The first loop: every row from the roi's first to its last. -/
theorem wp_loop1 (I : Ins F) (hI : I.Ok) (i : grid0.Coords) (rr : Fin 4)
    (hw : k0_chk1 (I.y0 (ix1 (roiOf i rr))) (I.y1 (ix1 (roiOf i rr))))
    (w : Fin 7 → (Σ' w : BitVec 32, k0_chk2 (I.b (ix1 (roiOf i rr))) (I.y0 (ix1 (roiOf i rr))) (I.y1 (ix1 (roiOf i rr))) w))
    (hwj : ∀ j, (w j).1 = I.wk (ix2 (roiOf i rr) j)) {q : PosShare TreeShare}
    (S : Set S4x7x64x256.Idx) {f : S4x7x64x256.Idx → Elt F .f32} :
    iprop(owns (d.tc : Thread nD τ) arg7 q I.feat ∗ owns (d.tc : Thread nD τ) arg11 fullShare (mix S (rowTarget I i) f) : sProp 𝕄)
      ⊢ wp frame (wpE defs 𝒱 (d.tc : Thread nD τ) bd) E
        (Scf.Loop.for (k0_t1_loop (I.y0 (ix1 (roiOf i rr))) (I.y1 (ix1 (roiOf i rr)))) (k0_t1_ok _ _ hw) PUnit.unit fun k _ =>
          trip arg7 arg11 rr (maskAt I.cm i rr) (I.b (ix1 (roiOf i rr))) (I.y0 (ix1 (roiOf i rr))) (Scf.iv 0#32 1#32 k) (fun j => (w j).1)
            (fun j r => feat_inb (w j).2 k r) (fun j r => row_inb hw k j r)) fun _ =>
        iprop(owns (d.tc : Thread nD τ) arg7 q I.feat ∗ owns (d.tc : Thread nD τ) arg11 fullShare
          (mix (S ∪ {x | x 0 = rr ∧ x ∈ rowSet I i}) (rowTarget I i) f)) := by
  have h0 := hI.y0 (ix1 (roiOf i rr))
  have h1 := hI.y1 (ix1 (roiOf i rr))
  obtain ⟨-, -, ht, -⟩ := loops h0 h1
  have hloop := Scf.wp_for frame (wpE defs 𝒱 (d.tc : Thread nD τ) bd) E
    (k0_t1_loop (I.y0 (ix1 (roiOf i rr))) (I.y1 (ix1 (roiOf i rr)))).lb (k0_t1_loop (I.y0 (ix1 (roiOf i rr))) (I.y1 (ix1 (roiOf i rr)))).ub
    (k0_t1_loop (I.y0 (ix1 (roiOf i rr))) (I.y1 (ix1 (roiOf i rr)))).st (k0_t1_ok _ _ hw) PUnit.unit
    (fun k _ => trip (F := F) arg7 arg11 rr (maskAt I.cm i rr) (I.b (ix1 (roiOf i rr))) (I.y0 (ix1 (roiOf i rr))) (Scf.iv 0#32 1#32 k) (fun j => (w j).1)
            (fun j r => feat_inb (w j).2 k r) (fun j r => row_inb hw k j r))
    (fun n _ => (iprop(owns (d.tc : Thread nD τ) arg7 q I.feat ∗ owns (d.tc : Thread nD τ) arg11 fullShare
          (mix (S ∪ {x | x 0 = rr ∧ InTrips (I.y0 (ix1 (roiOf i rr)) : BitVec 32).toNat n (x 2).val}) (rowTarget I i) f)) : sProp 𝕄))
    (fun k acc => ?_) (Q := fun _ => iprop(owns (d.tc : Thread nD τ) arg7 q I.feat ∗ owns (d.tc : Thread nD τ) arg11 fullShare
          (mix (S ∪ {x | x 0 = rr ∧ x ∈ rowSet I i}) (rowTarget I i) f)))
  · refine .trans ?_ hloop
    have e0 : S ∪ {x : S4x7x64x256.Idx | x 0 = rr ∧ InTrips (I.y0 (ix1 (roiOf i rr)) : BitVec 32).toNat 0 (x 2).val} = S := by
      ext x
      simp only [Set.mem_union, Set.mem_setOf_eq]
      constructor
      · rintro (h | ⟨-, k, hk, -⟩)
        · exact h
        · omega
      · exact Or.inl
    have en : S ∪ {x : S4x7x64x256.Idx | x 0 = rr ∧ InTrips (I.y0 (ix1 (roiOf i rr)) : BitVec 32).toNat
          (k0_t1_loop (I.y0 (ix1 (roiOf i rr))) (I.y1 (ix1 (roiOf i rr)))).trips (x 2).val} = S ∪ {x | x 0 = rr ∧ x ∈ rowSet I i} := by
      rw [ht]
      congr 1
      ext x
      constructor
      · rintro ⟨h, h'⟩; subst h; exact ⟨rfl, h'⟩
      · rintro ⟨h, h'⟩; subst h; exact ⟨rfl, h'⟩
    beta_reduce
    rw [e0, en]
    iintro H
    isplitl [H]; · iexact H
    iintro %acc H
    iexact H
  · have hk : k.val < 8 := by
      have hkt : k.val < (k0_t1_loop (I.y0 (ix1 (roiOf i rr))) (I.y1 (ix1 (roiOf i rr)))).trips := k.isLt
      omega
    refine wp_trip 𝒱 d bd E arg7 arg11 rr _ _ _ _ _ _ _ (min ((I.y0 (ix1 (roiOf i rr)) : BitVec 32).toNat + 8 * k.val) 56)
      (fun r => row_toNat h0 k.val hk r) _ ?_ ?_
    · rw [Set.union_assoc]
      congr 1
      ext x
      simp only [Set.mem_union, Set.mem_setOf_eq, inTrips_succ]
      constructor
      · rintro ⟨h, h' | h'⟩
        · exact Or.inl ⟨h, h'⟩
        · exact Or.inr ⟨h, h'⟩
      · rintro (⟨h, h'⟩ | ⟨h, h'⟩)
        · exact ⟨h, Or.inl h'⟩
        · exact ⟨h, Or.inr h'⟩
    · intro x r hx0 hx2
      unfold rowTarget
      rw [hx0]
      exact congrArg (fun v => rowVal (maskAt I.cm i rr) (x 1) v (ix3 (0 : Fin 1) (0 : Fin 1) (x 3 : Fin 256)))
        (feat_emb I hI i rr (x 1) (x 2) _ _ ((row_toNat h0 k.val hk r).trans hx2.symm) (hwj (x 1)) _)

/-- The second loop makes no trip. -/
theorem wp_loop2 {I : Ins F} (hI : I.Ok) {i : grid0.Coords} {rr : Fin 4}
    (hok : (k0_t2_loop (I.y0 (ix1 (roiOf i rr))) (I.y1 (ix1 (roiOf i rr)))).OK)
    (body : Fin (k0_t2_loop (I.y0 (ix1 (roiOf i rr))) (I.y1 (ix1 (roiOf i rr)))).trips → PUnit → Prog (TpuEff nD τ sig (Elt F) Λ₀ .tc) PUnit) :
    (Scf.Loop.for (k0_t2_loop (I.y0 (ix1 (roiOf i rr))) (I.y1 (ix1 (roiOf i rr)))) hok PUnit.unit body) = pure ⟨⟩ := by
  obtain ⟨-, -, -, ht⟩ := loops (hI.y0 (ix1 (roiOf i rr))) (hI.y1 (ix1 (roiOf i rr)))
  show Scf.for _ _ _ _ _ _ = _
  rw [Scf.for_eq]
  have : List.finRange (Scf.trips (k0_t2_loop (I.y0 (ix1 (roiOf i rr))) (I.y1 (ix1 (roiOf i rr)))).lb (k0_t2_loop (I.y0 (ix1 (roiOf i rr))) (I.y1 (ix1 (roiOf i rr)))).ub
      (k0_t2_loop (I.y0 (ix1 (roiOf i rr))) (I.y1 (ix1 (roiOf i rr)))).st) = [] := by
    apply List.eq_nil_of_length_eq_zero
    rw [List.length_finRange]; exact ht
  rw [this]; rfl

/-- The bins of one row. -/
theorem wp_outRow (I : Ins F) (hI : I.Ok) (arg6 : Memref sig .tc .smem S256x7 .i32) (i : grid0.Coords) (rr : Fin 4) (rm : FVec F S7x24 .f32)
    (valid : BitVec 32) (ii : Fin 7) {q q' : PosShare TreeShare} {Y : S4x7x64x256.Idx → Elt F .f32}
    {S : Set S4x7x7x256.Idx} {G f : S4x7x7x256.Idx → Elt F .f32} (S' : Set S4x7x7x256.Idx)
    (hS : S' = S ∪ {x | x 0 = rr ∧ x 1 = ii})
    (hG : ∀ x : S4x7x7x256.Idx, x 0 = rr → x 1 = ii →
      outVal rm valid ii (scrWin I (roiOf i rr) rr ii (x 2) Y) (ix4 (0 : Fin 1) (0 : Fin 1) (0 : Fin 1) (x 3 : Fin 256)) = G x) :
    iprop(owns (d.tc : Thread nD τ) arg6 q I.hk ∗ owns (d.tc : Thread nD τ) arg11 q' Y ∗ owns (d.tc : Thread nD τ) arg10 fullShare (mix S G f) : sProp 𝕄)
      ⊢ wp frame (wpE defs 𝒱 (d.tc : Thread nD τ) bd) E (outRow arg6 arg10 arg11 i rr rm valid ii) fun _ =>
        iprop(owns (d.tc : Thread nD τ) arg6 q I.hk ∗ owns (d.tc : Thread nD τ) arg11 q' Y ∗ owns (d.tc : Thread nD τ) arg10 fullShare (mix S' G f)) := by
  have hh := hI.hk (ix2 (roiOf i rr) ii)
  have e8 := times8_toNat hh
  unfold outRow
  iintro ⟨H6, H11, H10⟩
  iapply (wp_smem_owned 𝒱 d bd E (ix2 (roiOf i rr) ii) (bin_emb i rr ii)) $$ H6
  iintro H6
  iapply (wp_assume_lift 𝒱 d bd E (chk9 hh))
  have hst := wp_steps (Ix := Ix) (Name := Name) (U := U) (Lvl := Lvl) (defs := defs) 𝒱 d bd E
    (fun j : Fin 7 => outOp arg10 arg11 rr rm valid ii j (colOff j (I.hk (ix2 (roiOf i rr) ii))) (col_inb (chk9 hh) j))
    (fun n => (iprop(owns (d.tc : Thread nD τ) arg11 q' Y ∗ owns (d.tc : Thread nD τ) arg10 fullShare
      (mix (S ∪ {x | x 0 = rr ∧ x 1 = ii ∧ (x 2).val < n}) G f)) : sProp 𝕄)) (fun j => ?_)
  · have e0 : S ∪ {x : S4x7x7x256.Idx | x 0 = rr ∧ x 1 = ii ∧ (x 2).val < 0} = S := by
      ext x; simp
    have e7 : S ∪ {x : S4x7x7x256.Idx | x 0 = rr ∧ x 1 = ii ∧ (x 2).val < 7} = S' := by
      rw [hS]; ext x
      have hx : (x 2).val < 7 := (x 2).isLt
      simp [hx]
    beta_reduce at hst
    rw [e0, e7] at hst
    iapply (wp_wand_r frame (wpE defs 𝒱 (d.tc : Thread nD τ) bd) E)
    isplitl [H11 H10]
    · iapply hst
      isplitl [H11]; · iexact H11
      iexact H10
    · iintro %_ ⟨H11, H10⟩
      isplitl [H6]; · iexact H6
      isplitl [H11]; · iexact H11
      iexact H10
  · refine wp_outOp 𝒱 d bd E arg10 arg11 rr rm valid ii j _ _ _ ?_ ?_
    · rw [Set.union_assoc]
      congr 1
      ext x
      have hj : x 2 = j ↔ (x 2).val = j.val := Fin.ext_iff
      simp only [Set.mem_union, Set.mem_setOf_eq, hj]
      constructor
      · rintro ⟨h1, h2, h3⟩
        by_cases hlt : (x 2).val < j.val
        · exact Or.inl ⟨h1, h2, hlt⟩
        · exact Or.inr ⟨h1, h2, by omega⟩
      · rintro (⟨h1, h2, h3⟩ | ⟨h1, h2, h3⟩)
        · exact ⟨h1, h2, by omega⟩
        · exact ⟨h1, h2, by omega⟩
    · intro x h0 h1 h2
      subst h2
      rw [← hG x h0 h1]
      congr 2
      funext z
      unfold scrWin
      congr 1
      have z0 : (z 0).val < 1 := (z 0).isLt
      have z1 : (z 1).val < 24 := (z 1).isLt
      funext a
      apply Fin.ext
      match a with
      | 0 => rfl
      | 1 => show (x 2).val + 1 * (z 0).val = (x 2).val; omega
      | 2 => show (Scalar.muli (I.hk (ix2 (roiOf i rr) ii)) 8#32).toNat + 1 * (z 1).val = (8 * (I.hk (ix2 (roiOf i rr) ii) : BitVec 32).toNat + (z 1).val) % 64; omega
      | 3 => show 0 + 1 * (z 2).val = (z 2).val; omega

end

section
variable (arg1 arg2 arg3 arg4 : Memref sig .tc .smem S256 .i32) (arg5 arg6 : Memref sig .tc .smem S256x7 .i32)
    (arg7 : Memref sig .tc .vmem S4x64x64x256 .f32) (arg8 arg9 : Memref sig .tc .vmem S256x7x24 .f32)
    (arg10 : Memref sig .tc .vmem S4x7x7x256 .f32) (arg11 : Memref sig .tc .vmem S4x7x64x256 .f32)

/-- What a point reads, owned. -/
def Reads (I : Ins F) (q : PosShare TreeShare) : sProp 𝕄 :=
  iprop(owns (d.tc : Thread nD τ) arg1 q I.b ∗ owns (d.tc : Thread nD τ) arg2 q I.valid ∗ owns (d.tc : Thread nD τ) arg3 q I.y0
    ∗ owns (d.tc : Thread nD τ) arg4 q I.y1 ∗ owns (d.tc : Thread nD τ) arg5 q I.wk ∗ owns (d.tc : Thread nD τ) arg6 q I.hk
    ∗ owns (d.tc : Thread nD τ) arg7 fullShare I.feat ∗ owns (d.tc : Thread nD τ) arg8 fullShare I.cm ∗ owns (d.tc : Thread nD τ) arg9 fullShare I.rm)

/-- One roi. -/
theorem wp_roi (I : Ins F) (hI : I.Ok) (i : grid0.Coords) (rr : Fin 4) (q : PosShare TreeShare)
    (f : S4x7x64x256.Idx → Elt F .f32) (o : S4x7x7x256.Idx → Elt F .f32) :
    iprop(Reads d arg1 arg2 arg3 arg4 arg5 arg6 arg7 arg8 arg9 I q
        ∗ owns (d.tc : Thread nD τ) arg11 fullShare (mix {x | (x 0).val < rr.val ∧ x ∈ rowSet I i} (rowTarget I i) f)
        ∗ owns (d.tc : Thread nD τ) arg10 fullShare (mix {x | (x 0).val < rr.val} (outAfter I i f) o) : sProp 𝕄)
      ⊢ wp frame (wpE defs 𝒱 (d.tc : Thread nD τ) bd) E (roi i arg1 arg2 arg3 arg4 arg5 arg6 arg7 arg8 arg9 arg10 arg11 rr) fun _ =>
        iprop(Reads d arg1 arg2 arg3 arg4 arg5 arg6 arg7 arg8 arg9 I q
          ∗ owns (d.tc : Thread nD τ) arg11 fullShare (mix {x | (x 0).val < rr.val + 1 ∧ x ∈ rowSet I i} (rowTarget I i) f)
          ∗ owns (d.tc : Thread nD τ) arg10 fullShare (mix {x | (x 0).val < rr.val + 1} (outAfter I i f) o)) := by
  have hb := hI.b (ix1 (roiOf i rr))
  have h0 := hI.y0 (ix1 (roiOf i rr))
  have h1 := hI.y1 (ix1 (roiOf i rr))
  have hc1 := chk1 h0 h1
  have hc2 : ∀ j, k0_chk2 (I.b (ix1 (roiOf i rr))) (I.y0 (ix1 (roiOf i rr))) (I.y1 (ix1 (roiOf i rr))) (I.wk (ix2 (roiOf i rr) j)) :=
    fun j => chk2 hb h0 h1 (hI.wk _)
  have hS : {x : S4x7x64x256.Idx | (x 0).val < rr.val ∧ x ∈ rowSet I i} ∪ {x | x 0 = rr ∧ x ∈ rowSet I i}
      = {x | (x 0).val < rr.val + 1 ∧ x ∈ rowSet I i} := by
    ext x
    have hx : x 0 = rr ↔ (x 0).val = rr.val := Fin.ext_iff
    simp only [Set.mem_union, Set.mem_setOf_eq, hx]
    constructor
    · rintro (⟨h, h'⟩ | ⟨h, h'⟩)
      · exact ⟨by omega, h'⟩
      · exact ⟨by omega, h'⟩
    · rintro ⟨h, h'⟩
      by_cases hlt : (x 0).val < rr.val
      · exact Or.inl ⟨hlt, h'⟩
      · exact Or.inr ⟨by omega, h'⟩
  unfold roi Reads
  iintro ⟨⟨H1, H2, H3, H4, H5, H6, H7, H8, H9⟩, H11, H10⟩
  iapply (wp_smem_owned 𝒱 d bd E (ix1 (roiOf i rr)) (word_emb i rr)) $$ H1
  iintro H1
  iapply (wp_load_owned 𝒱 d bd E) $$ H8
  iintro H8
  iapply (wp_load_owned 𝒱 d bd E) $$ H9
  iintro H9
  iapply (wp_smem_owned 𝒱 d bd E (ix1 (roiOf i rr)) (word_emb i rr)) $$ H2
  iintro H2
  iapply (wp_smem_owned 𝒱 d bd E (ix1 (roiOf i rr)) (word_emb i rr)) $$ H3
  iintro H3
  iapply (wp_smem_owned 𝒱 d bd E (ix1 (roiOf i rr)) (word_emb i rr)) $$ H4
  iintro H4
  iapply (wp_assume_lift 𝒱 d bd E hc1)
  iapply (wp_loadW 𝒱 d bd E I arg5 i rr _ _ _ 0 (hc2 0)) $$ H5
  iintro H5
  iapply (wp_loadW 𝒱 d bd E I arg5 i rr _ _ _ 1 (hc2 1)) $$ H5
  iintro H5
  iapply (wp_loadW 𝒱 d bd E I arg5 i rr _ _ _ 2 (hc2 2)) $$ H5
  iintro H5
  iapply (wp_loadW 𝒱 d bd E I arg5 i rr _ _ _ 3 (hc2 3)) $$ H5
  iintro H5
  iapply (wp_loadW 𝒱 d bd E I arg5 i rr _ _ _ 4 (hc2 4)) $$ H5
  iintro H5
  iapply (wp_loadW 𝒱 d bd E I arg5 i rr _ _ _ 5 (hc2 5)) $$ H5
  iintro H5
  iapply (wp_loadW 𝒱 d bd E I arg5 i rr _ _ _ 6 (hc2 6)) $$ H5
  iintro H5
  have hl1 := wp_loop1 (Ix := Ix) (Name := Name) (U := U) (Lvl := Lvl) (defs := defs) 𝒱 d bd E arg7 arg11 I hI i rr hc1
    ![⟨_, hc2 0⟩, ⟨_, hc2 1⟩, ⟨_, hc2 2⟩, ⟨_, hc2 3⟩, ⟨_, hc2 4⟩, ⟨_, hc2 5⟩, ⟨_, hc2 6⟩]
    (fun j => match j with | 0 => rfl | 1 => rfl | 2 => rfl | 3 => rfl | 4 => rfl | 5 => rfl | 6 => rfl)
    (q := fullShare) {x | (x 0).val < rr.val ∧ x ∈ rowSet I i} (f := f)
  rw [hS] at hl1
  iapply (wp_of_triple 𝒱 d bd E hl1) $$ [H7 H11]
  · isplitl [H7]; · iexact H7
    iexact H11
  iintro %_ ⟨H7, H11⟩
  rw [wp_loop2 hI, pure_bind]
  have hst := wp_steps (Ix := Ix) (Name := Name) (U := U) (Lvl := Lvl) (defs := defs) 𝒱 d bd E
    (fun ii : Fin 7 => outRow arg6 arg10 arg11 i rr (maskAt I.rm i rr) (I.valid (ix1 (roiOf i rr))) ii)
    (fun n => (iprop(owns (d.tc : Thread nD τ) arg6 q I.hk
      ∗ owns (d.tc : Thread nD τ) arg11 fullShare (mix {x | (x 0).val < rr.val + 1 ∧ x ∈ rowSet I i} (rowTarget I i) f)
      ∗ owns (d.tc : Thread nD τ) arg10 fullShare
      (mix ({x | (x 0).val < rr.val} ∪ {x | x 0 = rr ∧ (x 1).val < n}) (outAfter I i f) o)) : sProp 𝕄)) (fun ii => ?_)
  · have e0 : {x : S4x7x7x256.Idx | (x 0).val < rr.val} ∪ {x | x 0 = rr ∧ (x 1).val < 0} = {x | (x 0).val < rr.val} := by
      ext x; simp
    have e7 : {x : S4x7x7x256.Idx | (x 0).val < rr.val} ∪ {x | x 0 = rr ∧ (x 1).val < 7} = {x | (x 0).val < rr.val + 1} := by
      ext x
      have hx : (x 1).val < 7 := (x 1).isLt
      have hr : x 0 = rr ↔ (x 0).val = rr.val := Fin.ext_iff
      simp only [Set.mem_union, Set.mem_setOf_eq, hr]
      omega
    beta_reduce at hst
    rw [e0, e7] at hst
    iapply (wp_wand_r frame (wpE defs 𝒱 (d.tc : Thread nD τ) bd) E)
    isplitl [H6 H11 H10]
    · iapply hst
      isplitl [H6]; · iexact H6
      isplitl [H11]; · iexact H11
      iexact H10
    · iintro %_ ⟨H6, H11, H10⟩
      isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H11]; · iexact H11
      iexact H10
  · refine wp_outRow 𝒱 d bd E arg10 arg11 I hI arg6 i rr _ _ ii _ ?_ ?_
    · rw [Set.union_assoc]
      congr 1
      ext x
      have hj : x 1 = ii ↔ (x 1).val = ii.val := Fin.ext_iff
      simp only [Set.mem_union, Set.mem_setOf_eq, hj]
      constructor
      · rintro ⟨h1, h2⟩
        by_cases hlt : (x 1).val < ii.val
        · exact Or.inl ⟨h1, hlt⟩
        · exact Or.inr ⟨h1, by omega⟩
      · rintro (⟨h1, h2⟩ | ⟨h1, h2⟩)
        · exact ⟨h1, by omega⟩
        · exact ⟨h1, by omega⟩
    · intro x hx0 hx1
      unfold outAfter
      rw [hx0, hx1]
      congr 1
      funext z
      unfold scrWin scrAfter
      by_cases hz : (ix4 rr (x 2) (Fin.ofNat 64 (8 * (I.hk (ix2 (roiOf i rr) ii) : BitVec 32).toNat + (z 1 : Fin 24).val)) (z 2 : Fin 256) : S4x7x64x256.Idx) ∈ rowSet I i
      · rw [mix_pos hz, mix_pos (show _ ∈ {x : S4x7x64x256.Idx | (x 0).val < rr.val + 1 ∧ x ∈ rowSet I i} from ⟨Nat.lt_succ_self _, hz⟩)]
      · rw [mix_neg hz, mix_neg (show _ ∉ {x : S4x7x64x256.Idx | (x 0).val < rr.val + 1 ∧ x ∈ rowSet I i} from fun h => hz h.2)]

/-- The scratch as a grid point's rois find it: all −∞ at the first point. -/
def filled (i : grid0.Coords) (f : S4x7x64x256.Idx → Elt F .f32) : S4x7x64x256.Idx → Elt F .f32 :=
  if (i 0).val = 0 then fun _ => Scalar.ofBits .f32 0xFF800000#32 else f

theorem fill_cond (i : grid0.Coords) :
    (Scalar.cmpi .ne (Scalar.extui (Scalar.cmpi .eq (BitVec.ofNat 32 (i 0).val) 0#32) : BitVec 32) 0#32 = 1#1) ↔ (i 0).val = 0 := by
  have h : ∀ n : Fin 64, (Scalar.cmpi .ne (Scalar.extui (Scalar.cmpi .eq (BitVec.ofNat 32 n.val) 0#32) : BitVec 32) 0#32 = 1#1) ↔ n.val = 0 := by
    decide
  exact h (i 0)

theorem wp_fill (i : grid0.Coords) (f : S4x7x64x256.Idx → Elt F .f32) :
    (owns (d.tc : Thread nD τ) arg11 fullShare f : sProp 𝕄)
      ⊢ wp frame (wpE defs 𝒱 (d.tc : Thread nD τ) bd) E (fill i arg11) fun _ => owns (d.tc : Thread nD τ) arg11 fullShare (filled i f) := by
  unfold fill filled
  by_cases h : (i 0).val = 0
  · rw [dif_pos ((fill_cond i).mpr h), if_pos h]
    have hr : ∀ x, (Rect.unit (s := S4x7x64x256) ![0, 0, 0, 0] S4x7x64x256.size inb_S4x7x64x256_S4x7x64x256_0_0_0_0).emb x = x := by
      intro x; funext a; apply Fin.ext
      match a with
      | 0 => show 0 + 1 * (x 0).val = (x 0).val; omega
      | 1 => show 0 + 1 * (x 1).val = (x 1).val; omega
      | 2 => show 0 + 1 * (x 2).val = (x 2).val; omega
      | 3 => show 0 + 1 * (x 3).val = (x 3).val; omega
    have hu : Set.univ = (∅ : Set S4x7x64x256.Idx)
        ∪ Set.range (Rect.unit (s := S4x7x64x256) ![0, 0, 0, 0] S4x7x64x256.size inb_S4x7x64x256_S4x7x64x256_0_0_0_0).emb := by
      rw [Set.empty_union]; symm; exact Set.eq_univ_of_forall fun x => ⟨x, hr x⟩
    iintro H
    iapply (wp_load_owned 𝒱 d bd E) $$ H
    iintro H
    have H' := wp_store_owned (Ix := Ix) (Name := Name) (U := U) (Lvl := Lvl) (defs := defs) 𝒱 d bd E (m := arg11) (r := Rect.unit (s := S4x7x64x256) ![0, 0, 0, 0] S4x7x64x256.size inb_S4x7x64x256_S4x7x64x256_0_0_0_0)
      (w := shapeCast S4x7x64x256 (broadcast S4x7x64x256 (Scalar.ofBits .f32 0xFF800000#32 : F .f32)) shapeCasts_S4x7x64x256_S4x7x64x256)
      (hx := View.stores_vmem_bits_univ h_S4x7x64x256 rfl) (hm := .inl rfl) (α := PUnit) (k := fun _ => pure PUnit.unit) (S := ∅)
      (G := fun _ => Scalar.ofBits .f32 0xFF800000#32) (X := f)
      (Q := fun _ => owns (d.tc : Thread nD τ) arg11 fullShare (fun _ => Scalar.ofBits .f32 0xFF800000#32)) Set.univ hu (fun _ => rfl)
    rw [mix_empty, mix_univ] at H'
    iapply H' $$ H
    iintro H
    rw [wp_pure]
    imodintro
    iexact H
  · rw [dif_neg (fun hc => h ((fill_cond i).mp hc)), if_neg h, wp_pure]
    exact Idealize.SL.BI.fupd_intro

/-- The body at a grid point. -/
theorem wp_body (I : Ins F) (hI : I.Ok) (i : grid0.Coords) (q : PosShare TreeShare)
    (f : S4x7x64x256.Idx → Elt F .f32) (o : S4x7x7x256.Idx → Elt F .f32) :
    iprop(Reads d arg1 arg2 arg3 arg4 arg5 arg6 arg7 arg8 arg9 I q
        ∗ owns (d.tc : Thread nD τ) arg11 fullShare f ∗ owns (d.tc : Thread nD τ) arg10 fullShare o : sProp 𝕄)
      ⊢ wp frame (wpE defs 𝒱 (d.tc : Thread nD τ) bd) E (body i arg1 arg2 arg3 arg4 arg5 arg6 arg7 arg8 arg9 arg10 arg11) fun _ =>
        iprop(Reads d arg1 arg2 arg3 arg4 arg5 arg6 arg7 arg8 arg9 I q
          ∗ owns (d.tc : Thread nD τ) arg11 fullShare (scrAfter I i (filled i f))
          ∗ owns (d.tc : Thread nD τ) arg10 fullShare (outAfter I i (filled i f))) := by
  unfold body
  iintro ⟨HR, H11, H10⟩
  iapply (wp_of_triple 𝒱 d bd E (wp_fill 𝒱 d bd E arg11 i f)) $$ H11
  iintro %_ H11
  have hst := wp_steps (Ix := Ix) (Name := Name) (U := U) (Lvl := Lvl) (defs := defs) 𝒱 d bd E
    (fun rr : Fin 4 => roi i arg1 arg2 arg3 arg4 arg5 arg6 arg7 arg8 arg9 arg10 arg11 rr)
    (fun n => (iprop(Reads d arg1 arg2 arg3 arg4 arg5 arg6 arg7 arg8 arg9 I q
        ∗ owns (d.tc : Thread nD τ) arg11 fullShare (mix {x | (x 0).val < n ∧ x ∈ rowSet I i} (rowTarget I i) (filled i f))
        ∗ owns (d.tc : Thread nD τ) arg10 fullShare (mix {x | (x 0).val < n} (outAfter I i (filled i f)) o)) : sProp 𝕄))
    (fun rr => wp_roi 𝒱 d bd E arg1 arg2 arg3 arg4 arg5 arg6 arg7 arg8 arg9 arg10 arg11 I hI i rr q (filled i f) o)
  have e0 : {x : S4x7x64x256.Idx | (x 0).val < 0 ∧ x ∈ rowSet I i} = ∅ := by ext x; simp
  have e0' : {x : S4x7x7x256.Idx | (x 0).val < 0} = ∅ := by ext x; simp
  have e4 : {x : S4x7x64x256.Idx | (x 0).val < 4 ∧ x ∈ rowSet I i} = rowSet I i := by
    ext x
    have hx : (x 0).val < 4 := (x 0).isLt
    exact ⟨fun h => h.2, fun h => ⟨hx, h⟩⟩
  have e4' : {x : S4x7x7x256.Idx | (x 0).val < 4} = Set.univ := Set.eq_univ_of_forall fun x => (x 0).isLt
  beta_reduce at hst
  rw [e0, e0', e4, e4', mix_empty, mix_empty, mix_univ] at hst
  iapply hst
  isplitl [HR]; · iexact HR
  isplitl [H11]; · iexact H11
  iexact H10

end

end Cert.KernelIdeal.Roi
end
end
-- ==== Proof.KernelIdeal.Launch.lean ====
/- The kernel launched: what the pipeline's windows hold point by point, the body at a point, and the run of the whole program. -/
module

public import proofs.«01_k».proof.Proof.KernelIdeal.Host
public import proofs.«01_k».proof.Proof.KernelIdeal.BodyEq
public import proofs.«01_k».proof.Proof.KernelIdeal.RoiStep
public import Idealize.ShloMosaic.Lib.Pipeline.FrameBody

@[expose] public section

set_option maxRecDepth 4000

noncomputable section

namespace Cert.KernelIdeal.Roi

open Idealize.ShloMosaic Idealize.ShloMosaic.TcCoe Idealize.ShloMosaic.ValueIdx Cert.KernelIdeal Cert.KernelIdeal.Gen
open Idealize.SL
open Idealize.SL.RA Idealize.SL.Sem Idealize.SL.ProofMode
open Idealize.SL.BI (sProp bigSep)
open scoped Idealize.SL.BI
open Idealize.SL.BI.BIBase Idealize.SL.BI.Laws
open Idealize.ShloMosaic.Pipeline (Dat BodyObligation)

variable {F : FTy → Type} [FloatOps F]
variable (m : (ℓ : Loc nD τ sig) → Buf (Elt F) ℓ)

local notation "𝕄" => MT nD τ sig Unit (Elt F) ℕ (UR sig nD τ) ℕ

/-- What the kernel reads, at given contents of the buffers. -/
def insOf (V : Valuation τ sig (Elt F)) : Ins F where
  b := V (Proc.devRef .tc main_v2)
  valid := V (Proc.devRef .tc main_v23)
  y0 := V (Proc.devRef .tc main_v10)
  y1 := V (Proc.devRef .tc main_v16)
  wk := V (Proc.devRef .tc main_v53)
  hk := V (Proc.devRef .tc main_v96)
  feat := V (Proc.devRef .tc main_v113)
  cm := V (Proc.devRef .tc main_v69)
  rm := V (Proc.devRef .tc main_v112)

/-- The scratch before the point of number `n`: filled with negative infinity at the first, then as each point leaves it. -/
def scrAt (I : Ins F) : ℕ → S4x7x64x256.Idx → Elt F .f32
  | 0 => fun _ => Scalar.ofBits .f32 0xFF800000#32
  | n + 1 => if h : n < grid0.N then scrAfter I (grid0.coords ⟨n, h⟩) (scrAt I n) else scrAt I n

theorem coords_val : ∀ t : Fin grid0.N, (grid0.coords t 0).val = t.val := by decide +kernel

/-- The first point fills the scratch, the others find it as the point before left it. -/
theorem filled_scrAt (I : Ins F) (t : Fin grid0.N) (f : S4x7x64x256.Idx → Elt F .f32) (h : t.val ≠ 0 → f = scrAt I t.val) :
    filled (grid0.coords t) f = scrAt I t.val := by
  unfold filled
  rw [coords_val]
  by_cases h0 : t.val = 0
  · rw [if_pos h0, h0]; rfl
  · rw [if_neg h0, h h0]

/-- The tables' contents. -/
def tbl : pre0.Contents (Elt F) := fun j => V0 m (0 : Dev nD) (Proc.devRef .tc (pre0.ref j))

theorem V_pre (c : Dev nD) (j : Fin 6) : V0 m c (Proc.devRef .tc (pre0.ref j)) = tbl m j := by
  obtain rfl : c = 0 := Subsingleton.elim _ _; rfl

attribute [local irreducible] V0

abbrev adm : (pcfg0 (F := F)).Adm := ⟨tbl m, trivial⟩
abbrev cfgM : Pipeline.Cfg sig Λ₀ := cfg0 (adm m)

/-- The tables held at half the full share, with the scratch and the generator register. -/
def Inv (c : Dev nD) (n : ℕ) : sProp 𝕄 :=
  iprop((∃ f : S4x7x64x256.Idx → Elt F .f32, ⌜n ≠ 0 → f = scrAt (insOf (V0 m c)) n⌝ ∗ owns (c.tc : Thread nD τ) (Memref.whole cc0_scratch0) fullShare f)
    ∗ (∃ r, prngReg c r)
    ∗ Pipeline.ΦT pre0 (tbl m) c)

/-- The proof data of the pipeline on core `c`. -/
def dats (p : Fin 1) (c : Dev nD) : Dat τ (Elt F) Unit ℕ (UR sig nD τ) ℕ (Pipeline.pin pcfgs (fun _ => adm m) p) c where
  A w := V0 m c (Proc.devRef .tc (Pipeline.arrRef spec0 w))
  after w t := match w with
    | 0 => (insOf (V0 m c)).feat
    | 1 => (insOf (V0 m c)).cm
    | 2 => (insOf (V0 m c)).rm
    | 3 => outAfter (insOf (V0 m c)) (grid0.coords t) (scrAt (insOf (V0 m c)) t.val)
    | ⟨_ + 4, h⟩ => absurd h (Nat.not_lt.2 (Nat.le_add_left _ _))
  Φ t := Inv m c t.val
  q _ := fullShare
  owed _ := 0

theorem A_eq (c : Dev nD) (w : Fin 4) : (dats m 0 c).A w = V0 m c (Proc.devRef .tc (Pipeline.arrRef spec0 w)) := by
  dsimp only [dats]

theorem after0 (c : Dev nD) (t) : (dats m 0 c).after (0 : Fin 4) t = (insOf (V0 m c)).feat := by dsimp only [dats]
theorem after1 (c : Dev nD) (t) : (dats m 0 c).after (1 : Fin 4) t = (insOf (V0 m c)).cm := by dsimp only [dats]
theorem after2 (c : Dev nD) (t) : (dats m 0 c).after (2 : Fin 4) t = (insOf (V0 m c)).rm := by dsimp only [dats]
theorem after3 (c : Dev nD) (t) : (dats m 0 c).after (3 : Fin 4) t
    = outAfter (insOf (V0 m c)) (grid0.coords t) (scrAt (insOf (V0 m c)) t.val) := by dsimp only [dats]

set_option maxHeartbeats 1600000 in
/-- An array staged whole is its own block. -/
theorem block0 (c : Dev nD) (t) : (dats m 0 c).blockOf (0 : Fin 4) t = (insOf (V0 m c)).feat := by
  unfold Dat.blockOf
  rw [A_eq]
  funext x
  show V0 m c (Proc.devRef .tc main_v113) _ = V0 m c (Proc.devRef .tc main_v113) x
  congr 1
  funext a
  apply Fin.ext
  match a with
  | 0 => exact (Nat.zero_add _).trans (Nat.one_mul _)
  | 1 => exact (Nat.zero_add _).trans (Nat.one_mul _)
  | 2 => exact (Nat.zero_add _).trans (Nat.one_mul _)
  | 3 => exact (Nat.zero_add _).trans (Nat.one_mul _)
set_option maxHeartbeats 1600000 in
theorem block1 (c : Dev nD) (t) : (dats m 0 c).blockOf (1 : Fin 4) t = (insOf (V0 m c)).cm := by
  unfold Dat.blockOf
  rw [A_eq]
  funext x
  show V0 m c (Proc.devRef .tc main_v69) _ = V0 m c (Proc.devRef .tc main_v69) x
  congr 1
  funext a
  apply Fin.ext
  match a with
  | 0 => exact (Nat.zero_add _).trans (Nat.one_mul _)
  | 1 => exact (Nat.zero_add _).trans (Nat.one_mul _)
  | 2 => exact (Nat.zero_add _).trans (Nat.one_mul _)
set_option maxHeartbeats 1600000 in
theorem block2 (c : Dev nD) (t) : (dats m 0 c).blockOf (2 : Fin 4) t = (insOf (V0 m c)).rm := by
  unfold Dat.blockOf
  rw [A_eq]
  funext x
  show V0 m c (Proc.devRef .tc main_v112) _ = V0 m c (Proc.devRef .tc main_v112) x
  congr 1
  funext a
  apply Fin.ext
  match a with
  | 0 => exact (Nat.zero_add _).trans (Nat.one_mul _)
  | 1 => exact (Nat.zero_add _).trans (Nat.one_mul _)
  | 2 => exact (Nat.zero_add _).trans (Nat.one_mul _)

theorem before0 (c : Dev nD) (t d) : (dats m 0 c).before (0 : Fin 4) t d = (insOf (V0 m c)).feat :=
  ((dats m 0 c).before_in_eq_fetched (0 : Fin 4) rfl (fun _ => rfl) (fun _ _ _ => rfl)
    (fun t => (after0 m c t).trans (block0 m c t).symm) t d).trans (block0 m c t)
theorem before1 (c : Dev nD) (t d) : (dats m 0 c).before (1 : Fin 4) t d = (insOf (V0 m c)).cm :=
  ((dats m 0 c).before_in_eq_fetched (1 : Fin 4) rfl (fun _ => rfl) (fun _ _ _ => rfl)
    (fun t => (after1 m c t).trans (block1 m c t).symm) t d).trans (block1 m c t)
theorem before2 (c : Dev nD) (t d) : (dats m 0 c).before (2 : Fin 4) t d = (insOf (V0 m c)).rm :=
  ((dats m 0 c).before_in_eq_fetched (2 : Fin 4) rfl (fun _ => rfl) (fun _ _ _ => rfl)
    (fun t => (after2 m c t).trans (block2 m c t).symm) t d).trans (block2 m c t)

set_option maxHeartbeats 1600000 in
/-- The tables' halves, one by one. -/
theorem tables_eq (c : Dev nD) : (Pipeline.ΦT pre0 (tbl m) c : sProp 𝕄)
    = iprop(owns (c.tc : Thread nD τ) (Memref.whole main_v2) fullShare.right (insOf (V0 m c)).b
      ∗ owns (c.tc : Thread nD τ) (Memref.whole main_v23) fullShare.right (insOf (V0 m c)).valid
      ∗ owns (c.tc : Thread nD τ) (Memref.whole main_v10) fullShare.right (insOf (V0 m c)).y0
      ∗ owns (c.tc : Thread nD τ) (Memref.whole main_v16) fullShare.right (insOf (V0 m c)).y1
      ∗ owns (c.tc : Thread nD τ) (Memref.whole main_v53) fullShare.right (insOf (V0 m c)).wk
      ∗ owns (c.tc : Thread nD τ) (Memref.whole main_v96) fullShare.right (insOf (V0 m c)).hk) := by
  obtain rfl : c = 0 := Subsingleton.elim _ _
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    Idealize.SL.BI.bigSep_insert (by decide), Idealize.SL.BI.bigSep_insert (by decide), Idealize.SL.BI.bigSep_insert (by decide),
    Idealize.SL.BI.bigSep_insert (by decide), Idealize.SL.BI.bigSep_insert (by decide), Idealize.SL.BI.bigSep_singleton]
  rw [owns_whole, owns_whole, owns_whole, owns_whole, owns_whole, owns_whole]
  rfl

/-- The body as the pipeline calls it at point `t`. -/
abbrev bodyAt (t : Fin (cfgM m).N) : Prog (TpuEff nD τ sig (Elt F) Λ₀ .tc) PUnit :=
  body (grid0.coords t) (Memref.whole main_v2) (Memref.whole main_v23) (Memref.whole main_v10) (Memref.whole main_v16)
    (Memref.whole main_v53) (Memref.whole main_v96)
    (spec0_0.stage ((cfgM m).slots t 0)) (spec0_1.stage ((cfgM m).slots t 1)) (spec0_2.stage ((cfgM m).slots t 2))
    (spec0_3.stage ((cfgM m).slots t 3)) (Memref.whole cc0_scratch0)

theorem defs_row (t : Fin (cfgM m).N) :
    defs₀ (F := F) .tc (cfgM m).body ((cfgM m).bodyArgs t ((cfgM m).slots t)) = bodyAt m t := by
  unfold defs₀
  rw [Defs.onTc_tc]
  exact body_eq ..

/-- The body at a point. -/
theorem sound_body (c : Dev nD) (hI : (insOf (V0 m c)).Ok) (t : Fin (cfgM m).N) :
    iprop(Inv m c t.val ∗ (dats m 0 c).owesAt () t.castSucc
      ∗ (∃ d, owns (c.tc : Thread nD τ) (spec0_0.stage ((cfgM m).slots t 0)) fullShare ((dats m 0 c).before (0 : Fin 4) t d))
      ∗ (∃ d, owns (c.tc : Thread nD τ) (spec0_1.stage ((cfgM m).slots t 1)) fullShare ((dats m 0 c).before (1 : Fin 4) t d))
      ∗ (∃ d, owns (c.tc : Thread nD τ) (spec0_2.stage ((cfgM m).slots t 2)) fullShare ((dats m 0 c).before (2 : Fin 4) t d))
      ∗ (∃ d, owns (c.tc : Thread nD τ) (spec0_3.stage ((cfgM m).slots t 3)) fullShare ((dats m 0 c).before (3 : Fin 4) t d)) : sProp 𝕄)
      ⊢ wp frame (wpE (defs₀ (F := F)) Variants.none (c.tc : Thread nD τ) none) Set.univ (bodyAt m t) fun _ =>
        iprop(Inv m c (t.val + 1) ∗ (dats m 0 c).owesAt () t.succ
      ∗ owns (c.tc : Thread nD τ) (spec0_0.stage ((cfgM m).slots t 0)) fullShare ((dats m 0 c).after (0 : Fin 4) t)
      ∗ owns (c.tc : Thread nD τ) (spec0_1.stage ((cfgM m).slots t 1)) fullShare ((dats m 0 c).after (1 : Fin 4) t)
      ∗ owns (c.tc : Thread nD τ) (spec0_2.stage ((cfgM m).slots t 2)) fullShare ((dats m 0 c).after (2 : Fin 4) t)
      ∗ owns (c.tc : Thread nD τ) (spec0_3.stage ((cfgM m).slots t 3)) fullShare ((dats m 0 c).after (3 : Fin 4) t)) := by
  simp only [before0, before1, before2, after0, after1, after2, after3]
  unfold Inv
  rw [tables_eq]
  iintro ⟨⟨⟨%f, %hf, Hs⟩, Hp, T1, T2, T3, T4, T5, T6⟩, Ho, ⟨%d0, H0⟩, ⟨%d1, H1⟩, ⟨%d2, H2⟩, ⟨%d3, H3⟩⟩
  have hw := wp_body (Ix := Unit) (Name := ℕ) (U := UR sig nD τ) (Lvl := ℕ) (defs := defs₀ (F := F)) Variants.none c none Set.univ
    (Memref.whole main_v2) (Memref.whole main_v23) (Memref.whole main_v10) (Memref.whole main_v16)
    (Memref.whole main_v53) (Memref.whole main_v96)
    (spec0_0.stage ((cfgM m).slots t 0)) (spec0_1.stage ((cfgM m).slots t 1)) (spec0_2.stage ((cfgM m).slots t 2))
    (spec0_3.stage ((cfgM m).slots t 3)) (Memref.whole cc0_scratch0) (insOf (V0 m c)) hI (grid0.coords t) fullShare.right f
    ((dats m 0 c).before (3 : Fin 4) t d3)
  rw [filled_scrAt (insOf (V0 m c)) t f hf] at hw
  iapply (wp_wand_r frame (wpE (defs₀ (F := F)) Variants.none (c.tc : Thread nD τ) none) Set.univ)
  isplitl [Hs T1 T2 T3 T4 T5 T6 H0 H1 H2 H3]
  · iapply hw
    unfold Reads
    isplitl [T1 T2 T3 T4 T5 T6 H0 H1 H2]
    · isplitl [T1]; · iexact T1
      isplitl [T2]; · iexact T2
      isplitl [T3]; · iexact T3
      isplitl [T4]; · iexact T4
      isplitl [T5]; · iexact T5
      isplitl [T6]; · iexact T6
      isplitl [H0]; · iexact H0
      isplitl [H1]; · iexact H1
      iexact H2
    isplitl [Hs]; · iexact Hs
    iexact H3
  iintro %_ H
  unfold Reads
  icases H with ⟨⟨T1, T2, T3, T4, T5, T6, H0, H1, H2⟩, Hs, H3⟩
  isplitl [Hs Hp T1 T2 T3 T4 T5 T6]
  · isplitl [Hs]
    · iexists _
      isplitr
      swap
      · iexact Hs
      · ipureintro
        intro _
        show _ = scrAt _ (t.val + 1)
        rw [scrAt, dif_pos t.isLt]
    isplitl [Hp]; · iexact Hp
    isplitl [T1]; · iexact T1
    isplitl [T2]; · iexact T2
    isplitl [T3]; · iexact T3
    isplitl [T4]; · iexact T4
    isplitl [T5]; · iexact T5
    iexact T6
  isplitl [Ho]; · iexact Ho
  isplitl [H0]; · iexact H0
  isplitl [H1]; · iexact H1
  isplitl [H2]; · iexact H2
  iexact H3

theorem body_obligation (hI : ∀ c, (insOf (V0 m c)).Ok) (c : Dev nD) :
    BodyObligation (dats m 0 c) (defs₀ (F := F)) Variants.none () Set.univ := fun t => by
  rw [bigSep_W0, bigSep_W0, defs_row]
  exact triple_restated (sound_body m c (hI c) t) rfl .rfl fun _ => .rfl

theorem hin (c : Dev nD) : iprop(Pipeline.ΦA spec0 c ∗ Pipeline.ΦT pre0 (tbl m) c : sProp 𝕄) ⊢ (dats m 0 c).Φ 0 := by
  show _ ⊢ Inv m c 0
  unfold Pipeline.ΦA Inv
  rw [scopedRest0_eq]
  simp only [owns_whole]
  iintro ⟨⟨⟨%f, Hs⟩, Hp⟩, Ht⟩
  isplitl [Hs]
  · iexists f
    isplitr
    · ipureintro; intro h; exact absurd rfl h
    · iexact Hs
  isplitl [Hp]; · iexact Hp
  iexact Ht

theorem hout (c : Dev nD) : (dats m 0 c).Φ (Fin.last (cfgM m).N) ⊢ (Pipeline.ΦA spec0 c : sProp 𝕄) := by
  show Inv m c (cfgM m).N ⊢ _
  unfold Pipeline.ΦA Inv
  rw [scopedRest0_eq]
  simp only [owns_whole]
  iintro ⟨⟨%f, %hf, Hs⟩, Hp, -⟩
  isplitl [Hs]
  · iexists f
    iexact Hs
  iexact Hp

set_option backward.isDefEq.respectTransparency.types false in
set_option maxHeartbeats 1600000 in
/-- The run of the whole program. -/
theorem run_main (hI : ∀ c, (insOf (V0 m c)).Ok) (ρ : Dev nD → PrngReg) :
    θ_run defs (onTc (τ := τ) (main (F := F))) (s₀ m ρ)
      (fun r => Pipeline.FramePost (Pipeline.pin pcfgs (fun _ => adm m)) (dats m) 0
        (Pipeline.afterTail pcfgs (fun _ => adm m) (dats m) 0 (V0 m) [hostOps1]) r ∧ r.2.sem = (fun _ => 0)) :=
  Pipeline.θ_run_frameP_around_track pcfgs (fun _ => adm m) (dats m) (0 : Fin 1) launch0 defs₀ Variants.none m ρ main
    (hbody := fun c => (body_obligation m hI c).loose) (hshare := fun c => ((dats m) 0 c).share_full fun _ => rfl)
    (howed := fun _ _ => rfl) (V₀ := V0 m) (opss := [hostOps1]) (hsub := sfx_sub) (hfresh := sfx_fresh) (hkeep := sfx_keeps)
    (hmain := hmain m) (hA := A_eq m) (hpf := V_pre m) (hin := hin m) (hout := hout m) (Q' := fun r => Pipeline.FramePost (Pipeline.pin pcfgs (fun _ => adm m)) (dats m) 0
        (Pipeline.afterTail pcfgs (fun _ => adm m) (dats m) 0 (V0 m) [hostOps1]) r ∧ r.2.sem = (fun _ => 0)) (hQ' := fun _ h => h)

end Cert.KernelIdeal.Roi
end
end
-- ==== Proof.KernelIdeal.Frame.lean ====
/- The run leaves the arguments as they were, and every semaphore at zero. -/
module

public import proofs.«01_k».proof.Proof.KernelIdeal.Bins
public import proofs.«01_k».proof.Proof.KernelIdeal.Launch
public import Idealize.ShloMosaic.Lib.StableHlo.RunHlo

@[expose] public section

set_option maxRecDepth 4000

noncomputable section

namespace Cert.KernelIdeal.Roi

open Idealize.ShloMosaic Idealize.ShloMosaic.TcCoe Cert.KernelIdeal Cert.KernelIdeal.Gen
open Idealize.ShloMosaic.Pipeline (Dat)

attribute [local irreducible] V0

variable {F : FTy → Type} [FloatOps F] (m : (ℓ : Loc nD τ sig) → Buf (Elt F) ℓ)

/-- A first block's number is at most five. -/
theorem blk8_word (z : ℤ) (h : 0 ≤ z) : (wd (blk8 z)).toNat ≤ 5 := by
  have h1 : 0 ≤ blk8 z := by unfold blk8; omega
  have h2 : blk8 z ≤ 5 := by unfold blk8; omega
  rw [toNat_wd _ h1 (by omega)]
  omega

/-- Where every roi names one of the four images, what the region reads is in range. -/
theorem insOk (c : Dev nD) (hb : ∀ r : Fin 256, (FloatOps.fptosi 32 ((m (c, Proc.devRef .tc main_arg1) : Vec F S256x5 .f32) (ix2 r 0)) : BitVec 32).toNat < 4) :
    (insOf (V0 m c)).Ok where
  b := fun r => by
    obtain ⟨k, rfl⟩ : ∃ k : Fin 256, r = ix1 k := ⟨_, eq_ix1 r⟩
    have e := hb k
    rw [← host_arg1 m c] at e
    have e2 := host_v2 m c k
    rw [← e2] at e
    exact e
  y0 := fun r => by
    obtain ⟨k, rfl⟩ : ∃ k : Fin 256, r = ix1 k := ⟨_, eq_ix1 r⟩
    show ((H m c main_v10 : Vec F S256 .i32) (ix1 k)).toNat ≤ 63
    rw [host_v10]
    exact Nat.le_of_lt_succ (pix_lt _)
  y1 := fun r => by
    obtain ⟨k, rfl⟩ : ∃ k : Fin 256, r = ix1 k := ⟨_, eq_ix1 r⟩
    show ((H m c main_v16 : Vec F S256 .i32) (ix1 k)).toNat ≤ 63
    rw [host_v16]
    exact Nat.le_of_lt_succ (pix_lt _)
  wk := fun r => by
    obtain ⟨k, j, rfl⟩ : ∃ (k : Fin 256) (j : Fin 7), r = ix2 k j := ⟨_, _, eq_ix2 r⟩
    show ((H m c main_v53 : Vec F S256x7 .i32) (ix2 k j)).toNat ≤ 5
    rw [v53_eq]
    exact blk8_word _ (ybin m c k j).1
  hk := fun r => by
    obtain ⟨k, j, rfl⟩ : ∃ (k : Fin 256) (j : Fin 7), r = ix2 k j := ⟨_, _, eq_ix2 r⟩
    show ((H m c main_v96 : Vec F S256x7 .i32) (ix2 k j)).toNat ≤ 5
    rw [v96_eq]
    exact blk8_word _ (xbin m c k j).1

/-- Neither the region nor the line after it writes the first argument. -/
theorem tail_arg0 (c : Dev nD) : Pipeline.afterTail pcfgs (fun _ => adm m) (dats m) 0 (V0 m) [hostOps1] c main_arg0 = m (c, Proc.devRef .tc main_arg0) := by
  unfold Pipeline.afterTail
  rw [StableHlo.after_of_forall_not_mem (b := Proc.devRef .tc main_arg0) _ _ (by
      intro op hop
      obtain rfl := List.mem_singleton.mp hop
      simp only [StableHlo.unary_writes, Finset.mem_singleton]
      exact StableHlo.devRef_ne_of_ne (by decide)),
    Pipeline.withArrays_of_ne _ c (V0 m c) _ main_arg0 (by exact (by decide : ∀ w, Pipeline.arrRef spec0 w ≠ main_arg0))]
  exact host_arg0 m c

/-- Nor the second. -/
theorem tail_arg1 (c : Dev nD) : Pipeline.afterTail pcfgs (fun _ => adm m) (dats m) 0 (V0 m) [hostOps1] c main_arg1 = m (c, Proc.devRef .tc main_arg1) := by
  unfold Pipeline.afterTail
  rw [StableHlo.after_of_forall_not_mem (b := Proc.devRef .tc main_arg1) _ _ (by
      intro op hop
      obtain rfl := List.mem_singleton.mp hop
      simp only [StableHlo.unary_writes, Finset.mem_singleton]
      exact StableHlo.devRef_ne_of_ne (by decide)),
    Pipeline.withArrays_of_ne _ c (V0 m c) _ main_arg1 (by exact (by decide : ∀ w, Pipeline.arrRef spec0 w ≠ main_arg1))]
  exact host_arg1 m c

/-- The run: the result's array as the lines after the region leave it, the arguments as they were, the semaphores at zero. -/
theorem run_result (hb : ∀ c, ∀ r : Fin 256, (FloatOps.fptosi 32 ((m (c, Proc.devRef .tc main_arg1) : Vec F S256x5 .f32) (ix2 r 0)) : BitVec 32).toNat < 4)
    (ρ : Dev nD → PrngReg) :
    θ_run defs (onTc (τ := τ) (main (F := F))) ⟨m, fun _ => 0, ρ⟩ (fun r => (∀ c : Dev nD,
      r.2.mem (c.tc.loc main_v115) = Pipeline.afterTail pcfgs (fun _ => adm m) (dats m) 0 (V0 m) [hostOps1] c main_v115
      ∧ r.2.mem (c.tc.loc main_arg0) = m (c.tc.loc main_arg0)
      ∧ r.2.mem (c.tc.loc main_arg1) = m (c.tc.loc main_arg1))
      ∧ r.2.sem = fun _ => 0) :=
  θ_run_mono (run_main m (fun c => insOk m c (hb c)) ρ) fun r h =>
    ⟨fun c => ⟨(h.1 c).2 main_v115 (by exact (by decide : main_v115 ∈ Pipeline.restRefs sig spec0)), ((h.1 c).2 main_arg0 (by exact (by decide : main_arg0 ∈ Pipeline.restRefs sig spec0))).trans (tail_arg0 m c),
      ((h.1 c).2 main_arg1 (by exact (by decide : main_arg1 ∈ Pipeline.restRefs sig spec0))).trans (tail_arg1 m c)⟩, h.2⟩

end Cert.KernelIdeal.Roi
end
end
-- ==== Proof.KernelIdeal.Value.lean ====
/- What the kernel's result holds at each index. -/
module

public import proofs.«01_k».proof.Proof.KernelIdeal.Pool
public import proofs.«01_k».proof.Proof.KernelIdeal.Frame

@[expose] public section

set_option maxRecDepth 4000

noncomputable section

namespace Cert.KernelIdeal.Roi

open Idealize.ShloMosaic Idealize.ShloMosaic.TcCoe Cert.KernelIdeal Cert.KernelIdeal.Gen
open Idealize.ShloMosaic.Pipeline (Dat)

attribute [local irreducible] V0

variable (m : (ℓ : Loc nD τ sig) → Buf (Elt Ideal) ℓ) (c : Dev nD)

/-- Dropping the unit axis of a roi's masks. -/
theorem drop_apply (g : Vec Ideal S1x7x24 .f32) (j : Fin 7) (y : Fin 24) :
    (shapeCast S7x24 g shapeCasts_S1x7x24_S7x24 : Vec Ideal S7x24 .f32) (ix2 j y) = g (ix3 (0 : Fin 1) j y) := by
  pointwise

/-- A roi's masks at an index. -/
theorem maskAt_apply (M : Vec Ideal S256x7x24 .f32) (i : grid0.Coords) (rr : Fin 4) (j : Fin 7) (y : Fin 24) :
    maskAt M i rr (ix2 j y) = M (ix3 (roiOf i rr) j y) := by
  unfold maskAt
  rw [drop_apply]
  congr 1
  funext a
  apply Fin.ext
  match a with
  | 0 =>
    show (roiWord i rr).toNat + 1 * 0 = 4 * (i 0).val + rr.val
    rw [roiWord_toNat]; rfl
  | 1 => exact (Nat.zero_add _).trans (Nat.one_mul _)
  | 2 => exact (Nat.zero_add _).trans (Nat.one_mul _)

/-- The image a roi names. -/
def img (r : Fin 256) : Fin 4 := Fin.ofNat 4 (FloatOps.fptosi (F := Ideal) (φ := .f32) 32 ((m (c, Proc.devRef .tc main_arg1) : Vec Ideal S256x5 .f32) (ix2 r 0)) : BitVec 32).toNat

/-- The feature a roi sees at row `h` and column `w`. -/
def seen (r ch : Fin 256) (h w : ℕ) : EReal := (m (c, Proc.devRef .tc main_arg0) : Vec Ideal S4x256x64x64 .f32) (ix4 (img m c r) ch (Fin.ofNat 64 h) (Fin.ofNat 64 w))

/-- A row of bins: the greatest feature of each bin of columns, at one row. -/
def colMax (r ch : Fin 256) (j : Fin 7) (h : ℕ) : EReal :=
  binSup (binLo (Y0 m c r) (Y1 m c r) j.val) (binHi (Y0 m c r) (Y1 m c r) j.val) (seen m c r ch h)

/-- The greatest feature of a bin. -/
def binMax (r ch : Fin 256) (i j : Fin 7) : EReal :=
  binSup (binLo (X0 m c r) (X1 m c r) i.val) (binHi (X0 m c r) (X1 m c r) i.val) (colMax m c r ch j)

/-- What the kernel holds at an index. -/
def pooled (r ch : Fin 256) (i j : Fin 7) : EReal :=
  if X0 m c r < X1 m c r ∧ Y0 m c r < Y1 m c r then binMax m c r ch i j else 0

/-- The features a row step reads. -/
theorem feat_apply (r ch : Fin 256) (j : Fin 7) (y : Fin 64) (w : Fin 24) :
    featWin (insOf (V0 m c)) r j y (ix4 (0 : Fin 1) (0 : Fin 1) w ch)
      = seen m c r ch y.val (8 * blk8 (binLo (Y0 m c r) (Y1 m c r) j.val) + w.val).toNat := by
  have hy := ybin m c r j
  have e1 : ((insOf (V0 m c)).wk (ix2 r j) : BitVec 32).toNat = (blk8 (binLo (Y0 m c r) (Y1 m c r) j.val)).toNat := by
    show ((H m c main_v53 : Vec Ideal S256x7 .i32) (ix2 r j)).toNat = _
    rw [v53_eq, toNat_wd _ (by unfold blk8; omega) (by unfold blk8; omega)]
  have e2 : Fin.ofNat 4 ((insOf (V0 m c)).b (ix1 r) : BitVec 32).toNat = img m c r := by
    show Fin.ofNat 4 ((H m c main_v2 : Vec Ideal S256 .i32) (ix1 r)).toNat = _
    rw [host_v2, host_arg1]
    rfl
  show (insOf (V0 m c)).feat (ix4 (Fin.ofNat 4 ((insOf (V0 m c)).b (ix1 r) : BitVec 32).toNat) y
    (Fin.ofNat 64 (8 * ((insOf (V0 m c)).wk (ix2 r j) : BitVec 32).toNat + w.val)) ch) = _
  rw [e1, e2]
  show (H m c main_v113 : Vec Ideal S4x64x64x256 .f32) (ix4 (img m c r) y _ ch) = _
  rw [host_v113, host_arg0]
  unfold seen
  have hb : 0 ≤ blk8 (binLo (Y0 m c r) (Y1 m c r) j.val) := by unfold blk8; omega
  rw [show (8 * blk8 (binLo (Y0 m c r) (Y1 m c r) j.val) + (w.val : ℤ)).toNat = 8 * (blk8 (binLo (Y0 m c r) (Y1 m c r) j.val)).toNat + w.val from by omega,
    show Fin.ofNat 64 y.val = y from Fin.ext (Nat.mod_eq_of_lt y.isLt)]

/-- A reduced row, where the roi is not empty. -/
theorem target_apply (i : grid0.Coords) (rr : Fin 4) (j : Fin 7) (y : Fin 64) (ch : Fin 256) (hY : Y0 m c (roiOf i rr) < Y1 m c (roiOf i rr)) :
    rowTarget (insOf (V0 m c)) i (ix4 rr j y ch) = colMax m c (roiOf i rr) ch j y.val := by
  have hy := ybin m c (roiOf i rr) j
  have h1 := Y1_lt m c (roiOf i rr)
  show rowVal (maskAt (insOf (V0 m c)).cm i rr) j (featWin (insOf (V0 m c)) (roiOf i rr) j y) (ix3 (0 : Fin 1) (0 : Fin 1) ch) = _
  rw [rowVal_apply]
  unfold colMax
  rw [← window_sup _ _ _ hy.1 (by have := hy.2.2.2.2.2.2.2.2.1 (by omega); omega) (by have := hy.2.2.2.2.2.2.2.2.2.2.2 (by omega); omega)]
  refine Finset.sup_congr rfl fun w _ => ?_
  rw [maskAt_apply, feat_apply]
  show _ + (H m c main_v69 : Vec Ideal S256x7x24 .f32) (ix3 (roiOf i rr) j w) = _
  rw [v69_eq, add_mask]

/-- Every row of the roi is in one of the trips' blocks. -/
theorem inTrips_of (a b y : ℕ) (h : a ≤ y) (h' : y < b) (hb : b < 64) : InTrips a (tripsOf a b) y := by
  refine ⟨(y - a) / 8, ?_, ?_, ?_⟩
  · unfold tripsOf; omega
  · omega
  · omega

/-- A reduced row of the scratch as the result's bins read it. -/
theorem scr_apply (i : grid0.Coords) (rr : Fin 4) (ii j : Fin 7) (f : S4x7x64x256.Idx → Elt Ideal .f32) (y : Fin 24) (ch : Fin 256)
    (hX : X0 m c (roiOf i rr) < X1 m c (roiOf i rr)) (hY : Y0 m c (roiOf i rr) < Y1 m c (roiOf i rr))
    (hl : binLo (X0 m c (roiOf i rr)) (X1 m c (roiOf i rr)) ii.val ≤ 8 * blk8 (binLo (X0 m c (roiOf i rr)) (X1 m c (roiOf i rr)) ii.val) + y.val)
    (hh : 8 * blk8 (binLo (X0 m c (roiOf i rr)) (X1 m c (roiOf i rr)) ii.val) + y.val < binHi (X0 m c (roiOf i rr)) (X1 m c (roiOf i rr)) ii.val) :
    scrWin (insOf (V0 m c)) (roiOf i rr) rr ii j (scrAfter (insOf (V0 m c)) i f) (ix3 (0 : Fin 1) y ch)
      = colMax m c (roiOf i rr) ch j (8 * blk8 (binLo (X0 m c (roiOf i rr)) (X1 m c (roiOf i rr)) ii.val) + y.val).toNat := by
  have hx := xbin m c (roiOf i rr) ii
  have h1 := X1_lt m c (roiOf i rr)
  set r := roiOf i rr with hr
  have hb : 0 ≤ blk8 (binLo (X0 m c r) (X1 m c r) ii.val) := by unfold blk8; omega
  have e1 : ((insOf (V0 m c)).hk (ix2 r ii) : BitVec 32).toNat = (blk8 (binLo (X0 m c r) (X1 m c r) ii.val)).toNat := by
    show ((H m c main_v96 : Vec Ideal S256x7 .i32) (ix2 r ii)).toNat = _
    rw [v96_eq, toNat_wd _ (by unfold blk8; omega) (by unfold blk8; omega)]
  have e2 : ((insOf (V0 m c)).y0 (ix1 r) : BitVec 32).toNat = X0 m c r := by
    show ((H m c main_v10 : Vec Ideal S256 .i32) (ix1 r)).toNat = _
    rw [host_v10]; rfl
  have e3 : ((insOf (V0 m c)).y1 (ix1 r) : BitVec 32).toNat = X1 m c r := by
    show ((H m c main_v16 : Vec Ideal S256 .i32) (ix1 r)).toNat = _
    rw [host_v16]; rfl
  have h2 := hx.2.2.2.2.2.2.2.2.1 (by omega)
  have h3 := hx.2.2.2.2.2.2.2.2.2.1 (by omega)
  obtain ⟨n, hn⟩ : ∃ n : ℕ, 8 * blk8 (binLo (X0 m c r) (X1 m c r) ii.val) + y.val = n := Int.eq_ofNat_of_zero_le (by omega)
  have hn64 : n < 64 := by omega
  have e4 : Fin.ofNat 64 (8 * ((insOf (V0 m c)).hk (ix2 r ii) : BitVec 32).toNat + y.val) = ⟨n, hn64⟩ := by
    apply Fin.ext
    show _ % 64 = n
    rw [e1]; omega
  show scrAfter (insOf (V0 m c)) i f (ix4 rr j (Fin.ofNat 64 (8 * ((insOf (V0 m c)).hk (ix2 r ii) : BitVec 32).toNat + y.val)) ch) = _
  rw [e4, hn, Int.toNat_natCast]
  have hin : ix4 rr j (⟨n, hn64⟩ : Fin 64) ch ∈ rowSet (insOf (V0 m c)) i := by
    show InTrips ((insOf (V0 m c)).y0 (ix1 r) : BitVec 32).toNat (tripsOf ((insOf (V0 m c)).y0 (ix1 r) : BitVec 32).toNat ((insOf (V0 m c)).y1 (ix1 r) : BitVec 32).toNat) n
    rw [e2, e3]
    exact inTrips_of _ _ _ (by omega) (by omega) h1
  unfold scrAfter mix
  rw [if_pos hin]
  exact target_apply m c i rr j ⟨n, hn64⟩ ch hY

/-- The word of whether a roi is not empty. -/
theorem valid_word (r : Fin 256) : IntOp.cmpi .sgt ((insOf (V0 m c)).valid (ix1 r)) 0#32 = 1#1 ↔ X0 m c r < X1 m c r ∧ Y0 m c r < Y1 m c r := by
  show IntOp.cmpi .sgt ((H m c main_v23 : Vec Ideal S256 .i32) (ix1 r)) 0#32 = 1#1 ↔ _
  rw [host_v23, host_v10, host_v13, host_v16, host_v19]
  have hx0 := X0_lt m c r
  have hx1 := X1_lt m c r
  have hy0 := Y0_lt m c r
  have hy1 := Y1_lt m c r
  unfold X0 X1 Y0 Y1 at *
  generalize pix (F := Ideal) ((H m c main_arg1 : Vec Ideal S256x5 .f32) (ix2 r 1)) = x0 at *
  generalize pix (F := Ideal) ((H m c main_arg1 : Vec Ideal S256x5 .f32) (ix2 r 2)) = y0 at *
  generalize pix (F := Ideal) ((H m c main_arg1 : Vec Ideal S256x5 .f32) (ix2 r 3)) = x1 at *
  generalize pix (F := Ideal) ((H m c main_arg1 : Vec Ideal S256x5 .f32) (ix2 r 4)) = y1 at *
  have a1 : IntOp.cmpi .slt x0 x1 = BitVec.ofBool (decide (x0.toNat < x1.toNat)) := by
    conv_lhs => rw [wd_toNat x0, wd_toNat x1, wd_slt _ _ (by omega) (by omega) (by omega) (by omega)]
    simp only [Nat.cast_lt]
  have a2 : IntOp.cmpi .slt y0 y1 = BitVec.ofBool (decide (y0.toNat < y1.toNat)) := by
    conv_lhs => rw [wd_toNat y0, wd_toNat y1, wd_slt _ _ (by omega) (by omega) (by omega) (by omega)]
    simp only [Nat.cast_lt]
  rw [a1, a2, andi_ofBool]
  by_cases p : x0.toNat < x1.toNat <;> by_cases q : y0.toNat < y1.toNat <;> simp only [p, q, decide_true, decide_false, Bool.and_true, Bool.and_false, Bool.true_and, and_true, and_false, iff_true, iff_false] <;> decide

/-- A block of the result. -/
theorem out_apply (i : grid0.Coords) (rr : Fin 4) (ii j : Fin 7) (f : S4x7x64x256.Idx → Elt Ideal .f32) (ch : Fin 256) :
    outAfter (insOf (V0 m c)) i f (ix4 rr ii j ch) = pooled m c (roiOf i rr) ch ii j := by
  show outVal (maskAt (insOf (V0 m c)).rm i rr) ((insOf (V0 m c)).valid (ix1 (roiOf i rr))) ii
    (scrWin (insOf (V0 m c)) (roiOf i rr) rr ii j (scrAfter (insOf (V0 m c)) i f)) (ix4 (0 : Fin 1) (0 : Fin 1) (0 : Fin 1) ch) = _
  rw [outVal_apply]
  unfold pooled
  by_cases hv : X0 m c (roiOf i rr) < X1 m c (roiOf i rr) ∧ Y0 m c (roiOf i rr) < Y1 m c (roiOf i rr)
  · rw [if_pos ((valid_word m c _).2 hv), if_pos hv]
    have hx := xbin m c (roiOf i rr) ii
    have h1 := X1_lt m c (roiOf i rr)
    unfold binMax
    rw [← window_sup _ _ _ hx.1 (by have := hx.2.2.2.2.2.2.2.2.1 (by omega); omega) (by have := hx.2.2.2.2.2.2.2.2.2.2.2 (by omega); omega)]
    refine Finset.sup_congr rfl fun w _ => ?_
    rw [maskAt_apply]
    show _ + (H m c main_v112 : Vec Ideal S256x7x24 .f32) (ix3 (roiOf i rr) ii w) = _
    rw [v112_eq, add_mask]
    by_cases p : binLo (X0 m c (roiOf i rr)) (X1 m c (roiOf i rr)) ii.val ≤ 8 * blk8 (binLo (X0 m c (roiOf i rr)) (X1 m c (roiOf i rr)) ii.val) + w.val
        ∧ 8 * blk8 (binLo (X0 m c (roiOf i rr)) (X1 m c (roiOf i rr)) ii.val) + w.val < binHi (X0 m c (roiOf i rr)) (X1 m c (roiOf i rr)) ii.val
    · rw [if_pos p, if_pos p]
      exact scr_apply m c i rr ii j f w ch hv.1 hv.2 p.1 p.2
    · rw [if_neg p, if_neg p]
  · rw [if_neg (fun h => hv ((valid_word m c _).1 h)), if_neg hv]

end Cert.KernelIdeal.Roi
end
end
-- ==== Proof.KernelIdeal.Result.lean ====
/- What the kernel's result array ends holding. -/
module

public import proofs.«01_k».proof.Proof.KernelIdeal.Value
public import Idealize.ShloMosaic.Lib.Pipeline.ValueKit.Basic
public import Idealize.ShloMosaic.Lib.Pipeline.Value

@[expose] public section

set_option maxRecDepth 4000

noncomputable section

namespace Cert.KernelIdeal.Roi

open Idealize.ShloMosaic Idealize.ShloMosaic.TcCoe Cert.KernelIdeal Cert.KernelIdeal.Gen
open Idealize.ShloMosaic.Pipeline (Dat)

attribute [local irreducible] V0

variable (m : (ℓ : Loc nD τ sig) → Buf (Elt Ideal) ℓ) (c : Dev nD)

/-- What the region's array ends holding. -/
def pooledArr : Buf (Elt Ideal) ((c.tc : Thread nD τ).loc main_v114) := fun (x : S256x7x7x256.Idx) =>
  pooled m c (x 0 : Fin 256) (x 3 : Fin 256) (x 1 : Fin 7) (x 2 : Fin 7)

/-- Every point writes its block back. -/
theorem flush_tab : ∀ t : Fin grid0.N, Pipeline.Window.flushOf grid0 true cc0_transform_3 t = true := by decide +kernel

theorem flush3 (t : Fin (cfgM m).N) : ((cfgM m).win 3).flush t = true :=
  (Pipeline.Window.flush_eq_flushOf ((cfgM m).win 3) t).trans (flush_tab t)

/-- Where a point's block lies. -/
theorem index3 : ∀ t : Fin grid0.N, cc0_transform_3 (grid0.coords t) = ![t.val, 0, 0, 0] := by decide +kernel

/-- The elements of a point's block. -/
theorem emb3 (t : Fin (cfgM m).N) (x : S4x7x7x256.Idx) :
    (((cfgM m).win 3).blk t).view.emb x = (ix4 (⟨t.val * 4 + (x 0).val, by
      have h : (x 0).val < 4 := (x 0).isLt
      have h2 : t.val < 64 := t.isLt
      omega⟩ : Fin 256) (x 1 : Fin 7) (x 2 : Fin 7) (x 3 : Fin 256) : S256x7x7x256.Idx) := by
  have e := index3 t
  refine funext fun (a : Fin 4) => Fin.ext ?_
  match a with
  | 0 =>
    show cc0_transform_3 (grid0.coords t) 0 * 4 + 1 * (x 0).val = t.val * 4 + (x 0).val
    rw [e, Nat.one_mul]; rfl
  | 1 =>
    show cc0_transform_3 (grid0.coords t) 1 * 7 + 1 * (x 1).val = (x 1).val
    rw [e, Nat.one_mul]; exact Nat.zero_add _
  | 2 =>
    show cc0_transform_3 (grid0.coords t) 2 * 7 + 1 * (x 2).val = (x 2).val
    rw [e, Nat.one_mul]; exact Nat.zero_add _
  | 3 =>
    show cc0_transform_3 (grid0.coords t) 3 * 256 + 1 * (x 3).val = (x 3).val
    rw [e, Nat.one_mul]; exact Nat.zero_add _

/-- What a point writes back is its block of the array. -/
theorem flushed3 (t : Fin (cfgM m).N) : (dats m 0 c).flushed 3 t = (((cfgM m).win 3).blk t).view.read (Elt Ideal) (pooledArr m c) := by
  show ((cfgM m).win 3).cut ((cfgM m).grid.coords t) ((dats m 0 c).after (3 : Fin 4) t) = _
  rw [after3]
  refine funext fun (x : S4x7x7x256.Idx) => ?_
  refine Eq.trans ?_ (congrArg (pooledArr m c) (emb3 m t x)).symm
  show outAfter (insOf (V0 m c)) (grid0.coords t) (scrAt (insOf (V0 m c)) t.val) x = _
  obtain ⟨rr, i, j, ch, rfl⟩ : ∃ (rr : Fin 4) (i j : Fin 7) (ch : Fin 256), x = ix4 rr i j ch := ⟨_, _, _, _, eq_ix4 x⟩
  rw [out_apply]
  unfold pooledArr
  show pooled m c (roiOf (grid0.coords t) rr) ch i j = pooled m c _ ch i j
  congr 1
  apply Fin.ext
  show 4 * (grid0.coords t 0).val + rr.val = t.val * 4 + rr.val
  rw [coords_val, Nat.mul_comm]

/-- Every element is in some point's block. -/
theorem cover3 (x : S256x7x7x256.Idx) : ∃ t : Fin (cfgM m).N, ((cfgM m).win 3).flush t = true ∧ x ∈ (((cfgM m).win 3).blk t).view.set := by
  obtain ⟨r, i, j, ch, rfl⟩ : ∃ (r : Fin 256) (i j : Fin 7) (ch : Fin 256), x = ix4 r i j ch := ⟨_, _, _, _, eq_ix4 x⟩
  have h0 : r.val / 4 < 64 := by have := r.isLt; omega
  refine ⟨(⟨r.val / 4, h0⟩ : Fin grid0.N), flush3 m _, ?_⟩
  have e := emb3 m (⟨r.val / 4, h0⟩ : Fin grid0.N) (ix4 (⟨r.val % 4, Nat.mod_lt _ (by decide)⟩ : Fin 4) i j ch)
  have e' : (ix4 r i j ch : S256x7x7x256.Idx) = (((cfgM m).win 3).blk (⟨r.val / 4, h0⟩ : Fin grid0.N)).view.emb
      (ix4 (⟨r.val % 4, Nat.mod_lt _ (by decide)⟩ : Fin 4) i j ch : S4x7x7x256.Idx) := by
    refine Eq.trans ?_ e.symm
    congr 1
    apply Fin.ext
    show r.val = r.val / 4 * 4 + r.val % 4
    omega
  rw [e']
  exact View.emb_mem_set _ _

/-- The region's array. -/
theorem final3 : (dats m 0 c).arrAt 3 (cfgM m).N = pooledArr m c :=
  (dats m 0 c).arrAt_eq_of_cover 3 (pooledArr m c) (fun t _ => flushed3 m c t) (cover3 m)

/-- The result. -/
theorem result_apply (r ch : Fin 256) (i j : Fin 7) :
    (Pipeline.afterTail pcfgs (fun _ => adm m) (dats m) 0 (V0 m) [hostOps1] c main_v115 : Vec Ideal S256x256x7x7 .f32) (ix4 r ch i j) = pooled m c r ch i j := by
  have hw : Pipeline.withArrays (Pipeline.pin pcfgs (fun _ => adm m) 0).spec c (V0 m c) (fun w => (dats m 0 c).arrAt w (cfgM m).N) (Proc.devRef .tc main_v114)
      = pooledArr m c :=
    (Pipeline.withArrays_arr spec0 winFacts0.arr_inj c (V0 m c) (fun w => (dats m 0 c).arrAt w (cfgM m).N) 3).trans (final3 m c)
  unfold Pipeline.afterTail
  have ht : ∀ V : Valuation τ sig (Elt Ideal), (StableHlo.after (List.flatten [hostOps1]) V (Proc.devRef .tc main_v115) : Vec Ideal S256x256x7x7 .f32) (ix4 r ch i j)
      = (V (Proc.devRef .tc main_v114) : Vec Ideal S256x7x7x256 .f32) (ix4 r i j ch) := by
    intro V
    after_reads_at
  refine (ht _).trans ?_
  exact congrFun hw (ix4 r i j ch)

end Cert.KernelIdeal.Roi
end
end
-- ==== Proof.ReferenceIdeal.Value.lean ====
/- What the reference computes, element by element. -/
module

public import proofs.«01_k».proof.Proof.Gen.ReferenceIdeal
public import proofs.«01_k».proof.Proof.Gen.ReferenceIdeal.Run

@[expose] public section

end
-- ==== Proof.ReferenceIdeal.Frame.lean ====
/- The reference's run leaves its arguments as they were; it has no semaphores. -/
module

public import proofs.«01_k».proof.Proof.ReferenceIdeal.Value
public import Idealize.ShloMosaic.Lib.Quiescent
public import Idealize.ShloMosaic.Lib.StableHlo.RunHlo

@[expose] public section

namespace Cert.ReferenceIdeal.Roi

open Idealize.ShloMosaic Idealize.ShloMosaic.TcCoe Cert.ReferenceIdeal Cert.ReferenceIdeal.Gen

variable {F : FTy → Type} [FloatOps F] (m : (ℓ : Loc nD τ sig) → Buf (Elt F) ℓ)

/-- The run, its arguments unchanged and no semaphore left up. -/
theorem run_frame (ρ : Dev nD → PrngReg) :
    θ_run defs (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1))
      ∧ r.2.sem = fun _ => 0) :=
  θ_run_mono (Cert.ReferenceIdeal.Value.run m ρ) fun r h =>
    ⟨fun c => (h c).2, sem_eq_zero_of_no_sems (by decide) r.2⟩

end Cert.ReferenceIdeal.Roi
end
-- ==== Proof.ReferenceIdeal.Words.lean ====
/- What the reference's first lines hold of one roi: the image it names, the ends of its two ranges, the features it sees. -/
module

public import proofs.«01_k».proof.Proof.ReferenceIdeal.Value
public import proofs.«01_k».proof.Proof.KernelIdeal.Pool
public import Idealize.ShloMosaic.Lib.Pointwise

@[expose] public section

set_option maxRecDepth 8192

noncomputable section

namespace Cert.ReferenceIdeal.Roi

open Idealize.ShloMosaic Idealize.ShloMosaic.TcCoe Cert.ReferenceIdeal Cert.ReferenceIdeal.Gen Cert.ReferenceIdeal.Value
open Cert.KernelIdeal.Roi (pix)

variable {F : FTy → Type} [FloatOps F] (V : Valuation τ sig (Elt F))

/-- The image a roi names, as a word. -/
theorem v2_apply (r : Fin 256) : (res_main_v2 V : Vec F S256 .i32) (ix1 r)
    = FloatOps.fptosi 32 ((V (Proc.devRef .tc main_arg1) : Vec F S256x5 .f32) (ix2 r 0)) := by
  unfold res_main_v2
  pointwise

/-- The first row of a roi. -/
theorem v10_apply (r : Fin 256) : (res_main_v10 V : Vec F S256 .i32) (ix1 r) = pix ((V (Proc.devRef .tc main_arg1) : Vec F S256x5 .f32) (ix2 r 1)) := by
  unfold res_main_v10 res_main_v7
  pointwise
  rfl
/-- Its first column. -/
theorem v13_apply (r : Fin 256) : (res_main_v13 V : Vec F S256 .i32) (ix1 r) = pix ((V (Proc.devRef .tc main_arg1) : Vec F S256x5 .f32) (ix2 r 2)) := by
  unfold res_main_v13 res_main_v7
  pointwise
  rfl
/-- The end of its rows. -/
theorem v16_apply (r : Fin 256) : (res_main_v16 V : Vec F S256 .i32) (ix1 r) = pix ((V (Proc.devRef .tc main_arg1) : Vec F S256x5 .f32) (ix2 r 3)) := by
  unfold res_main_v16 res_main_v7
  pointwise
  rfl
/-- The end of its columns. -/
theorem v19_apply (r : Fin 256) : (res_main_v19 V : Vec F S256 .i32) (ix1 r) = pix ((V (Proc.devRef .tc main_arg1) : Vec F S256x5 .f32) (ix2 r 4)) := by
  unfold res_main_v19 res_main_v7
  pointwise
  rfl

/-- The gather of whole images at an index: the image of the row's number, clamped into the four. -/
theorem gather_apply {α : Type} (x : S4x256x64x64.Idx → α) (idx : IVec S256x1 32) (r ch : Fin 256) (h w : Fin 64) :
    Host.gather gather_S4x256x64x64_S256x1_S256x256x64x64_123_0_n_n_0_1_12566464 x idx (ix4 r ch h w)
      = x (ix4 (⟨min (idx (ix2 r (0 : Fin 1))).toInt.toNat 3, by omega⟩ : Fin 4) ch h w) := by
  unfold Host.gather
  congr 1
  funext a
  refine Fin.ext ?_
  set d := gather_S4x256x64x64_S256x1_S256x256x64x64_123_0_n_n_0_1_12566464 with hd
  show d.start (ix4 r ch h w) idx a + d.batchCoord (ix4 r ch h w) a + d.offCoord (ix4 r ch h w) a = _
  rw [GatherDims.batchCoord_eq_zero _ _ _ (show a ∉ d.operandBatchingDims from List.not_mem_nil), Nat.add_zero]
  match a with
  | ⟨0, h0⟩ =>
    rw [GatherDims.offCoord_eq_zero _ _ _ (fun g => ((GatherDims.mem_sKept _ _).mp g).1 (List.mem_singleton.mpr rfl)), Nat.add_zero]
    unfold GatherDims.start
    rw [dif_pos (show (⟨0, h0⟩ : Fin 4) ∈ d.startIndexMap from List.mem_singleton.mpr rfl)]
    have hsi : d.siIdx (ix4 r ch h w) ⟨List.idxOf (⟨0, h0⟩ : Fin 4) d.startIndexMap,
        List.idxOf_lt_length_iff.2 (List.mem_singleton.mpr rfl)⟩ = ix2 r (0 : Fin 1) := by
      funext b
      refine Fin.ext ?_
      match b with
      | ⟨0, _⟩ => rfl
      | ⟨1, _⟩ => rfl
    rw [hsi]
    rfl
  | ⟨1, h1⟩ =>
    unfold GatherDims.start
    rw [dif_neg (show (⟨1, h1⟩ : Fin 4) ∉ d.startIndexMap from fun g => absurd (congrArg Fin.val (List.mem_singleton.mp g)) (by decide : (1 : ℕ) ≠ 0)), Nat.zero_add]
    rfl
  | ⟨2, h1⟩ =>
    unfold GatherDims.start
    rw [dif_neg (show (⟨2, h1⟩ : Fin 4) ∉ d.startIndexMap from fun g => absurd (congrArg Fin.val (List.mem_singleton.mp g)) (by decide : (2 : ℕ) ≠ 0)), Nat.zero_add]
    rfl
  | ⟨3, h1⟩ =>
    unfold GatherDims.start
    rw [dif_neg (show (⟨3, h1⟩ : Fin 4) ∉ d.startIndexMap from fun g => absurd (congrArg Fin.val (List.mem_singleton.mp g)) (by decide : (3 : ℕ) ≠ 0)), Nat.zero_add]
    rfl

/-- A number below four is not negative, and the clamp leaves it. -/
theorem wrap_word (x : BitVec 32) (h : x.toNat < 4) :
    min (Scalar.select (IntOp.cmpi .slt x 0#32) (IntOp.addi x 4#32) x).toInt.toNat 3 = x.toNat % 4 := by
  have hx : x = BitVec.ofNat 32 x.toNat := by rw [BitVec.ofNat_toNat, BitVec.setWidth_eq]
  rw [hx]
  generalize x.toNat = n at h
  obtain rfl | rfl | rfl | rfl : n = 0 ∨ n = 1 ∨ n = 2 ∨ n = 3 := by omega
  all_goals decide

/-- The features a roi sees are those of the image it names. -/
theorem v29_apply (r ch : Fin 256) (h w : Fin 64)
    (hb : (FloatOps.fptosi 32 ((V (Proc.devRef .tc main_arg1) : Vec F S256x5 .f32) (ix2 r 0)) : BitVec 32).toNat < 4) :
    (res_main_v29 V : Vec F S256x256x64x64 .f32) (ix4 r ch h w)
      = (V (Proc.devRef .tc main_arg0) : Vec F S4x256x64x64 .f32)
          (ix4 (Fin.ofNat 4 (FloatOps.fptosi 32 ((V (Proc.devRef .tc main_arg1) : Vec F S256x5 .f32) (ix2 r 0)) : BitVec 32).toNat) ch h w) := by
  unfold res_main_v29
  refine (gather_apply _ _ r ch h w).trans ?_
  congr 1
  have e : (broadcastInDim S256x1 ![0] bcast_S256_S256x1_0 (select (cmpi .slt (res_main_v2 V) (broadcastInDim S256 ![] bcast_S_S256 (constantI S_ 32 0#32)))
      (addi (res_main_v2 V) (broadcastInDim S256 ![] bcast_S_S256 (constantI S_ 32 4#32))) (res_main_v2 V)) : IVec S256x1 32) (ix2 r (0 : Fin 1))
      = Scalar.select (IntOp.cmpi .slt ((res_main_v2 V : Vec F S256 .i32) (ix1 r)) 0#32) (IntOp.addi ((res_main_v2 V : Vec F S256 .i32) (ix1 r)) 4#32)
          ((res_main_v2 V : Vec F S256 .i32) (ix1 r)) := by
    pointwise
  congr 1
  apply Fin.ext
  show min _ 3 = _ % 4
  rw [e, v2_apply]
  exact wrap_word _ hb

end Cert.ReferenceIdeal.Roi
end
end
-- ==== Proof.ReferenceIdeal.RangeWords.lean ====
/- Which cells a bin takes, in the reference's words and in whole numbers. -/
module

public import proofs.«01_k».proof.Proof.ReferenceIdeal.Words
public import Idealize.ShloMosaic.Lib.Pointwise

@[expose] public section

set_option maxRecDepth 8192

noncomputable section

namespace Cert.ReferenceIdeal.Roi

open Idealize.ShloMosaic Idealize.ShloMosaic.TcCoe Cert.ReferenceIdeal Cert.ReferenceIdeal.Gen Cert.ReferenceIdeal.Value
open Cert.KernelIdeal.Roi

/-- Whether cell `w` is in bin `j` of the range from `a` to `b`, as the reference's words say it. -/
def inBin (a b : BitVec 32) (j w : ℕ) : BitVec 1 :=
  IntOp.andi (IntOp.cmpi .sge (BitVec.ofNat 32 w) (IntOp.addi a (fdiv (IntOp.muli (BitVec.ofNat 32 j) (IntOp.subi b a)) 7#32)))
    (IntOp.cmpi .slt (BitVec.ofNat 32 w)
      (IntOp.addi a (fdiv (IntOp.subi (IntOp.addi (IntOp.muli (IntOp.addi (BitVec.ofNat 32 j) 1#32) (IntOp.subi b a)) 7#32) 1#32) 7#32)))

/-- The words say what the whole numbers say. -/
theorem inBin_eq (a b : BitVec 32) (ha : a.toNat < 64) (hb : b.toNat < 64) (j : ℕ) (hj : j < 7) (w : ℕ) (hw : w < 64) :
    inBin a b j w = BitVec.ofBool (decide (binLo a.toNat b.toNat j ≤ (w : ℤ) ∧ (w : ℤ) < binHi a.toNat b.toNat j)) := by
  have h := bin_bounds a.toNat b.toNat j (by omega) (by omega) (by omega) (by omega) (by omega) (by omega)
  unfold BinFacts at h
  unfold inBin
  rw [lo_word a b ha hb j hj, hi_word a b ha hb j hj, wd_nat,
    wd_sge _ _ (by omega) (by omega) (by omega) (by omega), wd_slt _ _ (by omega) (by omega) (by omega) (by omega),
    Cert.KernelIdeal.Roi.andi_ofBool, Bool.decide_and]

/-- The greatest of `g` over the cells the words put in bin `j`. -/
def wordSup (a b : BitVec 32) (j : ℕ) (g : Fin 64 → EReal) : EReal :=
  Finset.univ.sup fun w : Fin 64 => Scalar.select (α := EReal) (inBin a b j w.val) (g w) (⊥ : EReal)

/-- It is the greatest over the bin. -/
theorem wordSup_eq (a b : BitVec 32) (ha : a.toNat < 64) (hb : b.toNat < 64) (j : Fin 7) (g : Fin 64 → EReal) (f : ℕ → EReal) (h : ∀ w, g w = f w.val) :
    wordSup a b j.val g = binSup (binLo a.toNat b.toNat j.val) (binHi a.toNat b.toNat j.val) f := by
  unfold wordSup binSup
  refine Finset.sup_congr rfl fun w _ => ?_
  rw [inBin_eq a b ha hb j.val j.isLt w.val w.isLt, Cert.KernelIdeal.Roi.select_ofBool, h w]
  simp only [decide_eq_true_eq]

end Cert.ReferenceIdeal.Roi
end
end
-- ==== Proof.ReferenceIdeal.Cols.lean ====
/- The reference's bins of columns: the greatest feature of each, at each row. -/
module

public import proofs.«01_k».proof.Proof.ReferenceIdeal.RangeWords
public import Idealize.ShloMosaic.Lib.Pointwise

@[expose] public section

set_option maxRecDepth 8192

noncomputable section

namespace Cert.ReferenceIdeal.Roi

open Idealize.ShloMosaic Idealize.ShloMosaic.TcCoe Cert.ReferenceIdeal Cert.ReferenceIdeal.Gen Cert.ReferenceIdeal.Value
open Cert.KernelIdeal.Roi

variable (V : Valuation τ sig (Elt Ideal))

/-- Bin of columns 0. -/
theorem col0 (r ch : Fin 256) (h : Fin 64) : (res_main_v223 V : Vec Ideal S256x256x64x7 .f32) (ix4 r ch h (0 : Fin 7))
    = wordSup ((res_main_v13 V : Vec Ideal S256 .i32) (ix1 r)) ((res_main_v19 V : Vec Ideal S256 .i32) (ix1 r)) 0
      (fun w : Fin 64 => (res_main_v29 V : Vec Ideal S256x256x64x64 .f32) (ix4 r ch h w)) := by
  unfold res_main_v223 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of columns 1. -/
theorem col1 (r ch : Fin 256) (h : Fin 64) : (res_main_v223 V : Vec Ideal S256x256x64x7 .f32) (ix4 r ch h (1 : Fin 7))
    = wordSup ((res_main_v13 V : Vec Ideal S256 .i32) (ix1 r)) ((res_main_v19 V : Vec Ideal S256 .i32) (ix1 r)) 1
      (fun w : Fin 64 => (res_main_v29 V : Vec Ideal S256x256x64x64 .f32) (ix4 r ch h w)) := by
  unfold res_main_v223 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of columns 2. -/
theorem col2 (r ch : Fin 256) (h : Fin 64) : (res_main_v223 V : Vec Ideal S256x256x64x7 .f32) (ix4 r ch h (2 : Fin 7))
    = wordSup ((res_main_v13 V : Vec Ideal S256 .i32) (ix1 r)) ((res_main_v19 V : Vec Ideal S256 .i32) (ix1 r)) 2
      (fun w : Fin 64 => (res_main_v29 V : Vec Ideal S256x256x64x64 .f32) (ix4 r ch h w)) := by
  unfold res_main_v223 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of columns 3. -/
theorem col3 (r ch : Fin 256) (h : Fin 64) : (res_main_v223 V : Vec Ideal S256x256x64x7 .f32) (ix4 r ch h (3 : Fin 7))
    = wordSup ((res_main_v13 V : Vec Ideal S256 .i32) (ix1 r)) ((res_main_v19 V : Vec Ideal S256 .i32) (ix1 r)) 3
      (fun w : Fin 64 => (res_main_v29 V : Vec Ideal S256x256x64x64 .f32) (ix4 r ch h w)) := by
  unfold res_main_v223 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of columns 4. -/
theorem col4 (r ch : Fin 256) (h : Fin 64) : (res_main_v223 V : Vec Ideal S256x256x64x7 .f32) (ix4 r ch h (4 : Fin 7))
    = wordSup ((res_main_v13 V : Vec Ideal S256 .i32) (ix1 r)) ((res_main_v19 V : Vec Ideal S256 .i32) (ix1 r)) 4
      (fun w : Fin 64 => (res_main_v29 V : Vec Ideal S256x256x64x64 .f32) (ix4 r ch h w)) := by
  unfold res_main_v223 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of columns 5. -/
theorem col5 (r ch : Fin 256) (h : Fin 64) : (res_main_v223 V : Vec Ideal S256x256x64x7 .f32) (ix4 r ch h (5 : Fin 7))
    = wordSup ((res_main_v13 V : Vec Ideal S256 .i32) (ix1 r)) ((res_main_v19 V : Vec Ideal S256 .i32) (ix1 r)) 5
      (fun w : Fin 64 => (res_main_v29 V : Vec Ideal S256x256x64x64 .f32) (ix4 r ch h w)) := by
  unfold res_main_v223 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of columns 6. -/
theorem col6 (r ch : Fin 256) (h : Fin 64) : (res_main_v223 V : Vec Ideal S256x256x64x7 .f32) (ix4 r ch h (6 : Fin 7))
    = wordSup ((res_main_v13 V : Vec Ideal S256 .i32) (ix1 r)) ((res_main_v19 V : Vec Ideal S256 .i32) (ix1 r)) 6
      (fun w : Fin 64 => (res_main_v29 V : Vec Ideal S256x256x64x64 .f32) (ix4 r ch h w)) := by
  unfold res_main_v223 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl

/-- Bin of columns `k`. -/
theorem col_apply (r ch : Fin 256) (h : Fin 64) (k : Fin 7) : (res_main_v223 V : Vec Ideal S256x256x64x7 .f32) (ix4 r ch h k)
    = wordSup ((res_main_v13 V : Vec Ideal S256 .i32) (ix1 r)) ((res_main_v19 V : Vec Ideal S256 .i32) (ix1 r)) k.val
      (fun w : Fin 64 => (res_main_v29 V : Vec Ideal S256x256x64x64 .f32) (ix4 r ch h w)) := by
  match k with
  | 0 => exact col0 V r ch h
  | 1 => exact col1 V r ch h
  | 2 => exact col2 V r ch h
  | 3 => exact col3 V r ch h
  | 4 => exact col4 V r ch h
  | 5 => exact col5 V r ch h
  | 6 => exact col6 V r ch h

end Cert.ReferenceIdeal.Roi
end
end
-- ==== Proof.ReferenceIdeal.Rows.lean ====
/- The reference's bins of rows: the greatest of each, over the bins of columns. -/
module

public import proofs.«01_k».proof.Proof.ReferenceIdeal.RangeWords
public import Idealize.ShloMosaic.Lib.Pointwise

@[expose] public section

set_option maxRecDepth 8192

noncomputable section

namespace Cert.ReferenceIdeal.Roi

open Idealize.ShloMosaic Idealize.ShloMosaic.TcCoe Cert.ReferenceIdeal Cert.ReferenceIdeal.Gen Cert.ReferenceIdeal.Value
open Cert.KernelIdeal.Roi

variable (V : Valuation τ sig (Elt Ideal))

/-- Bin of rows 0. -/
theorem row0 (r ch : Fin 256) (j : Fin 7) : (res_main_v413 V : Vec Ideal S256x256x7x7 .f32) (ix4 r ch (0 : Fin 7) j)
    = wordSup ((res_main_v10 V : Vec Ideal S256 .i32) (ix1 r)) ((res_main_v16 V : Vec Ideal S256 .i32) (ix1 r)) 0
      (fun h : Fin 64 => (res_main_v223 V : Vec Ideal S256x256x64x7 .f32) (ix4 r ch h j)) := by
  unfold res_main_v413 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of rows 1. -/
theorem row1 (r ch : Fin 256) (j : Fin 7) : (res_main_v413 V : Vec Ideal S256x256x7x7 .f32) (ix4 r ch (1 : Fin 7) j)
    = wordSup ((res_main_v10 V : Vec Ideal S256 .i32) (ix1 r)) ((res_main_v16 V : Vec Ideal S256 .i32) (ix1 r)) 1
      (fun h : Fin 64 => (res_main_v223 V : Vec Ideal S256x256x64x7 .f32) (ix4 r ch h j)) := by
  unfold res_main_v413 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of rows 2. -/
theorem row2 (r ch : Fin 256) (j : Fin 7) : (res_main_v413 V : Vec Ideal S256x256x7x7 .f32) (ix4 r ch (2 : Fin 7) j)
    = wordSup ((res_main_v10 V : Vec Ideal S256 .i32) (ix1 r)) ((res_main_v16 V : Vec Ideal S256 .i32) (ix1 r)) 2
      (fun h : Fin 64 => (res_main_v223 V : Vec Ideal S256x256x64x7 .f32) (ix4 r ch h j)) := by
  unfold res_main_v413 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of rows 3. -/
theorem row3 (r ch : Fin 256) (j : Fin 7) : (res_main_v413 V : Vec Ideal S256x256x7x7 .f32) (ix4 r ch (3 : Fin 7) j)
    = wordSup ((res_main_v10 V : Vec Ideal S256 .i32) (ix1 r)) ((res_main_v16 V : Vec Ideal S256 .i32) (ix1 r)) 3
      (fun h : Fin 64 => (res_main_v223 V : Vec Ideal S256x256x64x7 .f32) (ix4 r ch h j)) := by
  unfold res_main_v413 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of rows 4. -/
theorem row4 (r ch : Fin 256) (j : Fin 7) : (res_main_v413 V : Vec Ideal S256x256x7x7 .f32) (ix4 r ch (4 : Fin 7) j)
    = wordSup ((res_main_v10 V : Vec Ideal S256 .i32) (ix1 r)) ((res_main_v16 V : Vec Ideal S256 .i32) (ix1 r)) 4
      (fun h : Fin 64 => (res_main_v223 V : Vec Ideal S256x256x64x7 .f32) (ix4 r ch h j)) := by
  unfold res_main_v413 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of rows 5. -/
theorem row5 (r ch : Fin 256) (j : Fin 7) : (res_main_v413 V : Vec Ideal S256x256x7x7 .f32) (ix4 r ch (5 : Fin 7) j)
    = wordSup ((res_main_v10 V : Vec Ideal S256 .i32) (ix1 r)) ((res_main_v16 V : Vec Ideal S256 .i32) (ix1 r)) 5
      (fun h : Fin 64 => (res_main_v223 V : Vec Ideal S256x256x64x7 .f32) (ix4 r ch h j)) := by
  unfold res_main_v413 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl
/-- Bin of rows 6. -/
theorem row6 (r ch : Fin 256) (j : Fin 7) : (res_main_v413 V : Vec Ideal S256x256x7x7 .f32) (ix4 r ch (6 : Fin 7) j)
    = wordSup ((res_main_v10 V : Vec Ideal S256 .i32) (ix1 r)) ((res_main_v16 V : Vec Ideal S256 .i32) (ix1 r)) 6
      (fun h : Fin 64 => (res_main_v223 V : Vec Ideal S256x256x64x7 .f32) (ix4 r ch h j)) := by
  unfold res_main_v413 wordSup
  pointwise
  rw [show Ideal.ofBits .f32 0xFF800000#32 = (⊥ : EReal) from neg_inf]
  show (Finset.univ.sup (α := EReal) (fun w : Fin 64 => _)) = _
  refine Finset.sup_congr (α := EReal) rfl fun w _ => ?_
  rw [show (id (constant S_ FTy.f32 4286578688#32) ix0 : Ideal .f32) = (⊥ : EReal) from neg_inf]
  rfl

/-- Bin of rows `k`. -/
theorem row_apply (r ch : Fin 256) (j : Fin 7) (k : Fin 7) : (res_main_v413 V : Vec Ideal S256x256x7x7 .f32) (ix4 r ch k j)
    = wordSup ((res_main_v10 V : Vec Ideal S256 .i32) (ix1 r)) ((res_main_v16 V : Vec Ideal S256 .i32) (ix1 r)) k.val
      (fun h : Fin 64 => (res_main_v223 V : Vec Ideal S256x256x64x7 .f32) (ix4 r ch h j)) := by
  match k with
  | 0 => exact row0 V r ch j
  | 1 => exact row1 V r ch j
  | 2 => exact row2 V r ch j
  | 3 => exact row3 V r ch j
  | 4 => exact row4 V r ch j
  | 5 => exact row5 V r ch j
  | 6 => exact row6 V r ch j

end Cert.ReferenceIdeal.Roi
end
end
-- ==== Proof.ReferenceIdeal.Pooled.lean ====
/- The reference's result at an index: what the kernel holds there. -/
module

public import proofs.«01_k».proof.Proof.ReferenceIdeal.Cols
public import proofs.«01_k».proof.Proof.ReferenceIdeal.Rows
public import proofs.«01_k».proof.Proof.KernelIdeal.Value

@[expose] public section

set_option maxRecDepth 8192

noncomputable section

namespace Cert.ReferenceIdeal.Roi

open Idealize.ShloMosaic Idealize.ShloMosaic.TcCoe Cert.ReferenceIdeal Cert.ReferenceIdeal.Gen Cert.ReferenceIdeal.Value
open Cert.KernelIdeal.Roi (pix pix_lt img seen colMax binMax pooled X0 X1 Y0 Y1 X0_lt X1_lt Y0_lt Y1_lt zero_word wd_toNat wd_slt)

/-- The result's last line: the greatest over the bin where the roi is not empty, zero elsewhere. -/
def last (V : Valuation τ sig (Elt Ideal)) : Vec Ideal S256x256x7x7 .f32 :=
  select (broadcastInDim S256x256x7x7 ![0, 1, 2, 3] bcast_S256x1x1x1_S256x256x7x7_0_1_2_3 (broadcastInDim S256x1x1x1 ![0] bcast_S256_S256x1x1x1_0
      (andi (cmpi .slt (res_main_v10 V) (res_main_v16 V)) (cmpi .slt (res_main_v13 V) (res_main_v19 V)))))
    (res_main_v413 V) (broadcastInDim S256x256x7x7 ![] bcast_S_S256x256x7x7 (constant (F := Ideal) S_ .f32 0x00000000#32))

/-- It at an index. -/
theorem last_apply (V : Valuation τ sig (Elt Ideal)) (r ch : Fin 256) (i j : Fin 7) : last V (ix4 r ch i j)
    = Scalar.select (α := EReal) (IntOp.andi
        (IntOp.cmpi .slt ((res_main_v10 V : Vec Ideal S256 .i32) (ix1 r)) ((res_main_v16 V : Vec Ideal S256 .i32) (ix1 r)))
        (IntOp.cmpi .slt ((res_main_v13 V : Vec Ideal S256 .i32) (ix1 r)) ((res_main_v19 V : Vec Ideal S256 .i32) (ix1 r))))
      ((res_main_v413 V : Vec Ideal S256x256x7x7 .f32) (ix4 r ch i j)) (0 : EReal) := by
  unfold last
  rw [← zero_word]
  pointwise

/-- The reference's run, its result by name. -/
theorem run_last (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v415) = last (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

/-- Comparing two cells, as words and as naturals. -/
theorem slt_word (a b : BitVec 32) (ha : a.toNat < 64) (hb : b.toNat < 64) : IntOp.cmpi .slt a b = BitVec.ofBool (decide (a.toNat < b.toNat)) := by
  conv_lhs => rw [wd_toNat a, wd_toNat b, wd_slt _ _ (by omega) (by omega) (by omega) (by omega)]
  simp only [Nat.cast_lt]

section
variable (m : (ℓ : Loc Cert.KernelIdeal.nD Cert.KernelIdeal.τ Cert.KernelIdeal.sig) → Buf (Elt Ideal) ℓ) (c : Dev Cert.KernelIdeal.nD)
  (V : Valuation τ sig (Elt Ideal))
  (e0 : (V (Proc.devRef .tc main_arg0) : Vec Ideal S4x256x64x64 .f32) = m (c, Proc.devRef .tc Cert.KernelIdeal.main_arg0))
  (e1 : (V (Proc.devRef .tc main_arg1) : Vec Ideal S256x5 .f32) = m (c, Proc.devRef .tc Cert.KernelIdeal.main_arg1))
include e1

theorem v10_nat (r : Fin 256) : ((res_main_v10 V : Vec Ideal S256 .i32) (ix1 r) : BitVec 32).toNat = X0 m c r := by
  rw [v10_apply, e1]; unfold X0; rw [Cert.KernelIdeal.Roi.host_arg1]
theorem v13_nat (r : Fin 256) : ((res_main_v13 V : Vec Ideal S256 .i32) (ix1 r) : BitVec 32).toNat = Y0 m c r := by
  rw [v13_apply, e1]; unfold Y0; rw [Cert.KernelIdeal.Roi.host_arg1]
theorem v16_nat (r : Fin 256) : ((res_main_v16 V : Vec Ideal S256 .i32) (ix1 r) : BitVec 32).toNat = X1 m c r := by
  rw [v16_apply, e1]; unfold X1; rw [Cert.KernelIdeal.Roi.host_arg1]
theorem v19_nat (r : Fin 256) : ((res_main_v19 V : Vec Ideal S256 .i32) (ix1 r) : BitVec 32).toNat = Y1 m c r := by
  rw [v19_apply, e1]; unfold Y1; rw [Cert.KernelIdeal.Roi.host_arg1]

include e0

variable (r : Fin 256)
  (hb : (FloatOps.fptosi (F := Ideal) (φ := .f32) 32 ((m (c, Proc.devRef .tc Cert.KernelIdeal.main_arg1) : Vec Ideal S256x5 .f32) (ix2 r 0)) : BitVec 32).toNat < 4)
include hb

/-- The features a roi sees. -/
theorem v29_seen (ch : Fin 256) (h w : Fin 64) : (res_main_v29 V : Vec Ideal S256x256x64x64 .f32) (ix4 r ch h w) = seen m c r ch h.val w.val := by
  rw [v29_apply V r ch h w (by rw [e1]; exact hb), e0, e1]
  unfold seen img
  rw [show Fin.ofNat 64 h.val = h from Fin.ext (Nat.mod_eq_of_lt h.isLt), show Fin.ofNat 64 w.val = w from Fin.ext (Nat.mod_eq_of_lt w.isLt)]

/-- A bin of columns. -/
theorem v223_eq (ch : Fin 256) (h : Fin 64) (j : Fin 7) : (res_main_v223 V : Vec Ideal S256x256x64x7 .f32) (ix4 r ch h j) = colMax m c r ch j h.val := by
  have a := v13_nat m c V e1 r
  have b := v19_nat m c V e1 r
  rw [col_apply, wordSup_eq _ _ (by rw [a]; exact Y0_lt m c r) (by rw [b]; exact Y1_lt m c r) j _ (seen m c r ch h.val)
    (fun w => v29_seen m c V e0 e1 r hb ch h w), a, b]
  rfl

/-- A bin. -/
theorem v413_eq (ch : Fin 256) (i j : Fin 7) : (res_main_v413 V : Vec Ideal S256x256x7x7 .f32) (ix4 r ch i j) = binMax m c r ch i j := by
  have a := v10_nat m c V e1 r
  have b := v16_nat m c V e1 r
  rw [row_apply, wordSup_eq _ _ (by rw [a]; exact X0_lt m c r) (by rw [b]; exact X1_lt m c r) i _ (colMax m c r ch j)
    (fun h => v223_eq m c V e0 e1 r hb ch h j), a, b]
  rfl

/-- The result. -/
theorem last_eq (ch : Fin 256) (i j : Fin 7) : last V (ix4 r ch i j) = pooled m c r ch i j := by
  have a := v10_nat m c V e1 r
  have b := v16_nat m c V e1 r
  have a' := v13_nat m c V e1 r
  have b' := v19_nat m c V e1 r
  rw [last_apply, v413_eq m c V e0 e1 r hb,
    slt_word _ _ (by rw [a]; exact X0_lt m c r) (by rw [b]; exact X1_lt m c r),
    slt_word _ _ (by rw [a']; exact Y0_lt m c r) (by rw [b']; exact Y1_lt m c r), a, b, a', b',
    Cert.KernelIdeal.Roi.andi_ofBool, Cert.KernelIdeal.Roi.select_ofBool]
  unfold pooled
  simp only [Bool.and_eq_true, decide_eq_true_eq]

end

end Cert.ReferenceIdeal.Roi
end
end
-- ==== Proof.lean ====
/- The claims, assembled: the frames of the three programs, the idealization, and the kernel's equality with its reference. -/
module

public import proofs.«01_k».proof.Defs
public import proofs.«01_k».proof.Proof.InRange
public import proofs.«01_k».proof.Proof.Kernel.Frame
public import proofs.«01_k».proof.Proof.KernelIdeal.Result
public import proofs.«01_k».proof.Proof.ReferenceIdeal.Frame
public import proofs.«01_k».proof.Proof.ReferenceIdeal.Pooled
public import proofs.«01_k».proof.Proof.Gen.Kernel
public import proofs.«01_k».proof.Proof.Gen.KernelIdeal
public import proofs.«01_k».proof.Proof.Gen.ReferenceIdeal
public import proofs.«01_k».proof.Proof.Gen.Pre_batch_in_range

@[expose] public section

noncomputable section

namespace Cert.Proof

open Idealize.ShloMosaic Idealize.ShloMosaic.TcCoe

/-- The kernel as printed: its image numbers are in range, so it runs, and leaves its arguments and semaphores as they were. -/
theorem frame_kernel : Cert.quiescent_Kernel := fun m g h =>
  θ_run_mono (Cert.Kernel.Roi.run_result m (fun c r => Cert.InRange.batch_lt _ _ (h c) r) g) fun _ e => ⟨fun c => (e.1 c).2, e.2⟩

/-- The same of its idealization. -/
theorem frame_kernelIdeal : Cert.quiescent_KernelIdeal := fun m g h =>
  θ_run_mono (Cert.KernelIdeal.Roi.run_result m (fun c r => Cert.InRange.batch_lt _ _ (h c) r) g) fun _ e => ⟨fun c => (e.1 c).2, e.2⟩

/-- The same of the reference. -/
theorem frame_referenceIdeal : Cert.quiescent_ReferenceIdeal := fun m g _ => Cert.ReferenceIdeal.Roi.run_frame m g

/-- The kernel's result is the reference's: at every index each holds the greatest feature of the bin, or zero for an empty roi. -/
theorem algebraic : Cert.algebraic_KernelIdeal_ReferenceIdeal := by
  intro m g m' g' h ha
  have hb : ∀ c r, (FloatOps.fptosi (F := Ideal) (φ := .f32) 32
      ((m (c, Proc.devRef .tc Cert.KernelIdeal.main_arg1) : Vec Ideal Cert.KernelIdeal.S256x5 .f32) (ix2 r 0)) : BitVec 32).toNat < 4 :=
    fun c r => Cert.InRange.batch_lt _ _ (h c) r
  refine ⟨fun c => Pipeline.afterTail Cert.KernelIdeal.pcfgs (fun _ => Cert.KernelIdeal.Roi.adm m) (Cert.KernelIdeal.Roi.dats m) 0
      (Cert.KernelIdeal.Roi.V0 m) [Cert.KernelIdeal.Gen.hostOps1] c Cert.KernelIdeal.main_v115,
    θ_run_mono (Cert.KernelIdeal.Roi.run_result m hb g) fun _ e => e.1,
    θ_run_mono (Cert.ReferenceIdeal.Roi.run_last m' g') fun r e c => ⟨(e c).1.trans ?_, (e c).2⟩⟩
  funext x
  obtain ⟨r, ch, i, j, rfl⟩ : ∃ (r ch : Fin 256) (i j : Fin 7), x = ix4 r ch i j := ⟨_, _, _, _, eq_ix4 x⟩
  exact (Cert.ReferenceIdeal.Roi.last_eq m c (StableHlo.launchContents m' c) (ha c).1 (ha c).2 r (hb c r) ch i j).trans
    (Cert.KernelIdeal.Roi.result_apply m c r ch i j).symm

/-- Everything claimed. -/
theorem claim : Cert.Claim :=
  ⟨Cert.Kernel.Gen.facts, Cert.KernelIdeal.Gen.facts, Cert.ReferenceIdeal.Gen.facts, Cert.Pre_batch_in_range.Gen.facts,
    frame_kernel, frame_kernelIdeal, frame_referenceIdeal, trivial, algebraic⟩

end Cert.Proof
end
end
